-- ==== Defs.lean ====
def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_AttnPrompt (m : (ℓ : Loc Cert.AttnPrompt.nD Cert.AttnPrompt.τ Cert.AttnPrompt.sig) → Buf (Elt Bits) ℓ) : Prop :=
  True

def Pre_AttnPromptIdeal (m : (ℓ : Loc Cert.AttnPromptIdeal.nD Cert.AttnPromptIdeal.τ Cert.AttnPromptIdeal.sig) → Buf (Elt Ideal) ℓ) : Prop :=
  True

def Pre_AttnPromptIdeal_finite_prompt [hPre_finite_prompt : Cert.Pre_finite_prompt.Facts] (m : (ℓ : Loc Cert.AttnPromptIdeal.nD Cert.AttnPromptIdeal.τ Cert.AttnPromptIdeal.sig) → Buf (Elt Ideal) ℓ) : Prop :=
  ∀ c : Dev Cert.AttnPromptIdeal.nD,
    (Cert.Pre_finite_prompt.fn (F := Ideal) (m ((c.tc : Thread Cert.AttnPromptIdeal.nD Cert.AttnPromptIdeal.τ).loc Cert.AttnPromptIdeal.main_arg0)) (m ((c.tc : Thread Cert.AttnPromptIdeal.nD Cert.AttnPromptIdeal.τ).loc Cert.AttnPromptIdeal.main_arg1)) (m ((c.tc : Thread Cert.AttnPromptIdeal.nD Cert.AttnPromptIdeal.τ).loc Cert.AttnPromptIdeal.main_arg2))).1 = (fun _ => 1#1)
    ∧ (Cert.Pre_finite_prompt.fn (F := Ideal) (m ((c.tc : Thread Cert.AttnPromptIdeal.nD Cert.AttnPromptIdeal.τ).loc Cert.AttnPromptIdeal.main_arg0)) (m ((c.tc : Thread Cert.AttnPromptIdeal.nD Cert.AttnPromptIdeal.τ).loc Cert.AttnPromptIdeal.main_arg1)) (m ((c.tc : Thread Cert.AttnPromptIdeal.nD Cert.AttnPromptIdeal.τ).loc Cert.AttnPromptIdeal.main_arg2))).2 = (fun _ => 1#1)

def Pre_AttnPromptRefIdeal (m : (ℓ : Loc Cert.AttnPromptRefIdeal.nD Cert.AttnPromptRefIdeal.τ Cert.AttnPromptRefIdeal.sig) → Buf (Elt Ideal) ℓ) : Prop :=
  True

def Pre_AttnPromptRefIdeal_finite_prompt [hPre_finite_prompt : Cert.Pre_finite_prompt.Facts] (m : (ℓ : Loc Cert.AttnPromptRefIdeal.nD Cert.AttnPromptRefIdeal.τ Cert.AttnPromptRefIdeal.sig) → Buf (Elt Ideal) ℓ) : Prop :=
  ∀ c : Dev Cert.AttnPromptRefIdeal.nD,
    (Cert.Pre_finite_prompt.fn (F := Ideal) (m ((c.tc : Thread Cert.AttnPromptRefIdeal.nD Cert.AttnPromptRefIdeal.τ).loc Cert.AttnPromptRefIdeal.main_arg0)) (m ((c.tc : Thread Cert.AttnPromptRefIdeal.nD Cert.AttnPromptRefIdeal.τ).loc Cert.AttnPromptRefIdeal.main_arg1)) (m ((c.tc : Thread Cert.AttnPromptRefIdeal.nD Cert.AttnPromptRefIdeal.τ).loc Cert.AttnPromptRefIdeal.main_arg2))).1 = (fun _ => 1#1)
    ∧ (Cert.Pre_finite_prompt.fn (F := Ideal) (m ((c.tc : Thread Cert.AttnPromptRefIdeal.nD Cert.AttnPromptRefIdeal.τ).loc Cert.AttnPromptRefIdeal.main_arg0)) (m ((c.tc : Thread Cert.AttnPromptRefIdeal.nD Cert.AttnPromptRefIdeal.τ).loc Cert.AttnPromptRefIdeal.main_arg1)) (m ((c.tc : Thread Cert.AttnPromptRefIdeal.nD Cert.AttnPromptRefIdeal.τ).loc Cert.AttnPromptRefIdeal.main_arg2))).2 = (fun _ => 1#1)

def Pre_AttnSample (m : (ℓ : Loc Cert.AttnSample.nD Cert.AttnSample.τ Cert.AttnSample.sig) → Buf (Elt Bits) ℓ) : Prop :=
  True

def Pre_AttnSampleIdeal (m : (ℓ : Loc Cert.AttnSampleIdeal.nD Cert.AttnSampleIdeal.τ Cert.AttnSampleIdeal.sig) → Buf (Elt Ideal) ℓ) : Prop :=
  True

def Pre_AttnSampleRefIdeal (m : (ℓ : Loc Cert.AttnSampleRefIdeal.nD Cert.AttnSampleRefIdeal.τ Cert.AttnSampleRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjIdeal_finite_heads [hPre_finite_heads : Cert.Pre_finite_heads.Facts] (m : (ℓ : Loc Cert.OutProjIdeal.nD Cert.OutProjIdeal.τ Cert.OutProjIdeal.sig) → Buf (Elt Ideal) ℓ) : Prop :=
  ∀ c : Dev Cert.OutProjIdeal.nD,
    (Cert.Pre_finite_heads.fn (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5)) (m ((c.tc : Thread Cert.OutProjIdeal.nD Cert.OutProjIdeal.τ).loc Cert.OutProjIdeal.main_arg6)) (m ((c.tc : Thread Cert.OutProjIdeal.nD Cert.OutProjIdeal.τ).loc Cert.OutProjIdeal.main_arg7)) (m ((c.tc : Thread Cert.OutProjIdeal.nD Cert.OutProjIdeal.τ).loc Cert.OutProjIdeal.main_arg8)) (m ((c.tc : Thread Cert.OutProjIdeal.nD Cert.OutProjIdeal.τ).loc Cert.OutProjIdeal.main_arg9)) (m ((c.tc : Thread Cert.OutProjIdeal.nD Cert.OutProjIdeal.τ).loc Cert.OutProjIdeal.main_arg10)) (m ((c.tc : Thread Cert.OutProjIdeal.nD Cert.OutProjIdeal.τ).loc Cert.OutProjIdeal.main_arg11)) (m ((c.tc : Thread Cert.OutProjIdeal.nD Cert.OutProjIdeal.τ).loc Cert.OutProjIdeal.main_arg12)) (m ((c.tc : Thread Cert.OutProjIdeal.nD Cert.OutProjIdeal.τ).loc Cert.OutProjIdeal.main_arg13)) (m ((c.tc : Thread Cert.OutProjIdeal.nD Cert.OutProjIdeal.τ).loc Cert.OutProjIdeal.main_arg14)) (m ((c.tc : Thread Cert.OutProjIdeal.nD Cert.OutProjIdeal.τ).loc Cert.OutProjIdeal.main_arg15)) (m ((c.tc : Thread Cert.OutProjIdeal.nD Cert.OutProjIdeal.τ).loc Cert.OutProjIdeal.main_arg16))).1 = (fun _ => 1#1)
    ∧ (Cert.Pre_finite_heads.fn (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5)) (m ((c.tc : Thread Cert.OutProjIdeal.nD Cert.OutProjIdeal.τ).loc Cert.OutProjIdeal.main_arg6)) (m ((c.tc : Thread Cert.OutProjIdeal.nD Cert.OutProjIdeal.τ).loc Cert.OutProjIdeal.main_arg7)) (m ((c.tc : Thread Cert.OutProjIdeal.nD Cert.OutProjIdeal.τ).loc Cert.OutProjIdeal.main_arg8)) (m ((c.tc : Thread Cert.OutProjIdeal.nD Cert.OutProjIdeal.τ).loc Cert.OutProjIdeal.main_arg9)) (m ((c.tc : Thread Cert.OutProjIdeal.nD Cert.OutProjIdeal.τ).loc Cert.OutProjIdeal.main_arg10)) (m ((c.tc : Thread Cert.OutProjIdeal.nD Cert.OutProjIdeal.τ).loc Cert.OutProjIdeal.main_arg11)) (m ((c.tc : Thread Cert.OutProjIdeal.nD Cert.OutProjIdeal.τ).loc Cert.OutProjIdeal.main_arg12)) (m ((c.tc : Thread Cert.OutProjIdeal.nD Cert.OutProjIdeal.τ).loc Cert.OutProjIdeal.main_arg13)) (m ((c.tc : Thread Cert.OutProjIdeal.nD Cert.OutProjIdeal.τ).loc Cert.OutProjIdeal.main_arg14)) (m ((c.tc : Thread Cert.OutProjIdeal.nD Cert.OutProjIdeal.τ).loc Cert.OutProjIdeal.main_arg15)) (m ((c.tc : Thread Cert.OutProjIdeal.nD Cert.OutProjIdeal.τ).loc Cert.OutProjIdeal.main_arg16))).2 = (fun _ => 1#1)

def Pre_OutProjRefIdeal (m : (ℓ : Loc Cert.OutProjRefIdeal.nD Cert.OutProjRefIdeal.τ Cert.OutProjRefIdeal.sig) → Buf (Elt Ideal) ℓ) : Prop :=
  True

def Pre_OutProjRefIdeal_finite_heads [hPre_finite_heads : Cert.Pre_finite_heads.Facts] (m : (ℓ : Loc Cert.OutProjRefIdeal.nD Cert.OutProjRefIdeal.τ Cert.OutProjRefIdeal.sig) → Buf (Elt Ideal) ℓ) : Prop :=
  ∀ c : Dev Cert.OutProjRefIdeal.nD,
    (Cert.Pre_finite_heads.fn (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3)) (m ((c.tc : Thread Cert.OutProjRefIdeal.nD Cert.OutProjRefIdeal.τ).loc Cert.OutProjRefIdeal.main_arg4)) (m ((c.tc : Thread Cert.OutProjRefIdeal.nD Cert.OutProjRefIdeal.τ).loc Cert.OutProjRefIdeal.main_arg5)) (m ((c.tc : Thread Cert.OutProjRefIdeal.nD Cert.OutProjRefIdeal.τ).loc Cert.OutProjRefIdeal.main_arg6)) (m ((c.tc : Thread Cert.OutProjRefIdeal.nD Cert.OutProjRefIdeal.τ).loc Cert.OutProjRefIdeal.main_arg7)) (m ((c.tc : Thread Cert.OutProjRefIdeal.nD Cert.OutProjRefIdeal.τ).loc Cert.OutProjRefIdeal.main_arg8)) (m ((c.tc : Thread Cert.OutProjRefIdeal.nD Cert.OutProjRefIdeal.τ).loc Cert.OutProjRefIdeal.main_arg9)) (m ((c.tc : Thread Cert.OutProjRefIdeal.nD Cert.OutProjRefIdeal.τ).loc Cert.OutProjRefIdeal.main_arg10)) (m ((c.tc : Thread Cert.OutProjRefIdeal.nD Cert.OutProjRefIdeal.τ).loc Cert.OutProjRefIdeal.main_arg11)) (m ((c.tc : Thread Cert.OutProjRefIdeal.nD Cert.OutProjRefIdeal.τ).loc Cert.OutProjRefIdeal.main_arg12)) (m ((c.tc : Thread Cert.OutProjRefIdeal.nD Cert.OutProjRefIdeal.τ).loc Cert.OutProjRefIdeal.main_arg13)) (m ((c.tc : Thread Cert.OutProjRefIdeal.nD Cert.OutProjRefIdeal.τ).loc Cert.OutProjRefIdeal.main_arg14)) (m ((c.tc : Thread Cert.OutProjRefIdeal.nD Cert.OutProjRefIdeal.τ).loc Cert.OutProjRefIdeal.main_arg15)) (m ((c.tc : Thread Cert.OutProjRefIdeal.nD Cert.OutProjRefIdeal.τ).loc Cert.OutProjRefIdeal.main_arg16))).1 = (fun _ => 1#1)
    ∧ (Cert.Pre_finite_heads.fn (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3)) (m ((c.tc : Thread Cert.OutProjRefIdeal.nD Cert.OutProjRefIdeal.τ).loc Cert.OutProjRefIdeal.main_arg4)) (m ((c.tc : Thread Cert.OutProjRefIdeal.nD Cert.OutProjRefIdeal.τ).loc Cert.OutProjRefIdeal.main_arg5)) (m ((c.tc : Thread Cert.OutProjRefIdeal.nD Cert.OutProjRefIdeal.τ).loc Cert.OutProjRefIdeal.main_arg6)) (m ((c.tc : Thread Cert.OutProjRefIdeal.nD Cert.OutProjRefIdeal.τ).loc Cert.OutProjRefIdeal.main_arg7)) (m ((c.tc : Thread Cert.OutProjRefIdeal.nD Cert.OutProjRefIdeal.τ).loc Cert.OutProjRefIdeal.main_arg8)) (m ((c.tc : Thread Cert.OutProjRefIdeal.nD Cert.OutProjRefIdeal.τ).loc Cert.OutProjRefIdeal.main_arg9)) (m ((c.tc : Thread Cert.OutProjRefIdeal.nD Cert.OutProjRefIdeal.τ).loc Cert.OutProjRefIdeal.main_arg10)) (m ((c.tc : Thread Cert.OutProjRefIdeal.nD Cert.OutProjRefIdeal.τ).loc Cert.OutProjRefIdeal.main_arg11)) (m ((c.tc : Thread Cert.OutProjRefIdeal.nD Cert.OutProjRefIdeal.τ).loc Cert.OutProjRefIdeal.main_arg12)) (m ((c.tc : Thread Cert.OutProjRefIdeal.nD Cert.OutProjRefIdeal.τ).loc Cert.OutProjRefIdeal.main_arg13)) (m ((c.tc : Thread Cert.OutProjRefIdeal.nD Cert.OutProjRefIdeal.τ).loc Cert.OutProjRefIdeal.main_arg14)) (m ((c.tc : Thread Cert.OutProjRefIdeal.nD Cert.OutProjRefIdeal.τ).loc Cert.OutProjRefIdeal.main_arg15)) (m ((c.tc : Thread Cert.OutProjRefIdeal.nD Cert.OutProjRefIdeal.τ).loc Cert.OutProjRefIdeal.main_arg16))).2 = (fun _ => 1#1)

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormRefIdeal (m : (ℓ : Loc Cert.FinalNormRefIdeal.nD Cert.FinalNormRefIdeal.τ Cert.FinalNormRefIdeal.sig) → Buf (Elt Ideal) ℓ) : Prop :=
  True

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_AttnPrompt [hAttnPrompt : Cert.AttnPrompt.Facts] : Prop :=
  ∀ (m : (ℓ : Loc Cert.AttnPrompt.nD Cert.AttnPrompt.τ Cert.AttnPrompt.sig) → Buf (Elt Bits) ℓ) (g : Dev Cert.AttnPrompt.nD → PrngReg), Pre_AttnPrompt m →
    θ_run (Cert.AttnPrompt.defs (F := Bits)) (onTc (τ := Cert.AttnPrompt.τ) (Cert.AttnPrompt.main (F := Bits))) ⟨m, fun _ => 0, g⟩ (fun r => (∀ c : Dev Cert.AttnPrompt.nD,
      r.2.mem ((c.tc : Thread Cert.AttnPrompt.nD Cert.AttnPrompt.τ).loc Cert.AttnPrompt.main_arg0) = m ((c.tc : Thread Cert.AttnPrompt.nD Cert.AttnPrompt.τ).loc Cert.AttnPrompt.main_arg0)
      ∧ r.2.mem ((c.tc : Thread Cert.AttnPrompt.nD Cert.AttnPrompt.τ).loc Cert.AttnPrompt.main_arg1) = m ((c.tc : Thread Cert.AttnPrompt.nD Cert.AttnPrompt.τ).loc Cert.AttnPrompt.main_arg1)
      ∧ r.2.mem ((c.tc : Thread Cert.AttnPrompt.nD Cert.AttnPrompt.τ).loc Cert.AttnPrompt.main_arg2) = m ((c.tc : Thread Cert.AttnPrompt.nD Cert.AttnPrompt.τ).loc Cert.AttnPrompt.main_arg2))
      ∧ r.2.sem = fun _ => 0)

def quiescent_AttnPromptIdeal [hAttnPromptIdeal : Cert.AttnPromptIdeal.Facts] : Prop :=
  ∀ (m : (ℓ : Loc Cert.AttnPromptIdeal.nD Cert.AttnPromptIdeal.τ Cert.AttnPromptIdeal.sig) → Buf (Elt Ideal) ℓ) (g : Dev Cert.AttnPromptIdeal.nD → PrngReg), Pre_AttnPromptIdeal m →
    θ_run (Cert.AttnPromptIdeal.defs (F := Ideal)) (onTc (τ := Cert.AttnPromptIdeal.τ) (Cert.AttnPromptIdeal.main (F := Ideal))) ⟨m, fun _ => 0, g⟩ (fun r => (∀ c : Dev Cert.AttnPromptIdeal.nD,
      r.2.mem ((c.tc : Thread Cert.AttnPromptIdeal.nD Cert.AttnPromptIdeal.τ).loc Cert.AttnPromptIdeal.main_arg0) = m ((c.tc : Thread Cert.AttnPromptIdeal.nD Cert.AttnPromptIdeal.τ).loc Cert.AttnPromptIdeal.main_arg0)
      ∧ r.2.mem ((c.tc : Thread Cert.AttnPromptIdeal.nD Cert.AttnPromptIdeal.τ).loc Cert.AttnPromptIdeal.main_arg1) = m ((c.tc : Thread Cert.AttnPromptIdeal.nD Cert.AttnPromptIdeal.τ).loc Cert.AttnPromptIdeal.main_arg1)
      ∧ r.2.mem ((c.tc : Thread Cert.AttnPromptIdeal.nD Cert.AttnPromptIdeal.τ).loc Cert.AttnPromptIdeal.main_arg2) = m ((c.tc : Thread Cert.AttnPromptIdeal.nD Cert.AttnPromptIdeal.τ).loc Cert.AttnPromptIdeal.main_arg2))
      ∧ r.2.sem = fun _ => 0)

def quiescent_AttnPromptIdeal_pre_finite_prompt [hAttnPromptIdeal : Cert.AttnPromptIdeal.Facts] [hPre_finite_prompt : Cert.Pre_finite_prompt.Facts] : Prop :=
  ∀ (m : (ℓ : Loc Cert.AttnPromptIdeal.nD Cert.AttnPromptIdeal.τ Cert.AttnPromptIdeal.sig) → Buf (Elt Ideal) ℓ) (g : Dev Cert.AttnPromptIdeal.nD → PrngReg), Pre_AttnPromptIdeal_finite_prompt m →
    θ_run (Cert.AttnPromptIdeal.defs (F := Ideal)) (onTc (τ := Cert.AttnPromptIdeal.τ) (Cert.AttnPromptIdeal.main (F := Ideal))) ⟨m, fun _ => 0, g⟩ (fun r => (∀ c : Dev Cert.AttnPromptIdeal.nD,
      r.2.mem ((c.tc : Thread Cert.AttnPromptIdeal.nD Cert.AttnPromptIdeal.τ).loc Cert.AttnPromptIdeal.main_arg0) = m ((c.tc : Thread Cert.AttnPromptIdeal.nD Cert.AttnPromptIdeal.τ).loc Cert.AttnPromptIdeal.main_arg0)
      ∧ r.2.mem ((c.tc : Thread Cert.AttnPromptIdeal.nD Cert.AttnPromptIdeal.τ).loc Cert.AttnPromptIdeal.main_arg1) = m ((c.tc : Thread Cert.AttnPromptIdeal.nD Cert.AttnPromptIdeal.τ).loc Cert.AttnPromptIdeal.main_arg1)
      ∧ r.2.mem ((c.tc : Thread Cert.AttnPromptIdeal.nD Cert.AttnPromptIdeal.τ).loc Cert.AttnPromptIdeal.main_arg2) = m ((c.tc : Thread Cert.AttnPromptIdeal.nD Cert.AttnPromptIdeal.τ).loc Cert.AttnPromptIdeal.main_arg2))
      ∧ r.2.sem = fun _ => 0)

def quiescent_AttnPromptRefIdeal [hAttnPromptRefIdeal : Cert.AttnPromptRefIdeal.Facts] : Prop :=
  ∀ (m : (ℓ : Loc Cert.AttnPromptRefIdeal.nD Cert.AttnPromptRefIdeal.τ Cert.AttnPromptRefIdeal.sig) → Buf (Elt Ideal) ℓ) (g : Dev Cert.AttnPromptRefIdeal.nD → PrngReg), Pre_AttnPromptRefIdeal m →
    θ_run (Cert.AttnPromptRefIdeal.defs (F := Ideal)) (onTc (τ := Cert.AttnPromptRefIdeal.τ) (Cert.AttnPromptRefIdeal.main (F := Ideal))) ⟨m, fun _ => 0, g⟩ (fun r => (∀ c : Dev Cert.AttnPromptRefIdeal.nD,
      r.2.mem ((c.tc : Thread Cert.AttnPromptRefIdeal.nD Cert.AttnPromptRefIdeal.τ).loc Cert.AttnPromptRefIdeal.main_arg0) = m ((c.tc : Thread Cert.AttnPromptRefIdeal.nD Cert.AttnPromptRefIdeal.τ).loc Cert.AttnPromptRefIdeal.main_arg0)
      ∧ r.2.mem ((c.tc : Thread Cert.AttnPromptRefIdeal.nD Cert.AttnPromptRefIdeal.τ).loc Cert.AttnPromptRefIdeal.main_arg1) = m ((c.tc : Thread Cert.AttnPromptRefIdeal.nD Cert.AttnPromptRefIdeal.τ).loc Cert.AttnPromptRefIdeal.main_arg1)
      ∧ r.2.mem ((c.tc : Thread Cert.AttnPromptRefIdeal.nD Cert.AttnPromptRefIdeal.τ).loc Cert.AttnPromptRefIdeal.main_arg2) = m ((c.tc : Thread Cert.AttnPromptRefIdeal.nD Cert.AttnPromptRefIdeal.τ).loc Cert.AttnPromptRefIdeal.main_arg2))
      ∧ r.2.sem = fun _ => 0)

def quiescent_AttnPromptRefIdeal_pre_finite_prompt [hAttnPromptRefIdeal : Cert.AttnPromptRefIdeal.Facts] [hPre_finite_prompt : Cert.Pre_finite_prompt.Facts] : Prop :=
  ∀ (m : (ℓ : Loc Cert.AttnPromptRefIdeal.nD Cert.AttnPromptRefIdeal.τ Cert.AttnPromptRefIdeal.sig) → Buf (Elt Ideal) ℓ) (g : Dev Cert.AttnPromptRefIdeal.nD → PrngReg), Pre_AttnPromptRefIdeal_finite_prompt m →
    θ_run (Cert.AttnPromptRefIdeal.defs (F := Ideal)) (onTc (τ := Cert.AttnPromptRefIdeal.τ) (Cert.AttnPromptRefIdeal.main (F := Ideal))) ⟨m, fun _ => 0, g⟩ (fun r => (∀ c : Dev Cert.AttnPromptRefIdeal.nD,
      r.2.mem ((c.tc : Thread Cert.AttnPromptRefIdeal.nD Cert.AttnPromptRefIdeal.τ).loc Cert.AttnPromptRefIdeal.main_arg0) = m ((c.tc : Thread Cert.AttnPromptRefIdeal.nD Cert.AttnPromptRefIdeal.τ).loc Cert.AttnPromptRefIdeal.main_arg0)
      ∧ r.2.mem ((c.tc : Thread Cert.AttnPromptRefIdeal.nD Cert.AttnPromptRefIdeal.τ).loc Cert.AttnPromptRefIdeal.main_arg1) = m ((c.tc : Thread Cert.AttnPromptRefIdeal.nD Cert.AttnPromptRefIdeal.τ).loc Cert.AttnPromptRefIdeal.main_arg1)
      ∧ r.2.mem ((c.tc : Thread Cert.AttnPromptRefIdeal.nD Cert.AttnPromptRefIdeal.τ).loc Cert.AttnPromptRefIdeal.main_arg2) = m ((c.tc : Thread Cert.AttnPromptRefIdeal.nD Cert.AttnPromptRefIdeal.τ).loc Cert.AttnPromptRefIdeal.main_arg2))
      ∧ r.2.sem = fun _ => 0)

def quiescent_AttnSample [hAttnSample : Cert.AttnSample.Facts] : Prop :=
  ∀ (m : (ℓ : Loc Cert.AttnSample.nD Cert.AttnSample.τ Cert.AttnSample.sig) → Buf (Elt Bits) ℓ) (g : Dev Cert.AttnSample.nD → PrngReg), Pre_AttnSample m →
    θ_run (Cert.AttnSample.defs (F := Bits)) (onTc (τ := Cert.AttnSample.τ) (Cert.AttnSample.main (F := Bits))) ⟨m, fun _ => 0, g⟩ (fun r => (∀ c : Dev Cert.AttnSample.nD,
      r.2.mem ((c.tc : Thread Cert.AttnSample.nD Cert.AttnSample.τ).loc Cert.AttnSample.main_arg0) = m ((c.tc : Thread Cert.AttnSample.nD Cert.AttnSample.τ).loc Cert.AttnSample.main_arg0)
      ∧ r.2.mem ((c.tc : Thread Cert.AttnSample.nD Cert.AttnSample.τ).loc Cert.AttnSample.main_arg1) = m ((c.tc : Thread Cert.AttnSample.nD Cert.AttnSample.τ).loc Cert.AttnSample.main_arg1)
      ∧ r.2.mem ((c.tc : Thread Cert.AttnSample.nD Cert.AttnSample.τ).loc Cert.AttnSample.main_arg2) = m ((c.tc : Thread Cert.AttnSample.nD Cert.AttnSample.τ).loc Cert.AttnSample.main_arg2)
      ∧ r.2.mem ((c.tc : Thread Cert.AttnSample.nD Cert.AttnSample.τ).loc Cert.AttnSample.main_arg3) = m ((c.tc : Thread Cert.AttnSample.nD Cert.AttnSample.τ).loc Cert.AttnSample.main_arg3)
      ∧ r.2.mem ((c.tc : Thread Cert.AttnSample.nD Cert.AttnSample.τ).loc Cert.AttnSample.main_arg4) = m ((c.tc : Thread Cert.AttnSample.nD Cert.AttnSample.τ).loc Cert.AttnSample.main_arg4))
      ∧ r.2.sem = fun _ => 0)

def quiescent_AttnSampleIdeal [hAttnSampleIdeal : Cert.AttnSampleIdeal.Facts] : Prop :=
  ∀ (m : (ℓ : Loc Cert.AttnSampleIdeal.nD Cert.AttnSampleIdeal.τ Cert.AttnSampleIdeal.sig) → Buf (Elt Ideal) ℓ) (g : Dev Cert.AttnSampleIdeal.nD → PrngReg), Pre_AttnSampleIdeal m →
    θ_run (Cert.AttnSampleIdeal.defs (F := Ideal)) (onTc (τ := Cert.AttnSampleIdeal.τ) (Cert.AttnSampleIdeal.main (F := Ideal))) ⟨m, fun _ => 0, g⟩ (fun r => (∀ c : Dev Cert.AttnSampleIdeal.nD,
      r.2.mem ((c.tc : Thread Cert.AttnSampleIdeal.nD Cert.AttnSampleIdeal.τ).loc Cert.AttnSampleIdeal.main_arg0) = m ((c.tc : Thread Cert.AttnSampleIdeal.nD Cert.AttnSampleIdeal.τ).loc Cert.AttnSampleIdeal.main_arg0)
      ∧ r.2.mem ((c.tc : Thread Cert.AttnSampleIdeal.nD Cert.AttnSampleIdeal.τ).loc Cert.AttnSampleIdeal.main_arg1) = m ((c.tc : Thread Cert.AttnSampleIdeal.nD Cert.AttnSampleIdeal.τ).loc Cert.AttnSampleIdeal.main_arg1)
      ∧ r.2.mem ((c.tc : Thread Cert.AttnSampleIdeal.nD Cert.AttnSampleIdeal.τ).loc Cert.AttnSampleIdeal.main_arg2) = m ((c.tc : Thread Cert.AttnSampleIdeal.nD Cert.AttnSampleIdeal.τ).loc Cert.AttnSampleIdeal.main_arg2)
      ∧ r.2.mem ((c.tc : Thread Cert.AttnSampleIdeal.nD Cert.AttnSampleIdeal.τ).loc Cert.AttnSampleIdeal.main_arg3) = m ((c.tc : Thread Cert.AttnSampleIdeal.nD Cert.AttnSampleIdeal.τ).loc Cert.AttnSampleIdeal.main_arg3)
      ∧ r.2.mem ((c.tc : Thread Cert.AttnSampleIdeal.nD Cert.AttnSampleIdeal.τ).loc Cert.AttnSampleIdeal.main_arg4) = m ((c.tc : Thread Cert.AttnSampleIdeal.nD Cert.AttnSampleIdeal.τ).loc Cert.AttnSampleIdeal.main_arg4))
      ∧ r.2.sem = fun _ => 0)

def quiescent_AttnSampleRefIdeal [hAttnSampleRefIdeal : Cert.AttnSampleRefIdeal.Facts] : Prop :=
  ∀ (m : (ℓ : Loc Cert.AttnSampleRefIdeal.nD Cert.AttnSampleRefIdeal.τ Cert.AttnSampleRefIdeal.sig) → Buf (Elt Ideal) ℓ) (g : Dev Cert.AttnSampleRefIdeal.nD → PrngReg), Pre_AttnSampleRefIdeal m →
    θ_run (Cert.AttnSampleRefIdeal.defs (F := Ideal)) (onTc (τ := Cert.AttnSampleRefIdeal.τ) (Cert.AttnSampleRefIdeal.main (F := Ideal))) ⟨m, fun _ => 0, g⟩ (fun r => (∀ c : Dev Cert.AttnSampleRefIdeal.nD,
      r.2.mem ((c.tc : Thread Cert.AttnSampleRefIdeal.nD Cert.AttnSampleRefIdeal.τ).loc Cert.AttnSampleRefIdeal.main_arg0) = m ((c.tc : Thread Cert.AttnSampleRefIdeal.nD Cert.AttnSampleRefIdeal.τ).loc Cert.AttnSampleRefIdeal.main_arg0)
      ∧ r.2.mem ((c.tc : Thread Cert.AttnSampleRefIdeal.nD Cert.AttnSampleRefIdeal.τ).loc Cert.AttnSampleRefIdeal.main_arg1) = m ((c.tc : Thread Cert.AttnSampleRefIdeal.nD Cert.AttnSampleRefIdeal.τ).loc Cert.AttnSampleRefIdeal.main_arg1)
      ∧ r.2.mem ((c.tc : Thread Cert.AttnSampleRefIdeal.nD Cert.AttnSampleRefIdeal.τ).loc Cert.AttnSampleRefIdeal.main_arg2) = m ((c.tc : Thread Cert.AttnSampleRefIdeal.nD Cert.AttnSampleRefIdeal.τ).loc Cert.AttnSampleRefIdeal.main_arg2)
      ∧ r.2.mem ((c.tc : Thread Cert.AttnSampleRefIdeal.nD Cert.AttnSampleRefIdeal.τ).loc Cert.AttnSampleRefIdeal.main_arg3) = m ((c.tc : Thread Cert.AttnSampleRefIdeal.nD Cert.AttnSampleRefIdeal.τ).loc Cert.AttnSampleRefIdeal.main_arg3)
      ∧ r.2.mem ((c.tc : Thread Cert.AttnSampleRefIdeal.nD Cert.AttnSampleRefIdeal.τ).loc Cert.AttnSampleRefIdeal.main_arg4) = m ((c.tc : Thread Cert.AttnSampleRefIdeal.nD Cert.AttnSampleRefIdeal.τ).loc Cert.AttnSampleRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7)
      ∧ r.2.mem ((c.tc : Thread Cert.OutProj.nD Cert.OutProj.τ).loc Cert.OutProj.main_arg8) = m ((c.tc : Thread Cert.OutProj.nD Cert.OutProj.τ).loc Cert.OutProj.main_arg8)
      ∧ r.2.mem ((c.tc : Thread Cert.OutProj.nD Cert.OutProj.τ).loc Cert.OutProj.main_arg9) = m ((c.tc : Thread Cert.OutProj.nD Cert.OutProj.τ).loc Cert.OutProj.main_arg9)
      ∧ r.2.mem ((c.tc : Thread Cert.OutProj.nD Cert.OutProj.τ).loc Cert.OutProj.main_arg10) = m ((c.tc : Thread Cert.OutProj.nD Cert.OutProj.τ).loc Cert.OutProj.main_arg10)
      ∧ r.2.mem ((c.tc : Thread Cert.OutProj.nD Cert.OutProj.τ).loc Cert.OutProj.main_arg11) = m ((c.tc : Thread Cert.OutProj.nD Cert.OutProj.τ).loc Cert.OutProj.main_arg11)
      ∧ r.2.mem ((c.tc : Thread Cert.OutProj.nD Cert.OutProj.τ).loc Cert.OutProj.main_arg12) = m ((c.tc : Thread Cert.OutProj.nD Cert.OutProj.τ).loc Cert.OutProj.main_arg12)
      ∧ r.2.mem ((c.tc : Thread Cert.OutProj.nD Cert.OutProj.τ).loc Cert.OutProj.main_arg13) = m ((c.tc : Thread Cert.OutProj.nD Cert.OutProj.τ).loc Cert.OutProj.main_arg13)
      ∧ r.2.mem ((c.tc : Thread Cert.OutProj.nD Cert.OutProj.τ).loc Cert.OutProj.main_arg14) = m ((c.tc : Thread Cert.OutProj.nD Cert.OutProj.τ).loc Cert.OutProj.main_arg14)
      ∧ r.2.mem ((c.tc : Thread Cert.OutProj.nD Cert.OutProj.τ).loc Cert.OutProj.main_arg15) = m ((c.tc : Thread Cert.OutProj.nD Cert.OutProj.τ).loc Cert.OutProj.main_arg15)
      ∧ r.2.mem ((c.tc : Thread Cert.OutProj.nD Cert.OutProj.τ).loc Cert.OutProj.main_arg16) = m ((c.tc : Thread Cert.OutProj.nD Cert.OutProj.τ).loc Cert.OutProj.main_arg16))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8)
      ∧ r.2.mem ((c.tc : Thread Cert.OutProjIdeal.nD Cert.OutProjIdeal.τ).loc Cert.OutProjIdeal.main_arg9) = m ((c.tc : Thread Cert.OutProjIdeal.nD Cert.OutProjIdeal.τ).loc Cert.OutProjIdeal.main_arg9)
      ∧ r.2.mem ((c.tc : Thread Cert.OutProjIdeal.nD Cert.OutProjIdeal.τ).loc Cert.OutProjIdeal.main_arg10) = m ((c.tc : Thread Cert.OutProjIdeal.nD Cert.OutProjIdeal.τ).loc Cert.OutProjIdeal.main_arg10)
      ∧ r.2.mem ((c.tc : Thread Cert.OutProjIdeal.nD Cert.OutProjIdeal.τ).loc Cert.OutProjIdeal.main_arg11) = m ((c.tc : Thread Cert.OutProjIdeal.nD Cert.OutProjIdeal.τ).loc Cert.OutProjIdeal.main_arg11)
      ∧ r.2.mem ((c.tc : Thread Cert.OutProjIdeal.nD Cert.OutProjIdeal.τ).loc Cert.OutProjIdeal.main_arg12) = m ((c.tc : Thread Cert.OutProjIdeal.nD Cert.OutProjIdeal.τ).loc Cert.OutProjIdeal.main_arg12)
      ∧ r.2.mem ((c.tc : Thread Cert.OutProjIdeal.nD Cert.OutProjIdeal.τ).loc Cert.OutProjIdeal.main_arg13) = m ((c.tc : Thread Cert.OutProjIdeal.nD Cert.OutProjIdeal.τ).loc Cert.OutProjIdeal.main_arg13)
      ∧ r.2.mem ((c.tc : Thread Cert.OutProjIdeal.nD Cert.OutProjIdeal.τ).loc Cert.OutProjIdeal.main_arg14) = m ((c.tc : Thread Cert.OutProjIdeal.nD Cert.OutProjIdeal.τ).loc Cert.OutProjIdeal.main_arg14)
      ∧ r.2.mem ((c.tc : Thread Cert.OutProjIdeal.nD Cert.OutProjIdeal.τ).loc Cert.OutProjIdeal.main_arg15) = m ((c.tc : Thread Cert.OutProjIdeal.nD Cert.OutProjIdeal.τ).loc Cert.OutProjIdeal.main_arg15)
      ∧ r.2.mem ((c.tc : Thread Cert.OutProjIdeal.nD Cert.OutProjIdeal.τ).loc Cert.OutProjIdeal.main_arg16) = m ((c.tc : Thread Cert.OutProjIdeal.nD Cert.OutProjIdeal.τ).loc Cert.OutProjIdeal.main_arg16))
      ∧ r.2.sem = fun _ => 0)

def quiescent_OutProjIdeal_pre_finite_heads [hOutProjIdeal : Cert.OutProjIdeal.Facts] [hPre_finite_heads : Cert.Pre_finite_heads.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal_finite_heads m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8)
      ∧ r.2.mem ((c.tc : Thread Cert.OutProjIdeal.nD Cert.OutProjIdeal.τ).loc Cert.OutProjIdeal.main_arg9) = m ((c.tc : Thread Cert.OutProjIdeal.nD Cert.OutProjIdeal.τ).loc Cert.OutProjIdeal.main_arg9)
      ∧ r.2.mem ((c.tc : Thread Cert.OutProjIdeal.nD Cert.OutProjIdeal.τ).loc Cert.OutProjIdeal.main_arg10) = m ((c.tc : Thread Cert.OutProjIdeal.nD Cert.OutProjIdeal.τ).loc Cert.OutProjIdeal.main_arg10)
      ∧ r.2.mem ((c.tc : Thread Cert.OutProjIdeal.nD Cert.OutProjIdeal.τ).loc Cert.OutProjIdeal.main_arg11) = m ((c.tc : Thread Cert.OutProjIdeal.nD Cert.OutProjIdeal.τ).loc Cert.OutProjIdeal.main_arg11)
      ∧ r.2.mem ((c.tc : Thread Cert.OutProjIdeal.nD Cert.OutProjIdeal.τ).loc Cert.OutProjIdeal.main_arg12) = m ((c.tc : Thread Cert.OutProjIdeal.nD Cert.OutProjIdeal.τ).loc Cert.OutProjIdeal.main_arg12)
      ∧ r.2.mem ((c.tc : Thread Cert.OutProjIdeal.nD Cert.OutProjIdeal.τ).loc Cert.OutProjIdeal.main_arg13) = m ((c.tc : Thread Cert.OutProjIdeal.nD Cert.OutProjIdeal.τ).loc Cert.OutProjIdeal.main_arg13)
      ∧ r.2.mem ((c.tc : Thread Cert.OutProjIdeal.nD Cert.OutProjIdeal.τ).loc Cert.OutProjIdeal.main_arg14) = m ((c.tc : Thread Cert.OutProjIdeal.nD Cert.OutProjIdeal.τ).loc Cert.OutProjIdeal.main_arg14)
      ∧ r.2.mem ((c.tc : Thread Cert.OutProjIdeal.nD Cert.OutProjIdeal.τ).loc Cert.OutProjIdeal.main_arg15) = m ((c.tc : Thread Cert.OutProjIdeal.nD Cert.OutProjIdeal.τ).loc Cert.OutProjIdeal.main_arg15)
      ∧ r.2.mem ((c.tc : Thread Cert.OutProjIdeal.nD Cert.OutProjIdeal.τ).loc Cert.OutProjIdeal.main_arg16) = m ((c.tc : Thread Cert.OutProjIdeal.nD Cert.OutProjIdeal.τ).loc Cert.OutProjIdeal.main_arg16))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7)
      ∧ r.2.mem ((c.tc : Thread Cert.OutProjRefIdeal.nD Cert.OutProjRefIdeal.τ).loc Cert.OutProjRefIdeal.main_arg8) = m ((c.tc : Thread Cert.OutProjRefIdeal.nD Cert.OutProjRefIdeal.τ).loc Cert.OutProjRefIdeal.main_arg8)
      ∧ r.2.mem ((c.tc : Thread Cert.OutProjRefIdeal.nD Cert.OutProjRefIdeal.τ).loc Cert.OutProjRefIdeal.main_arg9) = m ((c.tc : Thread Cert.OutProjRefIdeal.nD Cert.OutProjRefIdeal.τ).loc Cert.OutProjRefIdeal.main_arg9)
      ∧ r.2.mem ((c.tc : Thread Cert.OutProjRefIdeal.nD Cert.OutProjRefIdeal.τ).loc Cert.OutProjRefIdeal.main_arg10) = m ((c.tc : Thread Cert.OutProjRefIdeal.nD Cert.OutProjRefIdeal.τ).loc Cert.OutProjRefIdeal.main_arg10)
      ∧ r.2.mem ((c.tc : Thread Cert.OutProjRefIdeal.nD Cert.OutProjRefIdeal.τ).loc Cert.OutProjRefIdeal.main_arg11) = m ((c.tc : Thread Cert.OutProjRefIdeal.nD Cert.OutProjRefIdeal.τ).loc Cert.OutProjRefIdeal.main_arg11)
      ∧ r.2.mem ((c.tc : Thread Cert.OutProjRefIdeal.nD Cert.OutProjRefIdeal.τ).loc Cert.OutProjRefIdeal.main_arg12) = m ((c.tc : Thread Cert.OutProjRefIdeal.nD Cert.OutProjRefIdeal.τ).loc Cert.OutProjRefIdeal.main_arg12)
      ∧ r.2.mem ((c.tc : Thread Cert.OutProjRefIdeal.nD Cert.OutProjRefIdeal.τ).loc Cert.OutProjRefIdeal.main_arg13) = m ((c.tc : Thread Cert.OutProjRefIdeal.nD Cert.OutProjRefIdeal.τ).loc Cert.OutProjRefIdeal.main_arg13)
      ∧ r.2.mem ((c.tc : Thread Cert.OutProjRefIdeal.nD Cert.OutProjRefIdeal.τ).loc Cert.OutProjRefIdeal.main_arg14) = m ((c.tc : Thread Cert.OutProjRefIdeal.nD Cert.OutProjRefIdeal.τ).loc Cert.OutProjRefIdeal.main_arg14)
      ∧ r.2.mem ((c.tc : Thread Cert.OutProjRefIdeal.nD Cert.OutProjRefIdeal.τ).loc Cert.OutProjRefIdeal.main_arg15) = m ((c.tc : Thread Cert.OutProjRefIdeal.nD Cert.OutProjRefIdeal.τ).loc Cert.OutProjRefIdeal.main_arg15)
      ∧ r.2.mem ((c.tc : Thread Cert.OutProjRefIdeal.nD Cert.OutProjRefIdeal.τ).loc Cert.OutProjRefIdeal.main_arg16) = m ((c.tc : Thread Cert.OutProjRefIdeal.nD Cert.OutProjRefIdeal.τ).loc Cert.OutProjRefIdeal.main_arg16))
      ∧ r.2.sem = fun _ => 0)

def quiescent_OutProjRefIdeal_pre_finite_heads [hOutProjRefIdeal : Cert.OutProjRefIdeal.Facts] [hPre_finite_heads : Cert.Pre_finite_heads.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal_finite_heads m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7)
      ∧ r.2.mem ((c.tc : Thread Cert.OutProjRefIdeal.nD Cert.OutProjRefIdeal.τ).loc Cert.OutProjRefIdeal.main_arg8) = m ((c.tc : Thread Cert.OutProjRefIdeal.nD Cert.OutProjRefIdeal.τ).loc Cert.OutProjRefIdeal.main_arg8)
      ∧ r.2.mem ((c.tc : Thread Cert.OutProjRefIdeal.nD Cert.OutProjRefIdeal.τ).loc Cert.OutProjRefIdeal.main_arg9) = m ((c.tc : Thread Cert.OutProjRefIdeal.nD Cert.OutProjRefIdeal.τ).loc Cert.OutProjRefIdeal.main_arg9)
      ∧ r.2.mem ((c.tc : Thread Cert.OutProjRefIdeal.nD Cert.OutProjRefIdeal.τ).loc Cert.OutProjRefIdeal.main_arg10) = m ((c.tc : Thread Cert.OutProjRefIdeal.nD Cert.OutProjRefIdeal.τ).loc Cert.OutProjRefIdeal.main_arg10)
      ∧ r.2.mem ((c.tc : Thread Cert.OutProjRefIdeal.nD Cert.OutProjRefIdeal.τ).loc Cert.OutProjRefIdeal.main_arg11) = m ((c.tc : Thread Cert.OutProjRefIdeal.nD Cert.OutProjRefIdeal.τ).loc Cert.OutProjRefIdeal.main_arg11)
      ∧ r.2.mem ((c.tc : Thread Cert.OutProjRefIdeal.nD Cert.OutProjRefIdeal.τ).loc Cert.OutProjRefIdeal.main_arg12) = m ((c.tc : Thread Cert.OutProjRefIdeal.nD Cert.OutProjRefIdeal.τ).loc Cert.OutProjRefIdeal.main_arg12)
      ∧ r.2.mem ((c.tc : Thread Cert.OutProjRefIdeal.nD Cert.OutProjRefIdeal.τ).loc Cert.OutProjRefIdeal.main_arg13) = m ((c.tc : Thread Cert.OutProjRefIdeal.nD Cert.OutProjRefIdeal.τ).loc Cert.OutProjRefIdeal.main_arg13)
      ∧ r.2.mem ((c.tc : Thread Cert.OutProjRefIdeal.nD Cert.OutProjRefIdeal.τ).loc Cert.OutProjRefIdeal.main_arg14) = m ((c.tc : Thread Cert.OutProjRefIdeal.nD Cert.OutProjRefIdeal.τ).loc Cert.OutProjRefIdeal.main_arg14)
      ∧ r.2.mem ((c.tc : Thread Cert.OutProjRefIdeal.nD Cert.OutProjRefIdeal.τ).loc Cert.OutProjRefIdeal.main_arg15) = m ((c.tc : Thread Cert.OutProjRefIdeal.nD Cert.OutProjRefIdeal.τ).loc Cert.OutProjRefIdeal.main_arg15)
      ∧ r.2.mem ((c.tc : Thread Cert.OutProjRefIdeal.nD Cert.OutProjRefIdeal.τ).loc Cert.OutProjRefIdeal.main_arg16) = m ((c.tc : Thread Cert.OutProjRefIdeal.nD Cert.OutProjRefIdeal.τ).loc Cert.OutProjRefIdeal.main_arg16))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1)
      ∧ r.2.mem ((c.tc : Thread Cert.FinalNorm.nD Cert.FinalNorm.τ).loc Cert.FinalNorm.main_arg2) = m ((c.tc : Thread Cert.FinalNorm.nD Cert.FinalNorm.τ).loc Cert.FinalNorm.main_arg2)
      ∧ r.2.mem ((c.tc : Thread Cert.FinalNorm.nD Cert.FinalNorm.τ).loc Cert.FinalNorm.main_arg3) = m ((c.tc : Thread Cert.FinalNorm.nD Cert.FinalNorm.τ).loc Cert.FinalNorm.main_arg3))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1)
      ∧ r.2.mem ((c.tc : Thread Cert.FinalNormIdeal.nD Cert.FinalNormIdeal.τ).loc Cert.FinalNormIdeal.main_arg2) = m ((c.tc : Thread Cert.FinalNormIdeal.nD Cert.FinalNormIdeal.τ).loc Cert.FinalNormIdeal.main_arg2)
      ∧ r.2.mem ((c.tc : Thread Cert.FinalNormIdeal.nD Cert.FinalNormIdeal.τ).loc Cert.FinalNormIdeal.main_arg3) = m ((c.tc : Thread Cert.FinalNormIdeal.nD Cert.FinalNormIdeal.τ).loc Cert.FinalNormIdeal.main_arg3))
      ∧ r.2.sem = fun _ => 0)

def quiescent_FinalNormRefIdeal [hFinalNormRefIdeal : Cert.FinalNormRefIdeal.Facts] : Prop :=
  ∀ (m : (ℓ : Loc Cert.FinalNormRefIdeal.nD Cert.FinalNormRefIdeal.τ Cert.FinalNormRefIdeal.sig) → Buf (Elt Ideal) ℓ) (g : Dev Cert.FinalNormRefIdeal.nD → PrngReg), Pre_FinalNormRefIdeal m →
    θ_run (Cert.FinalNormRefIdeal.defs (F := Ideal)) (onTc (τ := Cert.FinalNormRefIdeal.τ) (Cert.FinalNormRefIdeal.main (F := Ideal))) ⟨m, fun _ => 0, g⟩ (fun r => (∀ c : Dev Cert.FinalNormRefIdeal.nD,
      r.2.mem ((c.tc : Thread Cert.FinalNormRefIdeal.nD Cert.FinalNormRefIdeal.τ).loc Cert.FinalNormRefIdeal.main_arg0) = m ((c.tc : Thread Cert.FinalNormRefIdeal.nD Cert.FinalNormRefIdeal.τ).loc Cert.FinalNormRefIdeal.main_arg0)
      ∧ r.2.mem ((c.tc : Thread Cert.FinalNormRefIdeal.nD Cert.FinalNormRefIdeal.τ).loc Cert.FinalNormRefIdeal.main_arg1) = m ((c.tc : Thread Cert.FinalNormRefIdeal.nD Cert.FinalNormRefIdeal.τ).loc Cert.FinalNormRefIdeal.main_arg1)
      ∧ r.2.mem ((c.tc : Thread Cert.FinalNormRefIdeal.nD Cert.FinalNormRefIdeal.τ).loc Cert.FinalNormRefIdeal.main_arg2) = m ((c.tc : Thread Cert.FinalNormRefIdeal.nD Cert.FinalNormRefIdeal.τ).loc Cert.FinalNormRefIdeal.main_arg2)
      ∧ r.2.mem ((c.tc : Thread Cert.FinalNormRefIdeal.nD Cert.FinalNormRefIdeal.τ).loc Cert.FinalNormRefIdeal.main_arg3) = m ((c.tc : Thread Cert.FinalNormRefIdeal.nD Cert.FinalNormRefIdeal.τ).loc Cert.FinalNormRefIdeal.main_arg3))
      ∧ r.2.sem = fun _ => 0)

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v54)) (v1 : (c : Dev Cert.InProjIdeal.nD) → Buf (Elt Ideal) ((c.tc : Thread Cert.InProjIdeal.nD Cert.InProjIdeal.τ).loc Cert.InProjIdeal.main_v55)) (v2 : (c : Dev Cert.InProjIdeal.nD) → Buf (Elt Ideal) ((c.tc : Thread Cert.InProjIdeal.nD Cert.InProjIdeal.τ).loc Cert.InProjIdeal.main_v57)) (v3 : (c : Dev Cert.InProjIdeal.nD) → Buf (Elt Ideal) ((c.tc : Thread Cert.InProjIdeal.nD Cert.InProjIdeal.τ).loc Cert.InProjIdeal.main_v58)) (v4 : (c : Dev Cert.InProjIdeal.nD) → Buf (Elt Ideal) ((c.tc : Thread Cert.InProjIdeal.nD Cert.InProjIdeal.τ).loc Cert.InProjIdeal.main_v56)) (v5 : (c : Dev Cert.InProjIdeal.nD) → Buf (Elt Ideal) ((c.tc : Thread Cert.InProjIdeal.nD Cert.InProjIdeal.τ).loc Cert.InProjIdeal.main_v59)) (v6 : (c : Dev Cert.InProjIdeal.nD) → Buf (Elt Ideal) ((c.tc : Thread Cert.InProjIdeal.nD Cert.InProjIdeal.τ).loc Cert.InProjIdeal.main_v60)) (v7 : (c : Dev Cert.InProjIdeal.nD) → Buf (Elt Ideal) ((c.tc : Thread Cert.InProjIdeal.nD Cert.InProjIdeal.τ).loc Cert.InProjIdeal.main_v61)) (v8 : (c : Dev Cert.InProjIdeal.nD) → Buf (Elt Ideal) ((c.tc : Thread Cert.InProjIdeal.nD Cert.InProjIdeal.τ).loc Cert.InProjIdeal.main_v62)) (v9 : (c : Dev Cert.InProjIdeal.nD) → Buf (Elt Ideal) ((c.tc : Thread Cert.InProjIdeal.nD Cert.InProjIdeal.τ).loc Cert.InProjIdeal.main_v63)) (v10 : (c : Dev Cert.InProjIdeal.nD) → Buf (Elt Ideal) ((c.tc : Thread Cert.InProjIdeal.nD Cert.InProjIdeal.τ).loc Cert.InProjIdeal.main_v64)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v54) = v0 c
          ∧ r.2.mem ((c.tc : Thread Cert.InProjIdeal.nD Cert.InProjIdeal.τ).loc Cert.InProjIdeal.main_v55) = v1 c
          ∧ r.2.mem ((c.tc : Thread Cert.InProjIdeal.nD Cert.InProjIdeal.τ).loc Cert.InProjIdeal.main_v57) = v2 c
          ∧ r.2.mem ((c.tc : Thread Cert.InProjIdeal.nD Cert.InProjIdeal.τ).loc Cert.InProjIdeal.main_v58) = v3 c
          ∧ r.2.mem ((c.tc : Thread Cert.InProjIdeal.nD Cert.InProjIdeal.τ).loc Cert.InProjIdeal.main_v56) = v4 c
          ∧ r.2.mem ((c.tc : Thread Cert.InProjIdeal.nD Cert.InProjIdeal.τ).loc Cert.InProjIdeal.main_v59) = v5 c
          ∧ r.2.mem ((c.tc : Thread Cert.InProjIdeal.nD Cert.InProjIdeal.τ).loc Cert.InProjIdeal.main_v60) = v6 c
          ∧ r.2.mem ((c.tc : Thread Cert.InProjIdeal.nD Cert.InProjIdeal.τ).loc Cert.InProjIdeal.main_v61) = v7 c
          ∧ r.2.mem ((c.tc : Thread Cert.InProjIdeal.nD Cert.InProjIdeal.τ).loc Cert.InProjIdeal.main_v62) = v8 c
          ∧ r.2.mem ((c.tc : Thread Cert.InProjIdeal.nD Cert.InProjIdeal.τ).loc Cert.InProjIdeal.main_v63) = v9 c
          ∧ r.2.mem ((c.tc : Thread Cert.InProjIdeal.nD Cert.InProjIdeal.τ).loc Cert.InProjIdeal.main_v64) = v10 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v23) = v0 c
          ∧ r.2.mem ((c.tc : Thread Cert.InProjRefIdeal.nD Cert.InProjRefIdeal.τ).loc Cert.InProjRefIdeal.main_v26) = v1 c
          ∧ r.2.mem ((c.tc : Thread Cert.InProjRefIdeal.nD Cert.InProjRefIdeal.τ).loc Cert.InProjRefIdeal.main_v29) = v2 c
          ∧ r.2.mem ((c.tc : Thread Cert.InProjRefIdeal.nD Cert.InProjRefIdeal.τ).loc Cert.InProjRefIdeal.main_v32) = v3 c
          ∧ r.2.mem ((c.tc : Thread Cert.InProjRefIdeal.nD Cert.InProjRefIdeal.τ).loc Cert.InProjRefIdeal.main_v35) = v4 c
          ∧ r.2.mem ((c.tc : Thread Cert.InProjRefIdeal.nD Cert.InProjRefIdeal.τ).loc Cert.InProjRefIdeal.main_v38) = v5 c
          ∧ r.2.mem ((c.tc : Thread Cert.InProjRefIdeal.nD Cert.InProjRefIdeal.τ).loc Cert.InProjRefIdeal.main_v40) = v6 c
          ∧ r.2.mem ((c.tc : Thread Cert.InProjRefIdeal.nD Cert.InProjRefIdeal.τ).loc Cert.InProjRefIdeal.main_v42) = v7 c
          ∧ r.2.mem ((c.tc : Thread Cert.InProjRefIdeal.nD Cert.InProjRefIdeal.τ).loc Cert.InProjRefIdeal.main_v45) = v8 c
          ∧ r.2.mem ((c.tc : Thread Cert.InProjRefIdeal.nD Cert.InProjRefIdeal.τ).loc Cert.InProjRefIdeal.main_v47) = v9 c
          ∧ r.2.mem ((c.tc : Thread Cert.InProjRefIdeal.nD Cert.InProjRefIdeal.τ).loc Cert.InProjRefIdeal.main_v49) = v10 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4))

def preserves_AttnPrompt_AttnPromptIdeal : Prop :=
  IdealRules.named_const.Statement Cert.AttnPromptIdeal.κ "mask" .f32 0xF149F2CA#32 ⊥

def algebraic_AttnPromptIdeal_AttnPromptRefIdeal_pre_finite_prompt [hAttnPromptIdeal : Cert.AttnPromptIdeal.Facts] [hAttnPromptRefIdeal : Cert.AttnPromptRefIdeal.Facts] [hPre_finite_prompt : Cert.Pre_finite_prompt.Facts] : Prop :=
  ∀ (m : (ℓ : Loc Cert.AttnPromptIdeal.nD Cert.AttnPromptIdeal.τ Cert.AttnPromptIdeal.sig) → Buf (Elt Ideal) ℓ) (g : Dev Cert.AttnPromptIdeal.nD → PrngReg)
    (m' : (ℓ : Loc Cert.AttnPromptRefIdeal.nD Cert.AttnPromptRefIdeal.τ Cert.AttnPromptRefIdeal.sig) → Buf (Elt Ideal) ℓ) (g' : Dev Cert.AttnPromptRefIdeal.nD → PrngReg), Pre_AttnPromptIdeal_finite_prompt m →
    (∀ c : Dev Cert.AttnPromptIdeal.nD,
      m' ((c.tc : Thread Cert.AttnPromptRefIdeal.nD Cert.AttnPromptRefIdeal.τ).loc Cert.AttnPromptRefIdeal.main_arg0) = m ((c.tc : Thread Cert.AttnPromptIdeal.nD Cert.AttnPromptIdeal.τ).loc Cert.AttnPromptIdeal.main_arg0)
      ∧ m' ((c.tc : Thread Cert.AttnPromptRefIdeal.nD Cert.AttnPromptRefIdeal.τ).loc Cert.AttnPromptRefIdeal.main_arg1) = m ((c.tc : Thread Cert.AttnPromptIdeal.nD Cert.AttnPromptIdeal.τ).loc Cert.AttnPromptIdeal.main_arg1)
      ∧ m' ((c.tc : Thread Cert.AttnPromptRefIdeal.nD Cert.AttnPromptRefIdeal.τ).loc Cert.AttnPromptRefIdeal.main_arg2) = m ((c.tc : Thread Cert.AttnPromptIdeal.nD Cert.AttnPromptIdeal.τ).loc Cert.AttnPromptIdeal.main_arg2)) →
    ∃ (v0 : (c : Dev Cert.AttnPromptIdeal.nD) → Buf (Elt Ideal) ((c.tc : Thread Cert.AttnPromptIdeal.nD Cert.AttnPromptIdeal.τ).loc Cert.AttnPromptIdeal.main_v16)),
      θ_run (Cert.AttnPromptIdeal.defs (F := Ideal)) (onTc (τ := Cert.AttnPromptIdeal.τ) (Cert.AttnPromptIdeal.main (F := Ideal))) ⟨m, fun _ => 0, g⟩ (fun r => ∀ c : Dev Cert.AttnPromptIdeal.nD,
          r.2.mem ((c.tc : Thread Cert.AttnPromptIdeal.nD Cert.AttnPromptIdeal.τ).loc Cert.AttnPromptIdeal.main_v16) = v0 c
          ∧ r.2.mem ((c.tc : Thread Cert.AttnPromptIdeal.nD Cert.AttnPromptIdeal.τ).loc Cert.AttnPromptIdeal.main_arg0) = m ((c.tc : Thread Cert.AttnPromptIdeal.nD Cert.AttnPromptIdeal.τ).loc Cert.AttnPromptIdeal.main_arg0)
          ∧ r.2.mem ((c.tc : Thread Cert.AttnPromptIdeal.nD Cert.AttnPromptIdeal.τ).loc Cert.AttnPromptIdeal.main_arg1) = m ((c.tc : Thread Cert.AttnPromptIdeal.nD Cert.AttnPromptIdeal.τ).loc Cert.AttnPromptIdeal.main_arg1)
          ∧ r.2.mem ((c.tc : Thread Cert.AttnPromptIdeal.nD Cert.AttnPromptIdeal.τ).loc Cert.AttnPromptIdeal.main_arg2) = m ((c.tc : Thread Cert.AttnPromptIdeal.nD Cert.AttnPromptIdeal.τ).loc Cert.AttnPromptIdeal.main_arg2))
      ∧ θ_run (Cert.AttnPromptRefIdeal.defs (F := Ideal)) (onTc (τ := Cert.AttnPromptRefIdeal.τ) (Cert.AttnPromptRefIdeal.main (F := Ideal))) ⟨m', fun _ => 0, g'⟩ (fun r => ∀ c : Dev Cert.AttnPromptRefIdeal.nD,
          r.2.mem ((c.tc : Thread Cert.AttnPromptRefIdeal.nD Cert.AttnPromptRefIdeal.τ).loc Cert.AttnPromptRefIdeal.main_v71) = v0 c
          ∧ r.2.mem ((c.tc : Thread Cert.AttnPromptRefIdeal.nD Cert.AttnPromptRefIdeal.τ).loc Cert.AttnPromptRefIdeal.main_arg0) = m' ((c.tc : Thread Cert.AttnPromptRefIdeal.nD Cert.AttnPromptRefIdeal.τ).loc Cert.AttnPromptRefIdeal.main_arg0)
          ∧ r.2.mem ((c.tc : Thread Cert.AttnPromptRefIdeal.nD Cert.AttnPromptRefIdeal.τ).loc Cert.AttnPromptRefIdeal.main_arg1) = m' ((c.tc : Thread Cert.AttnPromptRefIdeal.nD Cert.AttnPromptRefIdeal.τ).loc Cert.AttnPromptRefIdeal.main_arg1)
          ∧ r.2.mem ((c.tc : Thread Cert.AttnPromptRefIdeal.nD Cert.AttnPromptRefIdeal.τ).loc Cert.AttnPromptRefIdeal.main_arg2) = m' ((c.tc : Thread Cert.AttnPromptRefIdeal.nD Cert.AttnPromptRefIdeal.τ).loc Cert.AttnPromptRefIdeal.main_arg2))

def preserves_AttnSample_AttnSampleIdeal : Prop :=
  IdealRules.named_const.Statement Cert.AttnSampleIdeal.κ "mask" .f32 0xF149F2CA#32 ⊥

def preserves_OutProj_OutProjIdeal : Prop :=
  True

def algebraic_OutProjIdeal_OutProjRefIdeal_pre_finite_heads [hOutProjIdeal : Cert.OutProjIdeal.Facts] [hOutProjRefIdeal : Cert.OutProjRefIdeal.Facts] [hPre_finite_heads : Cert.Pre_finite_heads.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal_finite_heads m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)
      ∧ m' ((c.tc : Thread Cert.OutProjRefIdeal.nD Cert.OutProjRefIdeal.τ).loc Cert.OutProjRefIdeal.main_arg8) = m ((c.tc : Thread Cert.OutProjIdeal.nD Cert.OutProjIdeal.τ).loc Cert.OutProjIdeal.main_arg8)
      ∧ m' ((c.tc : Thread Cert.OutProjRefIdeal.nD Cert.OutProjRefIdeal.τ).loc Cert.OutProjRefIdeal.main_arg9) = m ((c.tc : Thread Cert.OutProjIdeal.nD Cert.OutProjIdeal.τ).loc Cert.OutProjIdeal.main_arg9)
      ∧ m' ((c.tc : Thread Cert.OutProjRefIdeal.nD Cert.OutProjRefIdeal.τ).loc Cert.OutProjRefIdeal.main_arg10) = m ((c.tc : Thread Cert.OutProjIdeal.nD Cert.OutProjIdeal.τ).loc Cert.OutProjIdeal.main_arg10)
      ∧ m' ((c.tc : Thread Cert.OutProjRefIdeal.nD Cert.OutProjRefIdeal.τ).loc Cert.OutProjRefIdeal.main_arg11) = m ((c.tc : Thread Cert.OutProjIdeal.nD Cert.OutProjIdeal.τ).loc Cert.OutProjIdeal.main_arg11)
      ∧ m' ((c.tc : Thread Cert.OutProjRefIdeal.nD Cert.OutProjRefIdeal.τ).loc Cert.OutProjRefIdeal.main_arg12) = m ((c.tc : Thread Cert.OutProjIdeal.nD Cert.OutProjIdeal.τ).loc Cert.OutProjIdeal.main_arg12)
      ∧ m' ((c.tc : Thread Cert.OutProjRefIdeal.nD Cert.OutProjRefIdeal.τ).loc Cert.OutProjRefIdeal.main_arg13) = m ((c.tc : Thread Cert.OutProjIdeal.nD Cert.OutProjIdeal.τ).loc Cert.OutProjIdeal.main_arg13)
      ∧ m' ((c.tc : Thread Cert.OutProjRefIdeal.nD Cert.OutProjRefIdeal.τ).loc Cert.OutProjRefIdeal.main_arg14) = m ((c.tc : Thread Cert.OutProjIdeal.nD Cert.OutProjIdeal.τ).loc Cert.OutProjIdeal.main_arg14)
      ∧ m' ((c.tc : Thread Cert.OutProjRefIdeal.nD Cert.OutProjRefIdeal.τ).loc Cert.OutProjRefIdeal.main_arg15) = m ((c.tc : Thread Cert.OutProjIdeal.nD Cert.OutProjIdeal.τ).loc Cert.OutProjIdeal.main_arg15)
      ∧ m' ((c.tc : Thread Cert.OutProjRefIdeal.nD Cert.OutProjRefIdeal.τ).loc Cert.OutProjRefIdeal.main_arg16) = m ((c.tc : Thread Cert.OutProjIdeal.nD Cert.OutProjIdeal.τ).loc Cert.OutProjIdeal.main_arg16)) →
    ∃ (v0 : (c : Dev Cert.OutProjIdeal.nD) → Buf (Elt Ideal) ((c.tc : Thread Cert.OutProjIdeal.nD Cert.OutProjIdeal.τ).loc Cert.OutProjIdeal.main_v36_0)) (v1 : (c : Dev Cert.OutProjIdeal.nD) → Buf (Elt Ideal) ((c.tc : Thread Cert.OutProjIdeal.nD Cert.OutProjIdeal.τ).loc Cert.OutProjIdeal.main_v36_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v36_0) = v0 c
          ∧ r.2.mem ((c.tc : Thread Cert.OutProjIdeal.nD Cert.OutProjIdeal.τ).loc Cert.OutProjIdeal.main_v36_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
          ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8)
          ∧ r.2.mem ((c.tc : Thread Cert.OutProjIdeal.nD Cert.OutProjIdeal.τ).loc Cert.OutProjIdeal.main_arg9) = m ((c.tc : Thread Cert.OutProjIdeal.nD Cert.OutProjIdeal.τ).loc Cert.OutProjIdeal.main_arg9)
          ∧ r.2.mem ((c.tc : Thread Cert.OutProjIdeal.nD Cert.OutProjIdeal.τ).loc Cert.OutProjIdeal.main_arg10) = m ((c.tc : Thread Cert.OutProjIdeal.nD Cert.OutProjIdeal.τ).loc Cert.OutProjIdeal.main_arg10)
          ∧ r.2.mem ((c.tc : Thread Cert.OutProjIdeal.nD Cert.OutProjIdeal.τ).loc Cert.OutProjIdeal.main_arg11) = m ((c.tc : Thread Cert.OutProjIdeal.nD Cert.OutProjIdeal.τ).loc Cert.OutProjIdeal.main_arg11)
          ∧ r.2.mem ((c.tc : Thread Cert.OutProjIdeal.nD Cert.OutProjIdeal.τ).loc Cert.OutProjIdeal.main_arg12) = m ((c.tc : Thread Cert.OutProjIdeal.nD Cert.OutProjIdeal.τ).loc Cert.OutProjIdeal.main_arg12)
          ∧ r.2.mem ((c.tc : Thread Cert.OutProjIdeal.nD Cert.OutProjIdeal.τ).loc Cert.OutProjIdeal.main_arg13) = m ((c.tc : Thread Cert.OutProjIdeal.nD Cert.OutProjIdeal.τ).loc Cert.OutProjIdeal.main_arg13)
          ∧ r.2.mem ((c.tc : Thread Cert.OutProjIdeal.nD Cert.OutProjIdeal.τ).loc Cert.OutProjIdeal.main_arg14) = m ((c.tc : Thread Cert.OutProjIdeal.nD Cert.OutProjIdeal.τ).loc Cert.OutProjIdeal.main_arg14)
          ∧ r.2.mem ((c.tc : Thread Cert.OutProjIdeal.nD Cert.OutProjIdeal.τ).loc Cert.OutProjIdeal.main_arg15) = m ((c.tc : Thread Cert.OutProjIdeal.nD Cert.OutProjIdeal.τ).loc Cert.OutProjIdeal.main_arg15)
          ∧ r.2.mem ((c.tc : Thread Cert.OutProjIdeal.nD Cert.OutProjIdeal.τ).loc Cert.OutProjIdeal.main_arg16) = m ((c.tc : Thread Cert.OutProjIdeal.nD Cert.OutProjIdeal.τ).loc Cert.OutProjIdeal.main_arg16))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v89) = v0 c
          ∧ r.2.mem ((c.tc : Thread Cert.OutProjRefIdeal.nD Cert.OutProjRefIdeal.τ).loc Cert.OutProjRefIdeal.main_v91) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7)
          ∧ r.2.mem ((c.tc : Thread Cert.OutProjRefIdeal.nD Cert.OutProjRefIdeal.τ).loc Cert.OutProjRefIdeal.main_arg8) = m' ((c.tc : Thread Cert.OutProjRefIdeal.nD Cert.OutProjRefIdeal.τ).loc Cert.OutProjRefIdeal.main_arg8)
          ∧ r.2.mem ((c.tc : Thread Cert.OutProjRefIdeal.nD Cert.OutProjRefIdeal.τ).loc Cert.OutProjRefIdeal.main_arg9) = m' ((c.tc : Thread Cert.OutProjRefIdeal.nD Cert.OutProjRefIdeal.τ).loc Cert.OutProjRefIdeal.main_arg9)
          ∧ r.2.mem ((c.tc : Thread Cert.OutProjRefIdeal.nD Cert.OutProjRefIdeal.τ).loc Cert.OutProjRefIdeal.main_arg10) = m' ((c.tc : Thread Cert.OutProjRefIdeal.nD Cert.OutProjRefIdeal.τ).loc Cert.OutProjRefIdeal.main_arg10)
          ∧ r.2.mem ((c.tc : Thread Cert.OutProjRefIdeal.nD Cert.OutProjRefIdeal.τ).loc Cert.OutProjRefIdeal.main_arg11) = m' ((c.tc : Thread Cert.OutProjRefIdeal.nD Cert.OutProjRefIdeal.τ).loc Cert.OutProjRefIdeal.main_arg11)
          ∧ r.2.mem ((c.tc : Thread Cert.OutProjRefIdeal.nD Cert.OutProjRefIdeal.τ).loc Cert.OutProjRefIdeal.main_arg12) = m' ((c.tc : Thread Cert.OutProjRefIdeal.nD Cert.OutProjRefIdeal.τ).loc Cert.OutProjRefIdeal.main_arg12)
          ∧ r.2.mem ((c.tc : Thread Cert.OutProjRefIdeal.nD Cert.OutProjRefIdeal.τ).loc Cert.OutProjRefIdeal.main_arg13) = m' ((c.tc : Thread Cert.OutProjRefIdeal.nD Cert.OutProjRefIdeal.τ).loc Cert.OutProjRefIdeal.main_arg13)
          ∧ r.2.mem ((c.tc : Thread Cert.OutProjRefIdeal.nD Cert.OutProjRefIdeal.τ).loc Cert.OutProjRefIdeal.main_arg14) = m' ((c.tc : Thread Cert.OutProjRefIdeal.nD Cert.OutProjRefIdeal.τ).loc Cert.OutProjRefIdeal.main_arg14)
          ∧ r.2.mem ((c.tc : Thread Cert.OutProjRefIdeal.nD Cert.OutProjRefIdeal.τ).loc Cert.OutProjRefIdeal.main_arg15) = m' ((c.tc : Thread Cert.OutProjRefIdeal.nD Cert.OutProjRefIdeal.τ).loc Cert.OutProjRefIdeal.main_arg15)
          ∧ r.2.mem ((c.tc : Thread Cert.OutProjRefIdeal.nD Cert.OutProjRefIdeal.τ).loc Cert.OutProjRefIdeal.main_arg16) = m' ((c.tc : Thread Cert.OutProjRefIdeal.nD Cert.OutProjRefIdeal.τ).loc Cert.OutProjRefIdeal.main_arg16))

def preserves_FinalNorm_FinalNormIdeal : Prop :=
  True

def algebraic_FinalNormIdeal_FinalNormRefIdeal [hFinalNormIdeal : Cert.FinalNormIdeal.Facts] [hFinalNormRefIdeal : Cert.FinalNormRefIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormRefIdeal.nD Cert.FinalNormRefIdeal.τ Cert.FinalNormRefIdeal.sig) → Buf (Elt Ideal) ℓ) (g' : Dev Cert.FinalNormRefIdeal.nD → PrngReg), Pre_FinalNormIdeal m →
    (∀ c : Dev Cert.FinalNormIdeal.nD,
      m' ((c.tc : Thread Cert.FinalNormRefIdeal.nD Cert.FinalNormRefIdeal.τ).loc Cert.FinalNormRefIdeal.main_arg0) = m ((c.tc : Thread Cert.FinalNormIdeal.nD Cert.FinalNormIdeal.τ).loc Cert.FinalNormIdeal.main_arg0)
      ∧ m' ((c.tc : Thread Cert.FinalNormRefIdeal.nD Cert.FinalNormRefIdeal.τ).loc Cert.FinalNormRefIdeal.main_arg1) = m ((c.tc : Thread Cert.FinalNormIdeal.nD Cert.FinalNormIdeal.τ).loc Cert.FinalNormIdeal.main_arg1)
      ∧ m' ((c.tc : Thread Cert.FinalNormRefIdeal.nD Cert.FinalNormRefIdeal.τ).loc Cert.FinalNormRefIdeal.main_arg2) = m ((c.tc : Thread Cert.FinalNormIdeal.nD Cert.FinalNormIdeal.τ).loc Cert.FinalNormIdeal.main_arg2)
      ∧ m' ((c.tc : Thread Cert.FinalNormRefIdeal.nD Cert.FinalNormRefIdeal.τ).loc Cert.FinalNormRefIdeal.main_arg3) = m ((c.tc : Thread Cert.FinalNormIdeal.nD Cert.FinalNormIdeal.τ).loc Cert.FinalNormIdeal.main_arg3)) →
    ∃ (v0 : (c : Dev Cert.FinalNormIdeal.nD) → Buf (Elt Ideal) ((c.tc : Thread Cert.FinalNormIdeal.nD Cert.FinalNormIdeal.τ).loc Cert.FinalNormIdeal.main_v0_0)) (v1 : (c : Dev Cert.FinalNormIdeal.nD) → Buf (Elt Ideal) ((c.tc : Thread Cert.FinalNormIdeal.nD Cert.FinalNormIdeal.τ).loc Cert.FinalNormIdeal.main_v0_1)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v0_0) = v0 c
          ∧ r.2.mem ((c.tc : Thread Cert.FinalNormIdeal.nD Cert.FinalNormIdeal.τ).loc Cert.FinalNormIdeal.main_v0_1) = v1 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1)
          ∧ r.2.mem ((c.tc : Thread Cert.FinalNormIdeal.nD Cert.FinalNormIdeal.τ).loc Cert.FinalNormIdeal.main_arg2) = m ((c.tc : Thread Cert.FinalNormIdeal.nD Cert.FinalNormIdeal.τ).loc Cert.FinalNormIdeal.main_arg2)
          ∧ r.2.mem ((c.tc : Thread Cert.FinalNormIdeal.nD Cert.FinalNormIdeal.τ).loc Cert.FinalNormIdeal.main_arg3) = m ((c.tc : Thread Cert.FinalNormIdeal.nD Cert.FinalNormIdeal.τ).loc Cert.FinalNormIdeal.main_arg3))
      ∧ θ_run (Cert.FinalNormRefIdeal.defs (F := Ideal)) (onTc (τ := Cert.FinalNormRefIdeal.τ) (Cert.FinalNormRefIdeal.main (F := Ideal))) ⟨m', fun _ => 0, g'⟩ (fun r => ∀ c : Dev Cert.FinalNormRefIdeal.nD,
          r.2.mem ((c.tc : Thread Cert.FinalNormRefIdeal.nD Cert.FinalNormRefIdeal.τ).loc Cert.FinalNormRefIdeal.main_v29) = v0 c
          ∧ r.2.mem ((c.tc : Thread Cert.FinalNormRefIdeal.nD Cert.FinalNormRefIdeal.τ).loc Cert.FinalNormRefIdeal.main_v30) = v1 c
          ∧ r.2.mem ((c.tc : Thread Cert.FinalNormRefIdeal.nD Cert.FinalNormRefIdeal.τ).loc Cert.FinalNormRefIdeal.main_arg0) = m' ((c.tc : Thread Cert.FinalNormRefIdeal.nD Cert.FinalNormRefIdeal.τ).loc Cert.FinalNormRefIdeal.main_arg0)
          ∧ r.2.mem ((c.tc : Thread Cert.FinalNormRefIdeal.nD Cert.FinalNormRefIdeal.τ).loc Cert.FinalNormRefIdeal.main_arg1) = m' ((c.tc : Thread Cert.FinalNormRefIdeal.nD Cert.FinalNormRefIdeal.τ).loc Cert.FinalNormRefIdeal.main_arg1)
          ∧ r.2.mem ((c.tc : Thread Cert.FinalNormRefIdeal.nD Cert.FinalNormRefIdeal.τ).loc Cert.FinalNormRefIdeal.main_arg2) = m' ((c.tc : Thread Cert.FinalNormRefIdeal.nD Cert.FinalNormRefIdeal.τ).loc Cert.FinalNormRefIdeal.main_arg2)
          ∧ r.2.mem ((c.tc : Thread Cert.FinalNormRefIdeal.nD Cert.FinalNormRefIdeal.τ).loc Cert.FinalNormRefIdeal.main_arg3) = m' ((c.tc : Thread Cert.FinalNormRefIdeal.nD Cert.FinalNormRefIdeal.τ).loc Cert.FinalNormRefIdeal.main_arg3))

def Claim : Prop :=
  ∃ (hInProj : Cert.InProj.Facts) (hInProjIdeal : Cert.InProjIdeal.Facts) (hInProjRefIdeal : Cert.InProjRefIdeal.Facts) (hAttnPrompt : Cert.AttnPrompt.Facts) (hAttnPromptIdeal : Cert.AttnPromptIdeal.Facts) (hAttnPromptRefIdeal : Cert.AttnPromptRefIdeal.Facts) (hAttnSample : Cert.AttnSample.Facts) (hAttnSampleIdeal : Cert.AttnSampleIdeal.Facts) (hAttnSampleRefIdeal : Cert.AttnSampleRefIdeal.Facts) (hOutProj : Cert.OutProj.Facts) (hOutProjIdeal : Cert.OutProjIdeal.Facts) (hOutProjRefIdeal : Cert.OutProjRefIdeal.Facts) (hFinalNorm : Cert.FinalNorm.Facts) (hFinalNormIdeal : Cert.FinalNormIdeal.Facts) (hFinalNormRefIdeal : Cert.FinalNormRefIdeal.Facts) (hPre_finite_prompt : Cert.Pre_finite_prompt.Facts) (hPre_finite_heads : Cert.Pre_finite_heads.Facts),
    quiescent_InProj (hInProj := hInProj)
    ∧ quiescent_InProjIdeal (hInProjIdeal := hInProjIdeal)
    ∧ quiescent_InProjRefIdeal (hInProjRefIdeal := hInProjRefIdeal)
    ∧ quiescent_AttnPrompt (hAttnPrompt := hAttnPrompt)
    ∧ quiescent_AttnPromptIdeal (hAttnPromptIdeal := hAttnPromptIdeal)
    ∧ quiescent_AttnPromptIdeal_pre_finite_prompt (hAttnPromptIdeal := hAttnPromptIdeal) (hPre_finite_prompt := hPre_finite_prompt)
    ∧ quiescent_AttnPromptRefIdeal (hAttnPromptRefIdeal := hAttnPromptRefIdeal)
    ∧ quiescent_AttnPromptRefIdeal_pre_finite_prompt (hAttnPromptRefIdeal := hAttnPromptRefIdeal) (hPre_finite_prompt := hPre_finite_prompt)
    ∧ quiescent_AttnSample (hAttnSample := hAttnSample)
    ∧ quiescent_AttnSampleIdeal (hAttnSampleIdeal := hAttnSampleIdeal)
    ∧ quiescent_AttnSampleRefIdeal (hAttnSampleRefIdeal := hAttnSampleRefIdeal)
    ∧ quiescent_OutProj (hOutProj := hOutProj)
    ∧ quiescent_OutProjIdeal (hOutProjIdeal := hOutProjIdeal)
    ∧ quiescent_OutProjIdeal_pre_finite_heads (hOutProjIdeal := hOutProjIdeal) (hPre_finite_heads := hPre_finite_heads)
    ∧ quiescent_OutProjRefIdeal (hOutProjRefIdeal := hOutProjRefIdeal)
    ∧ quiescent_OutProjRefIdeal_pre_finite_heads (hOutProjRefIdeal := hOutProjRefIdeal) (hPre_finite_heads := hPre_finite_heads)
    ∧ quiescent_FinalNorm (hFinalNorm := hFinalNorm)
    ∧ quiescent_FinalNormIdeal (hFinalNormIdeal := hFinalNormIdeal)
    ∧ quiescent_FinalNormRefIdeal (hFinalNormRefIdeal := hFinalNormRefIdeal)
    ∧ preserves_InProj_InProjIdeal
    ∧ algebraic_InProjIdeal_InProjRefIdeal (hInProjIdeal := hInProjIdeal) (hInProjRefIdeal := hInProjRefIdeal)
    ∧ preserves_AttnPrompt_AttnPromptIdeal
    ∧ algebraic_AttnPromptIdeal_AttnPromptRefIdeal_pre_finite_prompt (hAttnPromptIdeal := hAttnPromptIdeal) (hAttnPromptRefIdeal := hAttnPromptRefIdeal) (hPre_finite_prompt := hPre_finite_prompt)
    ∧ preserves_AttnSample_AttnSampleIdeal
    ∧ preserves_OutProj_OutProjIdeal
    ∧ algebraic_OutProjIdeal_OutProjRefIdeal_pre_finite_heads (hOutProjIdeal := hOutProjIdeal) (hOutProjRefIdeal := hOutProjRefIdeal) (hPre_finite_heads := hPre_finite_heads)
    ∧ preserves_FinalNorm_FinalNormIdeal
    ∧ algebraic_FinalNormIdeal_FinalNormRefIdeal (hFinalNormIdeal := hFinalNormIdeal) (hFinalNormRefIdeal := hFinalNormRefIdeal)
-- ==== Pre_finite_heads.lean ====
abbrev S1x8192x32x64 : Shape := ⟨4, ![1, 8192, 32, 64]⟩
abbrev S128x8x32x64 : Shape := ⟨4, ![128, 8, 32, 64]⟩
abbrev S1x8192x2048 : Shape := ⟨3, ![1, 8192, 2048]⟩
abbrev S128x8x2048 : Shape := ⟨3, ![128, 8, 2048]⟩
abbrev S1x8192x13248 : Shape := ⟨3, ![1, 8192, 13248]⟩
abbrev S128x8x13248 : Shape := ⟨3, ![128, 8, 13248]⟩
abbrev S1x2048 : Shape := ⟨2, ![1, 2048]⟩
abbrev S1x2048x2048 : Shape := ⟨3, ![1, 2048, 2048]⟩
abbrev S_ : Shape := ⟨0, ![]⟩

class Facts : Prop where
  bcast_S_S1x8192x32x64 : S_.BroadcastsInDim S1x8192x32x64 (![] : Fin 0 → Fin S1x8192x32x64.rank)
  bcast_S_S128x8x32x64 : S_.BroadcastsInDim S128x8x32x64 (![] : Fin 0 → Fin S128x8x32x64.rank)

variable [Facts]

def fn {F : FTy → Type} [FloatOps F] (main_arg0 : FVec F S1x8192x32x64 .f32) (main_arg1 : FVec F S128x8x32x64 .f32) (main_arg2 : FVec F S1x8192x2048 .f32) (main_arg3 : FVec F S128x8x2048 .f32) (main_arg4 : FVec F S1x8192x2048 .f32) (main_arg5 : FVec F S128x8x2048 .f32) (main_arg6 : FVec F S1x8192x2048 .f32) (main_arg7 : FVec F S128x8x2048 .f32) (main_arg8 : FVec F S1x8192x2048 .f32) (main_arg9 : FVec F S128x8x2048 .f32) (main_arg10 : FVec F S1x8192x13248 .f32) (main_arg11 : FVec F S128x8x13248 .f32) (main_arg12 : FVec F S1x2048 .f32) (main_arg13 : FVec F S1x2048 .f32) (main_arg14 : FVec F S1x2048x2048 .f32) (main_arg15 : FVec F S1x2048 .f32) (main_arg16 : FVec F S1x2048 .f32) : IVec S1x8192x32x64 1 × IVec S128x8x32x64 1 :=
  let main_v0 : FVec F S1x8192x32x64 .f32 := Host.absf main_arg0
  let main_cst : FVec F S_ .f32 := constant S_ .f32 0x7F800000#32
  let main_v1 : FVec F S1x8192x32x64 .f32 := broadcastInDim S1x8192x32x64 ![] bcast_S_S1x8192x32x64 main_cst
  let main_v2 : IVec S1x8192x32x64 1 := cmpf .olt main_v0 main_v1
  let main_v3 : FVec F S128x8x32x64 .f32 := Host.absf main_arg1
  let main_cst_0 : FVec F S_ .f32 := constant S_ .f32 0x7F800000#32
  let main_v4 : FVec F S128x8x32x64 .f32 := broadcastInDim S128x8x32x64 ![] bcast_S_S128x8x32x64 main_cst_0
  let main_v5 : IVec S128x8x32x64 1 := cmpf .olt main_v3 main_v4
  (main_v2, main_v5)
-- ==== Pre_finite_prompt.lean ====
abbrev S1x8192x13248 : Shape := ⟨3, ![1, 8192, 13248]⟩
abbrev S128x8x13248 : Shape := ⟨3, ![128, 8, 13248]⟩
abbrev S1x32 : Shape := ⟨2, ![1, 32]⟩
abbrev S1x8192x2304 : Shape := ⟨3, ![1, 8192, 2304]⟩
abbrev S8192x2304 : Shape := ⟨2, ![8192, 2304]⟩
abbrev S_ : Shape := ⟨0, ![]⟩

class Facts : Prop where
  slices_S1x8192x13248_S1x8192x2304_0_0_6592 : S1x8192x13248.Slices ![0, 0, 6592] S1x8192x2304
  shapeCasts_S1x8192x2304_S8192x2304 : S1x8192x2304.ShapeCasts S8192x2304
  bcast_S_S8192x2304 : S_.BroadcastsInDim S8192x2304 (![] : Fin 0 → Fin S8192x2304.rank)
  bcast_S_S1x32 : S_.BroadcastsInDim S1x32 (![] : Fin 0 → Fin S1x32.rank)

variable [Facts]

def fn {F : FTy → Type} [FloatOps F] (main_arg0 : FVec F S1x8192x13248 .f32) (main_arg1 : FVec F S128x8x13248 .f32) (main_arg2 : FVec F S1x32 .f32) : IVec S8192x2304 1 × IVec S1x32 1 :=
  let main_v0 : FVec F S1x8192x2304 .f32 := (extractStridedSlice S1x8192x2304 ![0, 0, 6592] · slices_S1x8192x13248_S1x8192x2304_0_0_6592) main_arg0
  let main_v1 : FVec F S8192x2304 .f32 := shapeCast S8192x2304 main_v0 shapeCasts_S1x8192x2304_S8192x2304
  let main_v2 : FVec F S8192x2304 .f32 := Host.absf main_v1
  let main_cst : FVec F S_ .f32 := constant S_ .f32 0x7F800000#32
  let main_v3 : FVec F S8192x2304 .f32 := broadcastInDim S8192x2304 ![] bcast_S_S8192x2304 main_cst
  let main_v4 : IVec S8192x2304 1 := cmpf .olt main_v2 main_v3
  let main_v5 : FVec F S1x32 .f32 := Host.absf main_arg2
  let main_cst_0 : FVec F S_ .f32 := constant S_ .f32 0x7F800000#32
  let main_v6 : FVec F S1x32 .f32 := broadcastInDim S1x32 ![] bcast_S_S1x32 main_cst_0
  let main_v7 : IVec S1x32 1 := cmpf .olt main_v5 main_v6
  (main_v4, main_v7)
-- ==== InProj.lean ====
abbrev S1x8192x2048 : Shape := ⟨3, ![1, 8192, 2048]⟩
abbrev S128x8x2048 : Shape := ⟨3, ![128, 8, 2048]⟩
abbrev S1x128x128x4x64 : Shape := ⟨5, ![1, 128, 128, 4, 64]⟩
abbrev S1x2048x13248 : Shape := ⟨3, ![1, 2048, 13248]⟩
abbrev S8192x2048 : Shape := ⟨2, ![8192, 2048]⟩
abbrev S1024x2048 : Shape := ⟨2, ![1024, 2048]⟩
abbrev S2048x13248 : Shape := ⟨2, ![2048, 13248]⟩
abbrev S2048x6144 : Shape := ⟨2, ![2048, 6144]⟩
abbrev S2048x96 : Shape := ⟨2, ![2048, 96]⟩
abbrev S2048x256 : Shape := ⟨2, ![2048, 256]⟩
abbrev S2048x2048 : Shape := ⟨2, ![2048, 2048]⟩
abbrev S2048x4096 : Shape := ⟨2, ![2048, 4096]⟩
abbrev S_ : Shape := ⟨0, ![]⟩
abbrev S2048x128 : Shape := ⟨2, ![2048, 128]⟩
abbrev S2048x13312 : Shape := ⟨2, ![2048, 13312]⟩
abbrev S9216x2048 : Shape := ⟨2, ![9216, 2048]⟩
abbrev S9216x13312 : Shape := ⟨2, ![9216, 13312]⟩
abbrev S2048x1024 : Shape := ⟨2, ![2048, 1024]⟩
abbrev S1024x1024 : Shape := ⟨2, ![1024, 1024]⟩
abbrev S128x128x4x64 : Shape := ⟨4, ![128, 128, 4, 64]⟩
abbrev S1x13312 : Shape := ⟨2, ![1, 13312]⟩
abbrev S1x6144 : Shape := ⟨2, ![1, 6144]⟩
abbrev S1x512 : Shape := ⟨2, ![1, 512]⟩
abbrev S1x96 : Shape := ⟨2, ![1, 96]⟩
abbrev S1x256 : Shape := ⟨2, ![1, 256]⟩
abbrev S1x6592 : Shape := ⟨2, ![1, 6592]⟩
abbrev S1024x13312 : Shape := ⟨2, ![1024, 13312]⟩
abbrev S128x8x13312 : Shape := ⟨3, ![128, 8, 13312]⟩
abbrev S128x1x6144 : Shape := ⟨3, ![128, 1, 6144]⟩
abbrev S128x6144 : Shape := ⟨2, ![128, 6144]⟩
abbrev S128x1x512 : Shape := ⟨3, ![128, 1, 512]⟩
abbrev S128x512 : Shape := ⟨2, ![128, 512]⟩
abbrev S128x96 : Shape := ⟨2, ![128, 96]⟩
abbrev S128x256 : Shape := ⟨2, ![128, 256]⟩
abbrev S128x6592 : Shape := ⟨2, ![128, 6592]⟩
abbrev S128x13312 : Shape := ⟨2, ![128, 13312]⟩
abbrev S1x128x4x64 : Shape := ⟨4, ![1, 128, 4, 64]⟩
abbrev S128x8x256 : Shape := ⟨3, ![128, 8, 256]⟩
abbrev S128x8x4x64 : Shape := ⟨4, ![128, 8, 4, 64]⟩
abbrev S128x120x4x64 : Shape := ⟨4, ![128, 120, 4, 64]⟩
abbrev S9216x6144 : Shape := ⟨2, ![9216, 6144]⟩
abbrev S9216x512 : Shape := ⟨2, ![9216, 512]⟩
abbrev S9216x96 : Shape := ⟨2, ![9216, 96]⟩
abbrev S9216x256 : Shape := ⟨2, ![9216, 256]⟩
abbrev S9216x6592 : Shape := ⟨2, ![9216, 6592]⟩
abbrev S9216x4096 : Shape := ⟨2, ![9216, 4096]⟩
abbrev S1x1x6592 : Shape := ⟨3, ![1, 1, 6592]⟩
abbrev S1x1x128x4x64 : Shape := ⟨5, ![1, 1, 128, 4, 64]⟩
abbrev S1x128x6592 : Shape := ⟨3, ![1, 128, 6592]⟩

abbrev nBuf : Space → Nat
  | .hbm => 74
  | .vmem => 12
  | .smem => 0
  | _ => 0

abbrev bufTy : (tb : Table) → Fin (tcTables nBuf tb) → BufTy
  | .hbm, ⟨0, _⟩ => ⟨S1x8192x2048, .f32⟩
  | .hbm, ⟨1, _⟩ => ⟨S128x8x2048, .f32⟩
  | .hbm, ⟨2, _⟩ => ⟨S1x128x128x4x64, .f32⟩
  | .hbm, ⟨3, _⟩ => ⟨S1x128x128x4x64, .f32⟩
  | .hbm, ⟨4, _⟩ => ⟨S1x2048x13248, .f32⟩
  | .hbm, ⟨5, _⟩ => ⟨S8192x2048, .f32⟩
  | .hbm, ⟨6, _⟩ => ⟨S1024x2048, .f32⟩
  | .hbm, ⟨7, _⟩ => ⟨S2048x13248, .f32⟩
  | .hbm, ⟨8, _⟩ => ⟨S2048x6144, .f32⟩
  | .hbm, ⟨9, _⟩ => ⟨S2048x96, .f32⟩
  | .hbm, ⟨10, _⟩ => ⟨S2048x96, .f32⟩
  | .hbm, ⟨11, _⟩ => ⟨S2048x256, .f32⟩
  | .hbm, ⟨12, _⟩ => ⟨S2048x2048, .f32⟩
  | .hbm, ⟨13, _⟩ => ⟨S2048x256, .f32⟩
  | .hbm, ⟨14, _⟩ => ⟨S2048x256, .f32⟩
  | .hbm, ⟨15, _⟩ => ⟨S2048x4096, .f32⟩
  | .hbm, ⟨16, _⟩ => ⟨S_, .i32⟩
  | .hbm, ⟨17, _⟩ => ⟨S_, .f32⟩
  | .hbm, ⟨18, _⟩ => ⟨S2048x128, .f32⟩
  | .hbm, ⟨19, _⟩ => ⟨S_, .i32⟩
  | .hbm, ⟨20, _⟩ => ⟨S_, .f32⟩
  | .hbm, ⟨21, _⟩ => ⟨S2048x128, .f32⟩
  | .hbm, ⟨22, _⟩ => ⟨S2048x13312, .f32⟩
  | .hbm, ⟨23, _⟩ => ⟨S2048x13312, .bf16⟩
  | .hbm, ⟨24, _⟩ => ⟨S9216x2048, .bf16⟩
  | .hbm, ⟨25, _⟩ => ⟨S9216x13312, .f32⟩
  | .hbm, ⟨26, _⟩ => ⟨S128x128x4x64, .f32⟩
  | .hbm, ⟨27, _⟩ => ⟨S128x128x4x64, .f32⟩
  | .hbm, ⟨28, _⟩ => ⟨S1x13312, .f32⟩
  | .hbm, ⟨29, _⟩ => ⟨S1x6144, .f32⟩
  | .hbm, ⟨30, _⟩ => ⟨S1x512, .f32⟩
  | .hbm, ⟨31, _⟩ => ⟨S1x96, .f32⟩
  | .hbm, ⟨32, _⟩ => ⟨S1x96, .f32⟩
  | .hbm, ⟨33, _⟩ => ⟨S1x256, .f32⟩
  | .hbm, ⟨34, _⟩ => ⟨S1x6592, .f32⟩
  | .hbm, ⟨35, _⟩ => ⟨S1024x13312, .f32⟩
  | .hbm, ⟨36, _⟩ => ⟨S128x8x13312, .f32⟩
  | .hbm, ⟨37, _⟩ => ⟨S128x1x6144, .f32⟩
  | .hbm, ⟨38, _⟩ => ⟨S128x6144, .f32⟩
  | .hbm, ⟨39, _⟩ => ⟨S128x1x512, .f32⟩
  | .hbm, ⟨40, _⟩ => ⟨S128x512, .f32⟩
  | .hbm, ⟨41, _⟩ => ⟨S128x96, .f32⟩
  | .hbm, ⟨42, _⟩ => ⟨S128x96, .f32⟩
  | .hbm, ⟨43, _⟩ => ⟨S128x256, .f32⟩
  | .hbm, ⟨44, _⟩ => ⟨S128x6592, .f32⟩
  | .hbm, ⟨45, _⟩ => ⟨S128x13312, .f32⟩
  | .hbm, ⟨46, _⟩ => ⟨S128x256, .f32⟩
  | .hbm, ⟨47, _⟩ => ⟨S1x128x4x64, .f32⟩
  | .hbm, ⟨48, _⟩ => ⟨S128x256, .f32⟩
  | .hbm, ⟨49, _⟩ => ⟨S1x128x4x64, .f32⟩
  | .hbm, ⟨50, _⟩ => ⟨S128x8x256, .f32⟩
  | .hbm, ⟨51, _⟩ => ⟨S128x8x4x64, .f32⟩
  | .hbm, ⟨52, _⟩ => ⟨S128x8x256, .f32⟩
  | .hbm, ⟨53, _⟩ => ⟨S128x8x4x64, .f32⟩
  | .hbm, ⟨54, _⟩ => ⟨S128x120x4x64, .f32⟩
  | .hbm, ⟨55, _⟩ => ⟨S128x128x4x64, .f32⟩
  | .hbm, ⟨56, _⟩ => ⟨S128x120x4x64, .f32⟩
  | .hbm, ⟨57, _⟩ => ⟨S128x128x4x64, .f32⟩
  | .hbm, ⟨58, _⟩ => ⟨S9216x6144, .f32⟩
  | .hbm, ⟨59, _⟩ => ⟨S9216x512, .f32⟩
  | .hbm, ⟨60, _⟩ => ⟨S9216x96, .f32⟩
  | .hbm, ⟨61, _⟩ => ⟨S9216x96, .f32⟩
  | .hbm, ⟨62, _⟩ => ⟨S9216x256, .f32⟩
  | .hbm, ⟨63, _⟩ => ⟨S9216x6592, .f32⟩
  | .hbm, ⟨64, _⟩ => ⟨S9216x2048, .f32⟩
  | .hbm, ⟨65, _⟩ => ⟨S9216x4096, .f32⟩
  | .hbm, ⟨66, _⟩ => ⟨S9216x256, .f32⟩
  | .hbm, ⟨67, _⟩ => ⟨S9216x256, .f32⟩
  | .hbm, ⟨68, _⟩ => ⟨S1x1x6592, .f32⟩
  | .hbm, ⟨69, _⟩ => ⟨S1x1x128x4x64, .f32⟩
  | .hbm, ⟨70, _⟩ => ⟨S1x1x128x4x64, .f32⟩
  | .hbm, ⟨71, _⟩ => ⟨S1x128x6592, .f32⟩
  | .hbm, ⟨72, _⟩ => ⟨S1x128x128x4x64, .f32⟩
  | .hbm, ⟨73, _⟩ => ⟨S1x128x128x4x64, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | .local _ .vmem, ⟨8, _⟩ => ⟨S2048x1024, .bf16⟩
  | .local _ .vmem, ⟨9, _⟩ => ⟨S2048x1024, .bf16⟩
  | .local _ .vmem, ⟨10, _⟩ => ⟨S1024x1024, .f32⟩
  | .local _ .vmem, ⟨11, _⟩ => ⟨S1024x1024, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_call0_v0 : Ref sig .tc := ⟨.hbm, 17, rfl⟩
abbrev main_v11 : Ref sig .tc := ⟨.hbm, 18, rfl⟩
abbrev main_c_0 : Ref sig .tc := ⟨.hbm, 19, rfl⟩
abbrev main_call1_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![13, 9], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== InProjRefIdeal.lean ====
abbrev S1x8192x2048 : Shape := ⟨3, ![1, 8192, 2048]⟩
abbrev S128x8x2048 : Shape := ⟨3, ![128, 8, 2048]⟩
abbrev S1x128x128x4x64 : Shape := ⟨5, ![1, 128, 128, 4, 64]⟩
abbrev S1x2048x13248 : Shape := ⟨3, ![1, 2048, 13248]⟩
abbrev S2048x13248 : Shape := ⟨2, ![2048, 13248]⟩
abbrev S1x8192x13248 : Shape := ⟨3, ![1, 8192, 13248]⟩
abbrev S1x8192x6592 : Shape := ⟨3, ![1, 8192, 6592]⟩
abbrev S1x8192x256 : Shape := ⟨3, ![1, 8192, 256]⟩
abbrev S1x8192x4096 : Shape := ⟨3, ![1, 8192, 4096]⟩
abbrev S1x8192x4x64 : Shape := ⟨4, ![1, 8192, 4, 64]⟩
abbrev S128x8x13248 : Shape := ⟨3, ![128, 8, 13248]⟩
abbrev S128x8x6592 : Shape := ⟨3, ![128, 8, 6592]⟩
abbrev S128x8x256 : Shape := ⟨3, ![128, 8, 256]⟩
abbrev S128x8x4096 : Shape := ⟨3, ![128, 8, 4096]⟩
abbrev S128x8x4x64 : Shape := ⟨4, ![128, 8, 4, 64]⟩
abbrev S128x128x4x64 : Shape := ⟨4, ![128, 128, 4, 64]⟩
abbrev S128x136x4x64 : Shape := ⟨4, ![128, 136, 4, 64]⟩
abbrev S8192x6592 : Shape := ⟨2, ![8192, 6592]⟩
abbrev S1024x6592 : Shape := ⟨2, ![1024, 6592]⟩
abbrev S9216x6592 : Shape := ⟨2, ![9216, 6592]⟩
abbrev S8192x2048 : Shape := ⟨2, ![8192, 2048]⟩
abbrev S1024x2048 : Shape := ⟨2, ![1024, 2048]⟩
abbrev S9216x2048 : Shape := ⟨2, ![9216, 2048]⟩
abbrev S8192x256 : Shape := ⟨2, ![8192, 256]⟩
abbrev S1024x256 : Shape := ⟨2, ![1024, 256]⟩
abbrev S9216x256 : Shape := ⟨2, ![9216, 256]⟩
abbrev S8192x4096 : Shape := ⟨2, ![8192, 4096]⟩
abbrev S1024x4096 : Shape := ⟨2, ![1024, 4096]⟩
abbrev S9216x4096 : Shape := ⟨2, ![9216, 4096]⟩
abbrev S1x1x6592 : Shape := ⟨3, ![1, 1, 6592]⟩
abbrev S1x6592 : Shape := ⟨2, ![1, 6592]⟩
abbrev S1x128x4x64 : Shape := ⟨4, ![1, 128, 4, 64]⟩
abbrev S1x1x128x4x64 : Shape := ⟨5, ![1, 1, 128, 4, 64]⟩
abbrev S128x1x6592 : Shape := ⟨3, ![128, 1, 6592]⟩
abbrev S128x6592 : Shape := ⟨2, ![128, 6592]⟩
abbrev S1x128x6592 : Shape := ⟨3, ![1, 128, 6592]⟩

abbrev nBuf : Space → Nat
  | .hbm => 55
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S128x8x2048, .f32⟩
  | .hbm, ⟨2, _⟩ => ⟨S1x128x128x4x64, .f32⟩
  | .hbm, ⟨3, _⟩ => ⟨S1x128x128x4x64, .f32⟩
  | .hbm, ⟨4, _⟩ => ⟨S1x2048x13248, .f32⟩
  | .hbm, ⟨5, _⟩ => ⟨S2048x13248, .f32⟩
  | .hbm, ⟨6, _⟩ => ⟨S1x8192x13248, .f32⟩
  | .hbm, ⟨7, _⟩ => ⟨S1x8192x6592, .f32⟩
  | .hbm, ⟨8, _⟩ => ⟨S1x8192x2048, .f32⟩
  | .hbm, ⟨9, _⟩ => ⟨S1x8192x256, .f32⟩
  | .hbm, ⟨10, _⟩ => ⟨S1x8192x256, .f32⟩
  | .hbm, ⟨11, _⟩ => ⟨S1x8192x4096, .f32⟩
  | .hbm, ⟨12, _⟩ => ⟨S1x8192x4x64, .f32⟩
  | .hbm, ⟨13, _⟩ => ⟨S1x8192x4x64, .f32⟩
  | .hbm, ⟨14, _⟩ => ⟨S128x8x13248, .f32⟩
  | .hbm, ⟨15, _⟩ => ⟨S128x8x6592, .f32⟩
  | .hbm, ⟨16, _⟩ => ⟨S128x8x2048, .f32⟩
  | .hbm, ⟨17, _⟩ => ⟨S128x8x256, .f32⟩
  | .hbm, ⟨18, _⟩ => ⟨S128x8x256, .f32⟩
  | .hbm, ⟨19, _⟩ => ⟨S128x8x4096, .f32⟩
  | .hbm, ⟨20, _⟩ => ⟨S128x8x4x64, .f32⟩
  | .hbm, ⟨21, _⟩ => ⟨S128x8x4x64, .f32⟩
  | .hbm, ⟨22, _⟩ => ⟨S128x128x4x64, .f32⟩
  | .hbm, ⟨23, _⟩ => ⟨S128x136x4x64, .f32⟩
  | .hbm, ⟨24, _⟩ => ⟨S128x128x4x64, .f32⟩
  | .hbm, ⟨25, _⟩ => ⟨S128x136x4x64, .f32⟩
  | .hbm, ⟨26, _⟩ => ⟨S8192x6592, .f32⟩
  | .hbm, ⟨27, _⟩ => ⟨S1024x6592, .f32⟩
  | .hbm, ⟨28, _⟩ => ⟨S9216x6592, .f32⟩
  | .hbm, ⟨29, _⟩ => ⟨S8192x2048, .f32⟩
  | .hbm, ⟨30, _⟩ => ⟨S1024x2048, .f32⟩
  | .hbm, ⟨31, _⟩ => ⟨S9216x2048, .f32⟩
  | .hbm, ⟨32, _⟩ => ⟨S8192x256, .f32⟩
  | .hbm, ⟨33, _⟩ => ⟨S1024x256, .f32⟩
  | .hbm, ⟨34, _⟩ => ⟨S9216x256, .f32⟩
  | .hbm, ⟨35, _⟩ => ⟨S8192x256, .f32⟩
  | .hbm, ⟨36, _⟩ => ⟨S1024x256, .f32⟩
  | .hbm, ⟨37, _⟩ => ⟨S9216x256, .f32⟩
  | .hbm, ⟨38, _⟩ => ⟨S8192x4096, .f32⟩
  | .hbm, ⟨39, _⟩ => ⟨S1024x4096, .f32⟩
  | .hbm, ⟨40, _⟩ => ⟨S9216x4096, .f32⟩
  | .hbm, ⟨41, _⟩ => ⟨S1x1x6592, .f32⟩
  | .hbm, ⟨42, _⟩ => ⟨S1x6592, .f32⟩
  | .hbm, ⟨43, _⟩ => ⟨S1x1x6592, .f32⟩
  | .hbm, ⟨44, _⟩ => ⟨S1x128x4x64, .f32⟩
  | .hbm, ⟨45, _⟩ => ⟨S1x1x128x4x64, .f32⟩
  | .hbm, ⟨46, _⟩ => ⟨S1x128x4x64, .f32⟩
  | .hbm, ⟨47, _⟩ => ⟨S1x1x128x4x64, .f32⟩
  | .hbm, ⟨48, _⟩ => ⟨S128x1x6592, .f32⟩
  | .hbm, ⟨49, _⟩ => ⟨S128x6592, .f32⟩
  | .hbm, ⟨50, _⟩ => ⟨S1x128x6592, .f32⟩
  | .hbm, ⟨51, _⟩ => ⟨S128x128x4x64, .f32⟩
  | .hbm, ⟨52, _⟩ => ⟨S1x128x128x4x64, .f32⟩
  | .hbm, ⟨53, _⟩ => ⟨S128x128x4x64, .f32⟩
  | .hbm, ⟨54, _⟩ => ⟨S1x128x128x4x64, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩

abbrev nD : Nat := 1
abbrev τ : Topo := Topo.v7x

variable {F : FTy → Type} [FloatOps F]
-- ==== AttnPrompt.lean ====
abbrev S1x8192x13248 : Shape := ⟨3, ![1, 8192, 13248]⟩
abbrev S128x8x13248 : Shape := ⟨3, ![128, 8, 13248]⟩
abbrev S1x32 : Shape := ⟨2, ![1, 32]⟩
abbrev S8192x13248 : Shape := ⟨2, ![8192, 13248]⟩
abbrev S1024x13248 : Shape := ⟨2, ![1024, 13248]⟩
abbrev S9216x13248 : Shape := ⟨2, ![9216, 13248]⟩
abbrev S9216x6144 : Shape := ⟨2, ![9216, 6144]⟩
abbrev S9216x96 : Shape := ⟨2, ![9216, 96]⟩
abbrev S9216x256 : Shape := ⟨2, ![9216, 256]⟩
abbrev S9216x2048 : Shape := ⟨2, ![9216, 2048]⟩
abbrev S9216x4096 : Shape := ⟨2, ![9216, 4096]⟩
abbrev S_ : Shape := ⟨0, ![]⟩
abbrev S9216x128 : Shape := ⟨2, ![9216, 128]⟩
abbrev S9216x13312 : Shape := ⟨2, ![9216, 13312]⟩
abbrev S32x1 : Shape := ⟨2, ![32, 1]⟩
abbrev S32x128 : Shape := ⟨2, ![32, 128]⟩
abbrev S8192x2048 : Shape := ⟨2, ![8192, 2048]⟩
abbrev S128x2048 : Shape := ⟨2, ![128, 2048]⟩
abbrev S128x256 : Shape := ⟨2, ![128, 256]⟩
abbrev S128x128 : Shape := ⟨2, ![128, 128]⟩
abbrev S256x128 : Shape := ⟨2, ![256, 128]⟩
abbrev S512x256 : Shape := ⟨2, ![512, 256]⟩
abbrev S512x128 : Shape := ⟨2, ![512, 128]⟩
abbrev S1x128 : Shape := ⟨2, ![1, 128]⟩
abbrev S512 : Shape := ⟨1, ![512]⟩
abbrev S512x1 : Shape := ⟨2, ![512, 1]⟩

abbrev nBuf : Space → Nat
  | .hbm => 24
  | .vmem => 13
  | .smem => 0
  | _ => 0

abbrev bufTy : (tb : Table) → Fin (tcTables nBuf tb) → BufTy
  | .hbm, ⟨0, _⟩ => ⟨S1x8192x13248, .f32⟩
  | .hbm, ⟨1, _⟩ => ⟨S128x8x13248, .f32⟩
  | .hbm, ⟨2, _⟩ => ⟨S1x32, .f32⟩
  | .hbm, ⟨3, _⟩ => ⟨S8192x13248, .f32⟩
  | .hbm, ⟨4, _⟩ => ⟨S1024x13248, .f32⟩
  | .hbm, ⟨5, _⟩ => ⟨S9216x13248, .f32⟩
  | .hbm, ⟨6, _⟩ => ⟨S9216x6144, .f32⟩
  | .hbm, ⟨7, _⟩ => ⟨S9216x96, .f32⟩
  | .hbm, ⟨8, _⟩ => ⟨S9216x96, .f32⟩
  | .hbm, ⟨9, _⟩ => ⟨S9216x256, .f32⟩
  | .hbm, ⟨10, _⟩ => ⟨S9216x2048, .f32⟩
  | .hbm, ⟨11, _⟩ => ⟨S9216x256, .f32⟩
  | .hbm, ⟨12, _⟩ => ⟨S9216x256, .f32⟩
  | .hbm, ⟨13, _⟩ => ⟨S9216x4096, .f32⟩
  | .hbm, ⟨14, _⟩ => ⟨S_, .i32⟩
  | .hbm, ⟨15, _⟩ => ⟨S_, .f32⟩
  | .hbm, ⟨16, _⟩ => ⟨S9216x128, .f32⟩
  | .hbm, ⟨17, _⟩ => ⟨S_, .i32⟩
  | .hbm, ⟨18, _⟩ => ⟨S_, .f32⟩
  | .hbm, ⟨19, _⟩ => ⟨S9216x128, .f32⟩
  | .hbm, ⟨20, _⟩ => ⟨S9216x13312, .f32⟩
  | .hbm, ⟨21, _⟩ => ⟨S32x1, .f32⟩
  | .hbm, ⟨22, _⟩ => ⟨S32x128, .f32⟩
  | .hbm, ⟨23, _⟩ => ⟨S8192x2048, .f32⟩
  | .local _ .vmem, ⟨0, _⟩ => ⟨S128x2048, .f32⟩
  | .local _ .vmem, ⟨1, _⟩ => ⟨S128x2048, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S32x128, .f32⟩
  | .local _ .vmem, ⟨11, _⟩ => ⟨S128x2048, .f32⟩
  | .local _ .vmem, ⟨12, _⟩ => ⟨S128x2048, .f32⟩
  | _, _ => ⟨S1x8192x13248, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_call0_v0 : Ref sig .tc := ⟨.hbm, 15, rfl⟩
abbrev main_v11 : Ref sig .tc := ⟨.hbm, 16, rfl⟩
abbrev main_c_0 : Ref sig .tc := ⟨.hbm, 17, rfl⟩
abbrev main_call1_v0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c50_i32 : BitVec 32 := 50#32
  let c0_i32 : BitVec 32 := 0#32
  ![arg0.toNat, c50_i32.toNat]

def cc0_transform_2 (i : grid0.Coords) : Fin 2 → Nat :=
  let arg0 : BitVec 32 := BitVec.ofNat 32 (i 0).val
  let c51_i32 : BitVec 32 := 51#32
  let c0_i32 : BitVec 32 := 0#32
  ![arg0.toNat, c51_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c50_i32 : BitVec 32 := 50#32
  let c0_i32_0 : BitVec 32 := 0#32
  ![v1.toNat, c50_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c51_i32 : BitVec 32 := 51#32
  let c0_i32_0 : BitVec 32 := 0#32
  ![v1.toNat, c51_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AttnPromptIdeal.lean ====
variable {F : FTy → Type} [FloatOps F] [Named F]
def κ : String → Option EReal := fun
  | "mask" => some ⊥
  | _ => none
-- ==== AttnPromptRefIdeal.lean ====
abbrev S1x8192x13248 : Shape := ⟨3, ![1, 8192, 13248]⟩
abbrev S128x8x13248 : Shape := ⟨3, ![128, 8, 13248]⟩
abbrev S1x32 : Shape := ⟨2, ![1, 32]⟩
abbrev S1x8192x6592 : Shape := ⟨3, ![1, 8192, 6592]⟩
abbrev S1x8192x2048 : Shape := ⟨3, ![1, 8192, 2048]⟩
abbrev S1x8192x256 : Shape := ⟨3, ![1, 8192, 256]⟩
abbrev S1x8192x4096 : Shape := ⟨3, ![1, 8192, 4096]⟩
abbrev S1x8192x4x8x64 : Shape := ⟨5, ![1, 8192, 4, 8, 64]⟩
abbrev S1x8192x4x64 : Shape := ⟨4, ![1, 8192, 4, 64]⟩
abbrev S4x8 : Shape := ⟨2, ![4, 8]⟩
abbrev S1x64x128x4x8x64 : Shape := ⟨6, ![1, 64, 128, 4, 8, 64]⟩
abbrev S1x64x128x4x64 : Shape := ⟨5, ![1, 64, 128, 4, 64]⟩
abbrev S_ : Shape := ⟨0, ![]⟩
abbrev S1x65x128x4x64 : Shape := ⟨5, ![1, 65, 128, 4, 64]⟩
abbrev S1x64x256x4x64 : Shape := ⟨5, ![1, 64, 256, 4, 64]⟩
abbrev S1x64x4x256x128x8 : Shape := ⟨6, ![1, 64, 4, 256, 128, 8]⟩
abbrev S1x64x4x8x128x256 : Shape := ⟨6, ![1, 64, 4, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S1x64x1x1x128x256 : Shape := ⟨6, ![1, 64, 1, 1, 128, 256]⟩
abbrev S1x1x4x8x1x1 : Shape := ⟨6, ![1, 1, 4, 8, 1, 1]⟩
abbrev S1x64x4x8x128 : Shape := ⟨5, ![1, 64, 4, 8, 128]⟩
abbrev S1x64x4x8x128x1 : Shape := ⟨6, ![1, 64, 4, 8, 128, 1]⟩
abbrev S1x64x4x64x8x128 : Shape := ⟨6, ![1, 64, 4, 64, 8, 128]⟩
abbrev S8192x2048 : Shape := ⟨2, ![8192, 2048]⟩

abbrev nBuf : Space → Nat
  | .hbm => 90
  | .vmem => 0
  | .smem => 0
  | _ => 0

abbrev bufTy : (tb : Table) → Fin (tcTables nBuf tb) → BufTy
  | .hbm, ⟨0, _⟩ => ⟨S1x8192x13248, .f32⟩
  | .hbm, ⟨1, _⟩ => ⟨S128x8x13248, .f32⟩
  | .hbm, ⟨2, _⟩ => ⟨S1x32, .f32⟩
  | .hbm, ⟨3, _⟩ => ⟨S1x8192x6592, .f32⟩
  | .hbm, ⟨4, _⟩ => ⟨S1x8192x2048, .f32⟩
  | .hbm, ⟨5, _⟩ => ⟨S1x8192x256, .f32⟩
  | .hbm, ⟨6, _⟩ => ⟨S1x8192x256, .f32⟩
  | .hbm, ⟨7, _⟩ => ⟨S1x8192x4096, .f32⟩
  | .hbm, ⟨8, _⟩ => ⟨S1x8192x4x8x64, .f32⟩
  | .hbm, ⟨9, _⟩ => ⟨S1x8192x4x64, .f32⟩
  | .hbm, ⟨10, _⟩ => ⟨S1x8192x4x64, .f32⟩
  | .hbm, ⟨11, _⟩ => ⟨S4x8, .f32⟩
  | .hbm, ⟨12, _⟩ => ⟨S1x64x128x4x8x64, .f32⟩
  | .hbm, ⟨13, _⟩ => ⟨S1x64x128x4x64, .f32⟩
  | .hbm, ⟨14, _⟩ => ⟨S_, .i32⟩
  | .hbm, ⟨15, _⟩ => ⟨S_, .f32⟩
  | .hbm, ⟨16, _⟩ => ⟨S1x65x128x4x64, .f32⟩
  | .hbm, ⟨17, _⟩ => ⟨S1x64x128x4x64, .f32⟩
  | .hbm, ⟨18, _⟩ => ⟨S1x64x256x4x64, .f32⟩
  | .hbm, ⟨19, _⟩ => ⟨S1x64x128x4x64, .f32⟩
  | .hbm, ⟨20, _⟩ => ⟨S_, .i32⟩
  | .hbm, ⟨21, _⟩ => ⟨S_, .f32⟩
  | .hbm, ⟨22, _⟩ => ⟨S1x65x128x4x64, .f32⟩
  | .hbm, ⟨23, _⟩ => ⟨S1x64x128x4x64, .f32⟩
  | .hbm, ⟨24, _⟩ => ⟨S1x64x256x4x64, .f32⟩
  | .hbm, ⟨25, _⟩ => ⟨S1x64x4x256x128x8, .f32⟩
  | .hbm, ⟨26, _⟩ => ⟨S1x64x4x8x128x256, .f32⟩
  | .hbm, ⟨27, _⟩ => ⟨S_, .f32⟩
  | .hbm, ⟨28, _⟩ => ⟨S1x64x4x8x128x256, .f32⟩
  | .hbm, ⟨29, _⟩ => ⟨S1x64x4x8x128x256, .f32⟩
  | .hbm, ⟨30, _⟩ => ⟨S128, .i32⟩
  | .hbm, ⟨31, _⟩ => ⟨S128x1, .i32⟩
  | .hbm, ⟨32, _⟩ => ⟨S_, .i32⟩
  | .hbm, ⟨33, _⟩ => ⟨S128x1, .i32⟩
  | .hbm, ⟨34, _⟩ => ⟨S128x1, .i32⟩
  | .hbm, ⟨35, _⟩ => ⟨S256, .i32⟩
  | .hbm, ⟨36, _⟩ => ⟨S1x256, .i32⟩
  | .hbm, ⟨37, _⟩ => ⟨S128x256, .i32⟩
  | .hbm, ⟨38, _⟩ => ⟨S128x256, .i32⟩
  | .hbm, ⟨39, _⟩ => ⟨S128x256, .i1⟩
  | .hbm, ⟨40, _⟩ => ⟨S_, .i32⟩
  | .hbm, ⟨41, _⟩ => ⟨S128x1, .i32⟩
  | .hbm, ⟨42, _⟩ => ⟨S128x1, .i32⟩
  | .hbm, ⟨43, _⟩ => ⟨S128x256, .i32⟩
  | .hbm, ⟨44, _⟩ => ⟨S128x256, .i32⟩
  | .hbm, ⟨45, _⟩ => ⟨S128x256, .i1⟩
  | .hbm, ⟨46, _⟩ => ⟨S128x256, .i1⟩
  | .hbm, ⟨47, _⟩ => ⟨S64, .i32⟩
  | .hbm, ⟨48, _⟩ => ⟨S_, .i32⟩
  | .hbm, ⟨49, _⟩ => ⟨S64, .i32⟩
  | .hbm, ⟨50, _⟩ => ⟨S64, .i1⟩
  | .hbm, ⟨51, _⟩ => ⟨S64x1x1, .i1⟩
  | .hbm, ⟨52, _⟩ => ⟨S_, .i32⟩
  | .hbm, ⟨53, _⟩ => ⟨S1x256, .i32⟩
  | .hbm, ⟨54, _⟩ => ⟨S1x256, .i1⟩
  | .hbm, ⟨55, _⟩ => ⟨S1x1x256, .i1⟩
  | .hbm, ⟨56, _⟩ => ⟨S64x1x256, .i1⟩
  | .hbm, ⟨57, _⟩ => ⟨S64x1x256, .i1⟩
  | .hbm, ⟨58, _⟩ => ⟨S64x1x256, .i1⟩
  | .hbm, ⟨59, _⟩ => ⟨S1x128x256, .i1⟩
  | .hbm, ⟨60, _⟩ => ⟨S64x128x256, .i1⟩
  | .hbm, ⟨61, _⟩ => ⟨S64x128x256, .i1⟩
  | .hbm, ⟨62, _⟩ => ⟨S64x128x256, .i1⟩
  | .hbm, ⟨63, _⟩ => ⟨S1x64x1x1x128x256, .i1⟩
  | .hbm, ⟨64, _⟩ => ⟨S_, .f32⟩
  | .hbm, ⟨65, _⟩ => ⟨S_, .f32⟩
  | .hbm, ⟨66, _⟩ => ⟨S1x64x4x8x128x256, .i1⟩
  | .hbm, ⟨67, _⟩ => ⟨S1x64x4x8x128x256, .f32⟩
  | .hbm, ⟨68, _⟩ => ⟨S1x64x4x8x128x256, .f32⟩
  | .hbm, ⟨69, _⟩ => ⟨S1x1x4x8x1x1, .f32⟩
  | .hbm, ⟨70, _⟩ => ⟨S_, .f32⟩
  | .hbm, ⟨71, _⟩ => ⟨S1x64x4x8x128, .f32⟩
  | .hbm, ⟨72, _⟩ => ⟨S1x64x4x8x128x1, .f32⟩
  | .hbm, ⟨73, _⟩ => ⟨S1x64x4x8x128x1, .f32⟩
  | .hbm, ⟨74, _⟩ => ⟨S1x64x4x8x128x1, .f32⟩
  | .hbm, ⟨75, _⟩ => ⟨S1x64x4x8x128x256, .f32⟩
  | .hbm, ⟨76, _⟩ => ⟨S1x64x4x8x128x256, .f32⟩
  | .hbm, ⟨77, _⟩ => ⟨S1x64x4x8x128x256, .f32⟩
  | .hbm, ⟨78, _⟩ => ⟨S_, .f32⟩
  | .hbm, ⟨79, _⟩ => ⟨S1x64x4x8x128, .f32⟩
  | .hbm, ⟨80, _⟩ => ⟨S1x64x4x8x128x1, .f32⟩
  | .hbm, ⟨81, _⟩ => ⟨S1x64x4x8x128x1, .f32⟩
  | .hbm, ⟨82, _⟩ => ⟨S1x64x4x8x128x1, .f32⟩
  | .hbm, ⟨83, _⟩ => ⟨S1x64x4x8x128x1, .f32⟩
  | .hbm, ⟨84, _⟩ => ⟨S1x64x4x8x128x1, .f32⟩
  | .hbm, ⟨85, _⟩ => ⟨S1x64x4x8x128x256, .f32⟩
  | .hbm, ⟨86, _⟩ => ⟨S1x64x4x8x128x256, .f32⟩
  | .hbm, ⟨87, _⟩ => ⟨S1x64x4x64x8x128, .f32⟩
  | .hbm, ⟨88, _⟩ => ⟨S1x64x128x4x8x64, .f32⟩
  | .hbm, ⟨89, _⟩ => ⟨S8192x2048, .f32⟩
  | _, _ => ⟨S1x8192x13248, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_call0_v0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_0 : Ref sig .tc := ⟨.hbm, 20, rfl⟩
abbrev main_call1_v0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_c_3 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_c_4 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_5 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_v52 : Ref sig .tc := ⟨.hbm, 68, rfl⟩
abbrev main_v53 : Ref sig .tc := ⟨.hbm, 69, rfl⟩
abbrev main_cst_6 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_7 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩

abbrev nD : Nat := 1
abbrev τ : Topo := Topo.v7x

variable {F : FTy → Type} [FloatOps F]
-- ==== AttnSample.lean ====
abbrev S1x8192x13248 : Shape := ⟨3, ![1, 8192, 13248]⟩
abbrev S128x8x13248 : Shape := ⟨3, ![128, 8, 13248]⟩
abbrev S1x128x128x4x64 : Shape := ⟨5, ![1, 128, 128, 4, 64]⟩
abbrev S1x32 : Shape := ⟨2, ![1, 32]⟩
abbrev S8192x13248 : Shape := ⟨2, ![8192, 13248]⟩
abbrev S1024x13248 : Shape := ⟨2, ![1024, 13248]⟩
abbrev S9216x13248 : Shape := ⟨2, ![9216, 13248]⟩
abbrev S9216x6144 : Shape := ⟨2, ![9216, 6144]⟩
abbrev S9216x96 : Shape := ⟨2, ![9216, 96]⟩
abbrev S9216x256 : Shape := ⟨2, ![9216, 256]⟩
abbrev S9216x2048 : Shape := ⟨2, ![9216, 2048]⟩
abbrev S9216x4096 : Shape := ⟨2, ![9216, 4096]⟩
abbrev S_ : Shape := ⟨0, ![]⟩
abbrev S9216x128 : Shape := ⟨2, ![9216, 128]⟩
abbrev S9216x13312 : Shape := ⟨2, ![9216, 13312]⟩
abbrev S128x128x4x64 : Shape := ⟨4, ![128, 128, 4, 64]⟩
abbrev S32x1 : Shape := ⟨2, ![32, 1]⟩
abbrev S32x128 : Shape := ⟨2, ![32, 128]⟩
abbrev S128x128x256 : Shape := ⟨3, ![128, 128, 256]⟩
abbrev S1024x2048 : Shape := ⟨2, ![1024, 2048]⟩
abbrev S64x2048 : Shape := ⟨2, ![64, 2048]⟩
abbrev S64x256 : Shape := ⟨2, ![64, 256]⟩
abbrev S8x128x256 : Shape := ⟨3, ![8, 128, 256]⟩
abbrev S120x128 : Shape := ⟨2, ![120, 128]⟩
abbrev S8x256 : Shape := ⟨2, ![8, 256]⟩
abbrev S8x2048 : Shape := ⟨2, ![8, 2048]⟩
abbrev S1x128x256 : Shape := ⟨3, ![1, 128, 256]⟩
abbrev S128x256 : Shape := ⟨2, ![128, 256]⟩
abbrev S128x128 : Shape := ⟨2, ![128, 128]⟩
abbrev S8x128 : Shape := ⟨2, ![8, 128]⟩
abbrev S256x128 : Shape := ⟨2, ![256, 128]⟩
abbrev S32x256 : Shape := ⟨2, ![32, 256]⟩
abbrev S1x128 : Shape := ⟨2, ![1, 128]⟩
abbrev S32 : Shape := ⟨1, ![32]⟩

abbrev nBuf : Space → Nat
  | .hbm => 30
  | .vmem => 13
  | .smem => 0
  | _ => 0

abbrev bufTy : (tb : Table) → Fin (tcTables nBuf tb) → BufTy
  | .hbm, ⟨0, _⟩ => ⟨S1x8192x13248, .f32⟩
  | .hbm, ⟨1, _⟩ => ⟨S128x8x13248, .f32⟩
  | .hbm, ⟨2, _⟩ => ⟨S1x128x128x4x64, .f32⟩
  | .hbm, ⟨3, _⟩ => ⟨S1x128x128x4x64, .f32⟩
  | .hbm, ⟨4, _⟩ => ⟨S1x32, .f32⟩
  | .hbm, ⟨5, _⟩ => ⟨S8192x13248, .f32⟩
  | .hbm, ⟨6, _⟩ => ⟨S1024x13248, .f32⟩
  | .hbm, ⟨7, _⟩ => ⟨S9216x13248, .f32⟩
  | .hbm, ⟨8, _⟩ => ⟨S9216x6144, .f32⟩
  | .hbm, ⟨9, _⟩ => ⟨S9216x96, .f32⟩
  | .hbm, ⟨10, _⟩ => ⟨S9216x96, .f32⟩
  | .hbm, ⟨11, _⟩ => ⟨S9216x256, .f32⟩
  | .hbm, ⟨12, _⟩ => ⟨S9216x2048, .f32⟩
  | .hbm, ⟨13, _⟩ => ⟨S9216x256, .f32⟩
  | .hbm, ⟨14, _⟩ => ⟨S9216x256, .f32⟩
  | .hbm, ⟨15, _⟩ => ⟨S9216x4096, .f32⟩
  | .hbm, ⟨16, _⟩ => ⟨S_, .i32⟩
  | .hbm, ⟨17, _⟩ => ⟨S_, .f32⟩
  | .hbm, ⟨18, _⟩ => ⟨S9216x128, .f32⟩
  | .hbm, ⟨19, _⟩ => ⟨S_, .i32⟩
  | .hbm, ⟨20, _⟩ => ⟨S_, .f32⟩
  | .hbm, ⟨21, _⟩ => ⟨S9216x128, .f32⟩
  | .hbm, ⟨22, _⟩ => ⟨S9216x13312, .f32⟩
  | .hbm, ⟨23, _⟩ => ⟨S128x128x4x64, .f32⟩
  | .hbm, ⟨24, _⟩ => ⟨S128x128x4x64, .f32⟩
  | .hbm, ⟨25, _⟩ => ⟨S32x1, .f32⟩
  | .hbm, ⟨26, _⟩ => ⟨S32x128, .f32⟩
  | .hbm, ⟨27, _⟩ => ⟨S128x128x256, .f32⟩
  | .hbm, ⟨28, _⟩ => ⟨S128x128x256, .f32⟩
  | .hbm, ⟨29, _⟩ => ⟨S1024x2048, .f32⟩
  | .local _ .vmem, ⟨0, _⟩ => ⟨S64x2048, .f32⟩
  | .local _ .vmem, ⟨1, _⟩ => ⟨S64x2048, .f32⟩
  | .local _ .vmem, ⟨2, _⟩ => ⟨S64x256, .f32⟩
  | .local _ .vmem, ⟨3, _⟩ => ⟨S64x256, .f32⟩
  | .local _ .vmem, ⟨4, _⟩ => ⟨S64x256, .f32⟩
  | .local _ .vmem, ⟨5, _⟩ => ⟨S64x256, .f32⟩
  | .local _ .vmem, ⟨6, _⟩ => ⟨S8x128x256, .f32⟩
  | .local _ .vmem, ⟨7, _⟩ => ⟨S8x128x256, .f32⟩
  | .local _ .vmem, ⟨8, _⟩ => ⟨S8x128x256, .f32⟩
  | .local _ .vmem, ⟨9, _⟩ => ⟨S8x128x256, .f32⟩
  | .local _ .vmem, ⟨10, _⟩ => ⟨S32x128, .f32⟩
  | .local _ .vmem, ⟨11, _⟩ => ⟨S64x2048, .f32⟩
  | .local _ .vmem, ⟨12, _⟩ => ⟨S64x2048, .f32⟩
  | _, _ => ⟨S1x8192x13248, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_call0_v0 : Ref sig .tc := ⟨.hbm, 17, rfl⟩
abbrev main_v11 : Ref sig .tc := ⟨.hbm, 18, rfl⟩
abbrev main_c_0 : Ref sig .tc := ⟨.hbm, 19, rfl⟩
abbrev main_call1_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v13 : BitVec 32 := Scalar.addi c0_i32 c8_i32
  let c1_i32 : BitVec 32 := 1#32
  ⟨c0_i32, v13, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c8_i32_2 : BitVec 32 := 8#32
  let v14 : BitVec 32 := Scalar.muli arg8 c8_i32_2
  v14
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c8_i32_2 : BitVec 32 := 8#32
  let v14 : BitVec 32 := Scalar.muli arg8 c8_i32_2
  let v15 : BitVec 32 := v14
  let v16 : Index := Scalar.indexCast v15
  let c0 : Index := 0#32
  ![v16.toNat, 0]
def k0_off2 (k0_t1 : Fin k0_t1_loop.trips) : Fin 3 → Nat :=
  let c0_i32 : BitVec 32 := 0#32
  let c1_i32 : BitVec 32 := 1#32
  let arg8 : BitVec 32 := Scf.iv c0_i32 c1_i32 k0_t1
  let v19 : Index := Scalar.indexCast arg8
  let c0_3 : Index := 0#32
  let c0_4 : Index := 0#32
  ![v19.toNat, 0, 0]
def k0_off3 (k0_t1 : Fin k0_t1_loop.trips) : Fin 2 → Nat :=
  let c0_i32 : BitVec 32 := 0#32
  let c1_i32 : BitVec 32 := 1#32
  let arg8 : BitVec 32 := Scf.iv c0_i32 c1_i32 k0_t1
  let c8_i32_2 : BitVec 32 := 8#32
  let v14 : BitVec 32 := Scalar.muli arg8 c8_i32_2
  let v15 : BitVec 32 := v14
  let v23 : Index := Scalar.indexCast v15
  let c0_5 : Index := 0#32
  ![v23.toNat, 0]
def k0_off4 (k0_t1 : Fin k0_t1_loop.trips) : Fin 2 → Nat :=
  let c0_i32 : BitVec 32 := 0#32
  let c1_i32 : BitVec 32 := 1#32
  let arg8 : BitVec 32 := Scf.iv c0_i32 c1_i32 k0_t1
  let c8_i32_2 : BitVec 32 := 8#32
  let v14 : BitVec 32 := Scalar.muli arg8 c8_i32_2
  let v15 : BitVec 32 := v14
  let v31 : Index := Scalar.indexCast v15
  let c128 : Index := 128#32
  ![v31.toNat, 128]
def k0_off5 (k0_t1 : Fin k0_t1_loop.trips) : Fin 2 → Nat :=
  let c0_i32 : BitVec 32 := 0#32
  let c1_i32 : BitVec 32 := 1#32
  let arg8 : BitVec 32 := Scf.iv c0_i32 c1_i32 k0_t1
  let c8_i32_2 : BitVec 32 := 8#32
  let v14 : BitVec 32 := Scalar.muli arg8 c8_i32_2
  let v15 : BitVec 32 := v14
  let v528 : Index := Scalar.indexCast v15
  let c0_136 : Index := 0#32
  ![v528.toNat, 0]
def k0_off6 (k0_t1 : Fin k0_t1_loop.trips) : Fin 2 → Nat :=
  let c0_i32 : BitVec 32 := 0#32
  let c1_i32 : BitVec 32 := 1#32
  let arg8 : BitVec 32 := Scf.iv c0_i32 c1_i32 k0_t1
  let c8_i32_2 : BitVec 32 := 8#32
  let v14 : BitVec 32 := Scalar.muli arg8 c8_i32_2
  let v15 : BitVec 32 := v14
  let v530 : Index := Scalar.indexCast v15
  let c128_137 : Index := 128#32
  ![v530.toNat, 128]
def k0_off7 (k0_t1 : Fin k0_t1_loop.trips) : Fin 2 → Nat :=
  let c0_i32 : BitVec 32 := 0#32
  let c1_i32 : BitVec 32 := 1#32
  let arg8 : BitVec 32 := Scf.iv c0_i32 c1_i32 k0_t1
  let c8_i32_2 : BitVec 32 := 8#32
  let v14 : BitVec 32 := Scalar.muli arg8 c8_i32_2
  let v15 : BitVec 32 := v14
  let v532 : Index := Scalar.indexCast v15
  let c256 : Index := 256#32
  ![v532.toNat, 256]
def k0_off8 (k0_t1 : Fin k0_t1_loop.trips) : Fin 2 → Nat :=
  let c0_i32 : BitVec 32 := 0#32
  let c1_i32 : BitVec 32 := 1#32
  let arg8 : BitVec 32 := Scf.iv c0_i32 c1_i32 k0_t1
  let c8_i32_2 : BitVec 32 := 8#32
  let v14 : BitVec 32 := Scalar.muli arg8 c8_i32_2
  let v15 : BitVec 32 := v14
  let v534 : Index := Scalar.indexCast v15
  let c384 : Index := 384#32
  ![v534.toNat, 384]
def k0_off9 (k0_t1 : Fin k0_t1_loop.trips) : Fin 2 → Nat :=
  let c0_i32 : BitVec 32 := 0#32
  let c1_i32 : BitVec 32 := 1#32
  let arg8 : BitVec 32 := Scf.iv c0_i32 c1_i32 k0_t1
  let c8_i32_2 : BitVec 32 := 8#32
  let v14 : BitVec 32 := Scalar.muli arg8 c8_i32_2
  let v15 : BitVec 32 := v14
  let v536 : Index := Scalar.indexCast v15
  let c512 : Index := 512#32
  ![v536.toNat, 512]
def k0_off10 (k0_t1 : Fin k0_t1_loop.trips) : Fin 2 → Nat :=
  let c0_i32 : BitVec 32 := 0#32
  let c1_i32 : BitVec 32 := 1#32
  let arg8 : BitVec 32 := Scf.iv c0_i32 c1_i32 k0_t1
  let c8_i32_2 : BitVec 32 := 8#32
  let v14 : BitVec 32 := Scalar.muli arg8 c8_i32_2
  let v15 : BitVec 32 := v14
  let v538 : Index := Scalar.indexCast v15
  let c640 : Index := 640#32
  ![v538.toNat, 640]
def k0_off11 (k0_t1 : Fin k0_t1_loop.trips) : Fin 2 → Nat :=
  let c0_i32 : BitVec 32 := 0#32
  let c1_i32 : BitVec 32 := 1#32
  let arg8 : BitVec 32 := Scf.iv c0_i32 c1_i32 k0_t1
  let c8_i32_2 : BitVec 32 := 8#32
  let v14 : BitVec 32 := Scalar.muli arg8 c8_i32_2
  let v15 : BitVec 32 := v14
  let v540 : Index := Scalar.indexCast v15
  let c768 : Index := 768#32
  ![v540.toNat, 768]
def k0_off12 (k0_t1 : Fin k0_t1_loop.trips) : Fin 2 → Nat :=
  let c0_i32 : BitVec 32 := 0#32
  let c1_i32 : BitVec 32 := 1#32
  let arg8 : BitVec 32 := Scf.iv c0_i32 c1_i32 k0_t1
  let c8_i32_2 : BitVec 32 := 8#32
  let v14 : BitVec 32 := Scalar.muli arg8 c8_i32_2
  let v15 : BitVec 32 := v14
  let v542 : Index := Scalar.indexCast v15
  let c896 : Index := 896#32
  ![v542.toNat, 896]
def k0_off13 (k0_t1 : Fin k0_t1_loop.trips) : Fin 2 → Nat :=
  let c0_i32 : BitVec 32 := 0#32
  let c1_i32 : BitVec 32 := 1#32
  let arg8 : BitVec 32 := Scf.iv c0_i32 c1_i32 k0_t1
  let c8_i32_2 : BitVec 32 := 8#32
  let v14 : BitVec 32 := Scalar.muli arg8 c8_i32_2
  let v15 : BitVec 32 := v14
  let v544 : Index := Scalar.indexCast v15
  let c1024 : Index := 1024#32
  ![v544.toNat, 1024]
def k0_off14 (k0_t1 : Fin k0_t1_loop.trips) : Fin 2 → Nat :=
  let c0_i32 : BitVec 32 := 0#32
  let c1_i32 : BitVec 32 := 1#32
  let arg8 : BitVec 32 := Scf.iv c0_i32 c1_i32 k0_t1
  let c8_i32_2 : BitVec 32 := 8#32
  let v14 : BitVec 32 := Scalar.muli arg8 c8_i32_2
  let v15 : BitVec 32 := v14
  let v546 : Index := Scalar.indexCast v15
  let c1152 : Index := 1152#32
  ![v546.toNat, 1152]
def k0_off15 (k0_t1 : Fin k0_t1_loop.trips) : Fin 2 → Nat :=
  let c0_i32 : BitVec 32 := 0#32
  let c1_i32 : BitVec 32 := 1#32
  let arg8 : BitVec 32 := Scf.iv c0_i32 c1_i32 k0_t1
  let c8_i32_2 : BitVec 32 := 8#32
  let v14 : BitVec 32 := Scalar.muli arg8 c8_i32_2
  let v15 : BitVec 32 := v14
  let v548 : Index := Scalar.indexCast v15
  let c1280 : Index := 1280#32
  ![v548.toNat, 1280]
def k0_off16 (k0_t1 : Fin k0_t1_loop.trips) : Fin 2 → Nat :=
  let c0_i32 : BitVec 32 := 0#32
  let c1_i32 : BitVec 32 := 1#32
  let arg8 : BitVec 32 := Scf.iv c0_i32 c1_i32 k0_t1
  let c8_i32_2 : BitVec 32 := 8#32
  let v14 : BitVec 32 := Scalar.muli arg8 c8_i32_2
  let v15 : BitVec 32 := v14
  let v550 : Index := Scalar.indexCast v15
  let c1408 : Index := 1408#32
  ![v550.toNat, 1408]
def k0_off17 (k0_t1 : Fin k0_t1_loop.trips) : Fin 2 → Nat :=
  let c0_i32 : BitVec 32 := 0#32
  let c1_i32 : BitVec 32 := 1#32
  let arg8 : BitVec 32 := Scf.iv c0_i32 c1_i32 k0_t1
  let c8_i32_2 : BitVec 32 := 8#32
  let v14 : BitVec 32 := Scalar.muli arg8 c8_i32_2
  let v15 : BitVec 32 := v14
  let v552 : Index := Scalar.indexCast v15
  let c1536 : Index := 1536#32
  ![v552.toNat, 1536]
def k0_off18 (k0_t1 : Fin k0_t1_loop.trips) : Fin 2 → Nat :=
  let c0_i32 : BitVec 32 := 0#32
  let c1_i32 : BitVec 32 := 1#32
  let arg8 : BitVec 32 := Scf.iv c0_i32 c1_i32 k0_t1
  let c8_i32_2 : BitVec 32 := 8#32
  let v14 : BitVec 32 := Scalar.muli arg8 c8_i32_2
  let v15 : BitVec 32 := v14
  let v554 : Index := Scalar.indexCast v15
  let c1664 : Index := 1664#32
  ![v554.toNat, 1664]
def k0_off19 (k0_t1 : Fin k0_t1_loop.trips) : Fin 2 → Nat :=
  let c0_i32 : BitVec 32 := 0#32
  let c1_i32 : BitVec 32 := 1#32
  let arg8 : BitVec 32 := Scf.iv c0_i32 c1_i32 k0_t1
  let c8_i32_2 : BitVec 32 := 8#32
  let v14 : BitVec 32 := Scalar.muli arg8 c8_i32_2
  let v15 : BitVec 32 := v14
  let v556 : Index := Scalar.indexCast v15
  let c1792 : Index := 1792#32
  ![v556.toNat, 1792]
def k0_off20 (k0_t1 : Fin k0_t1_loop.trips) : Fin 2 → Nat :=
  let c0_i32 : BitVec 32 := 0#32
  let c1_i32 : BitVec 32 := 1#32
  let arg8 : BitVec 32 := Scf.iv c0_i32 c1_i32 k0_t1
  let c8_i32_2 : BitVec 32 := 8#32
  let v14 : BitVec 32 := Scalar.muli arg8 c8_i32_2
  let v15 : BitVec 32 := v14
  let v558 : Index := Scalar.indexCast v15
  let c1920 : Index := 1920#32
  ![v558.toNat, 1920]
def cc0_transform_0 (i : grid0.Coords) : Fin 2 → Nat :=
  let arg0 : BitVec 32 := BitVec.ofNat 32 (i 0).val
  let c128_i32 : BitVec 32 := 128#32
  let v0 : BitVec 32 := Scalar.addi c128_i32 arg0
  let c3_i32 : BitVec 32 := 3#32
  let c0_i32 : BitVec 32 := 0#32
  ![v0.toNat, c3_i32.toNat]

def cc0_transform_1 (i : grid0.Coords) : Fin 2 → Nat :=
  let arg0 : BitVec 32 := BitVec.ofNat 32 (i 0).val
  let c128_i32 : BitVec 32 := 128#32
  let v0 : BitVec 32 := Scalar.addi c128_i32 arg0
  let c50_i32 : BitVec 32 := 50#32
  let c0_i32 : BitVec 32 := 0#32
  ![v0.toNat, c50_i32.toNat]

def cc0_transform_2 (i : grid0.Coords) : Fin 2 → Nat :=
  let arg0 : BitVec 32 := BitVec.ofNat 32 (i 0).val
  let c128_i32 : BitVec 32 := 128#32
  let v0 : BitVec 32 := Scalar.addi c128_i32 arg0
  let c51_i32 : BitVec 32 := 51#32
  let c0_i32 : BitVec 32 := 0#32
  ![v0.toNat, c51_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AttnSampleIdeal.lean ====
variable {F : FTy → Type} [FloatOps F] [Named F]
def κ : String → Option EReal := fun
  | "mask" => some ⊥
  | _ => none
-- ==== AttnSampleRefIdeal.lean ====
abbrev S1x8192x13248 : Shape := ⟨3, ![1, 8192, 13248]⟩
abbrev S128x8x13248 : Shape := ⟨3, ![128, 8, 13248]⟩
abbrev S1x128x128x4x64 : Shape := ⟨5, ![1, 128, 128, 4, 64]⟩
abbrev S1x32 : Shape := ⟨2, ![1, 32]⟩
abbrev S128x8x6592 : Shape := ⟨3, ![128, 8, 6592]⟩
abbrev S128x8x2048 : Shape := ⟨3, ![128, 8, 2048]⟩
abbrev S128x8x256 : Shape := ⟨3, ![128, 8, 256]⟩
abbrev S128x8x4096 : Shape := ⟨3, ![128, 8, 4096]⟩
abbrev S128x8x4x8x64 : Shape := ⟨5, ![128, 8, 4, 8, 64]⟩
abbrev S128x8x4x64 : Shape := ⟨4, ![128, 8, 4, 64]⟩
abbrev S4x8 : Shape := ⟨2, ![4, 8]⟩
abbrev S128x128x4x64 : Shape := ⟨4, ![128, 128, 4, 64]⟩
abbrev S128x136x4x64 : Shape := ⟨4, ![128, 136, 4, 64]⟩
abbrev S128x4x136x8x8 : Shape := ⟨5, ![128, 4, 136, 8, 8]⟩
abbrev S128x4x8x8x136 : Shape := ⟨5, ![128, 4, 8, 8, 136]⟩
abbrev S_ : Shape := ⟨0, ![]⟩
abbrev S8 : Shape := ⟨1, ![8]⟩
abbrev S8x1 : Shape := ⟨2, ![8, 1]⟩
abbrev S128 : Shape := ⟨1, ![128]⟩
abbrev S136 : Shape := ⟨1, ![136]⟩
abbrev S1x136 : Shape := ⟨2, ![1, 136]⟩
abbrev S8x136 : Shape := ⟨2, ![8, 136]⟩
abbrev S1x4x8x1x1 : Shape := ⟨5, ![1, 4, 8, 1, 1]⟩
abbrev S128x4x8x8 : Shape := ⟨4, ![128, 4, 8, 8]⟩
abbrev S128x4x8x8x1 : Shape := ⟨5, ![128, 4, 8, 8, 1]⟩
abbrev S128x4x64x8x8 : Shape := ⟨5, ![128, 4, 64, 8, 8]⟩
abbrev S1024x2048 : Shape := ⟨2, ![1024, 2048]⟩

abbrev nBuf : Space → Nat
  | .hbm => 68
  | .vmem => 0
  | .smem => 0
  | _ => 0

abbrev bufTy : (tb : Table) → Fin (tcTables nBuf tb) → BufTy
  | .hbm, ⟨0, _⟩ => ⟨S1x8192x13248, .f32⟩
  | .hbm, ⟨1, _⟩ => ⟨S128x8x13248, .f32⟩
  | .hbm, ⟨2, _⟩ => ⟨S1x128x128x4x64, .f32⟩
  | .hbm, ⟨3, _⟩ => ⟨S1x128x128x4x64, .f32⟩
  | .hbm, ⟨4, _⟩ => ⟨S1x32, .f32⟩
  | .hbm, ⟨5, _⟩ => ⟨S128x8x6592, .f32⟩
  | .hbm, ⟨6, _⟩ => ⟨S128x8x2048, .f32⟩
  | .hbm, ⟨7, _⟩ => ⟨S128x8x256, .f32⟩
  | .hbm, ⟨8, _⟩ => ⟨S128x8x256, .f32⟩
  | .hbm, ⟨9, _⟩ => ⟨S128x8x4096, .f32⟩
  | .hbm, ⟨10, _⟩ => ⟨S128x8x4x8x64, .f32⟩
  | .hbm, ⟨11, _⟩ => ⟨S128x8x4x64, .f32⟩
  | .hbm, ⟨12, _⟩ => ⟨S128x8x4x64, .f32⟩
  | .hbm, ⟨13, _⟩ => ⟨S4x8, .f32⟩
  | .hbm, ⟨14, _⟩ => ⟨S128x128x4x64, .f32⟩
  | .hbm, ⟨15, _⟩ => ⟨S128x136x4x64, .f32⟩
  | .hbm, ⟨16, _⟩ => ⟨S128x128x4x64, .f32⟩
  | .hbm, ⟨17, _⟩ => ⟨S128x136x4x64, .f32⟩
  | .hbm, ⟨18, _⟩ => ⟨S128x4x136x8x8, .f32⟩
  | .hbm, ⟨19, _⟩ => ⟨S128x4x8x8x136, .f32⟩
  | .hbm, ⟨20, _⟩ => ⟨S_, .f32⟩
  | .hbm, ⟨21, _⟩ => ⟨S128x4x8x8x136, .f32⟩
  | .hbm, ⟨22, _⟩ => ⟨S128x4x8x8x136, .f32⟩
  | .hbm, ⟨23, _⟩ => ⟨S8, .i32⟩
  | .hbm, ⟨24, _⟩ => ⟨S8x1, .i32⟩
  | .hbm, ⟨25, _⟩ => ⟨S128, .i32⟩
  | .hbm, ⟨26, _⟩ => ⟨S_, .i32⟩
  | .hbm, ⟨27, _⟩ => ⟨S128, .i32⟩
  | .hbm, ⟨28, _⟩ => ⟨S128, .i32⟩
  | .hbm, ⟨29, _⟩ => ⟨S8, .i32⟩
  | .hbm, ⟨30, _⟩ => ⟨S136, .i32⟩
  | .hbm, ⟨31, _⟩ => ⟨S1x136, .i32⟩
  | .hbm, ⟨32, _⟩ => ⟨S8x136, .i32⟩
  | .hbm, ⟨33, _⟩ => ⟨S8x136, .i32⟩
  | .hbm, ⟨34, _⟩ => ⟨S8x136, .i1⟩
  | .hbm, ⟨35, _⟩ => ⟨S_, .i32⟩
  | .hbm, ⟨36, _⟩ => ⟨S8x1, .i32⟩
  | .hbm, ⟨37, _⟩ => ⟨S8x1, .i32⟩
  | .hbm, ⟨38, _⟩ => ⟨S8x136, .i32⟩
  | .hbm, ⟨39, _⟩ => ⟨S8x136, .i32⟩
  | .hbm, ⟨40, _⟩ => ⟨S8x136, .i1⟩
  | .hbm, ⟨41, _⟩ => ⟨S8x136, .i1⟩
  | .hbm, ⟨42, _⟩ => ⟨S_, .f32⟩
  | .hbm, ⟨43, _⟩ => ⟨S_, .f32⟩
  | .hbm, ⟨44, _⟩ => ⟨S128x4x8x8x136, .i1⟩
  | .hbm, ⟨45, _⟩ => ⟨S128x4x8x8x136, .f32⟩
  | .hbm, ⟨46, _⟩ => ⟨S128x4x8x8x136, .f32⟩
  | .hbm, ⟨47, _⟩ => ⟨S1x4x8x1x1, .f32⟩
  | .hbm, ⟨48, _⟩ => ⟨S_, .f32⟩
  | .hbm, ⟨49, _⟩ => ⟨S128x4x8x8, .f32⟩
  | .hbm, ⟨50, _⟩ => ⟨S128x4x8x8x1, .f32⟩
  | .hbm, ⟨51, _⟩ => ⟨S128x4x8x8x1, .f32⟩
  | .hbm, ⟨52, _⟩ => ⟨S128x4x8x8x1, .f32⟩
  | .hbm, ⟨53, _⟩ => ⟨S128x4x8x8x136, .f32⟩
  | .hbm, ⟨54, _⟩ => ⟨S128x4x8x8x136, .f32⟩
  | .hbm, ⟨55, _⟩ => ⟨S128x4x8x8x136, .f32⟩
  | .hbm, ⟨56, _⟩ => ⟨S_, .f32⟩
  | .hbm, ⟨57, _⟩ => ⟨S128x4x8x8, .f32⟩
  | .hbm, ⟨58, _⟩ => ⟨S128x4x8x8x1, .f32⟩
  | .hbm, ⟨59, _⟩ => ⟨S128x4x8x8x1, .f32⟩
  | .hbm, ⟨60, _⟩ => ⟨S128x4x8x8x1, .f32⟩
  | .hbm, ⟨61, _⟩ => ⟨S128x4x8x8x1, .f32⟩
  | .hbm, ⟨62, _⟩ => ⟨S128x4x8x8x1, .f32⟩
  | .hbm, ⟨63, _⟩ => ⟨S128x4x8x8x136, .f32⟩
  | .hbm, ⟨64, _⟩ => ⟨S128x4x8x8x136, .f32⟩
  | .hbm, ⟨65, _⟩ => ⟨S128x4x64x8x8, .f32⟩
  | .hbm, ⟨66, _⟩ => ⟨S128x8x4x8x64, .f32⟩
  | .hbm, ⟨67, _⟩ => ⟨S1024x2048, .f32⟩
  | _, _ => ⟨S1x8192x13248, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c_0 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_1 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v34 : Ref sig .tc := ⟨.hbm, 46, rfl⟩
abbrev main_v35 : Ref sig .tc := ⟨.hbm, 47, rfl⟩
abbrev main_cst_2 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_3 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩

abbrev nD : Nat := 1
abbrev τ : Topo := Topo.v7x

variable {F : FTy → Type} [FloatOps F]
-- ==== OutProj.lean ====
abbrev S1x8192x32x64 : Shape := ⟨4, ![1, 8192, 32, 64]⟩
abbrev S128x8x32x64 : Shape := ⟨4, ![128, 8, 32, 64]⟩
abbrev S1x8192x2048 : Shape := ⟨3, ![1, 8192, 2048]⟩
abbrev S128x8x2048 : Shape := ⟨3, ![128, 8, 2048]⟩
abbrev S1x8192x13248 : Shape := ⟨3, ![1, 8192, 13248]⟩
abbrev S128x8x13248 : Shape := ⟨3, ![128, 8, 13248]⟩
abbrev S1x2048 : Shape := ⟨2, ![1, 2048]⟩
abbrev S1x2048x2048 : Shape := ⟨3, ![1, 2048, 2048]⟩
abbrev S8192x13248 : Shape := ⟨2, ![8192, 13248]⟩
abbrev S1024x13248 : Shape := ⟨2, ![1024, 13248]⟩
abbrev S9216x13248 : Shape := ⟨2, ![9216, 13248]⟩
abbrev S9216x6144 : Shape := ⟨2, ![9216, 6144]⟩
abbrev S9216x96 : Shape := ⟨2, ![9216, 96]⟩
abbrev S9216x256 : Shape := ⟨2, ![9216, 256]⟩
abbrev S9216x2048 : Shape := ⟨2, ![9216, 2048]⟩
abbrev S9216x4096 : Shape := ⟨2, ![9216, 4096]⟩
abbrev S_ : Shape := ⟨0, ![]⟩
abbrev S9216x128 : Shape := ⟨2, ![9216, 128]⟩
abbrev S9216x13312 : Shape := ⟨2, ![9216, 13312]⟩
abbrev S32x64x128 : Shape := ⟨3, ![32, 64, 128]⟩
abbrev S2048x128 : Shape := ⟨2, ![2048, 128]⟩
abbrev S128x2048 : Shape := ⟨2, ![128, 2048]⟩
abbrev S8192x2048 : Shape := ⟨2, ![8192, 2048]⟩
abbrev S1024x2048 : Shape := ⟨2, ![1024, 2048]⟩
abbrev S2048x2048 : Shape := ⟨2, ![2048, 2048]⟩
abbrev S2048x9216 : Shape := ⟨2, ![2048, 9216]⟩
abbrev S128x128 : Shape := ⟨2, ![128, 128]⟩
abbrev S128 : Shape := ⟨1, ![128]⟩
abbrev S128x1 : Shape := ⟨2, ![128, 1]⟩

abbrev nBuf : Space → Nat
  | .hbm => 61
  | .vmem => 35
  | .smem => 0
  | _ => 0

abbrev bufTy : (tb : Table) → Fin (tcTables nBuf tb) → BufTy
  | .hbm, ⟨0, _⟩ => ⟨S1x8192x32x64, .f32⟩
  | .hbm, ⟨1, _⟩ => ⟨S128x8x32x64, .f32⟩
  | .hbm, ⟨2, _⟩ => ⟨S1x8192x2048, .f32⟩
  | .hbm, ⟨3, _⟩ => ⟨S128x8x2048, .f32⟩
  | .hbm, ⟨4, _⟩ => ⟨S1x8192x2048, .f32⟩
  | .hbm, ⟨5, _⟩ => ⟨S128x8x2048, .f32⟩
  | .hbm, ⟨6, _⟩ => ⟨S1x8192x2048, .f32⟩
  | .hbm, ⟨7, _⟩ => ⟨S128x8x2048, .f32⟩
  | .hbm, ⟨8, _⟩ => ⟨S1x8192x2048, .f32⟩
  | .hbm, ⟨9, _⟩ => ⟨S128x8x2048, .f32⟩
  | .hbm, ⟨10, _⟩ => ⟨S1x8192x13248, .f32⟩
  | .hbm, ⟨11, _⟩ => ⟨S128x8x13248, .f32⟩
  | .hbm, ⟨12, _⟩ => ⟨S1x2048, .f32⟩
  | .hbm, ⟨13, _⟩ => ⟨S1x2048, .f32⟩
  | .hbm, ⟨14, _⟩ => ⟨S1x2048x2048, .f32⟩
  | .hbm, ⟨15, _⟩ => ⟨S1x2048, .f32⟩
  | .hbm, ⟨16, _⟩ => ⟨S1x2048, .f32⟩
  | .hbm, ⟨17, _⟩ => ⟨S8192x13248, .f32⟩
  | .hbm, ⟨18, _⟩ => ⟨S1024x13248, .f32⟩
  | .hbm, ⟨19, _⟩ => ⟨S9216x13248, .f32⟩
  | .hbm, ⟨20, _⟩ => ⟨S9216x6144, .f32⟩
  | .hbm, ⟨21, _⟩ => ⟨S9216x96, .f32⟩
  | .hbm, ⟨22, _⟩ => ⟨S9216x96, .f32⟩
  | .hbm, ⟨23, _⟩ => ⟨S9216x256, .f32⟩
  | .hbm, ⟨24, _⟩ => ⟨S9216x2048, .f32⟩
  | .hbm, ⟨25, _⟩ => ⟨S9216x256, .f32⟩
  | .hbm, ⟨26, _⟩ => ⟨S9216x256, .f32⟩
  | .hbm, ⟨27, _⟩ => ⟨S9216x4096, .f32⟩
  | .hbm, ⟨28, _⟩ => ⟨S_, .i32⟩
  | .hbm, ⟨29, _⟩ => ⟨S_, .f32⟩
  | .hbm, ⟨30, _⟩ => ⟨S9216x128, .f32⟩
  | .hbm, ⟨31, _⟩ => ⟨S_, .i32⟩
  | .hbm, ⟨32, _⟩ => ⟨S_, .f32⟩
  | .hbm, ⟨33, _⟩ => ⟨S9216x128, .f32⟩
  | .hbm, ⟨34, _⟩ => ⟨S9216x13312, .f32⟩
  | .hbm, ⟨35, _⟩ => ⟨S32x64x128, .i32⟩
  | .hbm, ⟨36, _⟩ => ⟨S32x64x128, .i32⟩
  | .hbm, ⟨37, _⟩ => ⟨S32x64x128, .i1⟩
  | .hbm, ⟨38, _⟩ => ⟨S_, .f32⟩
  | .hbm, ⟨39, _⟩ => ⟨S32x64x128, .f32⟩
  | .hbm, ⟨40, _⟩ => ⟨S_, .f32⟩
  | .hbm, ⟨41, _⟩ => ⟨S32x64x128, .f32⟩
  | .hbm, ⟨42, _⟩ => ⟨S32x64x128, .f32⟩
  | .hbm, ⟨43, _⟩ => ⟨S2048x128, .f32⟩
  | .hbm, ⟨44, _⟩ => ⟨S2048x128, .bf16⟩
  | .hbm, ⟨45, _⟩ => ⟨S128x2048, .f32⟩
  | .hbm, ⟨46, _⟩ => ⟨S128x2048, .bf16⟩
  | .hbm, ⟨47, _⟩ => ⟨S8192x2048, .f32⟩
  | .hbm, ⟨48, _⟩ => ⟨S1024x2048, .f32⟩
  | .hbm, ⟨49, _⟩ => ⟨S8192x2048, .f32⟩
  | .hbm, ⟨50, _⟩ => ⟨S1024x2048, .f32⟩
  | .hbm, ⟨51, _⟩ => ⟨S8192x2048, .f32⟩
  | .hbm, ⟨52, _⟩ => ⟨S1024x2048, .f32⟩
  | .hbm, ⟨53, _⟩ => ⟨S8192x2048, .f32⟩
  | .hbm, ⟨54, _⟩ => ⟨S1024x2048, .f32⟩
  | .hbm, ⟨55, _⟩ => ⟨S8192x2048, .f32⟩
  | .hbm, ⟨56, _⟩ => ⟨S1024x2048, .f32⟩
  | .hbm, ⟨57, _⟩ => ⟨S2048x2048, .f32⟩
  | .hbm, ⟨58, _⟩ => ⟨S2048x2048, .bf16⟩
  | .hbm, ⟨59, _⟩ => ⟨S9216x2048, .f32⟩
  | .hbm, ⟨60, _⟩ => ⟨S2048x9216, .bf16⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .vmem, ⟨18, _⟩ => ⟨S128x2048, .f32⟩
  | .local _ .vmem, ⟨19, _⟩ => ⟨S128x2048, .f32⟩
  | .local _ .vmem, ⟨20, _⟩ => ⟨S128x2048, .f32⟩
  | .local _ .vmem, ⟨21, _⟩ => ⟨S128x2048, .f32⟩
  | .local _ .vmem, ⟨22, _⟩ => ⟨S128x2048, .f32⟩
  | .local _ .vmem, ⟨23, _⟩ => ⟨S128x2048, .f32⟩
  | .local _ .vmem, ⟨24, _⟩ => ⟨S1x2048, .f32⟩
  | .local _ .vmem, ⟨25, _⟩ => ⟨S1x2048, .f32⟩
  | .local _ .vmem, ⟨26, _⟩ => ⟨S2048x128, .bf16⟩
  | .local _ .vmem, ⟨27, _⟩ => ⟨S128x2048, .bf16⟩
  | .local _ .vmem, ⟨28, _⟩ => ⟨S2048x2048, .bf16⟩
  | .local _ .vmem, ⟨29, _⟩ => ⟨S1x2048, .f32⟩
  | .local _ .vmem, ⟨30, _⟩ => ⟨S1x2048, .f32⟩
  | .local _ .vmem, ⟨31, _⟩ => ⟨S128x2048, .f32⟩
  | .local _ .vmem, ⟨32, _⟩ => ⟨S128x2048, .f32⟩
  | .local _ .vmem, ⟨33, _⟩ => ⟨S2048x128, .bf16⟩
  | .local _ .vmem, ⟨34, _⟩ => ⟨S2048x128, .bf16⟩
  | _, _ => ⟨S1x8192x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c : Ref sig .tc := ⟨.hbm, 28, rfl⟩
abbrev main_call0_v0 : Ref sig .tc := ⟨.hbm, 29, rfl⟩
abbrev main_v11 : Ref sig .tc := ⟨.hbm, 30, rfl⟩
abbrev main_c_0 : Ref sig .tc := ⟨.hbm, 31, rfl⟩
abbrev main_call1_v0 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst : Ref sig .tc := ⟨.hbm, 38, rfl⟩
abbrev main_v17 : Ref sig .tc := ⟨.hbm, 39, rfl⟩
abbrev main_cst_1 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36_0 : Ref sig .tc := ⟨.hbm, 59, rfl⟩
abbrev main_v36_1 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem16_0 : DmaSem sig := 28
abbrev cc0_sem17_0 : DmaSem sig := 29
abbrev cc0_sem18_0 : DmaSem sig := 30
abbrev cc0_sem19_0 : DmaSem sig := 31
abbrev cc0_sem19_1 : DmaSem sig := 32
abbrev cc0_sem20_0 : DmaSem sig := 33
abbrev cc0_sem20_1 : DmaSem sig := 34

abbrev nD : Nat := 1
abbrev τ : Topo := Topo.v7x

variable {F : FTy → Type} [FloatOps F]

abbrev grid0 : Pipeline.Grid := ⟨1, ![72], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![v2.toNat, c0_i32_0.toNat]

def cc0_transform_10 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_11 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2048x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x2048 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2048x2048 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x2048 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S128x2048 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S2048x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== OutProjRefIdeal.lean ====
abbrev S1x8192x32x64 : Shape := ⟨4, ![1, 8192, 32, 64]⟩
abbrev S128x8x32x64 : Shape := ⟨4, ![128, 8, 32, 64]⟩
abbrev S1x8192x2048 : Shape := ⟨3, ![1, 8192, 2048]⟩
abbrev S128x8x2048 : Shape := ⟨3, ![128, 8, 2048]⟩
abbrev S1x8192x13248 : Shape := ⟨3, ![1, 8192, 13248]⟩
abbrev S128x8x13248 : Shape := ⟨3, ![128, 8, 13248]⟩
abbrev S1x2048 : Shape := ⟨2, ![1, 2048]⟩
abbrev S1x2048x2048 : Shape := ⟨3, ![1, 2048, 2048]⟩
abbrev S8192x32x64 : Shape := ⟨3, ![8192, 32, 64]⟩
abbrev S1024x32x64 : Shape := ⟨3, ![1024, 32, 64]⟩
abbrev S9216x32x64 : Shape := ⟨3, ![9216, 32, 64]⟩
abbrev S8192x2048 : Shape := ⟨2, ![8192, 2048]⟩
abbrev S1024x2048 : Shape := ⟨2, ![1024, 2048]⟩
abbrev S9216x2048 : Shape := ⟨2, ![9216, 2048]⟩
abbrev S8192x13248 : Shape := ⟨2, ![8192, 13248]⟩
abbrev S1024x13248 : Shape := ⟨2, ![1024, 13248]⟩
abbrev S9216x13248 : Shape := ⟨2, ![9216, 13248]⟩
abbrev S9216x4096 : Shape := ⟨2, ![9216, 4096]⟩
abbrev S_ : Shape := ⟨0, ![]⟩
abbrev S9216x32 : Shape := ⟨2, ![9216, 32]⟩
abbrev S9216x32x1 : Shape := ⟨3, ![9216, 32, 1]⟩
abbrev S2048 : Shape := ⟨1, ![2048]⟩
abbrev S2048x2048 : Shape := ⟨2, ![2048, 2048]⟩
abbrev S9216 : Shape := ⟨1, ![9216]⟩
abbrev S9216x1 : Shape := ⟨2, ![9216, 1]⟩
abbrev S2048x9216 : Shape := ⟨2, ![2048, 9216]⟩

abbrev nBuf : Space → Nat
  | .hbm => 122
  | .vmem => 0
  | .smem => 0
  | _ => 0

abbrev bufTy : (tb : Table) → Fin (tcTables nBuf tb) → BufTy
  | .hbm, ⟨0, _⟩ => ⟨S1x8192x32x64, .f32⟩
  | .hbm, ⟨1, _⟩ => ⟨S128x8x32x64, .f32⟩
  | .hbm, ⟨2, _⟩ => ⟨S1x8192x2048, .f32⟩
  | .hbm, ⟨3, _⟩ => ⟨S128x8x2048, .f32⟩
  | .hbm, ⟨4, _⟩ => ⟨S1x8192x2048, .f32⟩
  | .hbm, ⟨5, _⟩ => ⟨S128x8x2048, .f32⟩
  | .hbm, ⟨6, _⟩ => ⟨S1x8192x2048, .f32⟩
  | .hbm, ⟨7, _⟩ => ⟨S128x8x2048, .f32⟩
  | .hbm, ⟨8, _⟩ => ⟨S1x8192x2048, .f32⟩
  | .hbm, ⟨9, _⟩ => ⟨S128x8x2048, .f32⟩
  | .hbm, ⟨10, _⟩ => ⟨S1x8192x13248, .f32⟩
  | .hbm, ⟨11, _⟩ => ⟨S128x8x13248, .f32⟩
  | .hbm, ⟨12, _⟩ => ⟨S1x2048, .f32⟩
  | .hbm, ⟨13, _⟩ => ⟨S1x2048, .f32⟩
  | .hbm, ⟨14, _⟩ => ⟨S1x2048x2048, .f32⟩
  | .hbm, ⟨15, _⟩ => ⟨S1x2048, .f32⟩
  | .hbm, ⟨16, _⟩ => ⟨S1x2048, .f32⟩
  | .hbm, ⟨17, _⟩ => ⟨S8192x32x64, .f32⟩
  | .hbm, ⟨18, _⟩ => ⟨S1024x32x64, .f32⟩
  | .hbm, ⟨19, _⟩ => ⟨S9216x32x64, .f32⟩
  | .hbm, ⟨20, _⟩ => ⟨S8192x2048, .f32⟩
  | .hbm, ⟨21, _⟩ => ⟨S1024x2048, .f32⟩
  | .hbm, ⟨22, _⟩ => ⟨S9216x2048, .f32⟩
  | .hbm, ⟨23, _⟩ => ⟨S8192x2048, .f32⟩
  | .hbm, ⟨24, _⟩ => ⟨S1024x2048, .f32⟩
  | .hbm, ⟨25, _⟩ => ⟨S9216x2048, .f32⟩
  | .hbm, ⟨26, _⟩ => ⟨S8192x2048, .f32⟩
  | .hbm, ⟨27, _⟩ => ⟨S1024x2048, .f32⟩
  | .hbm, ⟨28, _⟩ => ⟨S9216x2048, .f32⟩
  | .hbm, ⟨29, _⟩ => ⟨S8192x2048, .f32⟩
  | .hbm, ⟨30, _⟩ => ⟨S1024x2048, .f32⟩
  | .hbm, ⟨31, _⟩ => ⟨S9216x2048, .f32⟩
  | .hbm, ⟨32, _⟩ => ⟨S8192x13248, .f32⟩
  | .hbm, ⟨33, _⟩ => ⟨S1024x13248, .f32⟩
  | .hbm, ⟨34, _⟩ => ⟨S9216x13248, .f32⟩
  | .hbm, ⟨35, _⟩ => ⟨S9216x4096, .f32⟩
  | .hbm, ⟨36, _⟩ => ⟨S_, .f32⟩
  | .hbm, ⟨37, _⟩ => ⟨S9216x32, .f32⟩
  | .hbm, ⟨38, _⟩ => ⟨S9216x32x1, .f32⟩
  | .hbm, ⟨39, _⟩ => ⟨S_, .f32⟩
  | .hbm, ⟨40, _⟩ => ⟨S9216x32x1, .f32⟩
  | .hbm, ⟨41, _⟩ => ⟨S9216x32x1, .f32⟩
  | .hbm, ⟨42, _⟩ => ⟨S9216x32x64, .f32⟩
  | .hbm, ⟨43, _⟩ => ⟨S9216x32x64, .f32⟩
  | .hbm, ⟨44, _⟩ => ⟨S9216x32x64, .f32⟩
  | .hbm, ⟨45, _⟩ => ⟨S_, .f32⟩
  | .hbm, ⟨46, _⟩ => ⟨S9216x32, .f32⟩
  | .hbm, ⟨47, _⟩ => ⟨S9216x32x1, .f32⟩
  | .hbm, ⟨48, _⟩ => ⟨S_, .f32⟩
  | .hbm, ⟨49, _⟩ => ⟨S9216x32x1, .f32⟩
  | .hbm, ⟨50, _⟩ => ⟨S9216x32x1, .f32⟩
  | .hbm, ⟨51, _⟩ => ⟨S9216x32x64, .f32⟩
  | .hbm, ⟨52, _⟩ => ⟨S9216x32x64, .f32⟩
  | .hbm, ⟨53, _⟩ => ⟨S_, .f32⟩
  | .hbm, ⟨54, _⟩ => ⟨S9216x32x1, .f32⟩
  | .hbm, ⟨55, _⟩ => ⟨S9216x32x1, .f32⟩
  | .hbm, ⟨56, _⟩ => ⟨S9216x32x1, .f32⟩
  | .hbm, ⟨57, _⟩ => ⟨S9216x32x64, .f32⟩
  | .hbm, ⟨58, _⟩ => ⟨S9216x32x64, .f32⟩
  | .hbm, ⟨59, _⟩ => ⟨S9216x2048, .f32⟩
  | .hbm, ⟨60, _⟩ => ⟨S2048, .f32⟩
  | .hbm, ⟨61, _⟩ => ⟨S1x2048, .f32⟩
  | .hbm, ⟨62, _⟩ => ⟨S9216x2048, .f32⟩
  | .hbm, ⟨63, _⟩ => ⟨S9216x2048, .f32⟩
  | .hbm, ⟨64, _⟩ => ⟨S2048, .f32⟩
  | .hbm, ⟨65, _⟩ => ⟨S1x2048, .f32⟩
  | .hbm, ⟨66, _⟩ => ⟨S9216x2048, .f32⟩
  | .hbm, ⟨67, _⟩ => ⟨S9216x2048, .f32⟩
  | .hbm, ⟨68, _⟩ => ⟨S9216x2048, .f32⟩
  | .hbm, ⟨69, _⟩ => ⟨S9216x2048, .f32⟩
  | .hbm, ⟨70, _⟩ => ⟨S9216x4096, .f32⟩
  | .hbm, ⟨71, _⟩ => ⟨S9216x4096, .f32⟩
  | .hbm, ⟨72, _⟩ => ⟨S_, .f32⟩
  | .hbm, ⟨73, _⟩ => ⟨S9216x4096, .f32⟩
  | .hbm, ⟨74, _⟩ => ⟨S9216x4096, .f32⟩
  | .hbm, ⟨75, _⟩ => ⟨S_, .f32⟩
  | .hbm, ⟨76, _⟩ => ⟨S9216x4096, .f32⟩
  | .hbm, ⟨77, _⟩ => ⟨S9216x4096, .f32⟩
  | .hbm, ⟨78, _⟩ => ⟨S9216x2048, .f32⟩
  | .hbm, ⟨79, _⟩ => ⟨S9216x2048, .f32⟩
  | .hbm, ⟨80, _⟩ => ⟨S9216x2048, .f32⟩
  | .hbm, ⟨81, _⟩ => ⟨S9216x2048, .f32⟩
  | .hbm, ⟨82, _⟩ => ⟨S9216x2048, .f32⟩
  | .hbm, ⟨83, _⟩ => ⟨S2048x2048, .f32⟩
  | .hbm, ⟨84, _⟩ => ⟨S9216x2048, .f32⟩
  | .hbm, ⟨85, _⟩ => ⟨S_, .f32⟩
  | .hbm, ⟨86, _⟩ => ⟨S9216x2048, .f32⟩
  | .hbm, ⟨87, _⟩ => ⟨S9216x2048, .f32⟩
  | .hbm, ⟨88, _⟩ => ⟨S9216x2048, .f32⟩
  | .hbm, ⟨89, _⟩ => ⟨S_, .f32⟩
  | .hbm, ⟨90, _⟩ => ⟨S9216, .f32⟩
  | .hbm, ⟨91, _⟩ => ⟨S9216x1, .f32⟩
  | .hbm, ⟨92, _⟩ => ⟨S_, .f32⟩
  | .hbm, ⟨93, _⟩ => ⟨S9216x1, .f32⟩
  | .hbm, ⟨94, _⟩ => ⟨S9216x1, .f32⟩
  | .hbm, ⟨95, _⟩ => ⟨S9216x2048, .f32⟩
  | .hbm, ⟨96, _⟩ => ⟨S9216x2048, .f32⟩
  | .hbm, ⟨97, _⟩ => ⟨S9216x2048, .f32⟩
  | .hbm, ⟨98, _⟩ => ⟨S_, .f32⟩
  | .hbm, ⟨99, _⟩ => ⟨S9216, .f32⟩
  | .hbm, ⟨100, _⟩ => ⟨S9216x1, .f32⟩
  | .hbm, ⟨101, _⟩ => ⟨S_, .f32⟩
  | .hbm, ⟨102, _⟩ => ⟨S9216x1, .f32⟩
  | .hbm, ⟨103, _⟩ => ⟨S9216x1, .f32⟩
  | .hbm, ⟨104, _⟩ => ⟨S9216x2048, .f32⟩
  | .hbm, ⟨105, _⟩ => ⟨S9216x2048, .f32⟩
  | .hbm, ⟨106, _⟩ => ⟨S_, .f32⟩
  | .hbm, ⟨107, _⟩ => ⟨S9216x1, .f32⟩
  | .hbm, ⟨108, _⟩ => ⟨S9216x1, .f32⟩
  | .hbm, ⟨109, _⟩ => ⟨S9216x1, .f32⟩
  | .hbm, ⟨110, _⟩ => ⟨S9216x2048, .f32⟩
  | .hbm, ⟨111, _⟩ => ⟨S9216x2048, .f32⟩
  | .hbm, ⟨112, _⟩ => ⟨S2048, .f32⟩
  | .hbm, ⟨113, _⟩ => ⟨S1x2048, .f32⟩
  | .hbm, ⟨114, _⟩ => ⟨S9216x2048, .f32⟩
  | .hbm, ⟨115, _⟩ => ⟨S9216x2048, .f32⟩
  | .hbm, ⟨116, _⟩ => ⟨S2048, .f32⟩
  | .hbm, ⟨117, _⟩ => ⟨S1x2048, .f32⟩
  | .hbm, ⟨118, _⟩ => ⟨S9216x2048, .f32⟩
  | .hbm, ⟨119, _⟩ => ⟨S9216x2048, .f32⟩
  | .hbm, ⟨120, _⟩ => ⟨S2048x9216, .f32⟩
  | .hbm, ⟨121, _⟩ => ⟨S2048x9216, .bf16⟩
  | _, _ => ⟨S1x8192x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst : Ref sig .tc := ⟨.hbm, 36, rfl⟩
abbrev main_v19 : Ref sig .tc := ⟨.hbm, 37, rfl⟩
abbrev main_v20 : Ref sig .tc := ⟨.hbm, 38, rfl⟩
abbrev main_cst_0 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_1 : Ref sig .tc := ⟨.hbm, 45, rfl⟩
abbrev main_v26 : Ref sig .tc := ⟨.hbm, 46, rfl⟩
abbrev main_v27 : Ref sig .tc := ⟨.hbm, 47, rfl⟩
abbrev main_cst_2 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_4 : Ref sig .tc := ⟨.hbm, 72, rfl⟩
abbrev main_v50 : Ref sig .tc := ⟨.hbm, 73, rfl⟩
abbrev main_v51 : Ref sig .tc := ⟨.hbm, 74, rfl⟩
abbrev main_cst_5 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_6 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_7 : Ref sig .tc := ⟨.hbm, 89, rfl⟩
abbrev main_v64 : Ref sig .tc := ⟨.hbm, 90, rfl⟩
abbrev main_v65 : Ref sig .tc := ⟨.hbm, 91, rfl⟩
abbrev main_cst_8 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_9 : Ref sig .tc := ⟨.hbm, 98, rfl⟩
abbrev main_v71 : Ref sig .tc := ⟨.hbm, 99, rfl⟩
abbrev main_v72 : Ref sig .tc := ⟨.hbm, 100, rfl⟩
abbrev main_cst_10 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_11 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩

abbrev nD : Nat := 1
abbrev τ : Topo := Topo.v7x

variable {F : FTy → Type} [FloatOps F]
-- ==== FinalNorm.lean ====
abbrev S9216x2048 : Shape := ⟨2, ![9216, 2048]⟩
abbrev S1x2048 : Shape := ⟨2, ![1, 2048]⟩
abbrev S8192x2048 : Shape := ⟨2, ![8192, 2048]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S9216x2048, .f32⟩
  | .hbm, ⟨1, _⟩ => ⟨S9216x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S1024x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![18], ![false]⟩

def k0_cond1 (i : grid0.Coords) : BitVec 1 :=
  let arg0 : BitVec 32 := BitVec.ofNat 32 (i 0).val
  let c16_i32 : BitVec 32 := 16#32
  let v27 : BitVec 1 := Scalar.cmpi .slt arg0 c16_i32
  let v28 : BitVec 32 := Scalar.extui v27
  let c0_i32 : BitVec 32 := 0#32
  let v29 : BitVec 1 := Scalar.cmpi .ne v28 c0_i32
  v29

def k0_cond2 (i : grid0.Coords) : BitVec 1 :=
  let arg0 : BitVec 32 := BitVec.ofNat 32 (i 0).val
  let c16_i32_12 : BitVec 32 := 16#32
  let v30 : BitVec 1 := Scalar.cmpi .sge arg0 c16_i32_12
  let v31 : BitVec 32 := Scalar.extui v30
  let c0_i32_13 : BitVec 32 := 0#32
  let v32 : BitVec 1 := Scalar.cmpi .ne v31 c0_i32_13
  v32

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![v2.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FinalNormRefIdeal.lean ====
abbrev S9216x2048 : Shape := ⟨2, ![9216, 2048]⟩
abbrev S1x2048 : Shape := ⟨2, ![1, 2048]⟩
abbrev S_ : Shape := ⟨0, ![]⟩
abbrev S9216 : Shape := ⟨1, ![9216]⟩
abbrev S9216x1 : Shape := ⟨2, ![9216, 1]⟩
abbrev S2048 : Shape := ⟨1, ![2048]⟩
abbrev S8192x2048 : Shape := ⟨2, ![8192, 2048]⟩
abbrev S1024x2048 : Shape := ⟨2, ![1024, 2048]⟩

abbrev nBuf : Space → Nat
  | .hbm => 41
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S9216x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S9216x2048, .f32⟩
  | .hbm, ⟨6, _⟩ => ⟨S9216x2048, .f32⟩
  | .hbm, ⟨7, _⟩ => ⟨S9216x2048, .f32⟩
  | .hbm, ⟨8, _⟩ => ⟨S_, .f32⟩
  | .hbm, ⟨9, _⟩ => ⟨S9216, .f32⟩
  | .hbm, ⟨10, _⟩ => ⟨S9216x1, .f32⟩
  | .hbm, ⟨11, _⟩ => ⟨S_, .f32⟩
  | .hbm, ⟨12, _⟩ => ⟨S9216x1, .f32⟩
  | .hbm, ⟨13, _⟩ => ⟨S9216x1, .f32⟩
  | .hbm, ⟨14, _⟩ => ⟨S9216x2048, .f32⟩
  | .hbm, ⟨15, _⟩ => ⟨S9216x2048, .f32⟩
  | .hbm, ⟨16, _⟩ => ⟨S9216x2048, .f32⟩
  | .hbm, ⟨17, _⟩ => ⟨S_, .f32⟩
  | .hbm, ⟨18, _⟩ => ⟨S9216, .f32⟩
  | .hbm, ⟨19, _⟩ => ⟨S9216x1, .f32⟩
  | .hbm, ⟨20, _⟩ => ⟨S_, .f32⟩
  | .hbm, ⟨21, _⟩ => ⟨S9216x1, .f32⟩
  | .hbm, ⟨22, _⟩ => ⟨S9216x1, .f32⟩
  | .hbm, ⟨23, _⟩ => ⟨S9216x2048, .f32⟩
  | .hbm, ⟨24, _⟩ => ⟨S9216x2048, .f32⟩
  | .hbm, ⟨25, _⟩ => ⟨S_, .f32⟩
  | .hbm, ⟨26, _⟩ => ⟨S9216x1, .f32⟩
  | .hbm, ⟨27, _⟩ => ⟨S9216x1, .f32⟩
  | .hbm, ⟨28, _⟩ => ⟨S9216x1, .f32⟩
  | .hbm, ⟨29, _⟩ => ⟨S9216x2048, .f32⟩
  | .hbm, ⟨30, _⟩ => ⟨S9216x2048, .f32⟩
  | .hbm, ⟨31, _⟩ => ⟨S2048, .f32⟩
  | .hbm, ⟨32, _⟩ => ⟨S1x2048, .f32⟩
  | .hbm, ⟨33, _⟩ => ⟨S9216x2048, .f32⟩
  | .hbm, ⟨34, _⟩ => ⟨S9216x2048, .f32⟩
  | .hbm, ⟨35, _⟩ => ⟨S2048, .f32⟩
  | .hbm, ⟨36, _⟩ => ⟨S1x2048, .f32⟩
  | .hbm, ⟨37, _⟩ => ⟨S9216x2048, .f32⟩
  | .hbm, ⟨38, _⟩ => ⟨S9216x2048, .f32⟩
  | .hbm, ⟨39, _⟩ => ⟨S8192x2048, .f32⟩
  | .hbm, ⟨40, _⟩ => ⟨S1024x2048, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Proof.InProjArray.lean ====
module

public import proofs.«01_k».proof.Proof.Gen.InProjIdeal.Frame
public import Idealize.ShloMosaic.Lib.Pipeline.ValueKit
public import Idealize.ShloMosaic.Lib.Claim
public import Idealize.ShloMosaic.Lib.Pointwise
public import Idealize.ShloMosaic.Lib.StableHlo.RunRead

/-!
The arrays the two calls of the input projection leave: the prompt's rows followed by the sample's, and
the product of that array and the weights.
-/

@[expose] public section

set_option maxRecDepth 16384

noncomputable section

open Idealize.ShloMosaic Idealize.ShloMosaic.TcCoe Idealize.SL.Sem
open Idealize.ShloMosaic.Pipeline (Dat)

namespace Cert.InProjIdeal.Gen

section
variable (V : (c : Dev nD) → (b : Ref sig .tc) → Buf (Elt Ideal) ((c : Thread nD τ).loc b))

/-- Which block each window of the first call holds at a grid point. -/
theorem idx0 : ∀ t : Fin cfg0.N, win0_0.index t = ![min t.val 7, 0] ∧ win0_1.index t = ![0, 0] ∧ win0_2.index t = ![t.val, 0] :=
  (by decide +kernel : ∀ t : Fin grid0.N, _)

/-- Which block each window of the second call holds at a grid point. -/
theorem idx1 : ∀ t : Fin cfg1.N, win1_0.index t = ![t.val % 9, 0] ∧ win1_1.index t = ![0, t.val / 9] ∧ win1_2.index t = ![t.val % 9, t.val / 9] :=
  (by decide +kernel : ∀ t : Fin grid1.N, _)

theorem coord0 : ∀ t : Fin cfg0.N, (grid0.coords t 0).val = t.val := (by decide +kernel : ∀ t : Fin grid0.N, _)

theorem sub_lt (R : Fin 9216) (h : ¬ R.val < 8192) : R.val - 8192 < 1024 := by omega

/-- The rows of the prompt, then those of the sample. -/
def rows {α : Type} (a : Fin 8192 → α) (b : Fin 1024 → α) (R : Fin 9216) : α :=
  if h : R.val < 8192 then a ⟨R.val, h⟩ else b ⟨R.val - 8192, sub_lt R h⟩

/-- One entry of a product of two arrays. -/
def dot {n : ℕ} (a b : Fin n → EReal) : EReal := ∑ k, a k * b k

theorem dot_congr {n : ℕ} {a a' b b' : Fin n → EReal} (ha : ∀ k, a k = a' k) (hb : ∀ k, b k = b' k) : dot a b = dot a' b' := by
  obtain rfl : a = a' := funext ha
  obtain rfl : b = b' := funext hb
  rfl

/-- The choice the first call's body makes at a grid point. -/
theorem pay0 (t : Fin cfg0.N) (X Y : FVec Ideal S1024x2048 .f32) (y : S1024x2048.Idx) :
    (k0_pay1 (F := Ideal) (grid0.coords t) X Y y : EReal) = if t.val < 8 then X y else Y y := by
  have h : t.val < 9 := t.isLt
  have e : (if t.val < 8 then X y else Y y) = Scalar.select (Scalar.cmpi .slt (BitVec.ofNat 32 (grid0.coords t 0).val) 8#32) (X y) (Y y) := by
    rw [coord0 t]
    revert h
    generalize t.val = n
    intro h
    have hd : ∀ n : Fin 9, Scalar.cmpi .slt (BitVec.ofNat 32 n.val) 8#32 = if n.val < 8 then 1#1 else 0#1 := by decide
    rw [show Scalar.cmpi .slt (BitVec.ofNat 32 n) 8#32 = if n < 8 then 1#1 else 0#1 from hd ⟨n, h⟩]
    by_cases h8 : n < 8
    · rw [if_pos h8, if_pos h8]; rfl
    · rw [if_neg h8, if_neg h8]; rfl
  rw [e]
  idx_vars y
  pointwise [k0_pay1]

/-- The product the second call's body stores. -/
theorem pay1 (X : FVec Ideal S1024x2048 .bf16) (Y : FVec Ideal S2048x1024 .bf16) (p q : Fin 1024) :
    (k1_pay1 (F := Ideal) X Y (ix2 p q) : EReal) = dot (fun k => X (ix2 p k)) (fun k => Y (ix2 k q)) := by
  pointwise [k1_pay1]
  rfl

/-- What a grid point of the first call stores. -/
theorem point0 (c : Dev nD) (t : Fin cfg0.N) (y : S1024x2048.Idx) :
    out0_2 (grid0.coords t) (iblk0 V c 0 t) (iblk0 V c 1 t) y
      = if t.val < 8 then iblk0 V c 0 t y else iblk0 V c 1 t y := by
  unfold out0_2
  frame_out
  exact pay0 t _ _ y

theorem lt_block (t : Fin cfg0.N) (h : t.val < 8) (r : Fin 1024) : 1024 * t.val + r.val < 8192 := by omega
theorem lt_out0 (t : Fin cfg0.N) (r : Fin 1024) : 1024 * t.val + r.val < 9216 := by
  have h : t.val < 9 := t.isLt
  omega

/-- The window of the prompt's rows, at the points that read it. -/
theorem block_p (c : Dev nD) (t : Fin cfg0.N) (h : t.val < 8) (y : S1024x2048.Idx) :
    iblk0 V c 0 t y = V c main_v0 (ix2 ⟨1024 * t.val + (y 0).val, lt_block t h (y 0)⟩ (y 1)) := by
  blk_ext [iblk0, idx0 t]

/-- The window of the sample's rows. -/
theorem block_r (c : Dev nD) (t : Fin cfg0.N) (y : S1024x2048.Idx) :
    iblk0 V c 1 t y = V c main_v1 (ix2 (y 0) (y 1)) := by
  blk_ext [iblk0, idx0 t]

/-- What a point of the first call stores, as rows of the array. -/
theorem rows_eq (c : Dev nD) (t : Fin cfg0.N) (y : S1024x2048.Idx) :
    out0_2 (grid0.coords t) (iblk0 V c 0 t) (iblk0 V c 1 t) y
      = rows (fun r => V c main_v0 (ix2 r (y 1))) (fun r => V c main_v1 (ix2 r (y 1))) ⟨1024 * t.val + (y 0).val, lt_out0 t (y 0)⟩ := by
  have h9 : t.val < 9 := t.isLt
  rw [point0]
  unfold rows
  by_cases h : t.val < 8
  · rw [if_pos h, dif_pos (lt_block t h (y 0))]
    exact block_p V c t h y
  · rw [if_neg h, dif_neg (by dsimp only; omega)]
    refine (block_r V c t y).trans ?_
    exact congrArg (fun r => V c main_v1 (ix2 r (y 1))) (Fin.ext (by dsimp only; omega))

/-- The first call's array. -/
theorem final0 (c : Dev nD) : (dat0 V c).arrAt 2 cfg0.N
    = fun i => rows (fun r => V c main_v0 (ix2 r (i 1))) (fun r => V c main_v1 (ix2 r (i 1))) (i 0) := by
  refine (dat0 V c).arrAt_eq_of_covers 2 _ (by decide +kernel) fun t hf y => ?_
  rw [after0_2]
  blk_simp [idx0 t]
  refine (rows_eq V c t y).trans ?_
  refine congrArg₂ (fun (a : Fin 2048) b => rows (fun r => V c main_v0 (ix2 r a)) (fun r => V c main_v1 (ix2 r a)) b) (Fin.ext ?_) (Fin.ext ?_)
  · blk_simp [idx0 t]
  · blk_simp [idx0 t]
    exact congrArg (· + (y 0).val) (Nat.mul_comm 1024 t.val)

/-- What a grid point of the second call stores. -/
theorem point1 (c : Dev nD) (t : Fin cfg1.N) (y : S1024x1024.Idx) :
    (out1_2 (iblk1 V c 0 t) (iblk1 V c 1 t) y : EReal)
      = dot (fun k : Fin 2048 => iblk1 V c 0 t (ix2 (y 0) k)) (fun k : Fin 2048 => iblk1 V c 1 t (ix2 k (y 1))) := by
  unfold out1_2
  frame_out
  obtain ⟨p, q, rfl⟩ : ∃ (p q : Fin 1024), y = ix2 p q := ⟨y 0, y 1, eq_ix2 y⟩
  exact pay1 _ _ p q

theorem lt_left (t : Fin cfg1.N) (r : Fin 1024) : 1024 * (t.val % 9) + r.val < 9216 := by omega
theorem lt_right (t : Fin cfg1.N) (r : Fin 1024) : 1024 * (t.val / 9) + r.val < 13312 := by
  have h : t.val < 117 := t.isLt
  omega

/-- The window of the rows. -/
theorem block_a (c : Dev nD) (t : Fin cfg1.N) (r : Fin 1024) (k : Fin 2048) :
    iblk1 V c 0 t (ix2 r k) = V c main_v15 (ix2 ⟨1024 * (t.val % 9) + r.val, lt_left t r⟩ k) := by
  blk_ext [iblk1, idx1 t]

/-- The window of the weights' columns. -/
theorem block_w (c : Dev nD) (t : Fin cfg1.N) (k : Fin 2048) (r : Fin 1024) :
    iblk1 V c 1 t (ix2 k r) = V c main_v14 (ix2 k ⟨1024 * (t.val / 9) + r.val, lt_right t r⟩) := by
  blk_ext [iblk1, idx1 t]

/-- The second call's array. -/
theorem final1 (c : Dev nD) : (dat1 V c).arrAt 2 cfg1.N
    = fun i => dot (fun k : Fin 2048 => V c main_v15 (ix2 (i 0) k)) (fun k : Fin 2048 => V c main_v14 (ix2 k (i 1))) := by
  refine (dat1 V c).arrAt_eq_of_covers 2 _ (by decide +kernel) fun t hf y => ?_
  rw [after1_2]
  blk_simp [idx1 t]
  refine ((point1 V c t y).trans (dot_congr (fun k => block_a V c t (y 0) k) (fun k => block_w V c t k (y 1)))).trans ?_
  refine congrArg₂ (fun (a : Fin 9216) (b : Fin 13312) => dot (fun k : Fin 2048 => V c main_v15 (ix2 a k)) (fun k : Fin 2048 => V c main_v14 (ix2 k b))) (Fin.ext ?_) (Fin.ext ?_)
  · blk_simp [idx1 t]
    exact congrArg (· + (y 0).val) (Nat.mul_comm 1024 (t.val % 9))
  · blk_simp [idx1 t]
    exact congrArg (· + (y 1).val) (Nat.mul_comm 1024 (t.val / 9))

end

end Cert.InProjIdeal.Gen
-- ==== Proof.InProjCols.lean ====
module

public import proofs.«01_k».proof.Proof.InProjArray

/-!
The weights' columns in the order the kernel lays them out, and the projection's array read by the original columns.
-/

@[expose] public section

set_option maxRecDepth 16384

noncomputable section

open Idealize.ShloMosaic Idealize.ShloMosaic.TcCoe Idealize.SL.Sem
open Idealize.ShloMosaic.Pipeline (Dat)

namespace Cert.InProjIdeal.Gen
variable (m : (ℓ : Loc nD τ sig) → Buf (Elt Ideal) ℓ) (ρ : Dev nD → PrngReg)

/-- Element `(k, j)` of the weights. -/
def weight (c : Dev nD) (k : Fin 2048) (j : Fin 13248) : EReal := m ((c : Thread nD τ).loc main_arg4) (ix3 0 k j)

/-- Row `R` of the inputs: the prompt's rows, then the sample's. -/
def input (c : Dev nD) (R : Fin 9216) (k : Fin 2048) : EReal :=
  rows (fun r => m ((c : Thread nD τ).loc main_arg0) (ix3 0 r k))
    (fun r => m ((c : Thread nD τ).loc main_arg1) (ix3 ⟨r.val / 8, by omega⟩ ⟨r.val % 8, by omega⟩ k)) R

/-- Element `(R, j)` of the projection. -/
def proj (c : Dev nD) (R : Fin 9216) (j : Fin 13248) : EReal := dot (input m c R) (fun k => weight m c k j)

/-- The weights have one leading axis of extent one: dropping it moves no element. -/
theorem drop_lead (x : FVec Ideal S1x2048x13248 .f32) (k : Fin 2048) (j : Fin 13248) :
    shapeCast S2048x13248 x shapeCasts_S1x2048x13248_S2048x13248 (ix2 k j) = x (ix3 0 k j) := by
  pointwise

/-- Columns padded on the right from 96 to 128 keep their first 96. -/
theorem read_pad (x : FVec Ideal S2048x96 .f32) (v : FVec Ideal S_ .f32) (k : Fin 2048) (j : Fin 128) (hj : j.val < 96) :
    pad S2048x128 ![0, 0] ![0, 32] ![0, 0] x v pads_S2048x96_S2048x128_000_0320 h_S_ (ix2 k j) = x (ix2 k ⟨j.val, hj⟩) := by
  pointwise
  rw [dif_pos hj]

/-- The decay columns cut from the weights. -/
theorem read_decay (x : FVec Ideal S2048x13248 .f32) (k : Fin 2048) (j : Fin 96) :
    extractStridedSlice S2048x96 ![0, 6144] x slices_S2048x13248_S2048x96_0_6144 (ix2 k j) = x (ix2 k ⟨6144 + j.val, by omega⟩) := by
  pointwise

/-- The in-context rate columns cut from the weights. -/
theorem read_rate (x : FVec Ideal S2048x13248 .f32) (k : Fin 2048) (j : Fin 96) :
    extractStridedSlice S2048x96 ![0, 6240] x slices_S2048x13248_S2048x96_0_6240 (ix2 k j) = x (ix2 k ⟨6240 + j.val, by omega⟩) := by
  pointwise

/-- The prompt's rows as the first call finds them. -/
theorem prompt_rows (c : Dev nD) (r : Fin 8192) (k : Fin 2048) :
    V5 m ρ c main_v0 (ix2 r k) = m ((c : Thread nD τ).loc main_arg0) (ix3 0 r k) := by
  dsimp only [V5, W5, W4, W3, W2, W1]
  after_reads_simp
  pointwise

/-- The sample's rows as the first call finds them. -/
theorem sample_rows (c : Dev nD) (r : Fin 1024) (k : Fin 2048) :
    V5 m ρ c main_v1 (ix2 r k) = m ((c : Thread nD τ).loc main_arg1) (ix3 ⟨r.val / 8, by omega⟩ ⟨r.val % 8, by omega⟩ k) := by
  dsimp only [V5, W5, W4, W3, W2, W1]
  after_reads_simp
  pointwise

theorem lt_a (j : Fin 6144) : 0 + j.val < 13312 := by omega
theorem lt_a' (j : Fin 6144) : 0 + j.val < 13248 := by omega

/-- The laid-out weights' own columns. -/
theorem cols_a (c : Dev nD) (k : Fin 2048) (j : Fin 6144) :
    V5 m ρ c main_v14 (ix2 k ⟨0 + j.val, lt_a j⟩) = weight m c k ⟨0 + j.val, lt_a' j⟩ := by
  dsimp only [V5, W5, W4, W3, W2, W1]
  after_reads_simp
  pointwise
  after_reads_simp
  pointwise
  exact congrArg (fun x => m ((c : Thread nD τ).loc main_arg4) (ix3 0 k x)) (Fin.ext rfl)

theorem lt_q (j : Fin 2048) : 6144 + j.val < 13312 := by omega
theorem lt_q' (j : Fin 2048) : 6592 + j.val < 13248 := by omega

/-- The laid-out weights' query columns. -/
theorem cols_q (c : Dev nD) (k : Fin 2048) (j : Fin 2048) :
    V5 m ρ c main_v14 (ix2 k ⟨6144 + j.val, lt_q j⟩) = weight m c k ⟨6592 + j.val, lt_q' j⟩ := by
  dsimp only [V5, W5, W4, W3, W2, W1]
  after_reads_simp
  pointwise
  after_reads_simp
  pointwise
  exact congrArg (fun x => m ((c : Thread nD τ).loc main_arg4) (ix3 0 k x)) (Fin.ext rfl)

theorem lt_g (j : Fin 4096) : 8192 + j.val < 13312 := by omega
theorem lt_g' (j : Fin 4096) : 9152 + j.val < 13248 := by omega

/-- The laid-out weights' gate columns. -/
theorem cols_g (c : Dev nD) (k : Fin 2048) (j : Fin 4096) :
    V5 m ρ c main_v14 (ix2 k ⟨8192 + j.val, lt_g j⟩) = weight m c k ⟨9152 + j.val, lt_g' j⟩ := by
  dsimp only [V5, W5, W4, W3, W2, W1]
  after_reads_simp
  pointwise
  after_reads_simp
  pointwise
  rw [dif_neg (by omega), dif_neg (by omega), dif_pos (by omega)]
  exact congrArg (fun x => m ((c : Thread nD τ).loc main_arg4) (ix3 0 k x)) (Fin.ext (by dsimp only; omega))

theorem lt_d (j : Fin 96) : 12288 + j.val < 13312 := by omega
theorem lt_d' (j : Fin 96) : 6144 + j.val < 13248 := by omega

/-- The laid-out weights' decay columns. -/
theorem cols_d (c : Dev nD) (k : Fin 2048) (j : Fin 96) :
    V5 m ρ c main_v14 (ix2 k ⟨12288 + j.val, lt_d j⟩) = weight m c k ⟨6144 + j.val, lt_d' j⟩ := by
  dsimp only [V5, W5, W4, W3, W2, W1]
  after_reads_simp
  pointwise
  after_reads_simp
  pointwise
  rw [dif_neg (by omega), dif_neg (by omega), dif_neg (by omega), dif_pos (by omega)]
  refine (read_pad _ _ k _ (by dsimp only; omega)).trans ?_
  refine (read_decay (fun i => m ((c : Thread nD τ).loc main_arg4) (ix3 0 (i 0) (i 1))) k ⟨12288 + j.val - 6144 - 2048 - 4096, by omega⟩).trans ?_
  exact congrArg (fun x => m ((c : Thread nD τ).loc main_arg4) (ix3 0 k x)) (Fin.ext (show 6144 + (12288 + j.val - 6144 - 2048 - 4096) = 6144 + j.val by omega))

theorem lt_i (j : Fin 96) : 12416 + j.val < 13312 := by omega
theorem lt_i' (j : Fin 96) : 6240 + j.val < 13248 := by omega

/-- The laid-out weights' in-context rate columns. -/
theorem cols_i (c : Dev nD) (k : Fin 2048) (j : Fin 96) :
    V5 m ρ c main_v14 (ix2 k ⟨12416 + j.val, lt_i j⟩) = weight m c k ⟨6240 + j.val, lt_i' j⟩ := by
  dsimp only [V5, W5, W4, W3, W2, W1]
  after_reads_simp
  pointwise
  after_reads_simp
  pointwise
  rw [dif_neg (by omega), dif_neg (by omega), dif_neg (by omega), dif_neg (by omega), dif_pos (by omega)]
  refine (read_pad _ _ k _ (by dsimp only; omega)).trans ?_
  refine (read_rate (fun i => m ((c : Thread nD τ).loc main_arg4) (ix3 0 (i 0) (i 1))) k ⟨12416 + j.val - 6144 - 2048 - 4096 - 128, by omega⟩).trans ?_
  exact congrArg (fun x => m ((c : Thread nD τ).loc main_arg4) (ix3 0 k x)) (Fin.ext (show 6240 + (12416 + j.val - 6144 - 2048 - 4096 - 128) = 6240 + j.val by omega))

theorem lt_o (j : Fin 256) : 12544 + j.val < 13312 := by omega
theorem lt_o' (j : Fin 256) : 6336 + j.val < 13248 := by omega

/-- The laid-out weights' output gate columns. -/
theorem cols_o (c : Dev nD) (k : Fin 2048) (j : Fin 256) :
    V5 m ρ c main_v14 (ix2 k ⟨12544 + j.val, lt_o j⟩) = weight m c k ⟨6336 + j.val, lt_o' j⟩ := by
  dsimp only [V5, W5, W4, W3, W2, W1]
  after_reads_simp
  pointwise
  after_reads_simp
  pointwise
  rw [dif_neg (by omega), dif_neg (by omega), dif_neg (by omega), dif_neg (by omega), dif_neg (by omega), dif_pos (by omega)]
  exact congrArg (fun x => m ((c : Thread nD τ).loc main_arg4) (ix3 0 k x)) (Fin.ext (by dsimp only; omega))

theorem lt_k (j : Fin 256) : 12800 + j.val < 13312 := by omega
theorem lt_k' (j : Fin 256) : 8640 + j.val < 13248 := by omega

/-- The laid-out weights' key columns. -/
theorem cols_k (c : Dev nD) (k : Fin 2048) (j : Fin 256) :
    V5 m ρ c main_v14 (ix2 k ⟨12800 + j.val, lt_k j⟩) = weight m c k ⟨8640 + j.val, lt_k' j⟩ := by
  dsimp only [V5, W5, W4, W3, W2, W1]
  after_reads_simp
  pointwise
  after_reads_simp
  pointwise
  rw [dif_neg (by omega), dif_neg (by omega), dif_neg (by omega), dif_neg (by omega), dif_neg (by omega), dif_neg (by omega), dif_pos (by omega)]
  exact congrArg (fun x => m ((c : Thread nD τ).loc main_arg4) (ix3 0 k x)) (Fin.ext (by dsimp only; omega))

theorem lt_v (j : Fin 256) : 13056 + j.val < 13312 := by omega
theorem lt_v' (j : Fin 256) : 8896 + j.val < 13248 := by omega

/-- The laid-out weights' value columns. -/
theorem cols_v (c : Dev nD) (k : Fin 2048) (j : Fin 256) :
    V5 m ρ c main_v14 (ix2 k ⟨13056 + j.val, lt_v j⟩) = weight m c k ⟨8896 + j.val, lt_v' j⟩ := by
  dsimp only [V5, W5, W4, W3, W2, W1]
  after_reads_simp
  pointwise
  after_reads_simp
  pointwise
  rw [dif_neg (by omega), dif_neg (by omega), dif_neg (by omega), dif_neg (by omega), dif_neg (by omega), dif_neg (by omega), dif_neg (by omega)]
  exact congrArg (fun x => m ((c : Thread nD τ).loc main_arg4) (ix3 0 k x)) (Fin.ext (by dsimp only; omega))

end Cert.InProjIdeal.Gen
-- ==== Proof.InProjVals.lean ====
module

public import proofs.«01_k».proof.Proof.InProjCols

/-!
The projection's array, read at the columns of the weights, and the results cut from it.
-/

@[expose] public section

set_option maxRecDepth 16384

noncomputable section

open Idealize.ShloMosaic Idealize.ShloMosaic.TcCoe Idealize.SL.Sem
open Idealize.ShloMosaic.Pipeline (Dat)

namespace Cert.InProjIdeal.Gen
variable (m : (ℓ : Loc nD τ sig) → Buf (Elt Ideal) ℓ) (ρ : Dev nD → PrngReg)

/-- Column `j` of the weights lies at column `J` of the laid-out weights. -/
def Laid (J : ℕ) (j : ℕ) : Prop :=
  (j < 6144 ∧ J = j) ∨ (6592 ≤ j ∧ j < 8640 ∧ J + 448 = j) ∨ (9152 ≤ j ∧ j < 13248 ∧ J + 960 = j)
    ∨ (6144 ≤ j ∧ j < 6240 ∧ J = j + 6144) ∨ (6240 ≤ j ∧ j < 6336 ∧ J = j + 6176) ∨ (6336 ≤ j ∧ j < 6592 ∧ J = j + 6208)
    ∨ (8640 ≤ j ∧ j < 8896 ∧ J = j + 4160) ∨ (8896 ≤ j ∧ j < 9152 ∧ J = j + 4160)

/-- A laid-out column holds the weights' column it stands for. -/
theorem cols (c : Dev nD) (k : Fin 2048) (J : Fin 13312) (j : Fin 13248) (h : Laid J.val j.val) :
    V5 m ρ c main_v14 (ix2 k J) = weight m c k j := by
  obtain ⟨J, hJ⟩ := J
  obtain ⟨j, hj⟩ := j
  dsimp only [Laid] at h
  rcases h with h | h | h | h | h | h | h | h
  · obtain ⟨e, rfl⟩ : ∃ e, j = 0 + e := ⟨j - 0, by omega⟩
    obtain rfl : J = 0 + e := by omega
    exact cols_a m ρ c k ⟨e, by omega⟩
  · obtain ⟨e, rfl⟩ : ∃ e, j = 6592 + e := ⟨j - 6592, by omega⟩
    obtain rfl : J = 6144 + e := by omega
    exact cols_q m ρ c k ⟨e, by omega⟩
  · obtain ⟨e, rfl⟩ : ∃ e, j = 9152 + e := ⟨j - 9152, by omega⟩
    obtain rfl : J = 8192 + e := by omega
    exact cols_g m ρ c k ⟨e, by omega⟩
  · obtain ⟨e, rfl⟩ : ∃ e, j = 6144 + e := ⟨j - 6144, by omega⟩
    obtain rfl : J = 12288 + e := by omega
    exact cols_d m ρ c k ⟨e, by omega⟩
  · obtain ⟨e, rfl⟩ : ∃ e, j = 6240 + e := ⟨j - 6240, by omega⟩
    obtain rfl : J = 12416 + e := by omega
    exact cols_i m ρ c k ⟨e, by omega⟩
  · obtain ⟨e, rfl⟩ : ∃ e, j = 6336 + e := ⟨j - 6336, by omega⟩
    obtain rfl : J = 12544 + e := by omega
    exact cols_o m ρ c k ⟨e, by omega⟩
  · obtain ⟨e, rfl⟩ : ∃ e, j = 8640 + e := ⟨j - 8640, by omega⟩
    obtain rfl : J = 12800 + e := by omega
    exact cols_k m ρ c k ⟨e, by omega⟩
  · obtain ⟨e, rfl⟩ : ∃ e, j = 8896 + e := ⟨j - 8896, by omega⟩
    obtain rfl : J = 13056 + e := by omega
    exact cols_v m ρ c k ⟨e, by omega⟩

/-- The second call finds the rows that the first has put one after the other. -/
theorem input_rows (c : Dev nD) (R : Fin 9216) (k : Fin 2048) : V6 m ρ c main_v15 (ix2 R k) = input m c R k := by
  have h := (hF0 m ρ c 2).symm.trans (final0 (V5 m ρ) c)
  refine (congrFun h (ix2 R k)).trans ?_
  exact congrArg₂ (fun a b => rows a b R) (funext fun r => prompt_rows m ρ c r k) (funext fun r => sample_rows m ρ c r k)

/-- The projection's array at a laid-out column. -/
theorem arr (c : Dev nD) (R : Fin 9216) (J : Fin 13312) (j : Fin 13248) (h : Laid J.val j.val) :
    W7 m ρ c (Proc.devRef .tc main_v16) (ix2 R J) = proj m c R j := by
  have e := (hF1 m ρ c 2).symm.trans (final1 (V6 m ρ) c)
  refine (congrFun e (ix2 R J)).trans ?_
  refine dot_congr (fun k => input_rows m ρ c R k) (fun k => ?_)
  exact (congrFun (W6_of m ρ c main_v14 (by decide)) (ix2 k J)).trans (cols m ρ c k J j h)

/-- The columns of the recurrence, all rows. -/
theorem out_rw (c : Dev nD) (R : Fin 9216) (j : Fin 6592) :
    W8 m ρ c (Proc.devRef .tc main_v54) (ix2 R j) = proj m c R ⟨j.val, by omega⟩ := by
  dsimp only [W8]
  after_reads_simp
  pointwise
  after_reads_simp
  pointwise
  split_ifs with h1 h2 h3 <;> exact arr m ρ c _ _ _ (by dsimp only [Laid]; omega)

/-- The attention's query columns, all rows. -/
theorem out_q (c : Dev nD) (R : Fin 9216) (j : Fin 2048) :
    W8 m ρ c (Proc.devRef .tc main_v55) (ix2 R j) = proj m c R ⟨6592 + j.val, by omega⟩ := by
  dsimp only [W8]
  after_reads_simp
  pointwise
  exact arr m ρ c _ _ _ (by dsimp only [Laid]; omega)

/-- The gate columns, all rows. -/
theorem out_gates (c : Dev nD) (R : Fin 9216) (j : Fin 4096) :
    W8 m ρ c (Proc.devRef .tc main_v56) (ix2 R j) = proj m c R ⟨9152 + j.val, by omega⟩ := by
  dsimp only [W8]
  after_reads_simp
  pointwise
  exact arr m ρ c _ _ _ (by dsimp only [Laid]; omega)

/-- The attention's key columns, all rows. -/
theorem out_k (c : Dev nD) (R : Fin 9216) (j : Fin 256) :
    W8 m ρ c (Proc.devRef .tc main_v57) (ix2 R j) = proj m c R ⟨8640 + j.val, by omega⟩ := by
  dsimp only [W8]
  after_reads_simp
  pointwise
  exact arr m ρ c _ _ _ (by dsimp only [Laid]; omega)

/-- The attention's value columns, all rows. -/
theorem out_v (c : Dev nD) (R : Fin 9216) (j : Fin 256) :
    W8 m ρ c (Proc.devRef .tc main_v58) (ix2 R j) = proj m c R ⟨8896 + j.val, by omega⟩ := by
  dsimp only [W8]
  after_reads_simp
  pointwise
  exact arr m ρ c _ _ _ (by dsimp only [Laid]; omega)

/-- The recurrence's columns of the prompt's last row. -/
theorem out_last (c : Dev nD) (j : Fin 6592) :
    W8 m ρ c (Proc.devRef .tc main_v59) (ix3 0 0 j) = proj m c ⟨8191, by omega⟩ ⟨j.val, by omega⟩ := by
  dsimp only [W8]
  after_reads_simp
  pointwise
  after_reads_simp
  pointwise
  split_ifs with h1 h2 h3 <;> exact arr m ρ c _ _ _ (by dsimp only [Laid]; omega)

/-- The keys of the prompt's last window. -/
theorem out_pk (c : Dev nD) (r : Fin 128) (g : Fin 4) (e : Fin 64) :
    W8 m ρ c (Proc.devRef .tc main_v60) (ix5 0 0 r g e) = proj m c ⟨8064 + r.val, by omega⟩ ⟨8640 + (g.val * 64 + e.val), by omega⟩ := by
  dsimp only [W8]
  after_reads_simp
  pointwise
  exact arr m ρ c _ _ _ (by dsimp only [Laid]; omega)

/-- The values of the prompt's last window. -/
theorem out_pv (c : Dev nD) (r : Fin 128) (g : Fin 4) (e : Fin 64) :
    W8 m ρ c (Proc.devRef .tc main_v61) (ix5 0 0 r g e) = proj m c ⟨8064 + r.val, by omega⟩ ⟨8896 + (g.val * 64 + e.val), by omega⟩ := by
  dsimp only [W8]
  after_reads_simp
  pointwise
  exact arr m ρ c _ _ _ (by dsimp only [Laid]; omega)

/-- The recurrence's columns of each sample's last row. -/
theorem out_shift (c : Dev nD) (b : Fin 128) (j : Fin 6592) :
    W8 m ρ c (Proc.devRef .tc main_v62) (ix3 0 b j) = proj m c ⟨8192 + (b.val * 8 + 7), by omega⟩ ⟨j.val, by omega⟩ := by
  dsimp only [W8]
  after_reads_simp
  pointwise
  by_cases h1 : j.val < 6144
  · rw [dif_pos h1]
    after_reads_simp
    pointwise
    exact arr m ρ c _ _ _ (by dsimp only [Laid]; omega)
  rw [dif_neg h1]
  by_cases h2 : j.val - 6144 < 96
  · rw [dif_pos h2]
    after_reads_simp
    pointwise
    exact arr m ρ c _ _ _ (by dsimp only [Laid]; omega)
  rw [dif_neg h2]
  by_cases h3 : j.val - 6144 - 96 < 96
  · rw [dif_pos h3]
    after_reads_simp
    pointwise
    exact arr m ρ c _ _ _ (by dsimp only [Laid]; omega)
  rw [dif_neg h3]
  after_reads_simp
  pointwise
  exact arr m ρ c _ _ _ (by dsimp only [Laid]; omega)

/-- The sample's key window, eight rows on. -/
theorem out_sk (c : Dev nD) (b : Fin 128) (s : Fin 128) (g : Fin 4) (e : Fin 64) :
    W8 m ρ c (Proc.devRef .tc main_v63) (ix5 0 b s g e) = (if h : s.val < 120 then m ((c : Thread nD τ).loc main_arg2) (ix5 0 b ⟨8 + s.val, by omega⟩ g e) else proj m c ⟨8192 + (b.val * 8 + (s.val - 120)), by omega⟩ ⟨8640 + (g.val * 64 + e.val), by omega⟩) := by
  dsimp only [W8]
  after_reads_simp
  pointwise
  by_cases h : s.val < 120
  · rw [dif_pos h, dif_pos h]
    after_reads_simp
    pointwise
    exact congrFun (W7_args m ρ c main_arg2 (by decide)) _
  · rw [dif_neg h, dif_neg h]
    after_reads_simp
    pointwise
    exact arr m ρ c _ _ _ (by dsimp only [Laid]; omega)

/-- The sample's value window, eight rows on. -/
theorem out_sv (c : Dev nD) (b : Fin 128) (s : Fin 128) (g : Fin 4) (e : Fin 64) :
    W8 m ρ c (Proc.devRef .tc main_v64) (ix5 0 b s g e) = (if h : s.val < 120 then m ((c : Thread nD τ).loc main_arg3) (ix5 0 b ⟨8 + s.val, by omega⟩ g e) else proj m c ⟨8192 + (b.val * 8 + (s.val - 120)), by omega⟩ ⟨8896 + (g.val * 64 + e.val), by omega⟩) := by
  dsimp only [W8]
  after_reads_simp
  pointwise
  by_cases h : s.val < 120
  · rw [dif_pos h, dif_pos h]
    after_reads_simp
    pointwise
    exact congrFun (W7_args m ρ c main_arg3 (by decide)) _
  · rw [dif_neg h, dif_neg h]
    after_reads_simp
    pointwise
    exact arr m ρ c _ _ _ (by dsimp only [Laid]; omega)

end Cert.InProjIdeal.Gen
-- ==== Proof.InProjRun.lean ====
module

public import proofs.«01_k».proof.Proof.Gen.InProjIdeal.Frame

/-!
The run of the combined projection: it ends with every array of the host at the contents of its last boundary.
-/

@[expose] public section

set_option maxRecDepth 16384

noncomputable section

namespace Cert.InProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with each unscoped array at the last boundary's contents. -/
theorem ends : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz c => h c)

/-- What an array of the host holds at the end. -/
def atEnd (c : Dev nD) (b : Ref sig .tc) : Buf (Elt F) ((c : Thread nD τ).loc b) := W8 m ρ c (Proc.devRef .tc b)

/-- An array of the host, read in a memory that holds the last boundary's contents. -/
theorem read_end (c : Dev nD) (mem : (ℓ : Loc nD τ sig) → Buf (Elt F) ℓ)
    (h : ∀ b ∈ Pipeline.ucRefs τ sig, mem (((c : Thread nD τ)).1, b) = W8 m ρ c b)
    (b : Ref sig .tc) (hb : ¬ (Proc.devRef .tc b : DevRef τ sig).isScoped) : mem ((c : Thread nD τ).loc b) = atEnd m ρ c b :=
  h _ (mem_uc b hb)

/-- The results and the arguments at the end of every execution. -/
theorem run : θ_run defs (onTc (τ := τ) (main (F := F))) ⟨m, fun _ => 0, ρ⟩ (fun r => ∀ c : Dev nD,
      r.2.mem ((c.tc : Thread nD τ).loc main_v54) = atEnd m ρ c main_v54
      ∧ r.2.mem ((c.tc : Thread nD τ).loc main_v55) = atEnd m ρ c main_v55
      ∧ r.2.mem ((c.tc : Thread nD τ).loc main_v57) = atEnd m ρ c main_v57
      ∧ r.2.mem ((c.tc : Thread nD τ).loc main_v58) = atEnd m ρ c main_v58
      ∧ r.2.mem ((c.tc : Thread nD τ).loc main_v56) = atEnd m ρ c main_v56
      ∧ r.2.mem ((c.tc : Thread nD τ).loc main_v59) = atEnd m ρ c main_v59
      ∧ r.2.mem ((c.tc : Thread nD τ).loc main_v60) = atEnd m ρ c main_v60
      ∧ r.2.mem ((c.tc : Thread nD τ).loc main_v61) = atEnd m ρ c main_v61
      ∧ r.2.mem ((c.tc : Thread nD τ).loc main_v62) = atEnd m ρ c main_v62
      ∧ r.2.mem ((c.tc : Thread nD τ).loc main_v63) = atEnd m ρ c main_v63
      ∧ r.2.mem ((c.tc : Thread nD τ).loc main_v64) = atEnd m ρ c main_v64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨read_end m ρ c _ (h c) main_v54 (by decide), read_end m ρ c _ (h c) main_v55 (by decide), read_end m ρ c _ (h c) main_v57 (by decide),
      read_end m ρ c _ (h c) main_v58 (by decide), read_end m ρ c _ (h c) main_v56 (by decide), read_end m ρ c _ (h c) main_v59 (by decide),
      read_end m ρ c _ (h c) main_v60 (by decide), read_end m ρ c _ (h c) main_v61 (by decide), read_end m ρ c _ (h c) main_v62 (by decide),
      read_end m ρ c _ (h c) main_v63 (by decide), read_end m ρ c _ (h c) main_v64 (by decide),
      (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c)⟩) (ends m ρ)

end Cert.InProjIdeal.Gen
-- ==== Proof.InProjRef.lean ====
module

public import proofs.«01_k».proof.Proof.Gen.InProjRefIdeal.Run
public import proofs.«01_k».proof.Proof.InProjArray
public import Idealize.ShloMosaic.Lib.Pointwise

/-!
The reference's results, cut from the products of the prompt's and of the sample's rows with the weights, and read
at an index.
-/

@[expose] public section

set_option maxRecDepth 16384

noncomputable section

open Idealize.ShloMosaic Idealize.ShloMosaic.TcCoe Idealize.SL.Sem

namespace Cert.InProjRefIdeal.Steps
open Cert.InProjRefIdeal Cert.InProjRefIdeal.Gen
open Cert.InProjIdeal.Gen (dot)

/-- The prompt's rows times the weights. -/
def prodP (x : FVec Ideal S1x8192x2048 .f32) (w : FVec Ideal S1x2048x13248 .f32) : FVec Ideal S1x8192x13248 .f32 :=
  Host.dotGeneral (F := Ideal) dot_S1x8192x2048_S2048x13248_S1x8192x13248_2_0_01_1_n_n none x (shapeCast S2048x13248 w shapeCasts_S1x2048x13248_S2048x13248)

/-- The product of the prompt's rows with the weights. -/
theorem prod_p (x : FVec Ideal S1x8192x2048 .f32) (w : FVec Ideal S1x2048x13248 .f32) (r : Fin 8192) (j : Fin 13248) :
    (prodP x w (ix3 0 r j) : EReal)
      = dot (fun k : Fin 2048 => x (ix3 0 r k)) (fun k : Fin 2048 => w (ix3 0 k j)) := by
  pointwise [prodP, dot]

/-- The sample's rows times the weights. -/
def prodS (x : FVec Ideal S128x8x2048 .f32) (w : FVec Ideal S1x2048x13248 .f32) : FVec Ideal S128x8x13248 .f32 :=
  Host.dotGeneral (F := Ideal) dot_S128x8x2048_S2048x13248_S128x8x13248_2_0_01_1_n_n none x (shapeCast S2048x13248 w shapeCasts_S1x2048x13248_S2048x13248)

/-- The product of the sample's rows with the weights. -/
theorem prod_s (x : FVec Ideal S128x8x2048 .f32) (w : FVec Ideal S1x2048x13248 .f32) (b : Fin 128) (s : Fin 8) (j : Fin 13248) :
    (prodS x w (ix3 b s j) : EReal)
      = dot (fun k : Fin 2048 => x (ix3 b s k)) (fun k : Fin 2048 => w (ix3 0 k j)) := by
  pointwise [prodS, dot]

/-- The reference's recurrence's columns. -/
def res_rw (P : FVec Ideal S1x8192x13248 .f32) (S : FVec Ideal S128x8x13248 .f32) : FVec Ideal S9216x6592 .f32 :=
  concatenate S9216x6592 0 [⟨S8192x6592, (shapeCast _ (extractStridedSlice S1x8192x6592 ![0, 0, 0] P slices_S1x8192x13248_S1x8192x6592_0_0_0) shapeCasts_S1x8192x6592_S8192x6592)⟩, ⟨S1024x6592, (shapeCast _ (extractStridedSlice S128x8x6592 ![0, 0, 0] S slices_S128x8x13248_S128x8x6592_0_0_0) shapeCasts_S128x8x6592_S1024x6592)⟩] concatenates_S8192x6592_S1024x6592_S9216x6592_d0

/-- The reference's attention's query columns. -/
def res_q (P : FVec Ideal S1x8192x13248 .f32) (S : FVec Ideal S128x8x13248 .f32) : FVec Ideal S9216x2048 .f32 :=
  concatenate S9216x2048 0 [⟨S8192x2048, (shapeCast _ (extractStridedSlice S1x8192x2048 ![0, 0, 6592] P slices_S1x8192x13248_S1x8192x2048_0_0_6592) shapeCasts_S1x8192x2048_S8192x2048)⟩, ⟨S1024x2048, (shapeCast _ (extractStridedSlice S128x8x2048 ![0, 0, 6592] S slices_S128x8x13248_S128x8x2048_0_0_6592) shapeCasts_S128x8x2048_S1024x2048)⟩] concatenates_S8192x2048_S1024x2048_S9216x2048_d0

/-- The reference's attention's key columns. -/
def res_k (P : FVec Ideal S1x8192x13248 .f32) (S : FVec Ideal S128x8x13248 .f32) : FVec Ideal S9216x256 .f32 :=
  concatenate S9216x256 0 [⟨S8192x256, (shapeCast _ (shapeCast _ (extractStridedSlice S1x8192x256 ![0, 0, 8640] P slices_S1x8192x13248_S1x8192x256_0_0_8640) shapeCasts_S1x8192x256_S1x8192x4x64) shapeCasts_S1x8192x4x64_S8192x256)⟩, ⟨S1024x256, (shapeCast _ (shapeCast _ (extractStridedSlice S128x8x256 ![0, 0, 8640] S slices_S128x8x13248_S128x8x256_0_0_8640) shapeCasts_S128x8x256_S128x8x4x64) shapeCasts_S128x8x4x64_S1024x256)⟩] concatenates_S8192x256_S1024x256_S9216x256_d0

/-- The reference's attention's value columns. -/
def res_v (P : FVec Ideal S1x8192x13248 .f32) (S : FVec Ideal S128x8x13248 .f32) : FVec Ideal S9216x256 .f32 :=
  concatenate S9216x256 0 [⟨S8192x256, (shapeCast _ (shapeCast _ (extractStridedSlice S1x8192x256 ![0, 0, 8896] P slices_S1x8192x13248_S1x8192x256_0_0_8896) shapeCasts_S1x8192x256_S1x8192x4x64) shapeCasts_S1x8192x4x64_S8192x256)⟩, ⟨S1024x256, (shapeCast _ (shapeCast _ (extractStridedSlice S128x8x256 ![0, 0, 8896] S slices_S128x8x13248_S128x8x256_0_0_8896) shapeCasts_S128x8x256_S128x8x4x64) shapeCasts_S128x8x4x64_S1024x256)⟩] concatenates_S8192x256_S1024x256_S9216x256_d0

/-- The reference's gate columns. -/
def res_gates (P : FVec Ideal S1x8192x13248 .f32) (S : FVec Ideal S128x8x13248 .f32) : FVec Ideal S9216x4096 .f32 :=
  concatenate S9216x4096 0 [⟨S8192x4096, (shapeCast _ (extractStridedSlice S1x8192x4096 ![0, 0, 9152] P slices_S1x8192x13248_S1x8192x4096_0_0_9152) shapeCasts_S1x8192x4096_S8192x4096)⟩, ⟨S1024x4096, (shapeCast _ (extractStridedSlice S128x8x4096 ![0, 0, 9152] S slices_S128x8x13248_S128x8x4096_0_0_9152) shapeCasts_S128x8x4096_S1024x4096)⟩] concatenates_S8192x4096_S1024x4096_S9216x4096_d0

/-- The reference's recurrence's columns of the prompt's last row. -/
def res_last (P : FVec Ideal S1x8192x13248 .f32) : FVec Ideal S1x1x6592 .f32 :=
  broadcastInDim S1x1x6592 ![1, 2] bcast_S1x6592_S1x1x6592_1_2 (shapeCast _ (extractStridedSlice S1x1x6592 ![0, 8191, 0] (extractStridedSlice S1x8192x6592 ![0, 0, 0] P slices_S1x8192x13248_S1x8192x6592_0_0_0) slices_S1x8192x6592_S1x1x6592_0_8191_0) shapeCasts_S1x1x6592_S1x6592)

/-- The reference's keys of the prompt's last window. -/
def res_pk (P : FVec Ideal S1x8192x13248 .f32) : FVec Ideal S1x1x128x4x64 .f32 :=
  broadcastInDim S1x1x128x4x64 ![1, 2, 3, 4] bcast_S1x128x4x64_S1x1x128x4x64_1_2_3_4 (extractStridedSlice S1x128x4x64 ![0, 8064, 0, 0] (shapeCast _ (extractStridedSlice S1x8192x256 ![0, 0, 8640] P slices_S1x8192x13248_S1x8192x256_0_0_8640) shapeCasts_S1x8192x256_S1x8192x4x64) slices_S1x8192x4x64_S1x128x4x64_0_8064_0_0)

/-- The reference's values of the prompt's last window. -/
def res_pv (P : FVec Ideal S1x8192x13248 .f32) : FVec Ideal S1x1x128x4x64 .f32 :=
  broadcastInDim S1x1x128x4x64 ![1, 2, 3, 4] bcast_S1x128x4x64_S1x1x128x4x64_1_2_3_4 (extractStridedSlice S1x128x4x64 ![0, 8064, 0, 0] (shapeCast _ (extractStridedSlice S1x8192x256 ![0, 0, 8896] P slices_S1x8192x13248_S1x8192x256_0_0_8896) shapeCasts_S1x8192x256_S1x8192x4x64) slices_S1x8192x4x64_S1x128x4x64_0_8064_0_0)

/-- The reference's recurrence's columns of each sample's last row. -/
def res_shift (S : FVec Ideal S128x8x13248 .f32) : FVec Ideal S1x128x6592 .f32 :=
  broadcastInDim S1x128x6592 ![1, 2] bcast_S128x6592_S1x128x6592_1_2 (shapeCast _ (extractStridedSlice S128x1x6592 ![0, 7, 0] (extractStridedSlice S128x8x6592 ![0, 0, 0] S slices_S128x8x13248_S128x8x6592_0_0_0) slices_S128x8x6592_S128x1x6592_0_7_0) shapeCasts_S128x1x6592_S128x6592)

/-- The reference's sample's key window. -/
def res_sk (x : FVec Ideal S1x128x128x4x64 .f32) (S : FVec Ideal S128x8x13248 .f32) : FVec Ideal S1x128x128x4x64 .f32 :=
  broadcastInDim S1x128x128x4x64 ![1, 2, 3, 4] bcast_S128x128x4x64_S1x128x128x4x64_1_2_3_4 (extractStridedSlice S128x128x4x64 ![0, 8, 0, 0] (concatenate S128x136x4x64 1 [⟨S128x128x4x64, (shapeCast _ x shapeCasts_S1x128x128x4x64_S128x128x4x64)⟩, ⟨S128x8x4x64, (shapeCast _ (extractStridedSlice S128x8x256 ![0, 0, 8640] S slices_S128x8x13248_S128x8x256_0_0_8640) shapeCasts_S128x8x256_S128x8x4x64)⟩] concatenates_S128x128x4x64_S128x8x4x64_S128x136x4x64_d1) slices_S128x136x4x64_S128x128x4x64_0_8_0_0)

/-- The reference's sample's value window. -/
def res_sv (x : FVec Ideal S1x128x128x4x64 .f32) (S : FVec Ideal S128x8x13248 .f32) : FVec Ideal S1x128x128x4x64 .f32 :=
  broadcastInDim S1x128x128x4x64 ![1, 2, 3, 4] bcast_S128x128x4x64_S1x128x128x4x64_1_2_3_4 (extractStridedSlice S128x128x4x64 ![0, 8, 0, 0] (concatenate S128x136x4x64 1 [⟨S128x128x4x64, (shapeCast _ x shapeCasts_S1x128x128x4x64_S128x128x4x64)⟩, ⟨S128x8x4x64, (shapeCast _ (extractStridedSlice S128x8x256 ![0, 0, 8896] S slices_S128x8x13248_S128x8x256_0_0_8896) shapeCasts_S128x8x256_S128x8x4x64)⟩] concatenates_S128x128x4x64_S128x8x4x64_S128x136x4x64_d1) slices_S128x136x4x64_S128x128x4x64_0_8_0_0)

variable (P : FVec Ideal S1x8192x13248 .f32) (S : FVec Ideal S128x8x13248 .f32)

/-- Row `R` of the two products put one after the other. -/
def both (R : Fin 9216) (j : Fin 13248) : EReal :=
  Cert.InProjIdeal.Gen.rows (fun r => P (ix3 0 r j)) (fun r => S (ix3 ⟨r.val / 8, by omega⟩ ⟨r.val % 8, by omega⟩ j)) R

theorem rows_congr {α : Type} {a a' : Fin 8192 → α} {b b' : Fin 1024 → α} (ha : ∀ r, a r = a' r) (hb : ∀ r, b r = b' r) (R : Fin 9216) :
    Cert.InProjIdeal.Gen.rows a b R = Cert.InProjIdeal.Gen.rows a' b' R := by
  obtain rfl : a = a' := funext ha
  obtain rfl : b = b' := funext hb
  rfl

/-- Rows put one after the other, 6592 columns. -/
theorem join_6592 (a : FVec Ideal S8192x6592 .f32) (b : FVec Ideal S1024x6592 .f32) (R : Fin 9216) (j : Fin 6592) :
    concatenate S9216x6592 0 [⟨S8192x6592, a⟩, ⟨S1024x6592, b⟩] concatenates_S8192x6592_S1024x6592_S9216x6592_d0 (ix2 R j)
      = Cert.InProjIdeal.Gen.rows (fun r => a (ix2 r j)) (fun r => b (ix2 r j)) R := by
  pointwise
  rfl

/-- Rows put one after the other, 2048 columns. -/
theorem join_2048 (a : FVec Ideal S8192x2048 .f32) (b : FVec Ideal S1024x2048 .f32) (R : Fin 9216) (j : Fin 2048) :
    concatenate S9216x2048 0 [⟨S8192x2048, a⟩, ⟨S1024x2048, b⟩] concatenates_S8192x2048_S1024x2048_S9216x2048_d0 (ix2 R j)
      = Cert.InProjIdeal.Gen.rows (fun r => a (ix2 r j)) (fun r => b (ix2 r j)) R := by
  pointwise
  rfl

/-- Rows put one after the other, 256 columns. -/
theorem join_256 (a : FVec Ideal S8192x256 .f32) (b : FVec Ideal S1024x256 .f32) (R : Fin 9216) (j : Fin 256) :
    concatenate S9216x256 0 [⟨S8192x256, a⟩, ⟨S1024x256, b⟩] concatenates_S8192x256_S1024x256_S9216x256_d0 (ix2 R j)
      = Cert.InProjIdeal.Gen.rows (fun r => a (ix2 r j)) (fun r => b (ix2 r j)) R := by
  pointwise
  rfl

/-- Rows put one after the other, 4096 columns. -/
theorem join_4096 (a : FVec Ideal S8192x4096 .f32) (b : FVec Ideal S1024x4096 .f32) (R : Fin 9216) (j : Fin 4096) :
    concatenate S9216x4096 0 [⟨S8192x4096, a⟩, ⟨S1024x4096, b⟩] concatenates_S8192x4096_S1024x4096_S9216x4096_d0 (ix2 R j)
      = Cert.InProjIdeal.Gen.rows (fun r => a (ix2 r j)) (fun r => b (ix2 r j)) R := by
  pointwise
  rfl

theorem rw_p (r : Fin 8192) (j : Fin 6592) : (((shapeCast _ (extractStridedSlice S1x8192x6592 ![0, 0, 0] P slices_S1x8192x13248_S1x8192x6592_0_0_0) shapeCasts_S1x8192x6592_S8192x6592) : FVec Ideal S8192x6592 .f32) (ix2 r j)) = P (ix3 0 r ⟨j.val, by omega⟩) := by
  pointwise

theorem rw_s (r : Fin 1024) (j : Fin 6592) : (((shapeCast _ (extractStridedSlice S128x8x6592 ![0, 0, 0] S slices_S128x8x13248_S128x8x6592_0_0_0) shapeCasts_S128x8x6592_S1024x6592) : FVec Ideal S1024x6592 .f32) (ix2 r j)) = S (ix3 ⟨r.val / 8, by omega⟩ ⟨r.val % 8, by omega⟩ ⟨j.val, by omega⟩) := by
  pointwise

/-- The columns of the recurrence, all rows. -/
theorem out_rw (R : Fin 9216) (j : Fin 6592) :
    ((res_rw P S) (ix2 R j) : EReal) = both P S R ⟨j.val, by omega⟩ :=
  (join_6592 _ _ R j).trans (rows_congr (fun r => rw_p P r j) (fun r => rw_s S r j) R)

theorem q_p (r : Fin 8192) (j : Fin 2048) : (((shapeCast _ (extractStridedSlice S1x8192x2048 ![0, 0, 6592] P slices_S1x8192x13248_S1x8192x2048_0_0_6592) shapeCasts_S1x8192x2048_S8192x2048) : FVec Ideal S8192x2048 .f32) (ix2 r j)) = P (ix3 0 r ⟨6592 + j.val, by omega⟩) := by
  pointwise

theorem q_s (r : Fin 1024) (j : Fin 2048) : (((shapeCast _ (extractStridedSlice S128x8x2048 ![0, 0, 6592] S slices_S128x8x13248_S128x8x2048_0_0_6592) shapeCasts_S128x8x2048_S1024x2048) : FVec Ideal S1024x2048 .f32) (ix2 r j)) = S (ix3 ⟨r.val / 8, by omega⟩ ⟨r.val % 8, by omega⟩ ⟨6592 + j.val, by omega⟩) := by
  pointwise

/-- The attention's query columns, all rows. -/
theorem out_q (R : Fin 9216) (j : Fin 2048) :
    ((res_q P S) (ix2 R j) : EReal) = both P S R ⟨6592 + j.val, by omega⟩ :=
  (join_2048 _ _ R j).trans (rows_congr (fun r => q_p P r j) (fun r => q_s S r j) R)

theorem k_p (r : Fin 8192) (j : Fin 256) : (((shapeCast _ (shapeCast _ (extractStridedSlice S1x8192x256 ![0, 0, 8640] P slices_S1x8192x13248_S1x8192x256_0_0_8640) shapeCasts_S1x8192x256_S1x8192x4x64) shapeCasts_S1x8192x4x64_S8192x256) : FVec Ideal S8192x256 .f32) (ix2 r j)) = P (ix3 0 r ⟨8640 + j.val, by omega⟩) := by
  pointwise

theorem k_s (r : Fin 1024) (j : Fin 256) : (((shapeCast _ (shapeCast _ (extractStridedSlice S128x8x256 ![0, 0, 8640] S slices_S128x8x13248_S128x8x256_0_0_8640) shapeCasts_S128x8x256_S128x8x4x64) shapeCasts_S128x8x4x64_S1024x256) : FVec Ideal S1024x256 .f32) (ix2 r j)) = S (ix3 ⟨r.val / 8, by omega⟩ ⟨r.val % 8, by omega⟩ ⟨8640 + j.val, by omega⟩) := by
  pointwise

/-- The attention's key columns, all rows. -/
theorem out_k (R : Fin 9216) (j : Fin 256) :
    ((res_k P S) (ix2 R j) : EReal) = both P S R ⟨8640 + j.val, by omega⟩ :=
  (join_256 _ _ R j).trans (rows_congr (fun r => k_p P r j) (fun r => k_s S r j) R)

theorem v_p (r : Fin 8192) (j : Fin 256) : (((shapeCast _ (shapeCast _ (extractStridedSlice S1x8192x256 ![0, 0, 8896] P slices_S1x8192x13248_S1x8192x256_0_0_8896) shapeCasts_S1x8192x256_S1x8192x4x64) shapeCasts_S1x8192x4x64_S8192x256) : FVec Ideal S8192x256 .f32) (ix2 r j)) = P (ix3 0 r ⟨8896 + j.val, by omega⟩) := by
  pointwise

theorem v_s (r : Fin 1024) (j : Fin 256) : (((shapeCast _ (shapeCast _ (extractStridedSlice S128x8x256 ![0, 0, 8896] S slices_S128x8x13248_S128x8x256_0_0_8896) shapeCasts_S128x8x256_S128x8x4x64) shapeCasts_S128x8x4x64_S1024x256) : FVec Ideal S1024x256 .f32) (ix2 r j)) = S (ix3 ⟨r.val / 8, by omega⟩ ⟨r.val % 8, by omega⟩ ⟨8896 + j.val, by omega⟩) := by
  pointwise

/-- The attention's value columns, all rows. -/
theorem out_v (R : Fin 9216) (j : Fin 256) :
    ((res_v P S) (ix2 R j) : EReal) = both P S R ⟨8896 + j.val, by omega⟩ :=
  (join_256 _ _ R j).trans (rows_congr (fun r => v_p P r j) (fun r => v_s S r j) R)

theorem gates_p (r : Fin 8192) (j : Fin 4096) : (((shapeCast _ (extractStridedSlice S1x8192x4096 ![0, 0, 9152] P slices_S1x8192x13248_S1x8192x4096_0_0_9152) shapeCasts_S1x8192x4096_S8192x4096) : FVec Ideal S8192x4096 .f32) (ix2 r j)) = P (ix3 0 r ⟨9152 + j.val, by omega⟩) := by
  pointwise

theorem gates_s (r : Fin 1024) (j : Fin 4096) : (((shapeCast _ (extractStridedSlice S128x8x4096 ![0, 0, 9152] S slices_S128x8x13248_S128x8x4096_0_0_9152) shapeCasts_S128x8x4096_S1024x4096) : FVec Ideal S1024x4096 .f32) (ix2 r j)) = S (ix3 ⟨r.val / 8, by omega⟩ ⟨r.val % 8, by omega⟩ ⟨9152 + j.val, by omega⟩) := by
  pointwise

/-- The gate columns, all rows. -/
theorem out_gates (R : Fin 9216) (j : Fin 4096) :
    ((res_gates P S) (ix2 R j) : EReal) = both P S R ⟨9152 + j.val, by omega⟩ :=
  (join_4096 _ _ R j).trans (rows_congr (fun r => gates_p P r j) (fun r => gates_s S r j) R)

/-- The recurrence's columns of the prompt's last row. -/
theorem out_last (j : Fin 6592) :
    ((res_last P) (ix3 0 0 j) : EReal) = P (ix3 0 8191 ⟨j.val, by omega⟩) := by
  pointwise [res_last]

/-- The keys of the prompt's last window. -/
theorem out_pk (r : Fin 128) (g : Fin 4) (e : Fin 64) :
    ((res_pk P) (ix5 0 0 r g e) : EReal) = P (ix3 0 ⟨8064 + r.val, by omega⟩ ⟨8640 + (g.val * 64 + e.val), by omega⟩) := by
  pointwise [res_pk]

/-- The values of the prompt's last window. -/
theorem out_pv (r : Fin 128) (g : Fin 4) (e : Fin 64) :
    ((res_pv P) (ix5 0 0 r g e) : EReal) = P (ix3 0 ⟨8064 + r.val, by omega⟩ ⟨8896 + (g.val * 64 + e.val), by omega⟩) := by
  pointwise [res_pv]

/-- The recurrence's columns of each sample's last row. -/
theorem out_shift (b : Fin 128) (j : Fin 6592) :
    ((res_shift S) (ix3 0 b j) : EReal) = S (ix3 b 7 ⟨j.val, by omega⟩) := by
  pointwise [res_shift]

/-- The sample's key window, eight rows on. -/
theorem out_sk (x : FVec Ideal S1x128x128x4x64 .f32) (b : Fin 128) (s : Fin 128) (g : Fin 4) (e : Fin 64) :
    ((res_sk x S) (ix5 0 b s g e) : EReal) = (if h : s.val < 120 then x (ix5 0 b ⟨8 + s.val, by omega⟩ g e) else S (ix3 b ⟨s.val - 120, by omega⟩ ⟨8640 + (g.val * 64 + e.val), by omega⟩)) := by
  pointwise [res_sk]
  by_cases h : s.val < 120
  · rw [dif_pos h, dif_pos (by omega)]
  · rw [dif_neg h, dif_neg (by omega)]
    exact congrArg (fun r => S (ix3 b r _)) (Fin.ext (by dsimp only; omega))

/-- The sample's value window, eight rows on. -/
theorem out_sv (x : FVec Ideal S1x128x128x4x64 .f32) (b : Fin 128) (s : Fin 128) (g : Fin 4) (e : Fin 64) :
    ((res_sv x S) (ix5 0 b s g e) : EReal) = (if h : s.val < 120 then x (ix5 0 b ⟨8 + s.val, by omega⟩ g e) else S (ix3 b ⟨s.val - 120, by omega⟩ ⟨8896 + (g.val * 64 + e.val), by omega⟩)) := by
  pointwise [res_sv]
  by_cases h : s.val < 120
  · rw [dif_pos h, dif_pos (by omega)]
  · rw [dif_neg h, dif_neg (by omega)]
    exact congrArg (fun r => S (ix3 b r _)) (Fin.ext (by dsimp only; omega))

variable (m : (ℓ : Loc nD τ sig) → Buf (Elt Ideal) ℓ) (ρ : Dev nD → PrngReg)

/-- The reference's run, its results named. -/
theorem run : θ_run defs (onTc (τ := τ) (main (F := Ideal))) ⟨m, fun _ => 0, ρ⟩ (fun r => ∀ c : Dev nD,
      r.2.mem ((c.tc : Thread nD τ).loc main_v23) = res_rw (prodP (m ((c.tc : Thread nD τ).loc main_arg0)) (m ((c.tc : Thread nD τ).loc main_arg4))) (prodS (m ((c.tc : Thread nD τ).loc main_arg1)) (m ((c.tc : Thread nD τ).loc main_arg4)))
      ∧ r.2.mem ((c.tc : Thread nD τ).loc main_v26) = res_q (prodP (m ((c.tc : Thread nD τ).loc main_arg0)) (m ((c.tc : Thread nD τ).loc main_arg4))) (prodS (m ((c.tc : Thread nD τ).loc main_arg1)) (m ((c.tc : Thread nD τ).loc main_arg4)))
      ∧ r.2.mem ((c.tc : Thread nD τ).loc main_v29) = res_k (prodP (m ((c.tc : Thread nD τ).loc main_arg0)) (m ((c.tc : Thread nD τ).loc main_arg4))) (prodS (m ((c.tc : Thread nD τ).loc main_arg1)) (m ((c.tc : Thread nD τ).loc main_arg4)))
      ∧ r.2.mem ((c.tc : Thread nD τ).loc main_v32) = res_v (prodP (m ((c.tc : Thread nD τ).loc main_arg0)) (m ((c.tc : Thread nD τ).loc main_arg4))) (prodS (m ((c.tc : Thread nD τ).loc main_arg1)) (m ((c.tc : Thread nD τ).loc main_arg4)))
      ∧ r.2.mem ((c.tc : Thread nD τ).loc main_v35) = res_gates (prodP (m ((c.tc : Thread nD τ).loc main_arg0)) (m ((c.tc : Thread nD τ).loc main_arg4))) (prodS (m ((c.tc : Thread nD τ).loc main_arg1)) (m ((c.tc : Thread nD τ).loc main_arg4)))
      ∧ r.2.mem ((c.tc : Thread nD τ).loc main_v38) = res_last (prodP (m ((c.tc : Thread nD τ).loc main_arg0)) (m ((c.tc : Thread nD τ).loc main_arg4)))
      ∧ r.2.mem ((c.tc : Thread nD τ).loc main_v40) = res_pk (prodP (m ((c.tc : Thread nD τ).loc main_arg0)) (m ((c.tc : Thread nD τ).loc main_arg4)))
      ∧ r.2.mem ((c.tc : Thread nD τ).loc main_v42) = res_pv (prodP (m ((c.tc : Thread nD τ).loc main_arg0)) (m ((c.tc : Thread nD τ).loc main_arg4)))
      ∧ r.2.mem ((c.tc : Thread nD τ).loc main_v45) = res_shift (prodS (m ((c.tc : Thread nD τ).loc main_arg1)) (m ((c.tc : Thread nD τ).loc main_arg4)))
      ∧ r.2.mem ((c.tc : Thread nD τ).loc main_v47) = res_sk (m ((c.tc : Thread nD τ).loc main_arg2)) (prodS (m ((c.tc : Thread nD τ).loc main_arg1)) (m ((c.tc : Thread nD τ).loc main_arg4)))
      ∧ r.2.mem ((c.tc : Thread nD τ).loc main_v49) = res_sv (m ((c.tc : Thread nD τ).loc main_arg3)) (prodS (m ((c.tc : Thread nD τ).loc main_arg1)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h => h) (Cert.InProjRefIdeal.Value.run m ρ)

end Cert.InProjRefIdeal.Steps
-- ==== Proof.InProjClaim.lean ====
module

public import proofs.«01_k».proof.Defs
public import proofs.«01_k».proof.Proof.Gen.InProjRefIdeal.Run
public import proofs.«01_k».proof.Proof.InProjVals
public import proofs.«01_k».proof.Proof.InProjRun
public import proofs.«01_k».proof.Proof.InProjRef
public import Idealize.ShloMosaic.Lib.Claim
public import Idealize.ShloMosaic.Lib.Pointwise

/-!
The combined input projection: the calls and the reference end with the same eleven arrays.
-/

@[expose] public section

set_option maxRecDepth 16384

noncomputable section

open Idealize.ShloMosaic Idealize.ShloMosaic.TcCoe Idealize.SL.Sem

namespace Cert.InProjIdeal.Gen
variable (m : (ℓ : Loc nD τ sig) → Buf (Elt Ideal) ℓ) (ρ : Dev nD → PrngReg)

/-- The product of the prompt's rows with the weights, as the reference takes it. -/
def prodP (c : Dev nD) : FVec Ideal Cert.InProjRefIdeal.S1x8192x13248 .f32 :=
  Cert.InProjRefIdeal.Steps.prodP (m ((c : Thread nD τ).loc main_arg0)) (m ((c : Thread nD τ).loc main_arg4))

/-- The product of the sample's rows with the weights, as the reference takes it. -/
def prodS (c : Dev nD) : FVec Ideal Cert.InProjRefIdeal.S128x8x13248 .f32 :=
  Cert.InProjRefIdeal.Steps.prodS (m ((c : Thread nD τ).loc main_arg1)) (m ((c : Thread nD τ).loc main_arg4))

/-- A prompt row of the projection. -/
theorem prodP_eq (c : Dev nD) (r : Fin 8192) (R : Fin 9216) (j : Fin 13248) (h : R.val = r.val) :
    prodP m c (ix3 0 r j) = proj m c R j := by
  refine (Cert.InProjRefIdeal.Steps.prod_p _ _ r j).trans ?_
  refine dot_congr (fun k => ?_) (fun k => rfl)
  unfold input rows
  rw [dif_pos (by omega)]
  exact congrArg (fun x => m ((c : Thread nD τ).loc main_arg0) (ix3 0 x k)) (Fin.ext h.symm)

/-- A sample row of the projection. -/
theorem prodS_eq (c : Dev nD) (b : Fin 128) (s : Fin 8) (R : Fin 9216) (j : Fin 13248) (h : R.val = 8192 + (b.val * 8 + s.val)) :
    prodS m c (ix3 b s j) = proj m c R j := by
  refine (Cert.InProjRefIdeal.Steps.prod_s _ _ b s j).trans ?_
  refine dot_congr (fun k => ?_) (fun k => rfl)
  unfold input rows
  rw [dif_neg (by omega)]
  exact congrArg₂ (fun x y => m ((c : Thread nD τ).loc main_arg1) (ix3 x y k)) (Fin.ext (by dsimp only; omega)) (Fin.ext (by dsimp only; omega))

/-- The reference's rows put one after the other are the projection's. -/
theorem both_eq (c : Dev nD) (R : Fin 9216) (j : Fin 13248) :
    Cert.InProjRefIdeal.Steps.both (prodP m c) (prodS m c) R j = proj m c R j := by
  unfold Cert.InProjRefIdeal.Steps.both rows
  by_cases h : R.val < 8192
  · rw [dif_pos h]
    exact prodP_eq m c _ R j rfl
  · rw [dif_neg h]
    exact prodS_eq m c _ _ R j (by dsimp only; omega)

theorem eq_rw (c : Dev nD) : Cert.InProjRefIdeal.Steps.res_rw (prodP m c) (prodS m c) = atEnd m ρ c main_v54 := by
  funext i
  obtain ⟨R, j, rfl⟩ : ∃ R j, i = ix2 R j := ⟨i 0, i 1, eq_ix2 i⟩
  exact ((Cert.InProjRefIdeal.Steps.out_rw (prodP m c) (prodS m c) R j).trans (both_eq m c R _)).trans (out_rw m ρ c R j).symm

theorem eq_q (c : Dev nD) : Cert.InProjRefIdeal.Steps.res_q (prodP m c) (prodS m c) = atEnd m ρ c main_v55 := by
  funext i
  obtain ⟨R, j, rfl⟩ : ∃ R j, i = ix2 R j := ⟨i 0, i 1, eq_ix2 i⟩
  exact ((Cert.InProjRefIdeal.Steps.out_q (prodP m c) (prodS m c) R j).trans (both_eq m c R _)).trans (out_q m ρ c R j).symm

theorem eq_k (c : Dev nD) : Cert.InProjRefIdeal.Steps.res_k (prodP m c) (prodS m c) = atEnd m ρ c main_v57 := by
  funext i
  obtain ⟨R, j, rfl⟩ : ∃ R j, i = ix2 R j := ⟨i 0, i 1, eq_ix2 i⟩
  exact ((Cert.InProjRefIdeal.Steps.out_k (prodP m c) (prodS m c) R j).trans (both_eq m c R _)).trans (out_k m ρ c R j).symm

theorem eq_v (c : Dev nD) : Cert.InProjRefIdeal.Steps.res_v (prodP m c) (prodS m c) = atEnd m ρ c main_v58 := by
  funext i
  obtain ⟨R, j, rfl⟩ : ∃ R j, i = ix2 R j := ⟨i 0, i 1, eq_ix2 i⟩
  exact ((Cert.InProjRefIdeal.Steps.out_v (prodP m c) (prodS m c) R j).trans (both_eq m c R _)).trans (out_v m ρ c R j).symm

theorem eq_gates (c : Dev nD) : Cert.InProjRefIdeal.Steps.res_gates (prodP m c) (prodS m c) = atEnd m ρ c main_v56 := by
  funext i
  obtain ⟨R, j, rfl⟩ : ∃ R j, i = ix2 R j := ⟨i 0, i 1, eq_ix2 i⟩
  exact ((Cert.InProjRefIdeal.Steps.out_gates (prodP m c) (prodS m c) R j).trans (both_eq m c R _)).trans (out_gates m ρ c R j).symm

theorem eq_last (c : Dev nD) : Cert.InProjRefIdeal.Steps.res_last (prodP m c) = atEnd m ρ c main_v59 := by
  funext i
  obtain ⟨p, q, j, rfl⟩ : ∃ p q j, i = ix3 p q j := ⟨i 0, i 1, i 2, eq_ix3 i⟩
  obtain rfl : p = 0 := Subsingleton.elim _ _
  obtain rfl : q = 0 := Subsingleton.elim _ _
  exact ((Cert.InProjRefIdeal.Steps.out_last (prodP m c) j).trans (prodP_eq m c _ _ _ rfl)).trans (out_last m ρ c j).symm

theorem eq_pk (c : Dev nD) : Cert.InProjRefIdeal.Steps.res_pk (prodP m c) = atEnd m ρ c main_v60 := by
  funext i
  obtain ⟨p, q, r, g, e, rfl⟩ : ∃ p q r g e, i = ix5 p q r g e := ⟨i 0, i 1, i 2, i 3, i 4, eq_ix5 i⟩
  obtain rfl : p = 0 := Subsingleton.elim _ _
  obtain rfl : q = 0 := Subsingleton.elim _ _
  exact ((Cert.InProjRefIdeal.Steps.out_pk (prodP m c) r g e).trans (prodP_eq m c _ _ _ rfl)).trans (out_pk m ρ c r g e).symm

theorem eq_pv (c : Dev nD) : Cert.InProjRefIdeal.Steps.res_pv (prodP m c) = atEnd m ρ c main_v61 := by
  funext i
  obtain ⟨p, q, r, g, e, rfl⟩ : ∃ p q r g e, i = ix5 p q r g e := ⟨i 0, i 1, i 2, i 3, i 4, eq_ix5 i⟩
  obtain rfl : p = 0 := Subsingleton.elim _ _
  obtain rfl : q = 0 := Subsingleton.elim _ _
  exact ((Cert.InProjRefIdeal.Steps.out_pv (prodP m c) r g e).trans (prodP_eq m c _ _ _ rfl)).trans (out_pv m ρ c r g e).symm

theorem eq_shift (c : Dev nD) : Cert.InProjRefIdeal.Steps.res_shift (prodS m c) = atEnd m ρ c main_v62 := by
  funext i
  obtain ⟨p, b, j, rfl⟩ : ∃ p b j, i = ix3 p b j := ⟨i 0, i 1, i 2, eq_ix3 i⟩
  obtain rfl : p = 0 := Subsingleton.elim _ _
  exact ((Cert.InProjRefIdeal.Steps.out_shift (prodS m c) b j).trans (prodS_eq m c _ _ _ _ rfl)).trans (out_shift m ρ c b j).symm

theorem eq_sk (c : Dev nD) : Cert.InProjRefIdeal.Steps.res_sk (m ((c : Thread nD τ).loc main_arg2)) (prodS m c) = atEnd m ρ c main_v63 := by
  funext i
  obtain ⟨p, b, s, g, e, rfl⟩ : ∃ p b s g e, i = ix5 p b s g e := ⟨i 0, i 1, i 2, i 3, i 4, eq_ix5 i⟩
  obtain rfl : p = 0 := Subsingleton.elim _ _
  refine (Cert.InProjRefIdeal.Steps.out_sk (prodS m c) (m ((c : Thread nD τ).loc main_arg2)) b s g e).trans (Eq.trans ?_ (out_sk m ρ c b s g e).symm)
  by_cases h : s.val < 120
  · rw [dif_pos h, dif_pos h]
  · rw [dif_neg h, dif_neg h]
    exact prodS_eq m c _ _ _ _ rfl

theorem eq_sv (c : Dev nD) : Cert.InProjRefIdeal.Steps.res_sv (m ((c : Thread nD τ).loc main_arg3)) (prodS m c) = atEnd m ρ c main_v64 := by
  funext i
  obtain ⟨p, b, s, g, e, rfl⟩ : ∃ p b s g e, i = ix5 p b s g e := ⟨i 0, i 1, i 2, i 3, i 4, eq_ix5 i⟩
  obtain rfl : p = 0 := Subsingleton.elim _ _
  refine (Cert.InProjRefIdeal.Steps.out_sv (prodS m c) (m ((c : Thread nD τ).loc main_arg3)) b s g e).trans (Eq.trans ?_ (out_sv m ρ c b s g e).symm)
  by_cases h : s.val < 120
  · rw [dif_pos h, dif_pos h]
  · rw [dif_neg h, dif_neg h]
    exact prodS_eq m c _ _ _ _ rfl

end Cert.InProjIdeal.Gen

namespace Cert.Proof.InProj

set_option maxHeartbeats 3200000 in
/-- The calls and the reference end with the same arrays. -/
theorem algebraic : Cert.algebraic_InProjIdeal_InProjRefIdeal := by
  pair_intro
  · run_from (Cert.InProjIdeal.Gen.run m g)
  · run_from (Cert.InProjRefIdeal.Steps.run m' g')
    · exact Cert.InProjIdeal.Gen.eq_rw m g c
    · exact Cert.InProjIdeal.Gen.eq_q m g c
    · exact Cert.InProjIdeal.Gen.eq_k m g c
    · exact Cert.InProjIdeal.Gen.eq_v m g c
    · exact Cert.InProjIdeal.Gen.eq_gates m g c
    · exact Cert.InProjIdeal.Gen.eq_last m g c
    · exact Cert.InProjIdeal.Gen.eq_pk m g c
    · exact Cert.InProjIdeal.Gen.eq_pv m g c
    · exact Cert.InProjIdeal.Gen.eq_shift m g c
    · exact Cert.InProjIdeal.Gen.eq_sk m g c
    · exact Cert.InProjIdeal.Gen.eq_sv m g c

end Cert.Proof.InProj

end
-- ==== Proof.SinkSoftmax.lean ====
/-
  The one equation of the attention that is not a matter of indices: a row of a softmax with a sink, applied to a
  column of values.  The kernel divides the weighted sum once by the row's total; the reference divides every weight
  and then sums.  Over the extended reals the two agree as soon as no score is plus infinity and the sink is a real
  number: the total is then a positive real, and multiplying by its inverse distributes over the sum.
-/
module

public import Idealize.ShloMosaic.PureOps.Ideal

@[expose] public section

noncomputable section

open Idealize.ShloMosaic

namespace Cert.SinkSoftmax

/-- An extended real that is neither infinity. -/
def IsReal (x : EReal) : Prop := x ≠ ⊤ ∧ x ≠ ⊥

theorem IsReal.exists {x : EReal} (h : IsReal x) : ∃ r : ℝ, x = (r : EReal) :=
  ⟨x.toReal, (EReal.coe_toReal h.1 h.2).symm⟩

theorem isReal_coe (r : ℝ) : IsReal (r : EReal) := ⟨EReal.coe_ne_top r, EReal.coe_ne_bot r⟩

theorem IsReal.mul {x y : EReal} (hx : IsReal x) (hy : IsReal y) : IsReal (x * y) := by
  obtain ⟨a, rfl⟩ := hx.exists
  obtain ⟨b, rfl⟩ := hy.exists
  rw [← EReal.coe_mul]
  exact isReal_coe _

theorem IsReal.add {x y : EReal} (hx : IsReal x) (hy : IsReal y) : IsReal (x + y) := by
  obtain ⟨a, rfl⟩ := hx.exists
  obtain ⟨b, rfl⟩ := hy.exists
  rw [← EReal.coe_add]
  exact isReal_coe _

theorem isReal_zero : IsReal 0 := isReal_coe 0

theorem isReal_sum {ι : Type} (s : Finset ι) (f : ι → EReal) (h : ∀ i ∈ s, IsReal (f i)) : IsReal (∑ i ∈ s, f i) :=
  Finset.sum_induction f IsReal (fun _ _ => IsReal.add) isReal_zero h

/-- The largest of a row's scores, from minus infinity on. -/
def rowMax {n : ℕ} (s : Fin n → EReal) : EReal := Finset.univ.fold max ⊥ s

theorem rowMax_ne_top {n : ℕ} (s : Fin n → EReal) (hs : ∀ k, s k ≠ ⊤) : rowMax s ≠ ⊤ := by
  have h : rowMax s < ⊤ := by
    unfold rowMax
    rw [Finset.fold_max_lt]
    exact ⟨bot_lt_top, fun k _ => lt_top_iff_ne_top.mpr (hs k)⟩
  exact h.ne

/-- The stabilizer of a row: the larger of its largest score and the sink. -/
def shift {n : ℕ} (s : Fin n → EReal) (sk : EReal) : EReal := max (rowMax s) sk

theorem isReal_shift {n : ℕ} (s : Fin n → EReal) (sk : EReal) (hs : ∀ k, s k ≠ ⊤) (hsk : IsReal sk) :
    IsReal (shift s sk) := by
  unfold shift
  refine ⟨?_, ?_⟩
  · exact (max_lt (lt_top_iff_ne_top.mpr (rowMax_ne_top s hs)) (lt_top_iff_ne_top.mpr hsk.1)).ne
  · exact ne_of_gt (lt_of_lt_of_le (bot_lt_iff_ne_bot.mpr hsk.2) (le_max_right _ _))

/-- The exponential of a number that is not plus infinity, less a real, is a real that is not negative. -/
theorem exp_sub_real (x M : EReal) (hx : x ≠ ⊤) (hM : IsReal M) : ∃ r : ℝ, 0 ≤ r ∧ Ideal.exp (x - M) = (r : EReal) := by
  obtain ⟨m, rfl⟩ := hM.exists
  induction x with
  | bot => exact ⟨0, le_refl _, by rw [EReal.bot_sub]; rfl⟩
  | coe a => exact ⟨Real.exp (a - m), (Real.exp_pos _).le, by rw [← EReal.coe_sub]; rfl⟩
  | top => exact absurd rfl hx

theorem exp_sub_pos (x M : EReal) (hx : IsReal x) (hM : IsReal M) : ∃ r : ℝ, 0 < r ∧ Ideal.exp (x - M) = (r : EReal) := by
  obtain ⟨m, rfl⟩ := hM.exists
  obtain ⟨a, rfl⟩ := hx.exists
  exact ⟨Real.exp (a - m), Real.exp_pos _, by rw [← EReal.coe_sub]; rfl⟩

/-- A factor that is a real and not negative distributes over a sum of any extended reals. -/
theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- Dividing once is dividing every weight: a row of the softmax with a sink against a column of values. -/
theorem quotient_eq {n : ℕ} (s v : Fin n → EReal) (sk : EReal) (hs : ∀ k, s k ≠ ⊤) (hsk : IsReal sk) :
    Ideal.div (∑ k, Ideal.exp (s k - shift s sk) * v k)
        ((∑ k, Ideal.exp (s k - shift s sk)) + Ideal.exp (sk - shift s sk)) =
      ∑ k, Ideal.div (Ideal.exp (s k - shift s sk))
        ((∑ k, Ideal.exp (s k - shift s sk)) + Ideal.exp (sk - shift s sk)) * v k := by
  have hM := isReal_shift s sk hs hsk
  choose e he0 he using fun k => exp_sub_real (s k) _ (hs k) hM
  obtain ⟨t, ht0, ht⟩ := exp_sub_pos sk _ hsk hM
  simp only [he, ht]
  rw [coe_sum, ← EReal.coe_add]
  have hd : 0 < (∑ k, e k) + t := add_pos_of_nonneg_of_pos (Finset.sum_nonneg fun k _ => he0 k) ht0
  have hne : (((∑ k, e k) + t : ℝ) : EReal) ≠ 0 := by
    rw [Ne, EReal.coe_eq_zero]; exact hd.ne'
  simp only [Ideal.div, if_neg hne]
  rw [← EReal.coe_inv, sum_mul_real _ _ _ (inv_nonneg.mpr hd.le)]
  refine Finset.sum_congr rfl fun k _ => ?_
  rw [mul_assoc, mul_comm (v k), ← mul_assoc]

/-- One element of the attention: a row's scores `s`, its sink `sk`, and one column of values `v`; the weighted sum over the row's total. -/
def attend {n : ℕ} (s : Fin n → EReal) (sk : EReal) (v : Fin n → EReal) : EReal :=
  Ideal.div (∑ k, Ideal.exp (s k - shift s sk) * v k)
    ((∑ k, Ideal.exp (s k - shift s sk)) + Ideal.exp (sk - shift s sk))

/-- The pattern of minus infinity. -/
theorem neg_inf : Ideal.ofBits .f32 0xFF800000#32 = ⊥ := by
  simp [Ideal.ofBits, Ideal.ieee]

/-- The pattern of plus infinity. -/
theorem pos_inf : Ideal.ofBits .f32 0x7F800000#32 = ⊤ := by
  simp [Ideal.ofBits, Ideal.ieee]

/-- The scale of the scores is a real number. -/
theorem isReal_scale : IsReal (Ideal.ofBits .f32 0x3E000000#32) := by
  have h : Ideal.ofBits .f32 0x3E000000#32 = ((1 / 8 : ℝ) : EReal) := by
    simp [Ideal.ofBits, Ideal.ieee, -EReal.coe_mul]; norm_num
  rw [h]
  exact isReal_coe _

/-- A sum over 128 lanes of which only the first 64 count. -/
theorem sum_lanes_lo (a b : Fin 128 → EReal) :
    (∑ x : Fin 128, (if x.val < 64 then a x else 0) * b x) =
      ∑ e : Fin 64, a ⟨e.val, by omega⟩ * b ⟨e.val, by omega⟩ := by
  have h : (∑ x : Fin (64 + 64), (if x.val < 64 then a x else 0) * b x) = _ := Fin.sum_univ_add _
  refine h.trans ?_
  have h0 : (∑ i : Fin 64, (if (Fin.natAdd 64 i).val < 64 then a (Fin.natAdd 64 i) else 0) * b (Fin.natAdd 64 i)) = 0 := by
    refine Finset.sum_eq_zero fun i _ => ?_
    rw [if_neg (by simp), zero_mul]
  rw [h0, add_zero]
  refine Finset.sum_congr rfl fun i _ => ?_
  rw [if_pos (by simp)]
  rfl

/-- A sum over 128 lanes of which only the last 64 count. -/
theorem sum_lanes_hi (a b : Fin 128 → EReal) :
    (∑ x : Fin 128, (if x.val < 64 then 0 else a x) * b x) =
      ∑ e : Fin 64, a ⟨64 + e.val, by omega⟩ * b ⟨64 + e.val, by omega⟩ := by
  have h : (∑ x : Fin (64 + 64), (if x.val < 64 then 0 else a x) * b x) = _ := Fin.sum_univ_add _
  refine h.trans ?_
  have h0 : (∑ i : Fin 64, (if (Fin.castAdd 64 i).val < 64 then 0 else a (Fin.castAdd 64 i)) * b (Fin.castAdd 64 i)) = 0 := by
    refine Finset.sum_eq_zero fun i _ => ?_
    rw [if_pos (by simp), zero_mul]
  rw [h0, zero_add]
  refine Finset.sum_congr rfl fun i _ => ?_
  rw [if_neg (by simp)]
  rfl

/-- The lane mask of the first half, as a selection. -/
theorem select_lo (x : Fin 128) (a b : EReal) :
    Scalar.select (IntOp.cmpi .slt (BitVec.ofNat 32 x.val) 64#32) a b = if x.val < 64 then a else b := by
  have h : ∀ x : Fin 128, IntOp.cmpi .slt (BitVec.ofNat 32 x.val) 64#32 = if x.val < 64 then 1#1 else 0#1 := by decide
  rw [h]
  split <;> rfl

/-- The lane mask of the second half, as a selection. -/
theorem select_hi (x : Fin 128) (a b : EReal) :
    Scalar.select (IntOp.xori (IntOp.cmpi .slt (BitVec.ofNat 32 x.val) 64#32) 1#1) a b = if x.val < 64 then b else a := by
  have h : ∀ x : Fin 128, IntOp.xori (IntOp.cmpi .slt (BitVec.ofNat 32 x.val) 64#32) 1#1 = if x.val < 64 then 0#1 else 1#1 := by decide
  rw [h]
  split <;> rfl

end Cert.SinkSoftmax
-- ==== Proof.PromptUnit.lean ====
module

public import proofs.«01_k».proof.Proof.Gen.AttnPromptIdeal.Skeleton
public import proofs.«01_k».proof.Proof.SinkSoftmax
public import Idealize.ShloMosaic.Lib.Pointwise

/-! One unit of the prompt's attention, four query heads of one lane half, read at an index: its scores, its
probabilities and its output. -/

@[expose] public section

set_option maxRecDepth 16384

noncomputable section

open Idealize.ShloMosaic Idealize.ShloMosaic.TcCoe Idealize.SL.Sem

namespace Cert.AttnPromptIdeal.Gen

/-- The scaled scores of four heads that share a lane half: the queries outside the half are zeroed, the four tiles are stacked and contracted with the keys. -/
def scoresU (keep : IVec S128x128 1) (q0 q1 q2 q3 : FVec Ideal S128x128 .f32) (ku : FVec Ideal S256x128 .bf16) : FVec Ideal S512x256 .f32 :=
  mulf (matmul dot_S512x128_S256x128_S512x256_1_1_0_0_n_n none
      (truncf .bf16 (concatenate S512x128 0 [
        ⟨S128x128, select keep q0 (broadcast S128x128 (Scalar.ofBits .f32 0x00000000#32))⟩,
        ⟨S128x128, select keep q1 (broadcast S128x128 (Scalar.ofBits .f32 0x00000000#32))⟩,
        ⟨S128x128, select keep q2 (broadcast S128x128 (Scalar.ofBits .f32 0x00000000#32))⟩,
        ⟨S128x128, select keep q3 (broadcast S128x128 (Scalar.ofBits .f32 0x00000000#32))⟩]
        concatenates_S128x128_S128x128_S128x128_S128x128_S512x128_d0) bitsLt_bf16_f32) ku
      (constant S512x256 .f32 0x00000000#32))
    (broadcast S512x256 (Scalar.ofBits .f32 0x3E000000#32))

/-- The masked softmax with a sink of four heads' stacked scores, against one lane half's values: the weighted sums over the rows' totals. -/
def weightedU (mask : IVec S128x256 1) (s : FVec Ideal S512x256 .f32) (r0 r1 r2 r3 : Vec Ideal S1x128 .f32) (vu : FVec Ideal S256x128 .bf16) : FVec Ideal S512x128 .f32 :=
  divf (k0_pay90 vu (k0_pay55 (k0_pay52 (k0_pay16 mask) s) r0 r1 r2 r3))
    (k0_pay91 k0_pay37 (k0_pay55 (k0_pay52 (k0_pay16 mask) s) r0 r1 r2 r3) (k0_pay56 (k0_pay52 (k0_pay16 mask) s) r0 r1 r2 r3))

/-- One of four by the tile a stacked row lies in. -/
def tileOf {α : Type} (a0 a1 a2 a3 : α) (p : Fin 512) : α :=
  if p.val < 128 then a0 else if p.val - 128 < 128 then a1 else if p.val - 128 - 128 < 128 then a2 else a3

theorem named_mask : (Named.named κ "mask" 0xF149F2CA#32 : Ideal .f32) = ⊥ :=
  IdealRules.named_const.ideal_named_scalar _ _ _ _ rfl

/-- A row's exponentials, where every sink row holds one number. -/
theorem weights_row (s : FVec Ideal S512x256 .f32) (r0 r1 r2 r3 : Vec Ideal S1x128 .f32) (k0 k1 k2 k3 : EReal)
    (h0 : ∀ x, r0 (ix2 0 x) = k0) (h1 : ∀ x, r1 (ix2 0 x) = k1) (h2 : ∀ x, r2 (ix2 0 x) = k2) (h3 : ∀ x, r3 (ix2 0 x) = k3)
    (p : Fin 512) (k : Fin 256) :
    k0_pay55 s r0 r1 r2 r3 (ix2 p k) =
      Ideal.exp (s (ix2 p k) - SinkSoftmax.shift (fun k => s (ix2 p k)) (tileOf k0 k1 k2 k3 p)) := by
  pointwise [k0_pay55, k0_pay54, k0_pay53]
  simp only [h0, h1, h2, h3, SinkSoftmax.neg_inf, SinkSoftmax.shift, SinkSoftmax.rowMax, tileOf]
  split <;> rfl

/-- The sink's own exponential. -/
theorem tail_row (s : FVec Ideal S512x256 .f32) (r0 r1 r2 r3 : Vec Ideal S1x128 .f32) (k0 k1 k2 k3 : EReal)
    (h0 : ∀ x, r0 (ix2 0 x) = k0) (h1 : ∀ x, r1 (ix2 0 x) = k1) (h2 : ∀ x, r2 (ix2 0 x) = k2) (h3 : ∀ x, r3 (ix2 0 x) = k3)
    (p : Fin 512) (l : Fin 128) :
    k0_pay56 s r0 r1 r2 r3 (ix2 p l) =
      Ideal.exp (tileOf k0 k1 k2 k3 p - SinkSoftmax.shift (fun k => s (ix2 p k)) (tileOf k0 k1 k2 k3 p)) := by
  pointwise [k0_pay56, k0_pay54, k0_pay53]
  simp only [h0, h1, h2, h3, SinkSoftmax.neg_inf, SinkSoftmax.shift, SinkSoftmax.rowMax, tileOf]
  rfl

/-- The masked scores. -/
theorem masked_row (mask : IVec S128x256 1) (s : FVec Ideal S512x256 .f32) (p : Fin 512) (k : Fin 256) :
    k0_pay52 (k0_pay16 mask) s (ix2 p k) = Scalar.select (mask (ix2 ⟨p.val % 128, by omega⟩ k)) (s (ix2 p k)) (⊥ : EReal) := by
  pointwise [k0_pay52, k0_pay16]
  rw [named_mask]
  split_ifs
  all_goals (refine congrArg (fun z => Scalar.select (mask (ix2 z k)) (s (ix2 p k)) (⊥ : EReal)) (Fin.ext ?_); simp only; omega)

theorem quot_row (e : FVec Ideal S512x256 .bf16) (t : FVec Ideal S512x128 .f32) (vu : FVec Ideal S256x128 .bf16) (p : Fin 512) (l : Fin 128) :
    (divf (k0_pay90 vu e) (k0_pay91 k0_pay37 e t)) (ix2 p l) =
      Ideal.div (∑ k, e (ix2 p k) * vu (ix2 k l)) ((∑ k, e (ix2 p k)) + t (ix2 p l)) := by
  pointwise [k0_pay90, k0_pay91, k0_pay37]

/-- The stacked scores, over any spelling `sel` of the masked queries. -/
theorem scoresU_sum (keep : IVec S128x128 1) (q0 q1 q2 q3 : FVec Ideal S128x128 .f32) (ku : FVec Ideal S256x128 .bf16) (p : Fin 512) (k : Fin 256)
    (sel : Fin 128 → EReal)
    (hsel : ∀ x, Scalar.select (keep (ix2 ⟨p.val % 128, by omega⟩ x)) (tileOf q0 q1 q2 q3 p (ix2 ⟨p.val % 128, by omega⟩ x)) (0 : EReal) = sel x) :
    scoresU keep q0 q1 q2 q3 ku (ix2 p k) = (∑ x, sel x * ku (ix2 k x)) * Ideal.ofBits .f32 0x3E000000#32 := by
  pointwise [scoresU]
  refine congrArg (· * Ideal.ofBits .f32 0x3E000000#32) (Finset.sum_congr rfl fun x _ => congrArg (· * ku (ix2 k x)) ?_)
  rw [← hsel]
  unfold tileOf
  split_ifs
  all_goals first
    | exact congrArg (fun z => Scalar.select (keep (ix2 z x)) (q0 (ix2 z x)) (0 : EReal)) (Fin.ext (by simp only; omega))
    | exact congrArg (fun z => Scalar.select (keep (ix2 z x)) (q1 (ix2 z x)) (0 : EReal)) (Fin.ext (by simp only; omega))
    | exact congrArg (fun z => Scalar.select (keep (ix2 z x)) (q2 (ix2 z x)) (0 : EReal)) (Fin.ext (by simp only; omega))
    | exact congrArg (fun z => Scalar.select (keep (ix2 z x)) (q3 (ix2 z x)) (0 : EReal)) (Fin.ext (by simp only; omega))

/-- Heads of the first lane half: their scores contract the first 64 lanes. -/
theorem scoresU_lo (q0 q1 q2 q3 : FVec Ideal S128x128 .f32) (ku : FVec Ideal S256x128 .bf16) (p : Fin 512) (k : Fin 256) :
    scoresU k0_pay7 q0 q1 q2 q3 ku (ix2 p k) =
      (∑ e : Fin 64, tileOf q0 q1 q2 q3 p (ix2 ⟨p.val % 128, by omega⟩ ⟨e.val, by omega⟩) * ku (ix2 k ⟨e.val, by omega⟩)) * Ideal.ofBits .f32 0x3E000000#32 := by
  rw [← SinkSoftmax.sum_lanes_lo (fun x => tileOf q0 q1 q2 q3 p (ix2 ⟨p.val % 128, by omega⟩ x)) (fun x => ku (ix2 k x))]
  refine scoresU_sum k0_pay7 q0 q1 q2 q3 ku p k _ fun x => ?_
  rw [← SinkSoftmax.select_lo]
  pointwise [k0_pay7]

/-- Heads of the second lane half: their scores contract the last 64 lanes. -/
theorem scoresU_hi (q0 q1 q2 q3 : FVec Ideal S128x128 .f32) (ku : FVec Ideal S256x128 .bf16) (p : Fin 512) (k : Fin 256) :
    scoresU k0_pay18 q0 q1 q2 q3 ku (ix2 p k) =
      (∑ e : Fin 64, tileOf q0 q1 q2 q3 p (ix2 ⟨p.val % 128, by omega⟩ ⟨64 + e.val, by omega⟩) * ku (ix2 k ⟨64 + e.val, by omega⟩)) * Ideal.ofBits .f32 0x3E000000#32 := by
  rw [← SinkSoftmax.sum_lanes_hi (fun x => tileOf q0 q1 q2 q3 p (ix2 ⟨p.val % 128, by omega⟩ x)) (fun x => ku (ix2 k x))]
  refine scoresU_sum k0_pay18 q0 q1 q2 q3 ku p k _ fun x => ?_
  rw [← SinkSoftmax.select_hi]
  pointwise [k0_pay18, k0_pay7]

/-- An element of four heads' attention, from their scores. -/
theorem weightedU_row (mask : IVec S128x256 1) (s : FVec Ideal S512x256 .f32) (r0 r1 r2 r3 : Vec Ideal S1x128 .f32) (vu : FVec Ideal S256x128 .bf16)
    (k0 k1 k2 k3 : EReal)
    (h0 : ∀ x, r0 (ix2 0 x) = k0) (h1 : ∀ x, r1 (ix2 0 x) = k1) (h2 : ∀ x, r2 (ix2 0 x) = k2) (h3 : ∀ x, r3 (ix2 0 x) = k3)
    (p : Fin 512) (l : Fin 128) :
    weightedU mask s r0 r1 r2 r3 vu (ix2 p l) =
      SinkSoftmax.attend (fun k => Scalar.select (mask (ix2 ⟨p.val % 128, by omega⟩ k)) (s (ix2 p k)) (⊥ : EReal))
        (tileOf k0 k1 k2 k3 p) (fun k => vu (ix2 k l)) := by
  unfold weightedU SinkSoftmax.attend
  rw [quot_row]
  simp only [weights_row _ _ _ _ _ _ _ _ _ h0 h1 h2 h3, tail_row _ _ _ _ _ _ _ _ _ h0 h1 h2 h3, masked_row]

end Cert.AttnPromptIdeal.Gen
-- ==== Proof.PromptTile.lean ====
/-
  One stored tile of the prompt's attention.  A tile holds two heads, one per lane half; each half is selected from the
  four stacked heads of its half (`PromptUnit.lean`).  Read at an index it is one element of the softmax with a sink
  over the 256 keys of the band.
-/
module

public import proofs.«01_k».proof.Proof.PromptUnit

@[expose] public section

set_option maxRecDepth 16384

noncomputable section

open Idealize.ShloMosaic Idealize.ShloMosaic.TcCoe Idealize.SL.Sem

namespace Cert.AttnPromptIdeal.Gen

theorem lt_lo (e : Fin 64) : e.val < 128 := by omega

theorem lt_hi (e : Fin 64) : 64 + e.val < 128 := by omega

/-- One element of a head's attention over a band: the queries `q` of the row, the keys `K`, the row's mask, the sink and a column of values. -/
def headAt (mask : Fin 256 → BitVec 1) (q : Fin 64 → EReal) (K : Fin 256 → Fin 64 → EReal) (sk : EReal) (v : Fin 256 → EReal) : EReal :=
  SinkSoftmax.attend (fun k => Scalar.select (mask k) ((∑ e : Fin 64, q e * K k e) * Ideal.ofBits .f32 0x3E000000#32) (⊥ : EReal)) sk v

/-- A tile takes its first lane half from one stack of heads and its second from the other. -/
theorem pick0 (A B : FVec Ideal S512x128 .f32) (r l : Fin 128) :
    k0_pay114 k0_pay7 A B (ix2 r l) = if l.val < 64 then A (ix2 ⟨r.val, by omega⟩ l) else B (ix2 ⟨r.val, by omega⟩ l) := by
  pointwise [k0_pay114, k0_pay7]
  rw [SinkSoftmax.select_lo]

theorem pick1 (A B : FVec Ideal S512x128 .f32) (r l : Fin 128) :
    k0_pay115 k0_pay7 A B (ix2 r l) = if l.val < 64 then A (ix2 ⟨128 + r.val, by omega⟩ l) else B (ix2 ⟨128 + r.val, by omega⟩ l) := by
  pointwise [k0_pay115, k0_pay7]
  rw [SinkSoftmax.select_lo]

theorem pick2 (A B : FVec Ideal S512x128 .f32) (r l : Fin 128) :
    k0_pay116 k0_pay7 A B (ix2 r l) = if l.val < 64 then A (ix2 ⟨256 + r.val, by omega⟩ l) else B (ix2 ⟨256 + r.val, by omega⟩ l) := by
  pointwise [k0_pay116, k0_pay7]
  rw [SinkSoftmax.select_lo]

theorem pick3 (A B : FVec Ideal S512x128 .f32) (r l : Fin 128) :
    k0_pay117 k0_pay7 A B (ix2 r l) = if l.val < 64 then A (ix2 ⟨384 + r.val, by omega⟩ l) else B (ix2 ⟨384 + r.val, by omega⟩ l) := by
  pointwise [k0_pay117, k0_pay7]
  rw [SinkSoftmax.select_lo]

section
variable (mask : IVec S128x256 1) (q0 q1 q2 q3 : FVec Ideal S128x128 .f32) (kLo kHi vLo vHi : FVec Ideal S256x128 .bf16)
  (r0 r1 r2 r3 r4 r5 r6 r7 : Vec Ideal S1x128 .f32) (K V : Fin 256 → Fin 64 → EReal) (s0 s1 s2 s3 s4 s5 s6 s7 : EReal)
  (hkl : ∀ k (e : Fin 64), kLo (ix2 k ⟨e.val, lt_lo e⟩) = K k e) (hkh : ∀ k (e : Fin 64), kHi (ix2 k ⟨64 + e.val, lt_hi e⟩) = K k e)
  (hvl : ∀ k (e : Fin 64), vLo (ix2 k ⟨e.val, lt_lo e⟩) = V k e) (hvh : ∀ k (e : Fin 64), vHi (ix2 k ⟨64 + e.val, lt_hi e⟩) = V k e)
  (h0 : ∀ x, r0 (ix2 0 x) = s0) (h1 : ∀ x, r1 (ix2 0 x) = s1) (h2 : ∀ x, r2 (ix2 0 x) = s2) (h3 : ∀ x, r3 (ix2 0 x) = s3)
  (h4 : ∀ x, r4 (ix2 0 x) = s4) (h5 : ∀ x, r5 (ix2 0 x) = s5) (h6 : ∀ x, r6 (ix2 0 x) = s6) (h7 : ∀ x, r7 (ix2 0 x) = s7)
include hkl hvl h0 h2 h4 h6

/-- The first lane half of the stacked heads. -/
theorem lo_row (p : Fin 512) (l : Fin 128) (hl : l.val < 64) :
    weightedU mask (scoresU k0_pay7 q0 q1 q2 q3 kLo) r0 r2 r4 r6 vLo (ix2 p l) =
      headAt (fun k => mask (ix2 ⟨p.val % 128, by omega⟩ k))
        (fun e => tileOf q0 q1 q2 q3 p (ix2 ⟨p.val % 128, by omega⟩ ⟨64 * (l.val / 64) + e.val, by omega⟩)) K
        (tileOf s0 s2 s4 s6 p) (fun k => V k ⟨l.val % 64, by omega⟩) := by
  rw [weightedU_row _ _ _ _ _ _ _ _ _ _ _ h0 h2 h4 h6]
  unfold headAt
  congr 1
  · funext k
    rw [scoresU_lo]
    simp only [hkl]
    congr 2
    refine Finset.sum_congr rfl fun e _ => ?_
    exact congrArg (fun z => tileOf q0 q1 q2 q3 p (ix2 ⟨p.val % 128, by omega⟩ z) * K k e) (Fin.ext (by simp only; omega))
  · funext k
    rw [← hvl]
    congr 2
    exact Fin.ext (by first | omega | (simp only; omega))

omit hkl hvl h0 h2 h4 h6
include hkh hvh h1 h3 h5 h7

/-- The second lane half of the stacked heads. -/
theorem hi_row (p : Fin 512) (l : Fin 128) (hl : ¬ l.val < 64) :
    weightedU mask (scoresU k0_pay18 q0 q1 q2 q3 kHi) r1 r3 r5 r7 vHi (ix2 p l) =
      headAt (fun k => mask (ix2 ⟨p.val % 128, by omega⟩ k))
        (fun e => tileOf q0 q1 q2 q3 p (ix2 ⟨p.val % 128, by omega⟩ ⟨64 * (l.val / 64) + e.val, by omega⟩)) K
        (tileOf s1 s3 s5 s7 p) (fun k => V k ⟨l.val % 64, by omega⟩) := by
  rw [weightedU_row _ _ _ _ _ _ _ _ _ _ _ h1 h3 h5 h7]
  unfold headAt
  congr 1
  · funext k
    rw [scoresU_hi]
    simp only [hkh]
    congr 2
    refine Finset.sum_congr rfl fun e _ => ?_
    exact congrArg (fun z => tileOf q0 q1 q2 q3 p (ix2 ⟨p.val % 128, by omega⟩ z) * K k e) (Fin.ext (by simp only; omega))
  · funext k
    rw [← hvh]
    congr 2
    exact Fin.ext (by first | omega | (simp only; omega))

include hkl hvl h0 h2 h4 h6

theorem tile0 (r l : Fin 128) :
    k0_pay114 k0_pay7 (weightedU mask (scoresU k0_pay7 q0 q1 q2 q3 kLo) r0 r2 r4 r6 vLo)
      (weightedU mask (scoresU k0_pay18 q0 q1 q2 q3 kHi) r1 r3 r5 r7 vHi) (ix2 r l) =
      headAt (fun k => mask (ix2 r k)) (fun e => q0 (ix2 r ⟨64 * (l.val / 64) + e.val, by omega⟩)) K
        (if l.val < 64 then s0 else s1) (fun k => V k ⟨l.val % 64, by omega⟩) := by
  have hr : ∀ h, (⟨(r.val) % 128, h⟩ : Fin 128) = r := fun h => Fin.ext (by simp only; omega)
  have ht : ∀ {α : Type} (a0 a1 a2 a3 : α) (h : r.val < 512), tileOf a0 a1 a2 a3 ⟨r.val, h⟩ = a0 := by
    intro α a0 a1 a2 a3 h
    unfold tileOf
    simp only
    split_ifs <;> first | rfl | omega
  rw [pick0]
  by_cases hl : l.val < 64
  · rw [if_pos hl, if_pos hl, lo_row mask q0 q1 q2 q3 kLo vLo r0 r2 r4 r6 K V s0 s2 s4 s6 hkl hvl h0 h2 h4 h6 _ _ hl]
    simp only [hr, ht]
  · rw [if_neg hl, if_neg hl, hi_row mask q0 q1 q2 q3 kHi vHi r1 r3 r5 r7 K V s1 s3 s5 s7 hkh hvh h1 h3 h5 h7 _ _ hl]
    simp only [hr, ht]

theorem tile1 (r l : Fin 128) :
    k0_pay115 k0_pay7 (weightedU mask (scoresU k0_pay7 q0 q1 q2 q3 kLo) r0 r2 r4 r6 vLo)
      (weightedU mask (scoresU k0_pay18 q0 q1 q2 q3 kHi) r1 r3 r5 r7 vHi) (ix2 r l) =
      headAt (fun k => mask (ix2 r k)) (fun e => q1 (ix2 r ⟨64 * (l.val / 64) + e.val, by omega⟩)) K
        (if l.val < 64 then s2 else s3) (fun k => V k ⟨l.val % 64, by omega⟩) := by
  have hr : ∀ h, (⟨(128 + r.val) % 128, h⟩ : Fin 128) = r := fun h => Fin.ext (by simp only; omega)
  have ht : ∀ {α : Type} (a0 a1 a2 a3 : α) (h : 128 + r.val < 512), tileOf a0 a1 a2 a3 ⟨128 + r.val, h⟩ = a1 := by
    intro α a0 a1 a2 a3 h
    unfold tileOf
    simp only
    split_ifs <;> first | rfl | omega
  rw [pick1]
  by_cases hl : l.val < 64
  · rw [if_pos hl, if_pos hl, lo_row mask q0 q1 q2 q3 kLo vLo r0 r2 r4 r6 K V s0 s2 s4 s6 hkl hvl h0 h2 h4 h6 _ _ hl]
    simp only [hr, ht]
  · rw [if_neg hl, if_neg hl, hi_row mask q0 q1 q2 q3 kHi vHi r1 r3 r5 r7 K V s1 s3 s5 s7 hkh hvh h1 h3 h5 h7 _ _ hl]
    simp only [hr, ht]

theorem tile2 (r l : Fin 128) :
    k0_pay116 k0_pay7 (weightedU mask (scoresU k0_pay7 q0 q1 q2 q3 kLo) r0 r2 r4 r6 vLo)
      (weightedU mask (scoresU k0_pay18 q0 q1 q2 q3 kHi) r1 r3 r5 r7 vHi) (ix2 r l) =
      headAt (fun k => mask (ix2 r k)) (fun e => q2 (ix2 r ⟨64 * (l.val / 64) + e.val, by omega⟩)) K
        (if l.val < 64 then s4 else s5) (fun k => V k ⟨l.val % 64, by omega⟩) := by
  have hr : ∀ h, (⟨(256 + r.val) % 128, h⟩ : Fin 128) = r := fun h => Fin.ext (by simp only; omega)
  have ht : ∀ {α : Type} (a0 a1 a2 a3 : α) (h : 256 + r.val < 512), tileOf a0 a1 a2 a3 ⟨256 + r.val, h⟩ = a2 := by
    intro α a0 a1 a2 a3 h
    unfold tileOf
    simp only
    split_ifs <;> first | rfl | omega
  rw [pick2]
  by_cases hl : l.val < 64
  · rw [if_pos hl, if_pos hl, lo_row mask q0 q1 q2 q3 kLo vLo r0 r2 r4 r6 K V s0 s2 s4 s6 hkl hvl h0 h2 h4 h6 _ _ hl]
    simp only [hr, ht]
  · rw [if_neg hl, if_neg hl, hi_row mask q0 q1 q2 q3 kHi vHi r1 r3 r5 r7 K V s1 s3 s5 s7 hkh hvh h1 h3 h5 h7 _ _ hl]
    simp only [hr, ht]

theorem tile3 (r l : Fin 128) :
    k0_pay117 k0_pay7 (weightedU mask (scoresU k0_pay7 q0 q1 q2 q3 kLo) r0 r2 r4 r6 vLo)
      (weightedU mask (scoresU k0_pay18 q0 q1 q2 q3 kHi) r1 r3 r5 r7 vHi) (ix2 r l) =
      headAt (fun k => mask (ix2 r k)) (fun e => q3 (ix2 r ⟨64 * (l.val / 64) + e.val, by omega⟩)) K
        (if l.val < 64 then s6 else s7) (fun k => V k ⟨l.val % 64, by omega⟩) := by
  have hr : ∀ h, (⟨(384 + r.val) % 128, h⟩ : Fin 128) = r := fun h => Fin.ext (by simp only; omega)
  have ht : ∀ {α : Type} (a0 a1 a2 a3 : α) (h : 384 + r.val < 512), tileOf a0 a1 a2 a3 ⟨384 + r.val, h⟩ = a3 := by
    intro α a0 a1 a2 a3 h
    unfold tileOf
    simp only
    split_ifs <;> first | rfl | omega
  rw [pick3]
  by_cases hl : l.val < 64
  · rw [if_pos hl, if_pos hl, lo_row mask q0 q1 q2 q3 kLo vLo r0 r2 r4 r6 K V s0 s2 s4 s6 hkl hvl h0 h2 h4 h6 _ _ hl]
    simp only [hr, ht]
  · rw [if_neg hl, if_neg hl, hi_row mask q0 q1 q2 q3 kHi vHi r1 r3 r5 r7 K V s1 s3 s5 s7 hkh hvh h1 h3 h5 h7 _ _ hl]
    simp only [hr, ht]

end

end Cert.AttnPromptIdeal.Gen
-- ==== Proof.PromptBlock.lean ====
/-
  Each of the sixteen stored tiles of a block, read at an index of the block: one element of the attention of the head
  the column belongs to, over the block's own keys and the keys of the block before.
-/
module

public import proofs.«01_k».proof.Proof.PromptTile

@[expose] public section

set_option maxRecDepth 16384

noncomputable section

open Idealize.ShloMosaic Idealize.ShloMosaic.TcCoe Idealize.SL.Sem

namespace Cert.AttnPromptIdeal.Gen

/-- The keys (or values) of key head `g` over a band: 128 rows of the block before, then 128 of the block itself. -/
def band (prev cur : Vec Ideal S128x256 .f32) (g : Fin 4) (k : Fin 256) (e : Fin 64) : EReal :=
  if h : k.val < 128 then prev (ix2 ⟨k.val, h⟩ ⟨64 * g.val + e.val, by omega⟩)
  else cur (ix2 ⟨k.val - 128, by omega⟩ ⟨64 * g.val + e.val, by omega⟩)

/-- What a block of the result holds, from the mask, the block of queries, the two blocks of keys and of values, and the sinks. -/
def blockOut (mask : IVec S128x256 1) (q : Vec Ideal S128x2048 .f32) (pk ck pv cv : Vec Ideal S128x256 .f32) (S : Fin 32 → EReal) (r : Fin 128) (w : Fin 2048) : EReal :=
  headAt (fun k => mask (ix2 r k)) (fun e => q (ix2 r ⟨64 * (w.val / 64) + e.val, by omega⟩)) (band pk ck ⟨w.val / 512, by omega⟩)
    (S ⟨w.val / 64, by omega⟩) (fun k => band pv cv ⟨w.val / 512, by omega⟩ k ⟨w.val % 64, by omega⟩)

theorem lt_pair0 (l : Fin 128) : l.val < 256 := by omega

theorem lt_pair1 (l : Fin 128) : 128 + l.val < 256 := by omega

section
variable (A B : Vec Ideal S128x128 .f32) (prev cur : Vec Ideal S128x256 .f32)

/-- Key head 0, as the first lane half meets it: the loaded tiles as they are. -/
theorem band0_lo (hA : ∀ r l, A (ix2 r l) = prev (ix2 r ⟨l.val, lt_pair0 l⟩)) (hB : ∀ r l, B (ix2 r l) = cur (ix2 r ⟨l.val, lt_pair0 l⟩))
    (k : Fin 256) (e : Fin 64) : k0_pay8 (k0_pay2 A B) (ix2 k ⟨e.val, lt_lo e⟩) = band prev cur 0 k e := by
  unfold band
  pointwise [k0_pay8, k0_pay2]
  simp only [hA, hB] <;> split_ifs <;> first
    | exact congrArg (fun z => prev (ix2 _ z)) (Fin.ext (by simp only; omega))
    | exact congrArg (fun z => cur (ix2 _ z)) (Fin.ext (by simp only; omega))

/-- Key head 0, as the second lane half meets it: the loaded tiles rotated by 64 lanes. -/
theorem band0_hi (hA : ∀ r l, A (ix2 r l) = prev (ix2 r ⟨l.val, lt_pair0 l⟩)) (hB : ∀ r l, B (ix2 r l) = cur (ix2 r ⟨l.val, lt_pair0 l⟩))
    (k : Fin 256) (e : Fin 64) : k0_pay12 (k0_pay2 A B) (ix2 k ⟨64 + e.val, lt_hi e⟩) = band prev cur 0 k e := by
  unfold band
  pointwise [k0_pay12, k0_pay2]
  simp only [hA, hB] <;> split_ifs <;> first
    | exact congrArg (fun z => prev (ix2 _ z)) (Fin.ext (by simp only; omega))
    | exact congrArg (fun z => cur (ix2 _ z)) (Fin.ext (by simp only; omega))

/-- Key head 1, as the first lane half meets it: the loaded tiles rotated by 64 lanes. -/
theorem band1_lo (hA : ∀ r l, A (ix2 r l) = prev (ix2 r ⟨l.val, lt_pair0 l⟩)) (hB : ∀ r l, B (ix2 r l) = cur (ix2 r ⟨l.val, lt_pair0 l⟩))
    (k : Fin 256) (e : Fin 64) : k0_pay12 (k0_pay2 A B) (ix2 k ⟨e.val, lt_lo e⟩) = band prev cur 1 k e := by
  unfold band
  pointwise [k0_pay12, k0_pay2]
  simp only [hA, hB] <;> split_ifs <;> first
    | exact congrArg (fun z => prev (ix2 _ z)) (Fin.ext (by simp only; omega))
    | exact congrArg (fun z => cur (ix2 _ z)) (Fin.ext (by simp only; omega))

/-- Key head 1, as the second lane half meets it: the loaded tiles as they are. -/
theorem band1_hi (hA : ∀ r l, A (ix2 r l) = prev (ix2 r ⟨l.val, lt_pair0 l⟩)) (hB : ∀ r l, B (ix2 r l) = cur (ix2 r ⟨l.val, lt_pair0 l⟩))
    (k : Fin 256) (e : Fin 64) : k0_pay8 (k0_pay2 A B) (ix2 k ⟨64 + e.val, lt_hi e⟩) = band prev cur 1 k e := by
  unfold band
  pointwise [k0_pay8, k0_pay2]
  simp only [hA, hB] <;> split_ifs <;> first
    | exact congrArg (fun z => prev (ix2 _ z)) (Fin.ext (by simp only; omega))
    | exact congrArg (fun z => cur (ix2 _ z)) (Fin.ext (by simp only; omega))

/-- Key head 2, as the first lane half meets it: the loaded tiles as they are. -/
theorem band2_lo (hA : ∀ r l, A (ix2 r l) = prev (ix2 r ⟨128 + l.val, lt_pair1 l⟩)) (hB : ∀ r l, B (ix2 r l) = cur (ix2 r ⟨128 + l.val, lt_pair1 l⟩))
    (k : Fin 256) (e : Fin 64) : k0_pay8 (k0_pay2 A B) (ix2 k ⟨e.val, lt_lo e⟩) = band prev cur 2 k e := by
  unfold band
  pointwise [k0_pay8, k0_pay2]
  simp only [hA, hB] <;> split_ifs <;> first
    | exact congrArg (fun z => prev (ix2 _ z)) (Fin.ext (by simp only; omega))
    | exact congrArg (fun z => cur (ix2 _ z)) (Fin.ext (by simp only; omega))

/-- Key head 2, as the second lane half meets it: the loaded tiles rotated by 64 lanes. -/
theorem band2_hi (hA : ∀ r l, A (ix2 r l) = prev (ix2 r ⟨128 + l.val, lt_pair1 l⟩)) (hB : ∀ r l, B (ix2 r l) = cur (ix2 r ⟨128 + l.val, lt_pair1 l⟩))
    (k : Fin 256) (e : Fin 64) : k0_pay12 (k0_pay2 A B) (ix2 k ⟨64 + e.val, lt_hi e⟩) = band prev cur 2 k e := by
  unfold band
  pointwise [k0_pay12, k0_pay2]
  simp only [hA, hB] <;> split_ifs <;> first
    | exact congrArg (fun z => prev (ix2 _ z)) (Fin.ext (by simp only; omega))
    | exact congrArg (fun z => cur (ix2 _ z)) (Fin.ext (by simp only; omega))

/-- Key head 3, as the first lane half meets it: the loaded tiles rotated by 64 lanes. -/
theorem band3_lo (hA : ∀ r l, A (ix2 r l) = prev (ix2 r ⟨128 + l.val, lt_pair1 l⟩)) (hB : ∀ r l, B (ix2 r l) = cur (ix2 r ⟨128 + l.val, lt_pair1 l⟩))
    (k : Fin 256) (e : Fin 64) : k0_pay12 (k0_pay2 A B) (ix2 k ⟨e.val, lt_lo e⟩) = band prev cur 3 k e := by
  unfold band
  pointwise [k0_pay12, k0_pay2]
  simp only [hA, hB] <;> split_ifs <;> first
    | exact congrArg (fun z => prev (ix2 _ z)) (Fin.ext (by simp only; omega))
    | exact congrArg (fun z => cur (ix2 _ z)) (Fin.ext (by simp only; omega))

/-- Key head 3, as the second lane half meets it: the loaded tiles as they are. -/
theorem band3_hi (hA : ∀ r l, A (ix2 r l) = prev (ix2 r ⟨128 + l.val, lt_pair1 l⟩)) (hB : ∀ r l, B (ix2 r l) = cur (ix2 r ⟨128 + l.val, lt_pair1 l⟩))
    (k : Fin 256) (e : Fin 64) : k0_pay8 (k0_pay2 A B) (ix2 k ⟨64 + e.val, lt_hi e⟩) = band prev cur 3 k e := by
  unfold band
  pointwise [k0_pay8, k0_pay2]
  simp only [hA, hB] <;> split_ifs <;> first
    | exact congrArg (fun z => prev (ix2 _ z)) (Fin.ext (by simp only; omega))
    | exact congrArg (fun z => cur (ix2 _ z)) (Fin.ext (by simp only; omega))

end

section
variable (mask : IVec S128x256 1) (q : Vec Ideal S128x2048 .f32) (kA kB vA vB : Vec Ideal S128x128 .f32)
  (r0 r1 r2 r3 r4 r5 r6 r7 : Vec Ideal S1x128 .f32) (pk ck pv cv : Vec Ideal S128x256 .f32) (S : Fin 32 → EReal)

/-- Tile 0. -/
theorem block0
    (hka : ∀ r l, kA (ix2 r l) = pk (ix2 r ⟨l.val, lt_pair0 l⟩))
    (hkb : ∀ r l, kB (ix2 r l) = ck (ix2 r ⟨l.val, lt_pair0 l⟩))
    (hva : ∀ r l, vA (ix2 r l) = pv (ix2 r ⟨l.val, lt_pair0 l⟩))
    (hvb : ∀ r l, vB (ix2 r l) = cv (ix2 r ⟨l.val, lt_pair0 l⟩))
    (h0 : ∀ x, r0 (ix2 0 x) = S 0)
    (h1 : ∀ x, r1 (ix2 0 x) = S 1)
    (h2 : ∀ x, r2 (ix2 0 x) = S 2)
    (h3 : ∀ x, r3 (ix2 0 x) = S 3)
    (h4 : ∀ x, r4 (ix2 0 x) = S 4)
    (h5 : ∀ x, r5 (ix2 0 x) = S 5)
    (h6 : ∀ x, r6 (ix2 0 x) = S 6)
    (h7 : ∀ x, r7 (ix2 0 x) = S 7)
    (r l : Fin 128) (w : Fin 2048) (hw : w.val = l.val) :
    (k0_pay100 k0_pay7 (k0_pay14 (k0_pay4 vA vB)) k0_pay37 (k0_pay50 (k0_pay16 mask) (k0_pay23 (k0_pay12 (k0_pay2 kA kB)) k0_pay18 (k0_pay19 (k0_pay1 q)) (k0_pay20 (k0_pay1 q)) (k0_pay21 (k0_pay1 q)) (k0_pay22 (k0_pay1 q)) (FloatOps.ofBits FTy.f32 0#32)) r1 r3 r5 r7) (k0_pay51 (k0_pay16 mask) (k0_pay23 (k0_pay12 (k0_pay2 kA kB)) k0_pay18 (k0_pay19 (k0_pay1 q)) (k0_pay20 (k0_pay1 q)) (k0_pay21 (k0_pay1 q)) (k0_pay22 (k0_pay1 q)) (FloatOps.ofBits FTy.f32 0#32)) r1 r3 r5 r7) (k0_pay90 (k0_pay10 (k0_pay4 vA vB)) (k0_pay45 (k0_pay38 (k0_pay16 mask) (k0_pay17 (k0_pay1 q) (k0_pay2 kA kB))) (k0_pay39 r0) (k0_pay40 r2) (k0_pay41 r4) (k0_pay42 r6))) (k0_pay91 k0_pay37 (k0_pay45 (k0_pay38 (k0_pay16 mask) (k0_pay17 (k0_pay1 q) (k0_pay2 kA kB))) (k0_pay39 r0) (k0_pay40 r2) (k0_pay41 r4) (k0_pay42 r6)) (k0_pay46 (k0_pay38 (k0_pay16 mask) (k0_pay17 (k0_pay1 q) (k0_pay2 kA kB))) (k0_pay39 r0) (k0_pay40 r2) (k0_pay41 r4) (k0_pay42 r6))) : FVec Ideal S128x128 .f32) (ix2 r l) =
      blockOut mask q pk ck pv cv S r w := by
  refine (show _ = k0_pay114 k0_pay7
      (weightedU mask (scoresU k0_pay7 (extractStridedSlice S128x128 ![0, 0] (k0_pay1 q) slices_S128x2048_o0_0_S128x128) (extractStridedSlice S128x128 ![0, 128] (k0_pay1 q) slices_S128x2048_o0_128_S128x128) (extractStridedSlice S128x128 ![0, 256] (k0_pay1 q) slices_S128x2048_o0_256_S128x128) (extractStridedSlice S128x128 ![0, 384] (k0_pay1 q) slices_S128x2048_o0_384_S128x128) (k0_pay8 (k0_pay2 kA kB))) r0 r2 r4 r6 (k0_pay8 (k0_pay2 vA vB)))
      (weightedU mask (scoresU k0_pay18 (extractStridedSlice S128x128 ![0, 0] (k0_pay1 q) slices_S128x2048_o0_0_S128x128) (extractStridedSlice S128x128 ![0, 128] (k0_pay1 q) slices_S128x2048_o0_128_S128x128) (extractStridedSlice S128x128 ![0, 256] (k0_pay1 q) slices_S128x2048_o0_256_S128x128) (extractStridedSlice S128x128 ![0, 384] (k0_pay1 q) slices_S128x2048_o0_384_S128x128) (k0_pay12 (k0_pay2 kA kB))) r1 r3 r5 r7 (k0_pay12 (k0_pay2 vA vB))) (ix2 r l) from rfl).trans
    ((tile0 mask _ _ _ _ _ _ _ _ r0 r1 r2 r3 r4 r5 r6 r7 (band pk ck 0) (band pv cv 0) _ _ _ _ _ _ _ _
      (band0_lo kA kB pk ck hka hkb) (band0_hi kA kB pk ck hka hkb) (band0_lo vA vB pv cv hva hvb) (band0_hi vA vB pv cv hva hvb)
      h0 h1 h2 h3 h4 h5 h6 h7 r l).trans ?_)
  have hl : w.val % 64 = l.val % 64 := by omega
  have hg : (⟨w.val / 512, by omega⟩ : Fin 4) = 0 := Fin.ext (by simp only [Fin.val_ofNat]; omega)
  have hq : ∀ e : Fin 64, (extractStridedSlice S128x128 ![0, 0] (k0_pay1 q) slices_S128x2048_o0_0_S128x128) (ix2 r ⟨64 * (l.val / 64) + e.val, by omega⟩) = q (ix2 r ⟨64 * (w.val / 64) + e.val, by omega⟩) := by
    intro e
    pointwise [k0_pay1]
    exact congrArg (fun z => q (ix2 r z)) (Fin.ext (by simp only; omega))
  have hS : (if l.val < 64 then S 0 else S 1) = S ⟨w.val / 64, by omega⟩ := by
    split_ifs
    · exact congrArg S (Fin.ext (by simp only [Fin.val_ofNat]; omega))
    · exact congrArg S (Fin.ext (by simp only [Fin.val_ofNat]; omega))
  unfold blockOut
  simp only [hq, hS, hg, hl]

/-- Tile 1. -/
theorem block1
    (hka : ∀ r l, kA (ix2 r l) = pk (ix2 r ⟨l.val, lt_pair0 l⟩))
    (hkb : ∀ r l, kB (ix2 r l) = ck (ix2 r ⟨l.val, lt_pair0 l⟩))
    (hva : ∀ r l, vA (ix2 r l) = pv (ix2 r ⟨l.val, lt_pair0 l⟩))
    (hvb : ∀ r l, vB (ix2 r l) = cv (ix2 r ⟨l.val, lt_pair0 l⟩))
    (h0 : ∀ x, r0 (ix2 0 x) = S 0)
    (h1 : ∀ x, r1 (ix2 0 x) = S 1)
    (h2 : ∀ x, r2 (ix2 0 x) = S 2)
    (h3 : ∀ x, r3 (ix2 0 x) = S 3)
    (h4 : ∀ x, r4 (ix2 0 x) = S 4)
    (h5 : ∀ x, r5 (ix2 0 x) = S 5)
    (h6 : ∀ x, r6 (ix2 0 x) = S 6)
    (h7 : ∀ x, r7 (ix2 0 x) = S 7)
    (r l : Fin 128) (w : Fin 2048) (hw : w.val = 128 + l.val) :
    (k0_pay101 k0_pay7 (k0_pay14 (k0_pay4 vA vB)) k0_pay37 (k0_pay50 (k0_pay16 mask) (k0_pay23 (k0_pay12 (k0_pay2 kA kB)) k0_pay18 (k0_pay19 (k0_pay1 q)) (k0_pay20 (k0_pay1 q)) (k0_pay21 (k0_pay1 q)) (k0_pay22 (k0_pay1 q)) (FloatOps.ofBits FTy.f32 0#32)) r1 r3 r5 r7) (k0_pay51 (k0_pay16 mask) (k0_pay23 (k0_pay12 (k0_pay2 kA kB)) k0_pay18 (k0_pay19 (k0_pay1 q)) (k0_pay20 (k0_pay1 q)) (k0_pay21 (k0_pay1 q)) (k0_pay22 (k0_pay1 q)) (FloatOps.ofBits FTy.f32 0#32)) r1 r3 r5 r7) (k0_pay90 (k0_pay10 (k0_pay4 vA vB)) (k0_pay45 (k0_pay38 (k0_pay16 mask) (k0_pay17 (k0_pay1 q) (k0_pay2 kA kB))) (k0_pay39 r0) (k0_pay40 r2) (k0_pay41 r4) (k0_pay42 r6))) (k0_pay91 k0_pay37 (k0_pay45 (k0_pay38 (k0_pay16 mask) (k0_pay17 (k0_pay1 q) (k0_pay2 kA kB))) (k0_pay39 r0) (k0_pay40 r2) (k0_pay41 r4) (k0_pay42 r6)) (k0_pay46 (k0_pay38 (k0_pay16 mask) (k0_pay17 (k0_pay1 q) (k0_pay2 kA kB))) (k0_pay39 r0) (k0_pay40 r2) (k0_pay41 r4) (k0_pay42 r6))) : FVec Ideal S128x128 .f32) (ix2 r l) =
      blockOut mask q pk ck pv cv S r w := by
  refine (show _ = k0_pay115 k0_pay7
      (weightedU mask (scoresU k0_pay7 (extractStridedSlice S128x128 ![0, 0] (k0_pay1 q) slices_S128x2048_o0_0_S128x128) (extractStridedSlice S128x128 ![0, 128] (k0_pay1 q) slices_S128x2048_o0_128_S128x128) (extractStridedSlice S128x128 ![0, 256] (k0_pay1 q) slices_S128x2048_o0_256_S128x128) (extractStridedSlice S128x128 ![0, 384] (k0_pay1 q) slices_S128x2048_o0_384_S128x128) (k0_pay8 (k0_pay2 kA kB))) r0 r2 r4 r6 (k0_pay8 (k0_pay2 vA vB)))
      (weightedU mask (scoresU k0_pay18 (extractStridedSlice S128x128 ![0, 0] (k0_pay1 q) slices_S128x2048_o0_0_S128x128) (extractStridedSlice S128x128 ![0, 128] (k0_pay1 q) slices_S128x2048_o0_128_S128x128) (extractStridedSlice S128x128 ![0, 256] (k0_pay1 q) slices_S128x2048_o0_256_S128x128) (extractStridedSlice S128x128 ![0, 384] (k0_pay1 q) slices_S128x2048_o0_384_S128x128) (k0_pay12 (k0_pay2 kA kB))) r1 r3 r5 r7 (k0_pay12 (k0_pay2 vA vB))) (ix2 r l) from rfl).trans
    ((tile1 mask _ _ _ _ _ _ _ _ r0 r1 r2 r3 r4 r5 r6 r7 (band pk ck 0) (band pv cv 0) _ _ _ _ _ _ _ _
      (band0_lo kA kB pk ck hka hkb) (band0_hi kA kB pk ck hka hkb) (band0_lo vA vB pv cv hva hvb) (band0_hi vA vB pv cv hva hvb)
      h0 h1 h2 h3 h4 h5 h6 h7 r l).trans ?_)
  have hl : w.val % 64 = l.val % 64 := by omega
  have hg : (⟨w.val / 512, by omega⟩ : Fin 4) = 0 := Fin.ext (by simp only [Fin.val_ofNat]; omega)
  have hq : ∀ e : Fin 64, (extractStridedSlice S128x128 ![0, 128] (k0_pay1 q) slices_S128x2048_o0_128_S128x128) (ix2 r ⟨64 * (l.val / 64) + e.val, by omega⟩) = q (ix2 r ⟨64 * (w.val / 64) + e.val, by omega⟩) := by
    intro e
    pointwise [k0_pay1]
    exact congrArg (fun z => q (ix2 r z)) (Fin.ext (by simp only; omega))
  have hS : (if l.val < 64 then S 2 else S 3) = S ⟨w.val / 64, by omega⟩ := by
    split_ifs
    · exact congrArg S (Fin.ext (by simp only [Fin.val_ofNat]; omega))
    · exact congrArg S (Fin.ext (by simp only [Fin.val_ofNat]; omega))
  unfold blockOut
  simp only [hq, hS, hg, hl]

/-- Tile 2. -/
theorem block2
    (hka : ∀ r l, kA (ix2 r l) = pk (ix2 r ⟨l.val, lt_pair0 l⟩))
    (hkb : ∀ r l, kB (ix2 r l) = ck (ix2 r ⟨l.val, lt_pair0 l⟩))
    (hva : ∀ r l, vA (ix2 r l) = pv (ix2 r ⟨l.val, lt_pair0 l⟩))
    (hvb : ∀ r l, vB (ix2 r l) = cv (ix2 r ⟨l.val, lt_pair0 l⟩))
    (h0 : ∀ x, r0 (ix2 0 x) = S 0)
    (h1 : ∀ x, r1 (ix2 0 x) = S 1)
    (h2 : ∀ x, r2 (ix2 0 x) = S 2)
    (h3 : ∀ x, r3 (ix2 0 x) = S 3)
    (h4 : ∀ x, r4 (ix2 0 x) = S 4)
    (h5 : ∀ x, r5 (ix2 0 x) = S 5)
    (h6 : ∀ x, r6 (ix2 0 x) = S 6)
    (h7 : ∀ x, r7 (ix2 0 x) = S 7)
    (r l : Fin 128) (w : Fin 2048) (hw : w.val = 256 + l.val) :
    (k0_pay102 k0_pay7 (k0_pay14 (k0_pay4 vA vB)) k0_pay37 (k0_pay50 (k0_pay16 mask) (k0_pay23 (k0_pay12 (k0_pay2 kA kB)) k0_pay18 (k0_pay19 (k0_pay1 q)) (k0_pay20 (k0_pay1 q)) (k0_pay21 (k0_pay1 q)) (k0_pay22 (k0_pay1 q)) (FloatOps.ofBits FTy.f32 0#32)) r1 r3 r5 r7) (k0_pay51 (k0_pay16 mask) (k0_pay23 (k0_pay12 (k0_pay2 kA kB)) k0_pay18 (k0_pay19 (k0_pay1 q)) (k0_pay20 (k0_pay1 q)) (k0_pay21 (k0_pay1 q)) (k0_pay22 (k0_pay1 q)) (FloatOps.ofBits FTy.f32 0#32)) r1 r3 r5 r7) (k0_pay90 (k0_pay10 (k0_pay4 vA vB)) (k0_pay45 (k0_pay38 (k0_pay16 mask) (k0_pay17 (k0_pay1 q) (k0_pay2 kA kB))) (k0_pay39 r0) (k0_pay40 r2) (k0_pay41 r4) (k0_pay42 r6))) (k0_pay91 k0_pay37 (k0_pay45 (k0_pay38 (k0_pay16 mask) (k0_pay17 (k0_pay1 q) (k0_pay2 kA kB))) (k0_pay39 r0) (k0_pay40 r2) (k0_pay41 r4) (k0_pay42 r6)) (k0_pay46 (k0_pay38 (k0_pay16 mask) (k0_pay17 (k0_pay1 q) (k0_pay2 kA kB))) (k0_pay39 r0) (k0_pay40 r2) (k0_pay41 r4) (k0_pay42 r6))) : FVec Ideal S128x128 .f32) (ix2 r l) =
      blockOut mask q pk ck pv cv S r w := by
  refine (show _ = k0_pay116 k0_pay7
      (weightedU mask (scoresU k0_pay7 (extractStridedSlice S128x128 ![0, 0] (k0_pay1 q) slices_S128x2048_o0_0_S128x128) (extractStridedSlice S128x128 ![0, 128] (k0_pay1 q) slices_S128x2048_o0_128_S128x128) (extractStridedSlice S128x128 ![0, 256] (k0_pay1 q) slices_S128x2048_o0_256_S128x128) (extractStridedSlice S128x128 ![0, 384] (k0_pay1 q) slices_S128x2048_o0_384_S128x128) (k0_pay8 (k0_pay2 kA kB))) r0 r2 r4 r6 (k0_pay8 (k0_pay2 vA vB)))
      (weightedU mask (scoresU k0_pay18 (extractStridedSlice S128x128 ![0, 0] (k0_pay1 q) slices_S128x2048_o0_0_S128x128) (extractStridedSlice S128x128 ![0, 128] (k0_pay1 q) slices_S128x2048_o0_128_S128x128) (extractStridedSlice S128x128 ![0, 256] (k0_pay1 q) slices_S128x2048_o0_256_S128x128) (extractStridedSlice S128x128 ![0, 384] (k0_pay1 q) slices_S128x2048_o0_384_S128x128) (k0_pay12 (k0_pay2 kA kB))) r1 r3 r5 r7 (k0_pay12 (k0_pay2 vA vB))) (ix2 r l) from rfl).trans
    ((tile2 mask _ _ _ _ _ _ _ _ r0 r1 r2 r3 r4 r5 r6 r7 (band pk ck 0) (band pv cv 0) _ _ _ _ _ _ _ _
      (band0_lo kA kB pk ck hka hkb) (band0_hi kA kB pk ck hka hkb) (band0_lo vA vB pv cv hva hvb) (band0_hi vA vB pv cv hva hvb)
      h0 h1 h2 h3 h4 h5 h6 h7 r l).trans ?_)
  have hl : w.val % 64 = l.val % 64 := by omega
  have hg : (⟨w.val / 512, by omega⟩ : Fin 4) = 0 := Fin.ext (by simp only [Fin.val_ofNat]; omega)
  have hq : ∀ e : Fin 64, (extractStridedSlice S128x128 ![0, 256] (k0_pay1 q) slices_S128x2048_o0_256_S128x128) (ix2 r ⟨64 * (l.val / 64) + e.val, by omega⟩) = q (ix2 r ⟨64 * (w.val / 64) + e.val, by omega⟩) := by
    intro e
    pointwise [k0_pay1]
    exact congrArg (fun z => q (ix2 r z)) (Fin.ext (by simp only; omega))
  have hS : (if l.val < 64 then S 4 else S 5) = S ⟨w.val / 64, by omega⟩ := by
    split_ifs
    · exact congrArg S (Fin.ext (by simp only [Fin.val_ofNat]; omega))
    · exact congrArg S (Fin.ext (by simp only [Fin.val_ofNat]; omega))
  unfold blockOut
  simp only [hq, hS, hg, hl]

/-- Tile 3. -/
theorem block3
    (hka : ∀ r l, kA (ix2 r l) = pk (ix2 r ⟨l.val, lt_pair0 l⟩))
    (hkb : ∀ r l, kB (ix2 r l) = ck (ix2 r ⟨l.val, lt_pair0 l⟩))
    (hva : ∀ r l, vA (ix2 r l) = pv (ix2 r ⟨l.val, lt_pair0 l⟩))
    (hvb : ∀ r l, vB (ix2 r l) = cv (ix2 r ⟨l.val, lt_pair0 l⟩))
    (h0 : ∀ x, r0 (ix2 0 x) = S 0)
    (h1 : ∀ x, r1 (ix2 0 x) = S 1)
    (h2 : ∀ x, r2 (ix2 0 x) = S 2)
    (h3 : ∀ x, r3 (ix2 0 x) = S 3)
    (h4 : ∀ x, r4 (ix2 0 x) = S 4)
    (h5 : ∀ x, r5 (ix2 0 x) = S 5)
    (h6 : ∀ x, r6 (ix2 0 x) = S 6)
    (h7 : ∀ x, r7 (ix2 0 x) = S 7)
    (r l : Fin 128) (w : Fin 2048) (hw : w.val = 384 + l.val) :
    (k0_pay103 k0_pay7 (k0_pay14 (k0_pay4 vA vB)) k0_pay37 (k0_pay50 (k0_pay16 mask) (k0_pay23 (k0_pay12 (k0_pay2 kA kB)) k0_pay18 (k0_pay19 (k0_pay1 q)) (k0_pay20 (k0_pay1 q)) (k0_pay21 (k0_pay1 q)) (k0_pay22 (k0_pay1 q)) (FloatOps.ofBits FTy.f32 0#32)) r1 r3 r5 r7) (k0_pay51 (k0_pay16 mask) (k0_pay23 (k0_pay12 (k0_pay2 kA kB)) k0_pay18 (k0_pay19 (k0_pay1 q)) (k0_pay20 (k0_pay1 q)) (k0_pay21 (k0_pay1 q)) (k0_pay22 (k0_pay1 q)) (FloatOps.ofBits FTy.f32 0#32)) r1 r3 r5 r7) (k0_pay90 (k0_pay10 (k0_pay4 vA vB)) (k0_pay45 (k0_pay38 (k0_pay16 mask) (k0_pay17 (k0_pay1 q) (k0_pay2 kA kB))) (k0_pay39 r0) (k0_pay40 r2) (k0_pay41 r4) (k0_pay42 r6))) (k0_pay91 k0_pay37 (k0_pay45 (k0_pay38 (k0_pay16 mask) (k0_pay17 (k0_pay1 q) (k0_pay2 kA kB))) (k0_pay39 r0) (k0_pay40 r2) (k0_pay41 r4) (k0_pay42 r6)) (k0_pay46 (k0_pay38 (k0_pay16 mask) (k0_pay17 (k0_pay1 q) (k0_pay2 kA kB))) (k0_pay39 r0) (k0_pay40 r2) (k0_pay41 r4) (k0_pay42 r6))) : FVec Ideal S128x128 .f32) (ix2 r l) =
      blockOut mask q pk ck pv cv S r w := by
  refine (show _ = k0_pay117 k0_pay7
      (weightedU mask (scoresU k0_pay7 (extractStridedSlice S128x128 ![0, 0] (k0_pay1 q) slices_S128x2048_o0_0_S128x128) (extractStridedSlice S128x128 ![0, 128] (k0_pay1 q) slices_S128x2048_o0_128_S128x128) (extractStridedSlice S128x128 ![0, 256] (k0_pay1 q) slices_S128x2048_o0_256_S128x128) (extractStridedSlice S128x128 ![0, 384] (k0_pay1 q) slices_S128x2048_o0_384_S128x128) (k0_pay8 (k0_pay2 kA kB))) r0 r2 r4 r6 (k0_pay8 (k0_pay2 vA vB)))
      (weightedU mask (scoresU k0_pay18 (extractStridedSlice S128x128 ![0, 0] (k0_pay1 q) slices_S128x2048_o0_0_S128x128) (extractStridedSlice S128x128 ![0, 128] (k0_pay1 q) slices_S128x2048_o0_128_S128x128) (extractStridedSlice S128x128 ![0, 256] (k0_pay1 q) slices_S128x2048_o0_256_S128x128) (extractStridedSlice S128x128 ![0, 384] (k0_pay1 q) slices_S128x2048_o0_384_S128x128) (k0_pay12 (k0_pay2 kA kB))) r1 r3 r5 r7 (k0_pay12 (k0_pay2 vA vB))) (ix2 r l) from rfl).trans
    ((tile3 mask _ _ _ _ _ _ _ _ r0 r1 r2 r3 r4 r5 r6 r7 (band pk ck 0) (band pv cv 0) _ _ _ _ _ _ _ _
      (band0_lo kA kB pk ck hka hkb) (band0_hi kA kB pk ck hka hkb) (band0_lo vA vB pv cv hva hvb) (band0_hi vA vB pv cv hva hvb)
      h0 h1 h2 h3 h4 h5 h6 h7 r l).trans ?_)
  have hl : w.val % 64 = l.val % 64 := by omega
  have hg : (⟨w.val / 512, by omega⟩ : Fin 4) = 0 := Fin.ext (by simp only [Fin.val_ofNat]; omega)
  have hq : ∀ e : Fin 64, (extractStridedSlice S128x128 ![0, 384] (k0_pay1 q) slices_S128x2048_o0_384_S128x128) (ix2 r ⟨64 * (l.val / 64) + e.val, by omega⟩) = q (ix2 r ⟨64 * (w.val / 64) + e.val, by omega⟩) := by
    intro e
    pointwise [k0_pay1]
    exact congrArg (fun z => q (ix2 r z)) (Fin.ext (by simp only; omega))
  have hS : (if l.val < 64 then S 6 else S 7) = S ⟨w.val / 64, by omega⟩ := by
    split_ifs
    · exact congrArg S (Fin.ext (by simp only [Fin.val_ofNat]; omega))
    · exact congrArg S (Fin.ext (by simp only [Fin.val_ofNat]; omega))
  unfold blockOut
  simp only [hq, hS, hg, hl]

/-- Tile 4. -/
theorem block4
    (hka : ∀ r l, kA (ix2 r l) = pk (ix2 r ⟨l.val, lt_pair0 l⟩))
    (hkb : ∀ r l, kB (ix2 r l) = ck (ix2 r ⟨l.val, lt_pair0 l⟩))
    (hva : ∀ r l, vA (ix2 r l) = pv (ix2 r ⟨l.val, lt_pair0 l⟩))
    (hvb : ∀ r l, vB (ix2 r l) = cv (ix2 r ⟨l.val, lt_pair0 l⟩))
    (h0 : ∀ x, r0 (ix2 0 x) = S 8)
    (h1 : ∀ x, r1 (ix2 0 x) = S 9)
    (h2 : ∀ x, r2 (ix2 0 x) = S 10)
    (h3 : ∀ x, r3 (ix2 0 x) = S 11)
    (h4 : ∀ x, r4 (ix2 0 x) = S 12)
    (h5 : ∀ x, r5 (ix2 0 x) = S 13)
    (h6 : ∀ x, r6 (ix2 0 x) = S 14)
    (h7 : ∀ x, r7 (ix2 0 x) = S 15)
    (r l : Fin 128) (w : Fin 2048) (hw : w.val = 512 + l.val) :
    (k0_pay104 k0_pay7 (k0_pay10 (k0_pay4 vA vB)) (k0_pay14 (k0_pay4 vA vB)) k0_pay37 (k0_pay55 (k0_pay52 (k0_pay16 mask) (k0_pay24 (k0_pay1 q) k0_pay7 (k0_pay12 (k0_pay2 kA kB)))) r0 r2 r4 r6) (k0_pay56 (k0_pay52 (k0_pay16 mask) (k0_pay24 (k0_pay1 q) k0_pay7 (k0_pay12 (k0_pay2 kA kB)))) r0 r2 r4 r6) (k0_pay64 (k0_pay57 (k0_pay16 mask) (k0_pay25 (k0_pay1 q) k0_pay7 (k0_pay8 (k0_pay2 kA kB)))) (k0_pay58 r1) (k0_pay59 r3) (k0_pay60 r5) (k0_pay61 r7)) (k0_pay65 (k0_pay57 (k0_pay16 mask) (k0_pay25 (k0_pay1 q) k0_pay7 (k0_pay8 (k0_pay2 kA kB)))) (k0_pay58 r1) (k0_pay59 r3) (k0_pay60 r5) (k0_pay61 r7)) : FVec Ideal S128x128 .f32) (ix2 r l) =
      blockOut mask q pk ck pv cv S r w := by
  refine (show _ = k0_pay114 k0_pay7
      (weightedU mask (scoresU k0_pay7 (extractStridedSlice S128x128 ![0, 512] (k0_pay1 q) slices_S128x2048_o0_512_S128x128) (extractStridedSlice S128x128 ![0, 640] (k0_pay1 q) slices_S128x2048_o0_640_S128x128) (extractStridedSlice S128x128 ![0, 768] (k0_pay1 q) slices_S128x2048_o0_768_S128x128) (extractStridedSlice S128x128 ![0, 896] (k0_pay1 q) slices_S128x2048_o0_896_S128x128) (k0_pay12 (k0_pay2 kA kB))) r0 r2 r4 r6 (k0_pay12 (k0_pay2 vA vB)))
      (weightedU mask (scoresU k0_pay18 (extractStridedSlice S128x128 ![0, 512] (k0_pay1 q) slices_S128x2048_o0_512_S128x128) (extractStridedSlice S128x128 ![0, 640] (k0_pay1 q) slices_S128x2048_o0_640_S128x128) (extractStridedSlice S128x128 ![0, 768] (k0_pay1 q) slices_S128x2048_o0_768_S128x128) (extractStridedSlice S128x128 ![0, 896] (k0_pay1 q) slices_S128x2048_o0_896_S128x128) (k0_pay8 (k0_pay2 kA kB))) r1 r3 r5 r7 (k0_pay8 (k0_pay2 vA vB))) (ix2 r l) from rfl).trans
    ((tile0 mask _ _ _ _ _ _ _ _ r0 r1 r2 r3 r4 r5 r6 r7 (band pk ck 1) (band pv cv 1) _ _ _ _ _ _ _ _
      (band1_lo kA kB pk ck hka hkb) (band1_hi kA kB pk ck hka hkb) (band1_lo vA vB pv cv hva hvb) (band1_hi vA vB pv cv hva hvb)
      h0 h1 h2 h3 h4 h5 h6 h7 r l).trans ?_)
  have hl : w.val % 64 = l.val % 64 := by omega
  have hg : (⟨w.val / 512, by omega⟩ : Fin 4) = 1 := Fin.ext (by simp only [Fin.val_ofNat]; omega)
  have hq : ∀ e : Fin 64, (extractStridedSlice S128x128 ![0, 512] (k0_pay1 q) slices_S128x2048_o0_512_S128x128) (ix2 r ⟨64 * (l.val / 64) + e.val, by omega⟩) = q (ix2 r ⟨64 * (w.val / 64) + e.val, by omega⟩) := by
    intro e
    pointwise [k0_pay1]
    exact congrArg (fun z => q (ix2 r z)) (Fin.ext (by simp only; omega))
  have hS : (if l.val < 64 then S 8 else S 9) = S ⟨w.val / 64, by omega⟩ := by
    split_ifs
    · exact congrArg S (Fin.ext (by simp only [Fin.val_ofNat]; omega))
    · exact congrArg S (Fin.ext (by simp only [Fin.val_ofNat]; omega))
  unfold blockOut
  simp only [hq, hS, hg, hl]

/-- Tile 5. -/
theorem block5
    (hka : ∀ r l, kA (ix2 r l) = pk (ix2 r ⟨l.val, lt_pair0 l⟩))
    (hkb : ∀ r l, kB (ix2 r l) = ck (ix2 r ⟨l.val, lt_pair0 l⟩))
    (hva : ∀ r l, vA (ix2 r l) = pv (ix2 r ⟨l.val, lt_pair0 l⟩))
    (hvb : ∀ r l, vB (ix2 r l) = cv (ix2 r ⟨l.val, lt_pair0 l⟩))
    (h0 : ∀ x, r0 (ix2 0 x) = S 8)
    (h1 : ∀ x, r1 (ix2 0 x) = S 9)
    (h2 : ∀ x, r2 (ix2 0 x) = S 10)
    (h3 : ∀ x, r3 (ix2 0 x) = S 11)
    (h4 : ∀ x, r4 (ix2 0 x) = S 12)
    (h5 : ∀ x, r5 (ix2 0 x) = S 13)
    (h6 : ∀ x, r6 (ix2 0 x) = S 14)
    (h7 : ∀ x, r7 (ix2 0 x) = S 15)
    (r l : Fin 128) (w : Fin 2048) (hw : w.val = 640 + l.val) :
    (k0_pay107 k0_pay7 (k0_pay105 (k0_pay14 (k0_pay4 vA vB)) k0_pay37 (k0_pay55 (k0_pay52 (k0_pay16 mask) (k0_pay24 (k0_pay1 q) k0_pay7 (k0_pay12 (k0_pay2 kA kB)))) r0 r2 r4 r6) (k0_pay56 (k0_pay52 (k0_pay16 mask) (k0_pay24 (k0_pay1 q) k0_pay7 (k0_pay12 (k0_pay2 kA kB)))) r0 r2 r4 r6)) (k0_pay106 (k0_pay10 (k0_pay4 vA vB)) k0_pay37 (k0_pay64 (k0_pay57 (k0_pay16 mask) (k0_pay25 (k0_pay1 q) k0_pay7 (k0_pay8 (k0_pay2 kA kB)))) (k0_pay58 r1) (k0_pay59 r3) (k0_pay60 r5) (k0_pay61 r7)) (k0_pay65 (k0_pay57 (k0_pay16 mask) (k0_pay25 (k0_pay1 q) k0_pay7 (k0_pay8 (k0_pay2 kA kB)))) (k0_pay58 r1) (k0_pay59 r3) (k0_pay60 r5) (k0_pay61 r7))) : FVec Ideal S128x128 .f32) (ix2 r l) =
      blockOut mask q pk ck pv cv S r w := by
  refine (show _ = k0_pay115 k0_pay7
      (weightedU mask (scoresU k0_pay7 (extractStridedSlice S128x128 ![0, 512] (k0_pay1 q) slices_S128x2048_o0_512_S128x128) (extractStridedSlice S128x128 ![0, 640] (k0_pay1 q) slices_S128x2048_o0_640_S128x128) (extractStridedSlice S128x128 ![0, 768] (k0_pay1 q) slices_S128x2048_o0_768_S128x128) (extractStridedSlice S128x128 ![0, 896] (k0_pay1 q) slices_S128x2048_o0_896_S128x128) (k0_pay12 (k0_pay2 kA kB))) r0 r2 r4 r6 (k0_pay12 (k0_pay2 vA vB)))
      (weightedU mask (scoresU k0_pay18 (extractStridedSlice S128x128 ![0, 512] (k0_pay1 q) slices_S128x2048_o0_512_S128x128) (extractStridedSlice S128x128 ![0, 640] (k0_pay1 q) slices_S128x2048_o0_640_S128x128) (extractStridedSlice S128x128 ![0, 768] (k0_pay1 q) slices_S128x2048_o0_768_S128x128) (extractStridedSlice S128x128 ![0, 896] (k0_pay1 q) slices_S128x2048_o0_896_S128x128) (k0_pay8 (k0_pay2 kA kB))) r1 r3 r5 r7 (k0_pay8 (k0_pay2 vA vB))) (ix2 r l) from rfl).trans
    ((tile1 mask _ _ _ _ _ _ _ _ r0 r1 r2 r3 r4 r5 r6 r7 (band pk ck 1) (band pv cv 1) _ _ _ _ _ _ _ _
      (band1_lo kA kB pk ck hka hkb) (band1_hi kA kB pk ck hka hkb) (band1_lo vA vB pv cv hva hvb) (band1_hi vA vB pv cv hva hvb)
      h0 h1 h2 h3 h4 h5 h6 h7 r l).trans ?_)
  have hl : w.val % 64 = l.val % 64 := by omega
  have hg : (⟨w.val / 512, by omega⟩ : Fin 4) = 1 := Fin.ext (by simp only [Fin.val_ofNat]; omega)
  have hq : ∀ e : Fin 64, (extractStridedSlice S128x128 ![0, 640] (k0_pay1 q) slices_S128x2048_o0_640_S128x128) (ix2 r ⟨64 * (l.val / 64) + e.val, by omega⟩) = q (ix2 r ⟨64 * (w.val / 64) + e.val, by omega⟩) := by
    intro e
    pointwise [k0_pay1]
    exact congrArg (fun z => q (ix2 r z)) (Fin.ext (by simp only; omega))
  have hS : (if l.val < 64 then S 10 else S 11) = S ⟨w.val / 64, by omega⟩ := by
    split_ifs
    · exact congrArg S (Fin.ext (by simp only [Fin.val_ofNat]; omega))
    · exact congrArg S (Fin.ext (by simp only [Fin.val_ofNat]; omega))
  unfold blockOut
  simp only [hq, hS, hg, hl]

/-- Tile 6. -/
theorem block6
    (hka : ∀ r l, kA (ix2 r l) = pk (ix2 r ⟨l.val, lt_pair0 l⟩))
    (hkb : ∀ r l, kB (ix2 r l) = ck (ix2 r ⟨l.val, lt_pair0 l⟩))
    (hva : ∀ r l, vA (ix2 r l) = pv (ix2 r ⟨l.val, lt_pair0 l⟩))
    (hvb : ∀ r l, vB (ix2 r l) = cv (ix2 r ⟨l.val, lt_pair0 l⟩))
    (h0 : ∀ x, r0 (ix2 0 x) = S 8)
    (h1 : ∀ x, r1 (ix2 0 x) = S 9)
    (h2 : ∀ x, r2 (ix2 0 x) = S 10)
    (h3 : ∀ x, r3 (ix2 0 x) = S 11)
    (h4 : ∀ x, r4 (ix2 0 x) = S 12)
    (h5 : ∀ x, r5 (ix2 0 x) = S 13)
    (h6 : ∀ x, r6 (ix2 0 x) = S 14)
    (h7 : ∀ x, r7 (ix2 0 x) = S 15)
    (r l : Fin 128) (w : Fin 2048) (hw : w.val = 768 + l.val) :
    (k0_pay108 k0_pay7 (k0_pay94 (k0_pay14 (k0_pay4 vA vB)) k0_pay37 (k0_pay55 (k0_pay52 (k0_pay16 mask) (k0_pay24 (k0_pay1 q) k0_pay7 (k0_pay12 (k0_pay2 kA kB)))) r0 r2 r4 r6) (k0_pay56 (k0_pay52 (k0_pay16 mask) (k0_pay24 (k0_pay1 q) k0_pay7 (k0_pay12 (k0_pay2 kA kB)))) r0 r2 r4 r6)) (k0_pay95 (k0_pay10 (k0_pay4 vA vB)) k0_pay37 (k0_pay64 (k0_pay57 (k0_pay16 mask) (k0_pay25 (k0_pay1 q) k0_pay7 (k0_pay8 (k0_pay2 kA kB)))) (k0_pay58 r1) (k0_pay59 r3) (k0_pay60 r5) (k0_pay61 r7)) (k0_pay65 (k0_pay57 (k0_pay16 mask) (k0_pay25 (k0_pay1 q) k0_pay7 (k0_pay8 (k0_pay2 kA kB)))) (k0_pay58 r1) (k0_pay59 r3) (k0_pay60 r5) (k0_pay61 r7))) : FVec Ideal S128x128 .f32) (ix2 r l) =
      blockOut mask q pk ck pv cv S r w := by
  refine (show _ = k0_pay116 k0_pay7
      (weightedU mask (scoresU k0_pay7 (extractStridedSlice S128x128 ![0, 512] (k0_pay1 q) slices_S128x2048_o0_512_S128x128) (extractStridedSlice S128x128 ![0, 640] (k0_pay1 q) slices_S128x2048_o0_640_S128x128) (extractStridedSlice S128x128 ![0, 768] (k0_pay1 q) slices_S128x2048_o0_768_S128x128) (extractStridedSlice S128x128 ![0, 896] (k0_pay1 q) slices_S128x2048_o0_896_S128x128) (k0_pay12 (k0_pay2 kA kB))) r0 r2 r4 r6 (k0_pay12 (k0_pay2 vA vB)))
      (weightedU mask (scoresU k0_pay18 (extractStridedSlice S128x128 ![0, 512] (k0_pay1 q) slices_S128x2048_o0_512_S128x128) (extractStridedSlice S128x128 ![0, 640] (k0_pay1 q) slices_S128x2048_o0_640_S128x128) (extractStridedSlice S128x128 ![0, 768] (k0_pay1 q) slices_S128x2048_o0_768_S128x128) (extractStridedSlice S128x128 ![0, 896] (k0_pay1 q) slices_S128x2048_o0_896_S128x128) (k0_pay8 (k0_pay2 kA kB))) r1 r3 r5 r7 (k0_pay8 (k0_pay2 vA vB))) (ix2 r l) from rfl).trans
    ((tile2 mask _ _ _ _ _ _ _ _ r0 r1 r2 r3 r4 r5 r6 r7 (band pk ck 1) (band pv cv 1) _ _ _ _ _ _ _ _
      (band1_lo kA kB pk ck hka hkb) (band1_hi kA kB pk ck hka hkb) (band1_lo vA vB pv cv hva hvb) (band1_hi vA vB pv cv hva hvb)
      h0 h1 h2 h3 h4 h5 h6 h7 r l).trans ?_)
  have hl : w.val % 64 = l.val % 64 := by omega
  have hg : (⟨w.val / 512, by omega⟩ : Fin 4) = 1 := Fin.ext (by simp only [Fin.val_ofNat]; omega)
  have hq : ∀ e : Fin 64, (extractStridedSlice S128x128 ![0, 768] (k0_pay1 q) slices_S128x2048_o0_768_S128x128) (ix2 r ⟨64 * (l.val / 64) + e.val, by omega⟩) = q (ix2 r ⟨64 * (w.val / 64) + e.val, by omega⟩) := by
    intro e
    pointwise [k0_pay1]
    exact congrArg (fun z => q (ix2 r z)) (Fin.ext (by simp only; omega))
  have hS : (if l.val < 64 then S 12 else S 13) = S ⟨w.val / 64, by omega⟩ := by
    split_ifs
    · exact congrArg S (Fin.ext (by simp only [Fin.val_ofNat]; omega))
    · exact congrArg S (Fin.ext (by simp only [Fin.val_ofNat]; omega))
  unfold blockOut
  simp only [hq, hS, hg, hl]

/-- Tile 7. -/
theorem block7
    (hka : ∀ r l, kA (ix2 r l) = pk (ix2 r ⟨l.val, lt_pair0 l⟩))
    (hkb : ∀ r l, kB (ix2 r l) = ck (ix2 r ⟨l.val, lt_pair0 l⟩))
    (hva : ∀ r l, vA (ix2 r l) = pv (ix2 r ⟨l.val, lt_pair0 l⟩))
    (hvb : ∀ r l, vB (ix2 r l) = cv (ix2 r ⟨l.val, lt_pair0 l⟩))
    (h0 : ∀ x, r0 (ix2 0 x) = S 8)
    (h1 : ∀ x, r1 (ix2 0 x) = S 9)
    (h2 : ∀ x, r2 (ix2 0 x) = S 10)
    (h3 : ∀ x, r3 (ix2 0 x) = S 11)
    (h4 : ∀ x, r4 (ix2 0 x) = S 12)
    (h5 : ∀ x, r5 (ix2 0 x) = S 13)
    (h6 : ∀ x, r6 (ix2 0 x) = S 14)
    (h7 : ∀ x, r7 (ix2 0 x) = S 15)
    (r l : Fin 128) (w : Fin 2048) (hw : w.val = 896 + l.val) :
    (k0_pay109 k0_pay7 (k0_pay94 (k0_pay14 (k0_pay4 vA vB)) k0_pay37 (k0_pay55 (k0_pay52 (k0_pay16 mask) (k0_pay24 (k0_pay1 q) k0_pay7 (k0_pay12 (k0_pay2 kA kB)))) r0 r2 r4 r6) (k0_pay56 (k0_pay52 (k0_pay16 mask) (k0_pay24 (k0_pay1 q) k0_pay7 (k0_pay12 (k0_pay2 kA kB)))) r0 r2 r4 r6)) (k0_pay95 (k0_pay10 (k0_pay4 vA vB)) k0_pay37 (k0_pay64 (k0_pay57 (k0_pay16 mask) (k0_pay25 (k0_pay1 q) k0_pay7 (k0_pay8 (k0_pay2 kA kB)))) (k0_pay58 r1) (k0_pay59 r3) (k0_pay60 r5) (k0_pay61 r7)) (k0_pay65 (k0_pay57 (k0_pay16 mask) (k0_pay25 (k0_pay1 q) k0_pay7 (k0_pay8 (k0_pay2 kA kB)))) (k0_pay58 r1) (k0_pay59 r3) (k0_pay60 r5) (k0_pay61 r7))) : FVec Ideal S128x128 .f32) (ix2 r l) =
      blockOut mask q pk ck pv cv S r w := by
  refine (show _ = k0_pay117 k0_pay7
      (weightedU mask (scoresU k0_pay7 (extractStridedSlice S128x128 ![0, 512] (k0_pay1 q) slices_S128x2048_o0_512_S128x128) (extractStridedSlice S128x128 ![0, 640] (k0_pay1 q) slices_S128x2048_o0_640_S128x128) (extractStridedSlice S128x128 ![0, 768] (k0_pay1 q) slices_S128x2048_o0_768_S128x128) (extractStridedSlice S128x128 ![0, 896] (k0_pay1 q) slices_S128x2048_o0_896_S128x128) (k0_pay12 (k0_pay2 kA kB))) r0 r2 r4 r6 (k0_pay12 (k0_pay2 vA vB)))
      (weightedU mask (scoresU k0_pay18 (extractStridedSlice S128x128 ![0, 512] (k0_pay1 q) slices_S128x2048_o0_512_S128x128) (extractStridedSlice S128x128 ![0, 640] (k0_pay1 q) slices_S128x2048_o0_640_S128x128) (extractStridedSlice S128x128 ![0, 768] (k0_pay1 q) slices_S128x2048_o0_768_S128x128) (extractStridedSlice S128x128 ![0, 896] (k0_pay1 q) slices_S128x2048_o0_896_S128x128) (k0_pay8 (k0_pay2 kA kB))) r1 r3 r5 r7 (k0_pay8 (k0_pay2 vA vB))) (ix2 r l) from rfl).trans
    ((tile3 mask _ _ _ _ _ _ _ _ r0 r1 r2 r3 r4 r5 r6 r7 (band pk ck 1) (band pv cv 1) _ _ _ _ _ _ _ _
      (band1_lo kA kB pk ck hka hkb) (band1_hi kA kB pk ck hka hkb) (band1_lo vA vB pv cv hva hvb) (band1_hi vA vB pv cv hva hvb)
      h0 h1 h2 h3 h4 h5 h6 h7 r l).trans ?_)
  have hl : w.val % 64 = l.val % 64 := by omega
  have hg : (⟨w.val / 512, by omega⟩ : Fin 4) = 1 := Fin.ext (by simp only [Fin.val_ofNat]; omega)
  have hq : ∀ e : Fin 64, (extractStridedSlice S128x128 ![0, 896] (k0_pay1 q) slices_S128x2048_o0_896_S128x128) (ix2 r ⟨64 * (l.val / 64) + e.val, by omega⟩) = q (ix2 r ⟨64 * (w.val / 64) + e.val, by omega⟩) := by
    intro e
    pointwise [k0_pay1]
    exact congrArg (fun z => q (ix2 r z)) (Fin.ext (by simp only; omega))
  have hS : (if l.val < 64 then S 14 else S 15) = S ⟨w.val / 64, by omega⟩ := by
    split_ifs
    · exact congrArg S (Fin.ext (by simp only [Fin.val_ofNat]; omega))
    · exact congrArg S (Fin.ext (by simp only [Fin.val_ofNat]; omega))
  unfold blockOut
  simp only [hq, hS, hg, hl]

/-- Tile 8. -/
theorem block8
    (hka : ∀ r l, kA (ix2 r l) = pk (ix2 r ⟨128 + l.val, lt_pair1 l⟩))
    (hkb : ∀ r l, kB (ix2 r l) = ck (ix2 r ⟨128 + l.val, lt_pair1 l⟩))
    (hva : ∀ r l, vA (ix2 r l) = pv (ix2 r ⟨128 + l.val, lt_pair1 l⟩))
    (hvb : ∀ r l, vB (ix2 r l) = cv (ix2 r ⟨128 + l.val, lt_pair1 l⟩))
    (h0 : ∀ x, r0 (ix2 0 x) = S 16)
    (h1 : ∀ x, r1 (ix2 0 x) = S 17)
    (h2 : ∀ x, r2 (ix2 0 x) = S 18)
    (h3 : ∀ x, r3 (ix2 0 x) = S 19)
    (h4 : ∀ x, r4 (ix2 0 x) = S 20)
    (h5 : ∀ x, r5 (ix2 0 x) = S 21)
    (h6 : ∀ x, r6 (ix2 0 x) = S 22)
    (h7 : ∀ x, r7 (ix2 0 x) = S 23)
    (r l : Fin 128) (w : Fin 2048) (hw : w.val = 1024 + l.val) :
    (k0_pay110 k0_pay7 (k0_pay96 (k0_pay11 (k0_pay5 vA vB)) k0_pay37 (k0_pay69 (k0_pay16 mask) (k0_pay28 (k0_pay1 q) k0_pay7 (k0_pay9 (k0_pay3 kA kB)) (k0_pay26 (k0_pay1 q)) k0_pay27) r0 r2 r4 r6) (k0_pay70 (k0_pay16 mask) (k0_pay28 (k0_pay1 q) k0_pay7 (k0_pay9 (k0_pay3 kA kB)) (k0_pay26 (k0_pay1 q)) k0_pay27) r0 r2 r4 r6)) (k0_pay97 (k0_pay15 (k0_pay5 vA vB)) k0_pay37 (k0_pay74 (k0_pay71 (k0_pay16 mask) (k0_pay29 (k0_pay1 q) k0_pay7 (k0_pay13 (k0_pay3 kA kB)))) r1 r3 r5 r7) (k0_pay75 (k0_pay71 (k0_pay16 mask) (k0_pay29 (k0_pay1 q) k0_pay7 (k0_pay13 (k0_pay3 kA kB)))) r1 r3 r5 r7)) : FVec Ideal S128x128 .f32) (ix2 r l) =
      blockOut mask q pk ck pv cv S r w := by
  refine (show _ = k0_pay114 k0_pay7
      (weightedU mask (scoresU k0_pay7 (extractStridedSlice S128x128 ![0, 1024] (k0_pay1 q) slices_S128x2048_o0_1024_S128x128) (extractStridedSlice S128x128 ![0, 1152] (k0_pay1 q) slices_S128x2048_o0_1152_S128x128) (extractStridedSlice S128x128 ![0, 1280] (k0_pay1 q) slices_S128x2048_o0_1280_S128x128) (extractStridedSlice S128x128 ![0, 1408] (k0_pay1 q) slices_S128x2048_o0_1408_S128x128) (k0_pay8 (k0_pay2 kA kB))) r0 r2 r4 r6 (k0_pay8 (k0_pay2 vA vB)))
      (weightedU mask (scoresU k0_pay18 (extractStridedSlice S128x128 ![0, 1024] (k0_pay1 q) slices_S128x2048_o0_1024_S128x128) (extractStridedSlice S128x128 ![0, 1152] (k0_pay1 q) slices_S128x2048_o0_1152_S128x128) (extractStridedSlice S128x128 ![0, 1280] (k0_pay1 q) slices_S128x2048_o0_1280_S128x128) (extractStridedSlice S128x128 ![0, 1408] (k0_pay1 q) slices_S128x2048_o0_1408_S128x128) (k0_pay12 (k0_pay2 kA kB))) r1 r3 r5 r7 (k0_pay12 (k0_pay2 vA vB))) (ix2 r l) from rfl).trans
    ((tile0 mask _ _ _ _ _ _ _ _ r0 r1 r2 r3 r4 r5 r6 r7 (band pk ck 2) (band pv cv 2) _ _ _ _ _ _ _ _
      (band2_lo kA kB pk ck hka hkb) (band2_hi kA kB pk ck hka hkb) (band2_lo vA vB pv cv hva hvb) (band2_hi vA vB pv cv hva hvb)
      h0 h1 h2 h3 h4 h5 h6 h7 r l).trans ?_)
  have hl : w.val % 64 = l.val % 64 := by omega
  have hg : (⟨w.val / 512, by omega⟩ : Fin 4) = 2 := Fin.ext (by simp only [Fin.val_ofNat]; omega)
  have hq : ∀ e : Fin 64, (extractStridedSlice S128x128 ![0, 1024] (k0_pay1 q) slices_S128x2048_o0_1024_S128x128) (ix2 r ⟨64 * (l.val / 64) + e.val, by omega⟩) = q (ix2 r ⟨64 * (w.val / 64) + e.val, by omega⟩) := by
    intro e
    pointwise [k0_pay1]
    exact congrArg (fun z => q (ix2 r z)) (Fin.ext (by simp only; omega))
  have hS : (if l.val < 64 then S 16 else S 17) = S ⟨w.val / 64, by omega⟩ := by
    split_ifs
    · exact congrArg S (Fin.ext (by simp only [Fin.val_ofNat]; omega))
    · exact congrArg S (Fin.ext (by simp only [Fin.val_ofNat]; omega))
  unfold blockOut
  simp only [hq, hS, hg, hl]

/-- Tile 9. -/
theorem block9
    (hka : ∀ r l, kA (ix2 r l) = pk (ix2 r ⟨128 + l.val, lt_pair1 l⟩))
    (hkb : ∀ r l, kB (ix2 r l) = ck (ix2 r ⟨128 + l.val, lt_pair1 l⟩))
    (hva : ∀ r l, vA (ix2 r l) = pv (ix2 r ⟨128 + l.val, lt_pair1 l⟩))
    (hvb : ∀ r l, vB (ix2 r l) = cv (ix2 r ⟨128 + l.val, lt_pair1 l⟩))
    (h0 : ∀ x, r0 (ix2 0 x) = S 16)
    (h1 : ∀ x, r1 (ix2 0 x) = S 17)
    (h2 : ∀ x, r2 (ix2 0 x) = S 18)
    (h3 : ∀ x, r3 (ix2 0 x) = S 19)
    (h4 : ∀ x, r4 (ix2 0 x) = S 20)
    (h5 : ∀ x, r5 (ix2 0 x) = S 21)
    (h6 : ∀ x, r6 (ix2 0 x) = S 22)
    (h7 : ∀ x, r7 (ix2 0 x) = S 23)
    (r l : Fin 128) (w : Fin 2048) (hw : w.val = 1152 + l.val) :
    (k0_pay111 k0_pay7 (k0_pay96 (k0_pay11 (k0_pay5 vA vB)) k0_pay37 (k0_pay69 (k0_pay16 mask) (k0_pay28 (k0_pay1 q) k0_pay7 (k0_pay9 (k0_pay3 kA kB)) (k0_pay26 (k0_pay1 q)) k0_pay27) r0 r2 r4 r6) (k0_pay70 (k0_pay16 mask) (k0_pay28 (k0_pay1 q) k0_pay7 (k0_pay9 (k0_pay3 kA kB)) (k0_pay26 (k0_pay1 q)) k0_pay27) r0 r2 r4 r6)) (k0_pay97 (k0_pay15 (k0_pay5 vA vB)) k0_pay37 (k0_pay74 (k0_pay71 (k0_pay16 mask) (k0_pay29 (k0_pay1 q) k0_pay7 (k0_pay13 (k0_pay3 kA kB)))) r1 r3 r5 r7) (k0_pay75 (k0_pay71 (k0_pay16 mask) (k0_pay29 (k0_pay1 q) k0_pay7 (k0_pay13 (k0_pay3 kA kB)))) r1 r3 r5 r7)) : FVec Ideal S128x128 .f32) (ix2 r l) =
      blockOut mask q pk ck pv cv S r w := by
  refine (show _ = k0_pay115 k0_pay7
      (weightedU mask (scoresU k0_pay7 (extractStridedSlice S128x128 ![0, 1024] (k0_pay1 q) slices_S128x2048_o0_1024_S128x128) (extractStridedSlice S128x128 ![0, 1152] (k0_pay1 q) slices_S128x2048_o0_1152_S128x128) (extractStridedSlice S128x128 ![0, 1280] (k0_pay1 q) slices_S128x2048_o0_1280_S128x128) (extractStridedSlice S128x128 ![0, 1408] (k0_pay1 q) slices_S128x2048_o0_1408_S128x128) (k0_pay8 (k0_pay2 kA kB))) r0 r2 r4 r6 (k0_pay8 (k0_pay2 vA vB)))
      (weightedU mask (scoresU k0_pay18 (extractStridedSlice S128x128 ![0, 1024] (k0_pay1 q) slices_S128x2048_o0_1024_S128x128) (extractStridedSlice S128x128 ![0, 1152] (k0_pay1 q) slices_S128x2048_o0_1152_S128x128) (extractStridedSlice S128x128 ![0, 1280] (k0_pay1 q) slices_S128x2048_o0_1280_S128x128) (extractStridedSlice S128x128 ![0, 1408] (k0_pay1 q) slices_S128x2048_o0_1408_S128x128) (k0_pay12 (k0_pay2 kA kB))) r1 r3 r5 r7 (k0_pay12 (k0_pay2 vA vB))) (ix2 r l) from rfl).trans
    ((tile1 mask _ _ _ _ _ _ _ _ r0 r1 r2 r3 r4 r5 r6 r7 (band pk ck 2) (band pv cv 2) _ _ _ _ _ _ _ _
      (band2_lo kA kB pk ck hka hkb) (band2_hi kA kB pk ck hka hkb) (band2_lo vA vB pv cv hva hvb) (band2_hi vA vB pv cv hva hvb)
      h0 h1 h2 h3 h4 h5 h6 h7 r l).trans ?_)
  have hl : w.val % 64 = l.val % 64 := by omega
  have hg : (⟨w.val / 512, by omega⟩ : Fin 4) = 2 := Fin.ext (by simp only [Fin.val_ofNat]; omega)
  have hq : ∀ e : Fin 64, (extractStridedSlice S128x128 ![0, 1152] (k0_pay1 q) slices_S128x2048_o0_1152_S128x128) (ix2 r ⟨64 * (l.val / 64) + e.val, by omega⟩) = q (ix2 r ⟨64 * (w.val / 64) + e.val, by omega⟩) := by
    intro e
    pointwise [k0_pay1]
    exact congrArg (fun z => q (ix2 r z)) (Fin.ext (by simp only; omega))
  have hS : (if l.val < 64 then S 18 else S 19) = S ⟨w.val / 64, by omega⟩ := by
    split_ifs
    · exact congrArg S (Fin.ext (by simp only [Fin.val_ofNat]; omega))
    · exact congrArg S (Fin.ext (by simp only [Fin.val_ofNat]; omega))
  unfold blockOut
  simp only [hq, hS, hg, hl]

/-- Tile 10. -/
theorem block10
    (hka : ∀ r l, kA (ix2 r l) = pk (ix2 r ⟨128 + l.val, lt_pair1 l⟩))
    (hkb : ∀ r l, kB (ix2 r l) = ck (ix2 r ⟨128 + l.val, lt_pair1 l⟩))
    (hva : ∀ r l, vA (ix2 r l) = pv (ix2 r ⟨128 + l.val, lt_pair1 l⟩))
    (hvb : ∀ r l, vB (ix2 r l) = cv (ix2 r ⟨128 + l.val, lt_pair1 l⟩))
    (h0 : ∀ x, r0 (ix2 0 x) = S 16)
    (h1 : ∀ x, r1 (ix2 0 x) = S 17)
    (h2 : ∀ x, r2 (ix2 0 x) = S 18)
    (h3 : ∀ x, r3 (ix2 0 x) = S 19)
    (h4 : ∀ x, r4 (ix2 0 x) = S 20)
    (h5 : ∀ x, r5 (ix2 0 x) = S 21)
    (h6 : ∀ x, r6 (ix2 0 x) = S 22)
    (h7 : ∀ x, r7 (ix2 0 x) = S 23)
    (r l : Fin 128) (w : Fin 2048) (hw : w.val = 1280 + l.val) :
    (k0_pay112 k0_pay7 (k0_pay96 (k0_pay11 (k0_pay5 vA vB)) k0_pay37 (k0_pay69 (k0_pay16 mask) (k0_pay28 (k0_pay1 q) k0_pay7 (k0_pay9 (k0_pay3 kA kB)) (k0_pay26 (k0_pay1 q)) k0_pay27) r0 r2 r4 r6) (k0_pay70 (k0_pay16 mask) (k0_pay28 (k0_pay1 q) k0_pay7 (k0_pay9 (k0_pay3 kA kB)) (k0_pay26 (k0_pay1 q)) k0_pay27) r0 r2 r4 r6)) (k0_pay97 (k0_pay15 (k0_pay5 vA vB)) k0_pay37 (k0_pay74 (k0_pay71 (k0_pay16 mask) (k0_pay29 (k0_pay1 q) k0_pay7 (k0_pay13 (k0_pay3 kA kB)))) r1 r3 r5 r7) (k0_pay75 (k0_pay71 (k0_pay16 mask) (k0_pay29 (k0_pay1 q) k0_pay7 (k0_pay13 (k0_pay3 kA kB)))) r1 r3 r5 r7)) : FVec Ideal S128x128 .f32) (ix2 r l) =
      blockOut mask q pk ck pv cv S r w := by
  refine (show _ = k0_pay116 k0_pay7
      (weightedU mask (scoresU k0_pay7 (extractStridedSlice S128x128 ![0, 1024] (k0_pay1 q) slices_S128x2048_o0_1024_S128x128) (extractStridedSlice S128x128 ![0, 1152] (k0_pay1 q) slices_S128x2048_o0_1152_S128x128) (extractStridedSlice S128x128 ![0, 1280] (k0_pay1 q) slices_S128x2048_o0_1280_S128x128) (extractStridedSlice S128x128 ![0, 1408] (k0_pay1 q) slices_S128x2048_o0_1408_S128x128) (k0_pay8 (k0_pay2 kA kB))) r0 r2 r4 r6 (k0_pay8 (k0_pay2 vA vB)))
      (weightedU mask (scoresU k0_pay18 (extractStridedSlice S128x128 ![0, 1024] (k0_pay1 q) slices_S128x2048_o0_1024_S128x128) (extractStridedSlice S128x128 ![0, 1152] (k0_pay1 q) slices_S128x2048_o0_1152_S128x128) (extractStridedSlice S128x128 ![0, 1280] (k0_pay1 q) slices_S128x2048_o0_1280_S128x128) (extractStridedSlice S128x128 ![0, 1408] (k0_pay1 q) slices_S128x2048_o0_1408_S128x128) (k0_pay12 (k0_pay2 kA kB))) r1 r3 r5 r7 (k0_pay12 (k0_pay2 vA vB))) (ix2 r l) from rfl).trans
    ((tile2 mask _ _ _ _ _ _ _ _ r0 r1 r2 r3 r4 r5 r6 r7 (band pk ck 2) (band pv cv 2) _ _ _ _ _ _ _ _
      (band2_lo kA kB pk ck hka hkb) (band2_hi kA kB pk ck hka hkb) (band2_lo vA vB pv cv hva hvb) (band2_hi vA vB pv cv hva hvb)
      h0 h1 h2 h3 h4 h5 h6 h7 r l).trans ?_)
  have hl : w.val % 64 = l.val % 64 := by omega
  have hg : (⟨w.val / 512, by omega⟩ : Fin 4) = 2 := Fin.ext (by simp only [Fin.val_ofNat]; omega)
  have hq : ∀ e : Fin 64, (extractStridedSlice S128x128 ![0, 1280] (k0_pay1 q) slices_S128x2048_o0_1280_S128x128) (ix2 r ⟨64 * (l.val / 64) + e.val, by omega⟩) = q (ix2 r ⟨64 * (w.val / 64) + e.val, by omega⟩) := by
    intro e
    pointwise [k0_pay1]
    exact congrArg (fun z => q (ix2 r z)) (Fin.ext (by simp only; omega))
  have hS : (if l.val < 64 then S 20 else S 21) = S ⟨w.val / 64, by omega⟩ := by
    split_ifs
    · exact congrArg S (Fin.ext (by simp only [Fin.val_ofNat]; omega))
    · exact congrArg S (Fin.ext (by simp only [Fin.val_ofNat]; omega))
  unfold blockOut
  simp only [hq, hS, hg, hl]

/-- Tile 11. -/
theorem block11
    (hka : ∀ r l, kA (ix2 r l) = pk (ix2 r ⟨128 + l.val, lt_pair1 l⟩))
    (hkb : ∀ r l, kB (ix2 r l) = ck (ix2 r ⟨128 + l.val, lt_pair1 l⟩))
    (hva : ∀ r l, vA (ix2 r l) = pv (ix2 r ⟨128 + l.val, lt_pair1 l⟩))
    (hvb : ∀ r l, vB (ix2 r l) = cv (ix2 r ⟨128 + l.val, lt_pair1 l⟩))
    (h0 : ∀ x, r0 (ix2 0 x) = S 16)
    (h1 : ∀ x, r1 (ix2 0 x) = S 17)
    (h2 : ∀ x, r2 (ix2 0 x) = S 18)
    (h3 : ∀ x, r3 (ix2 0 x) = S 19)
    (h4 : ∀ x, r4 (ix2 0 x) = S 20)
    (h5 : ∀ x, r5 (ix2 0 x) = S 21)
    (h6 : ∀ x, r6 (ix2 0 x) = S 22)
    (h7 : ∀ x, r7 (ix2 0 x) = S 23)
    (r l : Fin 128) (w : Fin 2048) (hw : w.val = 1408 + l.val) :
    (k0_pay113 k0_pay7 (k0_pay96 (k0_pay11 (k0_pay5 vA vB)) k0_pay37 (k0_pay69 (k0_pay16 mask) (k0_pay28 (k0_pay1 q) k0_pay7 (k0_pay9 (k0_pay3 kA kB)) (k0_pay26 (k0_pay1 q)) k0_pay27) r0 r2 r4 r6) (k0_pay70 (k0_pay16 mask) (k0_pay28 (k0_pay1 q) k0_pay7 (k0_pay9 (k0_pay3 kA kB)) (k0_pay26 (k0_pay1 q)) k0_pay27) r0 r2 r4 r6)) (k0_pay97 (k0_pay15 (k0_pay5 vA vB)) k0_pay37 (k0_pay74 (k0_pay71 (k0_pay16 mask) (k0_pay29 (k0_pay1 q) k0_pay7 (k0_pay13 (k0_pay3 kA kB)))) r1 r3 r5 r7) (k0_pay75 (k0_pay71 (k0_pay16 mask) (k0_pay29 (k0_pay1 q) k0_pay7 (k0_pay13 (k0_pay3 kA kB)))) r1 r3 r5 r7)) : FVec Ideal S128x128 .f32) (ix2 r l) =
      blockOut mask q pk ck pv cv S r w := by
  refine (show _ = k0_pay117 k0_pay7
      (weightedU mask (scoresU k0_pay7 (extractStridedSlice S128x128 ![0, 1024] (k0_pay1 q) slices_S128x2048_o0_1024_S128x128) (extractStridedSlice S128x128 ![0, 1152] (k0_pay1 q) slices_S128x2048_o0_1152_S128x128) (extractStridedSlice S128x128 ![0, 1280] (k0_pay1 q) slices_S128x2048_o0_1280_S128x128) (extractStridedSlice S128x128 ![0, 1408] (k0_pay1 q) slices_S128x2048_o0_1408_S128x128) (k0_pay8 (k0_pay2 kA kB))) r0 r2 r4 r6 (k0_pay8 (k0_pay2 vA vB)))
      (weightedU mask (scoresU k0_pay18 (extractStridedSlice S128x128 ![0, 1024] (k0_pay1 q) slices_S128x2048_o0_1024_S128x128) (extractStridedSlice S128x128 ![0, 1152] (k0_pay1 q) slices_S128x2048_o0_1152_S128x128) (extractStridedSlice S128x128 ![0, 1280] (k0_pay1 q) slices_S128x2048_o0_1280_S128x128) (extractStridedSlice S128x128 ![0, 1408] (k0_pay1 q) slices_S128x2048_o0_1408_S128x128) (k0_pay12 (k0_pay2 kA kB))) r1 r3 r5 r7 (k0_pay12 (k0_pay2 vA vB))) (ix2 r l) from rfl).trans
    ((tile3 mask _ _ _ _ _ _ _ _ r0 r1 r2 r3 r4 r5 r6 r7 (band pk ck 2) (band pv cv 2) _ _ _ _ _ _ _ _
      (band2_lo kA kB pk ck hka hkb) (band2_hi kA kB pk ck hka hkb) (band2_lo vA vB pv cv hva hvb) (band2_hi vA vB pv cv hva hvb)
      h0 h1 h2 h3 h4 h5 h6 h7 r l).trans ?_)
  have hl : w.val % 64 = l.val % 64 := by omega
  have hg : (⟨w.val / 512, by omega⟩ : Fin 4) = 2 := Fin.ext (by simp only [Fin.val_ofNat]; omega)
  have hq : ∀ e : Fin 64, (extractStridedSlice S128x128 ![0, 1408] (k0_pay1 q) slices_S128x2048_o0_1408_S128x128) (ix2 r ⟨64 * (l.val / 64) + e.val, by omega⟩) = q (ix2 r ⟨64 * (w.val / 64) + e.val, by omega⟩) := by
    intro e
    pointwise [k0_pay1]
    exact congrArg (fun z => q (ix2 r z)) (Fin.ext (by simp only; omega))
  have hS : (if l.val < 64 then S 22 else S 23) = S ⟨w.val / 64, by omega⟩ := by
    split_ifs
    · exact congrArg S (Fin.ext (by simp only [Fin.val_ofNat]; omega))
    · exact congrArg S (Fin.ext (by simp only [Fin.val_ofNat]; omega))
  unfold blockOut
  simp only [hq, hS, hg, hl]

/-- Tile 12. -/
theorem block12
    (hka : ∀ r l, kA (ix2 r l) = pk (ix2 r ⟨128 + l.val, lt_pair1 l⟩))
    (hkb : ∀ r l, kB (ix2 r l) = ck (ix2 r ⟨128 + l.val, lt_pair1 l⟩))
    (hva : ∀ r l, vA (ix2 r l) = pv (ix2 r ⟨128 + l.val, lt_pair1 l⟩))
    (hvb : ∀ r l, vB (ix2 r l) = cv (ix2 r ⟨128 + l.val, lt_pair1 l⟩))
    (h0 : ∀ x, r0 (ix2 0 x) = S 24)
    (h1 : ∀ x, r1 (ix2 0 x) = S 25)
    (h2 : ∀ x, r2 (ix2 0 x) = S 26)
    (h3 : ∀ x, r3 (ix2 0 x) = S 27)
    (h4 : ∀ x, r4 (ix2 0 x) = S 28)
    (h5 : ∀ x, r5 (ix2 0 x) = S 29)
    (h6 : ∀ x, r6 (ix2 0 x) = S 30)
    (h7 : ∀ x, r7 (ix2 0 x) = S 31)
    (r l : Fin 128) (w : Fin 2048) (hw : w.val = 1536 + l.val) :
    (k0_pay114 k0_pay7 (k0_pay98 (k0_pay15 (k0_pay5 vA vB)) k0_pay37 (k0_pay83 (k0_pay76 (k0_pay16 mask) (k0_pay35 k0_pay7 (k0_pay13 (k0_pay3 kA kB)) (k0_pay30 (k0_pay1 q) k0_pay7) (k0_pay31 (k0_pay1 q) k0_pay7) (k0_pay32 (k0_pay1 q) k0_pay7) (k0_pay33 (k0_pay1 q)) k0_pay34)) (k0_pay77 r0) (k0_pay78 r2) (k0_pay79 r4) (k0_pay80 r6)) (k0_pay84 (k0_pay76 (k0_pay16 mask) (k0_pay35 k0_pay7 (k0_pay13 (k0_pay3 kA kB)) (k0_pay30 (k0_pay1 q) k0_pay7) (k0_pay31 (k0_pay1 q) k0_pay7) (k0_pay32 (k0_pay1 q) k0_pay7) (k0_pay33 (k0_pay1 q)) k0_pay34)) (k0_pay77 r0) (k0_pay78 r2) (k0_pay79 r4) (k0_pay80 r6))) (k0_pay99 (k0_pay11 (k0_pay5 vA vB)) k0_pay37 (k0_pay88 (k0_pay16 mask) (k0_pay36 (k0_pay1 q) k0_pay7 (k0_pay9 (k0_pay3 kA kB))) r1 r3 r5 r7) (k0_pay89 (k0_pay16 mask) (k0_pay36 (k0_pay1 q) k0_pay7 (k0_pay9 (k0_pay3 kA kB))) r1 r3 r5 r7)) : FVec Ideal S128x128 .f32) (ix2 r l) =
      blockOut mask q pk ck pv cv S r w := by
  refine (show _ = k0_pay114 k0_pay7
      (weightedU mask (scoresU k0_pay7 (extractStridedSlice S128x128 ![0, 1536] (k0_pay1 q) slices_S128x2048_o0_1536_S128x128) (extractStridedSlice S128x128 ![0, 1664] (k0_pay1 q) slices_S128x2048_o0_1664_S128x128) (extractStridedSlice S128x128 ![0, 1792] (k0_pay1 q) slices_S128x2048_o0_1792_S128x128) (extractStridedSlice S128x128 ![0, 1920] (k0_pay1 q) slices_S128x2048_o0_1920_S128x128) (k0_pay12 (k0_pay2 kA kB))) r0 r2 r4 r6 (k0_pay12 (k0_pay2 vA vB)))
      (weightedU mask (scoresU k0_pay18 (extractStridedSlice S128x128 ![0, 1536] (k0_pay1 q) slices_S128x2048_o0_1536_S128x128) (extractStridedSlice S128x128 ![0, 1664] (k0_pay1 q) slices_S128x2048_o0_1664_S128x128) (extractStridedSlice S128x128 ![0, 1792] (k0_pay1 q) slices_S128x2048_o0_1792_S128x128) (extractStridedSlice S128x128 ![0, 1920] (k0_pay1 q) slices_S128x2048_o0_1920_S128x128) (k0_pay8 (k0_pay2 kA kB))) r1 r3 r5 r7 (k0_pay8 (k0_pay2 vA vB))) (ix2 r l) from rfl).trans
    ((tile0 mask _ _ _ _ _ _ _ _ r0 r1 r2 r3 r4 r5 r6 r7 (band pk ck 3) (band pv cv 3) _ _ _ _ _ _ _ _
      (band3_lo kA kB pk ck hka hkb) (band3_hi kA kB pk ck hka hkb) (band3_lo vA vB pv cv hva hvb) (band3_hi vA vB pv cv hva hvb)
      h0 h1 h2 h3 h4 h5 h6 h7 r l).trans ?_)
  have hl : w.val % 64 = l.val % 64 := by omega
  have hg : (⟨w.val / 512, by omega⟩ : Fin 4) = 3 := Fin.ext (by simp only [Fin.val_ofNat]; omega)
  have hq : ∀ e : Fin 64, (extractStridedSlice S128x128 ![0, 1536] (k0_pay1 q) slices_S128x2048_o0_1536_S128x128) (ix2 r ⟨64 * (l.val / 64) + e.val, by omega⟩) = q (ix2 r ⟨64 * (w.val / 64) + e.val, by omega⟩) := by
    intro e
    pointwise [k0_pay1]
    exact congrArg (fun z => q (ix2 r z)) (Fin.ext (by simp only; omega))
  have hS : (if l.val < 64 then S 24 else S 25) = S ⟨w.val / 64, by omega⟩ := by
    split_ifs
    · exact congrArg S (Fin.ext (by simp only [Fin.val_ofNat]; omega))
    · exact congrArg S (Fin.ext (by simp only [Fin.val_ofNat]; omega))
  unfold blockOut
  simp only [hq, hS, hg, hl]

/-- Tile 13. -/
theorem block13
    (hka : ∀ r l, kA (ix2 r l) = pk (ix2 r ⟨128 + l.val, lt_pair1 l⟩))
    (hkb : ∀ r l, kB (ix2 r l) = ck (ix2 r ⟨128 + l.val, lt_pair1 l⟩))
    (hva : ∀ r l, vA (ix2 r l) = pv (ix2 r ⟨128 + l.val, lt_pair1 l⟩))
    (hvb : ∀ r l, vB (ix2 r l) = cv (ix2 r ⟨128 + l.val, lt_pair1 l⟩))
    (h0 : ∀ x, r0 (ix2 0 x) = S 24)
    (h1 : ∀ x, r1 (ix2 0 x) = S 25)
    (h2 : ∀ x, r2 (ix2 0 x) = S 26)
    (h3 : ∀ x, r3 (ix2 0 x) = S 27)
    (h4 : ∀ x, r4 (ix2 0 x) = S 28)
    (h5 : ∀ x, r5 (ix2 0 x) = S 29)
    (h6 : ∀ x, r6 (ix2 0 x) = S 30)
    (h7 : ∀ x, r7 (ix2 0 x) = S 31)
    (r l : Fin 128) (w : Fin 2048) (hw : w.val = 1664 + l.val) :
    (k0_pay115 k0_pay7 (k0_pay98 (k0_pay15 (k0_pay5 vA vB)) k0_pay37 (k0_pay83 (k0_pay76 (k0_pay16 mask) (k0_pay35 k0_pay7 (k0_pay13 (k0_pay3 kA kB)) (k0_pay30 (k0_pay1 q) k0_pay7) (k0_pay31 (k0_pay1 q) k0_pay7) (k0_pay32 (k0_pay1 q) k0_pay7) (k0_pay33 (k0_pay1 q)) k0_pay34)) (k0_pay77 r0) (k0_pay78 r2) (k0_pay79 r4) (k0_pay80 r6)) (k0_pay84 (k0_pay76 (k0_pay16 mask) (k0_pay35 k0_pay7 (k0_pay13 (k0_pay3 kA kB)) (k0_pay30 (k0_pay1 q) k0_pay7) (k0_pay31 (k0_pay1 q) k0_pay7) (k0_pay32 (k0_pay1 q) k0_pay7) (k0_pay33 (k0_pay1 q)) k0_pay34)) (k0_pay77 r0) (k0_pay78 r2) (k0_pay79 r4) (k0_pay80 r6))) (k0_pay99 (k0_pay11 (k0_pay5 vA vB)) k0_pay37 (k0_pay88 (k0_pay16 mask) (k0_pay36 (k0_pay1 q) k0_pay7 (k0_pay9 (k0_pay3 kA kB))) r1 r3 r5 r7) (k0_pay89 (k0_pay16 mask) (k0_pay36 (k0_pay1 q) k0_pay7 (k0_pay9 (k0_pay3 kA kB))) r1 r3 r5 r7)) : FVec Ideal S128x128 .f32) (ix2 r l) =
      blockOut mask q pk ck pv cv S r w := by
  refine (show _ = k0_pay115 k0_pay7
      (weightedU mask (scoresU k0_pay7 (extractStridedSlice S128x128 ![0, 1536] (k0_pay1 q) slices_S128x2048_o0_1536_S128x128) (extractStridedSlice S128x128 ![0, 1664] (k0_pay1 q) slices_S128x2048_o0_1664_S128x128) (extractStridedSlice S128x128 ![0, 1792] (k0_pay1 q) slices_S128x2048_o0_1792_S128x128) (extractStridedSlice S128x128 ![0, 1920] (k0_pay1 q) slices_S128x2048_o0_1920_S128x128) (k0_pay12 (k0_pay2 kA kB))) r0 r2 r4 r6 (k0_pay12 (k0_pay2 vA vB)))
      (weightedU mask (scoresU k0_pay18 (extractStridedSlice S128x128 ![0, 1536] (k0_pay1 q) slices_S128x2048_o0_1536_S128x128) (extractStridedSlice S128x128 ![0, 1664] (k0_pay1 q) slices_S128x2048_o0_1664_S128x128) (extractStridedSlice S128x128 ![0, 1792] (k0_pay1 q) slices_S128x2048_o0_1792_S128x128) (extractStridedSlice S128x128 ![0, 1920] (k0_pay1 q) slices_S128x2048_o0_1920_S128x128) (k0_pay8 (k0_pay2 kA kB))) r1 r3 r5 r7 (k0_pay8 (k0_pay2 vA vB))) (ix2 r l) from rfl).trans
    ((tile1 mask _ _ _ _ _ _ _ _ r0 r1 r2 r3 r4 r5 r6 r7 (band pk ck 3) (band pv cv 3) _ _ _ _ _ _ _ _
      (band3_lo kA kB pk ck hka hkb) (band3_hi kA kB pk ck hka hkb) (band3_lo vA vB pv cv hva hvb) (band3_hi vA vB pv cv hva hvb)
      h0 h1 h2 h3 h4 h5 h6 h7 r l).trans ?_)
  have hl : w.val % 64 = l.val % 64 := by omega
  have hg : (⟨w.val / 512, by omega⟩ : Fin 4) = 3 := Fin.ext (by simp only [Fin.val_ofNat]; omega)
  have hq : ∀ e : Fin 64, (extractStridedSlice S128x128 ![0, 1664] (k0_pay1 q) slices_S128x2048_o0_1664_S128x128) (ix2 r ⟨64 * (l.val / 64) + e.val, by omega⟩) = q (ix2 r ⟨64 * (w.val / 64) + e.val, by omega⟩) := by
    intro e
    pointwise [k0_pay1]
    exact congrArg (fun z => q (ix2 r z)) (Fin.ext (by simp only; omega))
  have hS : (if l.val < 64 then S 26 else S 27) = S ⟨w.val / 64, by omega⟩ := by
    split_ifs
    · exact congrArg S (Fin.ext (by simp only [Fin.val_ofNat]; omega))
    · exact congrArg S (Fin.ext (by simp only [Fin.val_ofNat]; omega))
  unfold blockOut
  simp only [hq, hS, hg, hl]

/-- Tile 14. -/
theorem block14
    (hka : ∀ r l, kA (ix2 r l) = pk (ix2 r ⟨128 + l.val, lt_pair1 l⟩))
    (hkb : ∀ r l, kB (ix2 r l) = ck (ix2 r ⟨128 + l.val, lt_pair1 l⟩))
    (hva : ∀ r l, vA (ix2 r l) = pv (ix2 r ⟨128 + l.val, lt_pair1 l⟩))
    (hvb : ∀ r l, vB (ix2 r l) = cv (ix2 r ⟨128 + l.val, lt_pair1 l⟩))
    (h0 : ∀ x, r0 (ix2 0 x) = S 24)
    (h1 : ∀ x, r1 (ix2 0 x) = S 25)
    (h2 : ∀ x, r2 (ix2 0 x) = S 26)
    (h3 : ∀ x, r3 (ix2 0 x) = S 27)
    (h4 : ∀ x, r4 (ix2 0 x) = S 28)
    (h5 : ∀ x, r5 (ix2 0 x) = S 29)
    (h6 : ∀ x, r6 (ix2 0 x) = S 30)
    (h7 : ∀ x, r7 (ix2 0 x) = S 31)
    (r l : Fin 128) (w : Fin 2048) (hw : w.val = 1792 + l.val) :
    (k0_pay116 k0_pay7 (k0_pay98 (k0_pay15 (k0_pay5 vA vB)) k0_pay37 (k0_pay83 (k0_pay76 (k0_pay16 mask) (k0_pay35 k0_pay7 (k0_pay13 (k0_pay3 kA kB)) (k0_pay30 (k0_pay1 q) k0_pay7) (k0_pay31 (k0_pay1 q) k0_pay7) (k0_pay32 (k0_pay1 q) k0_pay7) (k0_pay33 (k0_pay1 q)) k0_pay34)) (k0_pay77 r0) (k0_pay78 r2) (k0_pay79 r4) (k0_pay80 r6)) (k0_pay84 (k0_pay76 (k0_pay16 mask) (k0_pay35 k0_pay7 (k0_pay13 (k0_pay3 kA kB)) (k0_pay30 (k0_pay1 q) k0_pay7) (k0_pay31 (k0_pay1 q) k0_pay7) (k0_pay32 (k0_pay1 q) k0_pay7) (k0_pay33 (k0_pay1 q)) k0_pay34)) (k0_pay77 r0) (k0_pay78 r2) (k0_pay79 r4) (k0_pay80 r6))) (k0_pay99 (k0_pay11 (k0_pay5 vA vB)) k0_pay37 (k0_pay88 (k0_pay16 mask) (k0_pay36 (k0_pay1 q) k0_pay7 (k0_pay9 (k0_pay3 kA kB))) r1 r3 r5 r7) (k0_pay89 (k0_pay16 mask) (k0_pay36 (k0_pay1 q) k0_pay7 (k0_pay9 (k0_pay3 kA kB))) r1 r3 r5 r7)) : FVec Ideal S128x128 .f32) (ix2 r l) =
      blockOut mask q pk ck pv cv S r w := by
  refine (show _ = k0_pay116 k0_pay7
      (weightedU mask (scoresU k0_pay7 (extractStridedSlice S128x128 ![0, 1536] (k0_pay1 q) slices_S128x2048_o0_1536_S128x128) (extractStridedSlice S128x128 ![0, 1664] (k0_pay1 q) slices_S128x2048_o0_1664_S128x128) (extractStridedSlice S128x128 ![0, 1792] (k0_pay1 q) slices_S128x2048_o0_1792_S128x128) (extractStridedSlice S128x128 ![0, 1920] (k0_pay1 q) slices_S128x2048_o0_1920_S128x128) (k0_pay12 (k0_pay2 kA kB))) r0 r2 r4 r6 (k0_pay12 (k0_pay2 vA vB)))
      (weightedU mask (scoresU k0_pay18 (extractStridedSlice S128x128 ![0, 1536] (k0_pay1 q) slices_S128x2048_o0_1536_S128x128) (extractStridedSlice S128x128 ![0, 1664] (k0_pay1 q) slices_S128x2048_o0_1664_S128x128) (extractStridedSlice S128x128 ![0, 1792] (k0_pay1 q) slices_S128x2048_o0_1792_S128x128) (extractStridedSlice S128x128 ![0, 1920] (k0_pay1 q) slices_S128x2048_o0_1920_S128x128) (k0_pay8 (k0_pay2 kA kB))) r1 r3 r5 r7 (k0_pay8 (k0_pay2 vA vB))) (ix2 r l) from rfl).trans
    ((tile2 mask _ _ _ _ _ _ _ _ r0 r1 r2 r3 r4 r5 r6 r7 (band pk ck 3) (band pv cv 3) _ _ _ _ _ _ _ _
      (band3_lo kA kB pk ck hka hkb) (band3_hi kA kB pk ck hka hkb) (band3_lo vA vB pv cv hva hvb) (band3_hi vA vB pv cv hva hvb)
      h0 h1 h2 h3 h4 h5 h6 h7 r l).trans ?_)
  have hl : w.val % 64 = l.val % 64 := by omega
  have hg : (⟨w.val / 512, by omega⟩ : Fin 4) = 3 := Fin.ext (by simp only [Fin.val_ofNat]; omega)
  have hq : ∀ e : Fin 64, (extractStridedSlice S128x128 ![0, 1792] (k0_pay1 q) slices_S128x2048_o0_1792_S128x128) (ix2 r ⟨64 * (l.val / 64) + e.val, by omega⟩) = q (ix2 r ⟨64 * (w.val / 64) + e.val, by omega⟩) := by
    intro e
    pointwise [k0_pay1]
    exact congrArg (fun z => q (ix2 r z)) (Fin.ext (by simp only; omega))
  have hS : (if l.val < 64 then S 28 else S 29) = S ⟨w.val / 64, by omega⟩ := by
    split_ifs
    · exact congrArg S (Fin.ext (by simp only [Fin.val_ofNat]; omega))
    · exact congrArg S (Fin.ext (by simp only [Fin.val_ofNat]; omega))
  unfold blockOut
  simp only [hq, hS, hg, hl]

/-- Tile 15. -/
theorem block15
    (hka : ∀ r l, kA (ix2 r l) = pk (ix2 r ⟨128 + l.val, lt_pair1 l⟩))
    (hkb : ∀ r l, kB (ix2 r l) = ck (ix2 r ⟨128 + l.val, lt_pair1 l⟩))
    (hva : ∀ r l, vA (ix2 r l) = pv (ix2 r ⟨128 + l.val, lt_pair1 l⟩))
    (hvb : ∀ r l, vB (ix2 r l) = cv (ix2 r ⟨128 + l.val, lt_pair1 l⟩))
    (h0 : ∀ x, r0 (ix2 0 x) = S 24)
    (h1 : ∀ x, r1 (ix2 0 x) = S 25)
    (h2 : ∀ x, r2 (ix2 0 x) = S 26)
    (h3 : ∀ x, r3 (ix2 0 x) = S 27)
    (h4 : ∀ x, r4 (ix2 0 x) = S 28)
    (h5 : ∀ x, r5 (ix2 0 x) = S 29)
    (h6 : ∀ x, r6 (ix2 0 x) = S 30)
    (h7 : ∀ x, r7 (ix2 0 x) = S 31)
    (r l : Fin 128) (w : Fin 2048) (hw : w.val = 1920 + l.val) :
    (k0_pay117 k0_pay7 (k0_pay98 (k0_pay15 (k0_pay5 vA vB)) k0_pay37 (k0_pay83 (k0_pay76 (k0_pay16 mask) (k0_pay35 k0_pay7 (k0_pay13 (k0_pay3 kA kB)) (k0_pay30 (k0_pay1 q) k0_pay7) (k0_pay31 (k0_pay1 q) k0_pay7) (k0_pay32 (k0_pay1 q) k0_pay7) (k0_pay33 (k0_pay1 q)) k0_pay34)) (k0_pay77 r0) (k0_pay78 r2) (k0_pay79 r4) (k0_pay80 r6)) (k0_pay84 (k0_pay76 (k0_pay16 mask) (k0_pay35 k0_pay7 (k0_pay13 (k0_pay3 kA kB)) (k0_pay30 (k0_pay1 q) k0_pay7) (k0_pay31 (k0_pay1 q) k0_pay7) (k0_pay32 (k0_pay1 q) k0_pay7) (k0_pay33 (k0_pay1 q)) k0_pay34)) (k0_pay77 r0) (k0_pay78 r2) (k0_pay79 r4) (k0_pay80 r6))) (k0_pay99 (k0_pay11 (k0_pay5 vA vB)) k0_pay37 (k0_pay88 (k0_pay16 mask) (k0_pay36 (k0_pay1 q) k0_pay7 (k0_pay9 (k0_pay3 kA kB))) r1 r3 r5 r7) (k0_pay89 (k0_pay16 mask) (k0_pay36 (k0_pay1 q) k0_pay7 (k0_pay9 (k0_pay3 kA kB))) r1 r3 r5 r7)) : FVec Ideal S128x128 .f32) (ix2 r l) =
      blockOut mask q pk ck pv cv S r w := by
  refine (show _ = k0_pay117 k0_pay7
      (weightedU mask (scoresU k0_pay7 (extractStridedSlice S128x128 ![0, 1536] (k0_pay1 q) slices_S128x2048_o0_1536_S128x128) (extractStridedSlice S128x128 ![0, 1664] (k0_pay1 q) slices_S128x2048_o0_1664_S128x128) (extractStridedSlice S128x128 ![0, 1792] (k0_pay1 q) slices_S128x2048_o0_1792_S128x128) (extractStridedSlice S128x128 ![0, 1920] (k0_pay1 q) slices_S128x2048_o0_1920_S128x128) (k0_pay12 (k0_pay2 kA kB))) r0 r2 r4 r6 (k0_pay12 (k0_pay2 vA vB)))
      (weightedU mask (scoresU k0_pay18 (extractStridedSlice S128x128 ![0, 1536] (k0_pay1 q) slices_S128x2048_o0_1536_S128x128) (extractStridedSlice S128x128 ![0, 1664] (k0_pay1 q) slices_S128x2048_o0_1664_S128x128) (extractStridedSlice S128x128 ![0, 1792] (k0_pay1 q) slices_S128x2048_o0_1792_S128x128) (extractStridedSlice S128x128 ![0, 1920] (k0_pay1 q) slices_S128x2048_o0_1920_S128x128) (k0_pay8 (k0_pay2 kA kB))) r1 r3 r5 r7 (k0_pay8 (k0_pay2 vA vB))) (ix2 r l) from rfl).trans
    ((tile3 mask _ _ _ _ _ _ _ _ r0 r1 r2 r3 r4 r5 r6 r7 (band pk ck 3) (band pv cv 3) _ _ _ _ _ _ _ _
      (band3_lo kA kB pk ck hka hkb) (band3_hi kA kB pk ck hka hkb) (band3_lo vA vB pv cv hva hvb) (band3_hi vA vB pv cv hva hvb)
      h0 h1 h2 h3 h4 h5 h6 h7 r l).trans ?_)
  have hl : w.val % 64 = l.val % 64 := by omega
  have hg : (⟨w.val / 512, by omega⟩ : Fin 4) = 3 := Fin.ext (by simp only [Fin.val_ofNat]; omega)
  have hq : ∀ e : Fin 64, (extractStridedSlice S128x128 ![0, 1920] (k0_pay1 q) slices_S128x2048_o0_1920_S128x128) (ix2 r ⟨64 * (l.val / 64) + e.val, by omega⟩) = q (ix2 r ⟨64 * (w.val / 64) + e.val, by omega⟩) := by
    intro e
    pointwise [k0_pay1]
    exact congrArg (fun z => q (ix2 r z)) (Fin.ext (by simp only; omega))
  have hS : (if l.val < 64 then S 30 else S 31) = S ⟨w.val / 64, by omega⟩ := by
    split_ifs
    · exact congrArg S (Fin.ext (by simp only [Fin.val_ofNat]; omega))
    · exact congrArg S (Fin.ext (by simp only [Fin.val_ofNat]; omega))
  unfold blockOut
  simp only [hq, hS, hg, hl]

end

end Cert.AttnPromptIdeal.Gen
-- ==== Proof.PromptArray.lean ====
module

public import proofs.«01_k».proof.Proof.Gen.AttnPromptIdeal.Value
public import proofs.«01_k».proof.Proof.PromptBlock
public import Idealize.ShloMosaic.Lib.Pipeline.ValueKit
public import Idealize.ShloMosaic.Lib.Claim
public import Idealize.ShloMosaic.Lib.StableHlo.RunRead

/-! What the array of attention outputs of the prompt holds after the run, as one function of the launch arrays: the windows of the
    relaid projection read as columns of the prompt's own projection, the mask as a bit of the query's and the key's place, and the
    sixteen stored tiles of every grid point as one function of the row and the column. -/

@[expose] public section

set_option maxRecDepth 16384

noncomputable section

open Idealize.ShloMosaic Idealize.ShloMosaic.TcCoe Idealize.SL.Sem
open Idealize.ShloMosaic.Pipeline (Dat)

namespace Cert.AttnPromptIdeal.Gen
variable (m : (ℓ : Loc nD τ sig) → Buf (Elt Ideal) ℓ)

/-- The prompt's projection has one leading axis of extent one: dropping it moves no element. -/
theorem drop_lead (x : FVec Ideal S1x8192x13248 .f32) (r : Fin 8192) (j : Fin 13248) :
    shapeCast S8192x13248 x shapeCasts_S1x8192x13248_S8192x13248 (ix2 r j) = x (ix3 0 r j) := by
  pointwise

theorem lt_relaid (r : Fin 8192) : r.val < 9216 := by omega
theorem lt_q (j : Fin 2048) : 6144 + j.val < 13312 := by omega
theorem lt_q' (j : Fin 2048) : 6592 + j.val < 13248 := by omega
theorem lt_k (j : Fin 256) : 12800 + j.val < 13312 := by omega
theorem lt_k' (j : Fin 256) : 8640 + j.val < 13248 := by omega
theorem lt_v (j : Fin 256) : 13056 + j.val < 13312 := by omega
theorem lt_v' (j : Fin 256) : 8896 + j.val < 13248 := by omega

/-- Element `(r, j)` of the prompt's projection. -/
def proj (c : Dev nD) (r : Fin 8192) (j : Fin 13248) : EReal := m ((c : Thread nD τ).loc main_arg0) (ix3 0 r j)

/-- The sink of query head `h`. -/
def sinkOf (c : Dev nD) (h : Fin 32) : EReal := m ((c : Thread nD τ).loc main_arg2) (ix2 0 h)

/-- The relaid query columns are the projection's query columns. -/
theorem relaid_q (c : Dev nD) (r : Fin 8192) (j : Fin 2048) :
    V m c main_v13 (ix2 ⟨r.val, lt_relaid r⟩ ⟨6144 + j.val, lt_q j⟩) = proj m c r ⟨6592 + j.val, lt_q' j⟩ := by
  dsimp only [V, hostOps0, hostOps0_1, hostOps0_2, hostOps0_3, hostOps0_4, List.flatten_cons, List.flatten_nil, List.append_nil, List.cons_append, List.nil_append]
  after_reads_simp
  pointwise
  after_reads_simp
  pointwise
  after_reads_simp
  exact drop_lead _ _ _

/-- The relaid key columns are the projection's key columns. -/
theorem relaid_k (c : Dev nD) (r : Fin 8192) (j : Fin 256) :
    V m c main_v13 (ix2 ⟨r.val, lt_relaid r⟩ ⟨12800 + j.val, lt_k j⟩) = proj m c r ⟨8640 + j.val, lt_k' j⟩ := by
  dsimp only [V, hostOps0, hostOps0_1, hostOps0_2, hostOps0_3, hostOps0_4, List.flatten_cons, List.flatten_nil, List.append_nil, List.cons_append, List.nil_append]
  after_reads_simp
  pointwise
  rw [dif_neg (by omega), dif_neg (by omega), dif_neg (by omega), dif_neg (by omega), dif_neg (by omega), dif_neg (by omega), dif_pos (by omega)]
  after_reads_simp
  pointwise
  after_reads_simp
  refine (drop_lead _ _ _).trans ?_
  exact congrArg (fun x => m ((c : Thread nD τ).loc main_arg0) (ix3 0 r x)) (Fin.ext (by dsimp only; omega))

/-- The relaid value columns are the projection's value columns. -/
theorem relaid_v (c : Dev nD) (r : Fin 8192) (j : Fin 256) :
    V m c main_v13 (ix2 ⟨r.val, lt_relaid r⟩ ⟨13056 + j.val, lt_v j⟩) = proj m c r ⟨8896 + j.val, lt_v' j⟩ := by
  dsimp only [V, hostOps0, hostOps0_1, hostOps0_2, hostOps0_3, hostOps0_4, List.flatten_cons, List.flatten_nil, List.append_nil, List.cons_append, List.nil_append]
  after_reads_simp
  pointwise
  rw [dif_neg (by omega), dif_neg (by omega), dif_neg (by omega), dif_neg (by omega), dif_neg (by omega), dif_neg (by omega), dif_neg (by omega)]
  after_reads_simp
  pointwise
  after_reads_simp
  refine (drop_lead _ _ _).trans ?_
  exact congrArg (fun x => m ((c : Thread nD τ).loc main_arg0) (ix3 0 r x)) (Fin.ext (by dsimp only; omega))

/-- Every lane of a row of the repeated sinks holds the head's sink. -/
theorem relaid_sinks (c : Dev nD) (h : Fin 32) (x : Fin 128) : V m c main_v15 (ix2 h x) = sinkOf m c h := by
  dsimp only [V, hostOps0, hostOps0_1, hostOps0_2, hostOps0_3, hostOps0_4, List.flatten_cons, List.flatten_nil, List.append_nil, List.cons_append, List.nil_append]
  after_results
  pointwise
  rfl

/-- Which block of its array each window holds at a grid point. -/
theorem idx : ∀ t : Fin cfg0.N, win0_0.index t = ![t.val, 3] ∧ win0_1.index t = ![t.val, 50] ∧ win0_2.index t = ![t.val, 51]
    ∧ win0_3.index t = ![t.val - 1, 50] ∧ win0_4.index t = ![t.val - 1, 51] ∧ win0_5.index t = ![0, 0] ∧ win0_6.index t = ![t.val, 0] :=
  (by decide +kernel : ∀ t : Fin grid0.N, _)

theorem lt_row (t : Fin cfg0.N) (r : Fin 128) : 128 * t.val + r.val < 8192 := by
  have h : t.val < 64 := t.isLt
  omega
theorem lt_before (t : Fin cfg0.N) (r : Fin 128) : 128 * (t.val - 1) + r.val < 8192 := by
  have h : t.val < 64 := t.isLt
  omega

/-- The query window: the point's own rows, the query columns. -/
theorem block_q (c : Dev nD) (t : Fin cfg0.N) (r : Fin 128) (j : Fin 2048) :
    X0_0 m c t (ix2 r j) = proj m c ⟨128 * t.val + r.val, lt_row t r⟩ ⟨6592 + j.val, lt_q' j⟩ := by
  rw [← relaid_q]
  unfold X0_0 Pipeline.Window.fill
  rw [dif_pos (moved0_0 t (ix2 r j))]
  blk_ext [iblk, idx t]

/-- The window of the point's own keys. -/
theorem block_k (c : Dev nD) (t : Fin cfg0.N) (r : Fin 128) (j : Fin 256) :
    iblk m c 1 t (ix2 r j) = proj m c ⟨128 * t.val + r.val, lt_row t r⟩ ⟨8640 + j.val, lt_k' j⟩ := by
  rw [← relaid_k]
  blk_ext [iblk, idx t]

/-- The window of the point's own values. -/
theorem block_v (c : Dev nD) (t : Fin cfg0.N) (r : Fin 128) (j : Fin 256) :
    iblk m c 2 t (ix2 r j) = proj m c ⟨128 * t.val + r.val, lt_row t r⟩ ⟨8896 + j.val, lt_v' j⟩ := by
  rw [← relaid_v]
  blk_ext [iblk, idx t]

/-- The window of the keys of the rows before. -/
theorem block_kp (c : Dev nD) (t : Fin cfg0.N) (r : Fin 128) (j : Fin 256) :
    iblk m c 3 t (ix2 r j) = proj m c ⟨128 * (t.val - 1) + r.val, lt_before t r⟩ ⟨8640 + j.val, lt_k' j⟩ := by
  rw [← relaid_k]
  blk_ext [iblk, idx t]

/-- The window of the values of the rows before. -/
theorem block_vp (c : Dev nD) (t : Fin cfg0.N) (r : Fin 128) (j : Fin 256) :
    iblk m c 4 t (ix2 r j) = proj m c ⟨128 * (t.val - 1) + r.val, lt_before t r⟩ ⟨8896 + j.val, lt_v' j⟩ := by
  rw [← relaid_v]
  blk_ext [iblk, idx t]

/-- The window of the sinks. -/
theorem block_s (c : Dev nD) (t : Fin cfg0.N) (h : Fin 32) (x : Fin 128) : iblk m c 5 t (ix2 h x) = sinkOf m c h := by
  rw [← relaid_sinks m c h x]
  blk_ext [iblk, idx t]

/-- The mask's bit for query `r` of the point's rows and key `k` of its band, at grid point `n`: the key is at most 128 places and
    not after the query, and it is not one of the rows before the first. -/
def maskBit (n : ℕ) (r : Fin 128) (k : Fin 256) : BitVec 1 :=
  IntOp.andi
    (IntOp.andi (IntOp.cmpi CmpIPredicate.sle (BitVec.ofNat 32 k.val) (IntOp.addi (BitVec.ofNat 32 r.val) 128#32))
      (IntOp.cmpi CmpIPredicate.sgt (BitVec.ofNat 32 k.val) (IntOp.subi (IntOp.addi (BitVec.ofNat 32 r.val) 128#32) 128#32)))
    (IntOp.ori (IntOp.cmpi CmpIPredicate.sge (BitVec.ofNat 32 k.val) 128#32) (Scalar.cmpi CmpIPredicate.sgt (BitVec.ofNat 32 n) 0#32))

theorem coord : ∀ t : Fin cfg0.N, (grid0.coords t 0).val = t.val := (by decide +kernel : ∀ t : Fin grid0.N, _)

theorem mask_bit (t : Fin cfg0.N) (r : Fin 128) (k : Fin 256) : k0_pay6 (grid0.coords t) (ix2 r k) = maskBit t.val r k := by
  rw [← coord t]
  pointwise [k0_pay6]
  rfl

theorem lt_win_k (n : Fin 64) (k : Fin 256) (h : k.val < 128) : 128 * (n.val - 1) + k.val < 8192 := by omega
theorem lt_win_k' (n : Fin 64) (k : Fin 256) : 128 * n.val + (k.val - 128) < 8192 := by omega
theorem lt_col (o : ℕ) (ho : o ≤ 12000) (g : Fin 4) (e : Fin 64) : o + (64 * g.val + e.val) < 13248 := by omega
theorem lt_qcol (h : Fin 32) (e : Fin 64) : 6592 + (64 * h.val + e.val) < 13248 := by omega
theorem lt_qrow (n : Fin 64) (r : Fin 128) : 128 * n.val + r.val < 8192 := by omega

/-- Element `e` of key/value head `g` in row `k` of the 256 rows that grid point `n` sees, for the projection's columns from `o` on: the
    128 rows before the point's own, then its own. -/
def bandRow (c : Dev nD) (o : ℕ) (ho : o ≤ 12000) (n : Fin 64) (g : Fin 4) (k : Fin 256) (e : Fin 64) : EReal :=
  if h : k.val < 128 then proj m c ⟨128 * (n.val - 1) + k.val, lt_win_k n k h⟩ ⟨o + (64 * g.val + e.val), lt_col o ho g e⟩
  else proj m c ⟨128 * n.val + (k.val - 128), lt_win_k' n k⟩ ⟨o + (64 * g.val + e.val), lt_col o ho g e⟩

/-- The attention output of query row `r` of grid point `n`, head `h`, element `e`. -/
def attended (c : Dev nD) (n : Fin 64) (r : Fin 128) (h : Fin 32) (e : Fin 64) : EReal :=
  headAt (fun k => maskBit n.val r k) (fun e => proj m c ⟨128 * n.val + r.val, lt_qrow n r⟩ ⟨6592 + (64 * h.val + e.val), lt_qcol h e⟩)
    (bandRow m c 8640 (by omega) n ⟨h.val / 8, by omega⟩) (sinkOf m c h)
    (fun k => bandRow m c 8896 (by omega) n ⟨h.val / 8, by omega⟩ k e)

/-- The whole array of outputs. -/
def outAt (c : Dev nD) (R : Fin 8192) (w : Fin 2048) : EReal :=
  attended m c ⟨R.val / 128, by omega⟩ ⟨R.val % 128, by omega⟩ ⟨w.val / 64, by omega⟩ ⟨w.val % 64, by omega⟩

theorem outAt_row (c : Dev nD) (n : Fin 64) (r : Fin 128) (w : Fin 2048) :
    outAt m c ⟨128 * n.val + r.val, lt_qrow n r⟩ w = attended m c n r ⟨w.val / 64, by omega⟩ ⟨w.val % 64, by omega⟩ := by
  unfold outAt
  have hn : (⟨(128 * n.val + r.val) / 128, by omega⟩ : Fin 64) = n := Fin.ext (by dsimp only; omega)
  have hr : (⟨(128 * n.val + r.val) % 128, by omega⟩ : Fin 128) = r := Fin.ext (by dsimp only; omega)
  exact congrArg₂ (fun x y => attended m c x y _ _) hn hr

/-- An output element depends on its mask, query, keys and values only through their entries. -/
theorem headAt_congr {mask mask' : Fin 256 → BitVec 1} {q q' : Fin 64 → EReal} {K K' : Fin 256 → Fin 64 → EReal} {sk : EReal}
    {v v' : Fin 256 → EReal} (hm : ∀ k, mask k = mask' k) (hq : ∀ e, q e = q' e) (hK : ∀ k e, K k e = K' k e) (hv : ∀ k, v k = v' k) :
    headAt mask q K sk v = headAt mask' q' K' sk v' := by
  obtain rfl : mask = mask' := funext hm
  obtain rfl : q = q' := funext hq
  obtain rfl : K = K' := funext fun k => funext (hK k)
  obtain rfl : v = v' := funext hv
  rfl

/-- The keys a point loads are the band's keys. -/
theorem band_k (c : Dev nD) (t : Fin cfg0.N) (g : Fin 4) (k : Fin 256) (e : Fin 64) :
    band (iblk m c 3 t) (iblk m c 1 t) g k e = bandRow m c 8640 (by omega) ⟨t.val, t.isLt⟩ g k e := by
  unfold band bandRow
  by_cases h : k.val < 128
  · rw [dif_pos h, dif_pos h]
    exact block_kp m c t _ _
  · rw [dif_neg h, dif_neg h]
    exact block_k m c t _ _

/-- The values a point loads are the band's values. -/
theorem band_v (c : Dev nD) (t : Fin cfg0.N) (g : Fin 4) (k : Fin 256) (e : Fin 64) :
    band (iblk m c 4 t) (iblk m c 2 t) g k e = bandRow m c 8896 (by omega) ⟨t.val, t.isLt⟩ g k e := by
  unfold band bandRow
  by_cases h : k.val < 128
  · rw [dif_pos h, dif_pos h]
    exact block_vp m c t _ _
  · rw [dif_neg h, dif_neg h]
    exact block_v m c t _ _

/-- A point's block function is the whole array's function on the point's rows. -/
theorem blockOut_eq (c : Dev nD) (t : Fin cfg0.N) (r : Fin 128) (w : Fin 2048) :
    blockOut (k0_pay6 (grid0.coords t)) (X0_0 m c t) (iblk m c 3 t) (iblk m c 1 t) (iblk m c 4 t) (iblk m c 2 t) (sinkOf m c) r w
      = outAt m c ⟨128 * t.val + r.val, lt_row t r⟩ w := by
  refine Eq.trans ?_ (outAt_row m c ⟨t.val, t.isLt⟩ r w).symm
  unfold attended blockOut
  have hg : (⟨w.val / 512, by omega⟩ : Fin 4) = ⟨w.val / 64 / 8, by omega⟩ := Fin.ext (by dsimp only; omega)
  refine headAt_congr (fun k => mask_bit t r k) (fun e => block_q m c t r _) (fun k e => ?_) (fun k => ?_)
  · rw [← hg]
    exact band_k m c t _ k e
  · rw [← hg]
    exact band_v m c t _ k _

end Cert.AttnPromptIdeal.Gen
-- ==== Proof.PromptFinal.lean ====
module

public import proofs.«01_k».proof.Proof.PromptArray

/-! The sixteen tiles a grid point stores, and the array they leave. -/

@[expose] public section

set_option maxRecDepth 16384

noncomputable section

open Idealize.ShloMosaic Idealize.ShloMosaic.TcCoe Idealize.SL.Sem
open Idealize.ShloMosaic.Pipeline (Dat)

namespace Cert.AttnPromptIdeal.Gen
variable (m : (ℓ : Loc nD τ sig) → Buf (Elt Ideal) ℓ)

theorem ld_0 (X : Vec Ideal S128x256 .f32) (inb) (r l : Fin 128) :
    View.ld X (Rect.unit ![0, 0] ![128, 128] inb) (ix2 r l) = X (ix2 r ⟨l.val, lt_pair0 l⟩) := by pointwise
theorem ld_128 (X : Vec Ideal S128x256 .f32) (inb) (r l : Fin 128) :
    View.ld X (Rect.unit ![0, 128] ![128, 128] inb) (ix2 r l) = X (ix2 r ⟨128 + l.val, lt_pair1 l⟩) := by pointwise

/-- A loaded row of the sinks' window is the row's sink on every lane. -/
theorem row_sink (c : Dev nD) (t : Fin cfg0.N) (o : ℕ) (ho : o < 32) (inb) (x : Fin 128) :
    View.ld (iblk m c 5 t) (Rect.unit ![o, 0] ![1, 128] inb) (ix2 0 x) = sinkOf m c ⟨o, ho⟩ := by
  refine Eq.trans ?_ (block_s m c t ⟨o, ho⟩ x)
  generalize iblk m c 5 t = X
  pointwise

/-- What a grid point leaves in its block, element by element. -/
theorem point (c : Dev nD) (t : Fin cfg0.N) (y : S128x2048.Idx) :
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (X0_0 m c t) (iblk m c 1 t) (iblk m c 2 t) (iblk m c 3 t) (iblk m c 4 t) (iblk m c 5 t) y
      = blockOut (k0_pay6 (grid0.coords t)) (X0_0 m c t) (iblk m c 3 t) (iblk m c 1 t) (iblk m c 4 t) (iblk m c 2 t) (sinkOf m c) (y 0) (y 1) := by
  unfold out0_A_6
  frame_out
  canon_tiles x h
  case piece0 =>
    obtain ⟨r, l, hx⟩ : ∃ (r l : Fin 128), x = ix2 r l := ⟨x 0, x 1, eq_ix2 x⟩
    subst hx
    refine (block15 _ _ _ _ _ _ _ _ _ _ _ _ _ _ (iblk m c 3 t) (iblk m c 1 t) (iblk m c 4 t) (iblk m c 2 t) (sinkOf m c)
      (ld_128 _ _) (ld_128 _ _) (ld_128 _ _) (ld_128 _ _)
      (fun x => row_sink m c t 24 (by omega) _ x) (fun x => row_sink m c t 25 (by omega) _ x) (fun x => row_sink m c t 26 (by omega) _ x) (fun x => row_sink m c t 27 (by omega) _ x) (fun x => row_sink m c t 28 (by omega) _ x) (fun x => row_sink m c t 29 (by omega) _ x) (fun x => row_sink m c t 30 (by omega) _ x) (fun x => row_sink m c t 31 (by omega) _ x) r l (y 1) h1).trans ?_
    exact congrArg (fun z => blockOut _ _ _ _ _ _ _ z _) (Fin.ext h0.symm)
  case piece1 =>
    obtain ⟨r, l, hx⟩ : ∃ (r l : Fin 128), x = ix2 r l := ⟨x 0, x 1, eq_ix2 x⟩
    subst hx
    refine (block14 _ _ _ _ _ _ _ _ _ _ _ _ _ _ (iblk m c 3 t) (iblk m c 1 t) (iblk m c 4 t) (iblk m c 2 t) (sinkOf m c)
      (ld_128 _ _) (ld_128 _ _) (ld_128 _ _) (ld_128 _ _)
      (fun x => row_sink m c t 24 (by omega) _ x) (fun x => row_sink m c t 25 (by omega) _ x) (fun x => row_sink m c t 26 (by omega) _ x) (fun x => row_sink m c t 27 (by omega) _ x) (fun x => row_sink m c t 28 (by omega) _ x) (fun x => row_sink m c t 29 (by omega) _ x) (fun x => row_sink m c t 30 (by omega) _ x) (fun x => row_sink m c t 31 (by omega) _ x) r l (y 1) h1).trans ?_
    exact congrArg (fun z => blockOut _ _ _ _ _ _ _ z _) (Fin.ext h0.symm)
  case piece2 =>
    obtain ⟨r, l, hx⟩ : ∃ (r l : Fin 128), x = ix2 r l := ⟨x 0, x 1, eq_ix2 x⟩
    subst hx
    refine (block13 _ _ _ _ _ _ _ _ _ _ _ _ _ _ (iblk m c 3 t) (iblk m c 1 t) (iblk m c 4 t) (iblk m c 2 t) (sinkOf m c)
      (ld_128 _ _) (ld_128 _ _) (ld_128 _ _) (ld_128 _ _)
      (fun x => row_sink m c t 24 (by omega) _ x) (fun x => row_sink m c t 25 (by omega) _ x) (fun x => row_sink m c t 26 (by omega) _ x) (fun x => row_sink m c t 27 (by omega) _ x) (fun x => row_sink m c t 28 (by omega) _ x) (fun x => row_sink m c t 29 (by omega) _ x) (fun x => row_sink m c t 30 (by omega) _ x) (fun x => row_sink m c t 31 (by omega) _ x) r l (y 1) h1).trans ?_
    exact congrArg (fun z => blockOut _ _ _ _ _ _ _ z _) (Fin.ext h0.symm)
  case piece3 =>
    obtain ⟨r, l, hx⟩ : ∃ (r l : Fin 128), x = ix2 r l := ⟨x 0, x 1, eq_ix2 x⟩
    subst hx
    refine (block12 _ _ _ _ _ _ _ _ _ _ _ _ _ _ (iblk m c 3 t) (iblk m c 1 t) (iblk m c 4 t) (iblk m c 2 t) (sinkOf m c)
      (ld_128 _ _) (ld_128 _ _) (ld_128 _ _) (ld_128 _ _)
      (fun x => row_sink m c t 24 (by omega) _ x) (fun x => row_sink m c t 25 (by omega) _ x) (fun x => row_sink m c t 26 (by omega) _ x) (fun x => row_sink m c t 27 (by omega) _ x) (fun x => row_sink m c t 28 (by omega) _ x) (fun x => row_sink m c t 29 (by omega) _ x) (fun x => row_sink m c t 30 (by omega) _ x) (fun x => row_sink m c t 31 (by omega) _ x) r l (y 1) h1).trans ?_
    exact congrArg (fun z => blockOut _ _ _ _ _ _ _ z _) (Fin.ext h0.symm)
  case piece4 =>
    obtain ⟨r, l, hx⟩ : ∃ (r l : Fin 128), x = ix2 r l := ⟨x 0, x 1, eq_ix2 x⟩
    subst hx
    refine (block11 _ _ _ _ _ _ _ _ _ _ _ _ _ _ (iblk m c 3 t) (iblk m c 1 t) (iblk m c 4 t) (iblk m c 2 t) (sinkOf m c)
      (ld_128 _ _) (ld_128 _ _) (ld_128 _ _) (ld_128 _ _)
      (fun x => row_sink m c t 16 (by omega) _ x) (fun x => row_sink m c t 17 (by omega) _ x) (fun x => row_sink m c t 18 (by omega) _ x) (fun x => row_sink m c t 19 (by omega) _ x) (fun x => row_sink m c t 20 (by omega) _ x) (fun x => row_sink m c t 21 (by omega) _ x) (fun x => row_sink m c t 22 (by omega) _ x) (fun x => row_sink m c t 23 (by omega) _ x) r l (y 1) h1).trans ?_
    exact congrArg (fun z => blockOut _ _ _ _ _ _ _ z _) (Fin.ext h0.symm)
  case piece5 =>
    obtain ⟨r, l, hx⟩ : ∃ (r l : Fin 128), x = ix2 r l := ⟨x 0, x 1, eq_ix2 x⟩
    subst hx
    refine (block10 _ _ _ _ _ _ _ _ _ _ _ _ _ _ (iblk m c 3 t) (iblk m c 1 t) (iblk m c 4 t) (iblk m c 2 t) (sinkOf m c)
      (ld_128 _ _) (ld_128 _ _) (ld_128 _ _) (ld_128 _ _)
      (fun x => row_sink m c t 16 (by omega) _ x) (fun x => row_sink m c t 17 (by omega) _ x) (fun x => row_sink m c t 18 (by omega) _ x) (fun x => row_sink m c t 19 (by omega) _ x) (fun x => row_sink m c t 20 (by omega) _ x) (fun x => row_sink m c t 21 (by omega) _ x) (fun x => row_sink m c t 22 (by omega) _ x) (fun x => row_sink m c t 23 (by omega) _ x) r l (y 1) h1).trans ?_
    exact congrArg (fun z => blockOut _ _ _ _ _ _ _ z _) (Fin.ext h0.symm)
  case piece6 =>
    obtain ⟨r, l, hx⟩ : ∃ (r l : Fin 128), x = ix2 r l := ⟨x 0, x 1, eq_ix2 x⟩
    subst hx
    refine (block9 _ _ _ _ _ _ _ _ _ _ _ _ _ _ (iblk m c 3 t) (iblk m c 1 t) (iblk m c 4 t) (iblk m c 2 t) (sinkOf m c)
      (ld_128 _ _) (ld_128 _ _) (ld_128 _ _) (ld_128 _ _)
      (fun x => row_sink m c t 16 (by omega) _ x) (fun x => row_sink m c t 17 (by omega) _ x) (fun x => row_sink m c t 18 (by omega) _ x) (fun x => row_sink m c t 19 (by omega) _ x) (fun x => row_sink m c t 20 (by omega) _ x) (fun x => row_sink m c t 21 (by omega) _ x) (fun x => row_sink m c t 22 (by omega) _ x) (fun x => row_sink m c t 23 (by omega) _ x) r l (y 1) h1).trans ?_
    exact congrArg (fun z => blockOut _ _ _ _ _ _ _ z _) (Fin.ext h0.symm)
  case piece7 =>
    obtain ⟨r, l, hx⟩ : ∃ (r l : Fin 128), x = ix2 r l := ⟨x 0, x 1, eq_ix2 x⟩
    subst hx
    refine (block8 _ _ _ _ _ _ _ _ _ _ _ _ _ _ (iblk m c 3 t) (iblk m c 1 t) (iblk m c 4 t) (iblk m c 2 t) (sinkOf m c)
      (ld_128 _ _) (ld_128 _ _) (ld_128 _ _) (ld_128 _ _)
      (fun x => row_sink m c t 16 (by omega) _ x) (fun x => row_sink m c t 17 (by omega) _ x) (fun x => row_sink m c t 18 (by omega) _ x) (fun x => row_sink m c t 19 (by omega) _ x) (fun x => row_sink m c t 20 (by omega) _ x) (fun x => row_sink m c t 21 (by omega) _ x) (fun x => row_sink m c t 22 (by omega) _ x) (fun x => row_sink m c t 23 (by omega) _ x) r l (y 1) h1).trans ?_
    exact congrArg (fun z => blockOut _ _ _ _ _ _ _ z _) (Fin.ext h0.symm)
  case piece8 =>
    obtain ⟨r, l, hx⟩ : ∃ (r l : Fin 128), x = ix2 r l := ⟨x 0, x 1, eq_ix2 x⟩
    subst hx
    refine (block7 _ _ _ _ _ _ _ _ _ _ _ _ _ _ (iblk m c 3 t) (iblk m c 1 t) (iblk m c 4 t) (iblk m c 2 t) (sinkOf m c)
      (ld_0 _ _) (ld_0 _ _) (ld_0 _ _) (ld_0 _ _)
      (fun x => row_sink m c t 8 (by omega) _ x) (fun x => row_sink m c t 9 (by omega) _ x) (fun x => row_sink m c t 10 (by omega) _ x) (fun x => row_sink m c t 11 (by omega) _ x) (fun x => row_sink m c t 12 (by omega) _ x) (fun x => row_sink m c t 13 (by omega) _ x) (fun x => row_sink m c t 14 (by omega) _ x) (fun x => row_sink m c t 15 (by omega) _ x) r l (y 1) h1).trans ?_
    exact congrArg (fun z => blockOut _ _ _ _ _ _ _ z _) (Fin.ext h0.symm)
  case piece9 =>
    obtain ⟨r, l, hx⟩ : ∃ (r l : Fin 128), x = ix2 r l := ⟨x 0, x 1, eq_ix2 x⟩
    subst hx
    refine (block6 _ _ _ _ _ _ _ _ _ _ _ _ _ _ (iblk m c 3 t) (iblk m c 1 t) (iblk m c 4 t) (iblk m c 2 t) (sinkOf m c)
      (ld_0 _ _) (ld_0 _ _) (ld_0 _ _) (ld_0 _ _)
      (fun x => row_sink m c t 8 (by omega) _ x) (fun x => row_sink m c t 9 (by omega) _ x) (fun x => row_sink m c t 10 (by omega) _ x) (fun x => row_sink m c t 11 (by omega) _ x) (fun x => row_sink m c t 12 (by omega) _ x) (fun x => row_sink m c t 13 (by omega) _ x) (fun x => row_sink m c t 14 (by omega) _ x) (fun x => row_sink m c t 15 (by omega) _ x) r l (y 1) h1).trans ?_
    exact congrArg (fun z => blockOut _ _ _ _ _ _ _ z _) (Fin.ext h0.symm)
  case piece10 =>
    obtain ⟨r, l, hx⟩ : ∃ (r l : Fin 128), x = ix2 r l := ⟨x 0, x 1, eq_ix2 x⟩
    subst hx
    refine (block5 _ _ _ _ _ _ _ _ _ _ _ _ _ _ (iblk m c 3 t) (iblk m c 1 t) (iblk m c 4 t) (iblk m c 2 t) (sinkOf m c)
      (ld_0 _ _) (ld_0 _ _) (ld_0 _ _) (ld_0 _ _)
      (fun x => row_sink m c t 8 (by omega) _ x) (fun x => row_sink m c t 9 (by omega) _ x) (fun x => row_sink m c t 10 (by omega) _ x) (fun x => row_sink m c t 11 (by omega) _ x) (fun x => row_sink m c t 12 (by omega) _ x) (fun x => row_sink m c t 13 (by omega) _ x) (fun x => row_sink m c t 14 (by omega) _ x) (fun x => row_sink m c t 15 (by omega) _ x) r l (y 1) h1).trans ?_
    exact congrArg (fun z => blockOut _ _ _ _ _ _ _ z _) (Fin.ext h0.symm)
  case piece11 =>
    obtain ⟨r, l, hx⟩ : ∃ (r l : Fin 128), x = ix2 r l := ⟨x 0, x 1, eq_ix2 x⟩
    subst hx
    refine (block4 _ _ _ _ _ _ _ _ _ _ _ _ _ _ (iblk m c 3 t) (iblk m c 1 t) (iblk m c 4 t) (iblk m c 2 t) (sinkOf m c)
      (ld_0 _ _) (ld_0 _ _) (ld_0 _ _) (ld_0 _ _)
      (fun x => row_sink m c t 8 (by omega) _ x) (fun x => row_sink m c t 9 (by omega) _ x) (fun x => row_sink m c t 10 (by omega) _ x) (fun x => row_sink m c t 11 (by omega) _ x) (fun x => row_sink m c t 12 (by omega) _ x) (fun x => row_sink m c t 13 (by omega) _ x) (fun x => row_sink m c t 14 (by omega) _ x) (fun x => row_sink m c t 15 (by omega) _ x) r l (y 1) h1).trans ?_
    exact congrArg (fun z => blockOut _ _ _ _ _ _ _ z _) (Fin.ext h0.symm)
  case piece12 =>
    obtain ⟨r, l, hx⟩ : ∃ (r l : Fin 128), x = ix2 r l := ⟨x 0, x 1, eq_ix2 x⟩
    subst hx
    refine (block3 _ _ _ _ _ _ _ _ _ _ _ _ _ _ (iblk m c 3 t) (iblk m c 1 t) (iblk m c 4 t) (iblk m c 2 t) (sinkOf m c)
      (ld_0 _ _) (ld_0 _ _) (ld_0 _ _) (ld_0 _ _)
      (fun x => row_sink m c t 0 (by omega) _ x) (fun x => row_sink m c t 1 (by omega) _ x) (fun x => row_sink m c t 2 (by omega) _ x) (fun x => row_sink m c t 3 (by omega) _ x) (fun x => row_sink m c t 4 (by omega) _ x) (fun x => row_sink m c t 5 (by omega) _ x) (fun x => row_sink m c t 6 (by omega) _ x) (fun x => row_sink m c t 7 (by omega) _ x) r l (y 1) h1).trans ?_
    exact congrArg (fun z => blockOut _ _ _ _ _ _ _ z _) (Fin.ext h0.symm)
  case piece13 =>
    obtain ⟨r, l, hx⟩ : ∃ (r l : Fin 128), x = ix2 r l := ⟨x 0, x 1, eq_ix2 x⟩
    subst hx
    refine (block2 _ _ _ _ _ _ _ _ _ _ _ _ _ _ (iblk m c 3 t) (iblk m c 1 t) (iblk m c 4 t) (iblk m c 2 t) (sinkOf m c)
      (ld_0 _ _) (ld_0 _ _) (ld_0 _ _) (ld_0 _ _)
      (fun x => row_sink m c t 0 (by omega) _ x) (fun x => row_sink m c t 1 (by omega) _ x) (fun x => row_sink m c t 2 (by omega) _ x) (fun x => row_sink m c t 3 (by omega) _ x) (fun x => row_sink m c t 4 (by omega) _ x) (fun x => row_sink m c t 5 (by omega) _ x) (fun x => row_sink m c t 6 (by omega) _ x) (fun x => row_sink m c t 7 (by omega) _ x) r l (y 1) h1).trans ?_
    exact congrArg (fun z => blockOut _ _ _ _ _ _ _ z _) (Fin.ext h0.symm)
  case piece14 =>
    obtain ⟨r, l, hx⟩ : ∃ (r l : Fin 128), x = ix2 r l := ⟨x 0, x 1, eq_ix2 x⟩
    subst hx
    refine (block1 _ _ _ _ _ _ _ _ _ _ _ _ _ _ (iblk m c 3 t) (iblk m c 1 t) (iblk m c 4 t) (iblk m c 2 t) (sinkOf m c)
      (ld_0 _ _) (ld_0 _ _) (ld_0 _ _) (ld_0 _ _)
      (fun x => row_sink m c t 0 (by omega) _ x) (fun x => row_sink m c t 1 (by omega) _ x) (fun x => row_sink m c t 2 (by omega) _ x) (fun x => row_sink m c t 3 (by omega) _ x) (fun x => row_sink m c t 4 (by omega) _ x) (fun x => row_sink m c t 5 (by omega) _ x) (fun x => row_sink m c t 6 (by omega) _ x) (fun x => row_sink m c t 7 (by omega) _ x) r l (y 1) h1).trans ?_
    exact congrArg (fun z => blockOut _ _ _ _ _ _ _ z _) (Fin.ext h0.symm)
  case piece15 =>
    obtain ⟨r, l, hx⟩ : ∃ (r l : Fin 128), x = ix2 r l := ⟨x 0, x 1, eq_ix2 x⟩
    subst hx
    refine (block0 _ _ _ _ _ _ _ _ _ _ _ _ _ _ (iblk m c 3 t) (iblk m c 1 t) (iblk m c 4 t) (iblk m c 2 t) (sinkOf m c)
      (ld_0 _ _) (ld_0 _ _) (ld_0 _ _) (ld_0 _ _)
      (fun x => row_sink m c t 0 (by omega) _ x) (fun x => row_sink m c t 1 (by omega) _ x) (fun x => row_sink m c t 2 (by omega) _ x) (fun x => row_sink m c t 3 (by omega) _ x) (fun x => row_sink m c t 4 (by omega) _ x) (fun x => row_sink m c t 5 (by omega) _ x) (fun x => row_sink m c t 6 (by omega) _ x) (fun x => row_sink m c t 7 (by omega) _ x) r l (y 1) h1).trans ?_
    exact congrArg (fun z => blockOut _ _ _ _ _ _ _ z _) (Fin.ext h0.symm)

/-- The array of outputs after the run. -/
theorem final (c : Dev nD) : (dats m 0 c).arrAt 6 cfg0.N = fun i => outAt m c (i 0) (i 1) := by
  refine (dats m 0 c).arrAt_eq_of_covers 6 _ (by decide +kernel) fun t hf y => ?_
  rw [after0_6]
  blk_simp [idx t]
  unfold outsAt0
  refine (point m c t y).trans ((blockOut_eq m c t (y 0) (y 1)).trans ?_)
  refine congrArg₂ (outAt m c) (Fin.ext ?_) (Fin.ext ?_)
  · blk_simp [idx t]
    exact congrArg (· + (y 0).val) (Nat.mul_comm 128 t.val)
  · blk_simp [idx t]

end Cert.AttnPromptIdeal.Gen
-- ==== Proof.LastAxis.lean ====
module

public import Idealize.ShloMosaic.Lib.Pointwise

/-! Reductions along the last of six axes, read at an index: the sum, or the maximum, along that axis. -/

@[expose] public section

noncomputable section

open Idealize.ShloMosaic

namespace Cert.LastAxis
variable {n0 n1 n2 n3 n4 n5 : Nat}

/-- The source indices that reduce to a given index are those with its coordinates and any last one. -/
theorem fiber (h : (⟨6, ![n0, n1, n2, n3, n4, n5]⟩ : Shape).ReducesTo [5] ⟨5, ![n0, n1, n2, n3, n4]⟩)
    (a : Fin n0) (b : Fin n1) (c : Fin n2) (d : Fin n3) (e : Fin n4) (i : (⟨6, ![n0, n1, n2, n3, n4, n5]⟩ : Shape).Idx) :
    h.drop i = ix5 a b c d e ↔ ∃ k : Fin n5, ix6 a b c d e k = i := by
  constructor
  · intro q
    refine ⟨i 5, ?_⟩
    funext x; apply Fin.ext
    match x with
    | ⟨0, _⟩ => exact (congrArg Fin.val (congrFun q 0)).symm
    | ⟨1, _⟩ => exact (congrArg Fin.val (congrFun q 1)).symm
    | ⟨2, _⟩ => exact (congrArg Fin.val (congrFun q 2)).symm
    | ⟨3, _⟩ => exact (congrArg Fin.val (congrFun q 3)).symm
    | ⟨4, _⟩ => exact (congrArg Fin.val (congrFun q 4)).symm
    | ⟨5, _⟩ => rfl
  · rintro ⟨k, rfl⟩
    funext x
    apply Fin.ext
    match x with
    | ⟨0, _⟩ => rfl
    | ⟨1, _⟩ => rfl
    | ⟨2, _⟩ => rfl
    | ⟨3, _⟩ => rfl
    | ⟨4, _⟩ => rfl

/-- A sum along the last axis. -/
theorem sum_at (h : (⟨6, ![n0, n1, n2, n3, n4, n5]⟩ : Shape).ReducesTo [5] ⟨5, ![n0, n1, n2, n3, n4]⟩)
    (v : (⟨6, ![n0, n1, n2, n3, n4, n5]⟩ : Shape).Idx → EReal) (init : EReal)
    (a : Fin n0) (b : Fin n1) (c : Fin n2) (d : Fin n3) (e : Fin n4) :
    Ideal.hostReduceAdd h v init (ix5 a b c d e) = init + ∑ k : Fin n5, v (ix6 a b c d e k) :=
  congrArg (init + ·) (Finset.sum_filter_eq_sum_of_fiber _ (fun k : Fin n5 => ix6 a b c d e k) (fun _ _ q => congrFun q 5) (fiber h a b c d e) v)

/-- A maximum along the last axis. -/
theorem fold_at (h : (⟨6, ![n0, n1, n2, n3, n4, n5]⟩ : Shape).ReducesTo [5] ⟨5, ![n0, n1, n2, n3, n4]⟩)
    (v : (⟨6, ![n0, n1, n2, n3, n4, n5]⟩ : Shape).Idx → EReal) (init : EReal)
    (a : Fin n0) (b : Fin n1) (c : Fin n2) (d : Fin n3) (e : Fin n4) :
    (Finset.univ.filter (fun i => h.drop i = ix5 a b c d e)).fold max init v = (Finset.univ : Finset (Fin n5)).fold max init (fun k => v (ix6 a b c d e k)) :=
  Finset.fold_filter_eq_fold_of_fiber max _ (fun k : Fin n5 => ix6 a b c d e k) (fun _ _ q => congrFun q 5) (fiber h a b c d e) init v

end Cert.LastAxis
-- ==== Proof.PromptRef.lean ====
module

public import proofs.«01_k».proof.Proof.Gen.AttnPromptRefIdeal.Run
public import proofs.«01_k».proof.Proof.SinkSoftmax
public import proofs.«01_k».proof.Proof.LastAxis
public import Idealize.ShloMosaic.Lib.Pointwise

/-! The reference's attention of the prompt, cut into its steps, and each step read at an index. -/

@[expose] public section

set_option maxRecDepth 16384

noncomputable section

open Idealize.ShloMosaic Idealize.ShloMosaic.TcCoe Idealize.SL.Sem

namespace Cert.AttnPromptRefIdeal.Steps
open Cert.AttnPromptRefIdeal Cert.AttnPromptRefIdeal.Gen

/-- The 256 rows a block of 128 sees: the block before it (zeros for the first), then its own. -/
def twoBlocks (x : FVec Ideal S1x64x128x4x64 .f32) : FVec Ideal S1x64x256x4x64 .f32 :=
  concatenate S1x64x256x4x64 2 [⟨S1x64x128x4x64, extractStridedSlice S1x64x128x4x64 ![0, 0, 0, 0, 0] (pad S1x65x128x4x64 ![0, 1, 0, 0, 0] ![0, 0, 0, 0, 0] ![0, 0, 0, 0, 0] x (sitofp .f32 (constantI S_ 32 0#32)) pads_S1x64x128x4x64_S1x65x128x4x64_000_100_000_000_000 h_S_) slices_S1x65x128x4x64_S1x64x128x4x64_0_0_0_0_0⟩, ⟨S1x64x128x4x64, x⟩] concatenates_S1x64x128x4x64_S1x64x128x4x64_S1x64x256x4x64_d2

/-- The key columns as blocks of rows and heads. -/
def keyBlocks (x : FVec Ideal S1x8192x13248 .f32) : FVec Ideal S1x64x128x4x64 .f32 :=
  shapeCast S1x64x128x4x64 (shapeCast S1x8192x4x64 (extractStridedSlice S1x8192x256 ![0, 0, 8640] x slices_S1x8192x13248_S1x8192x256_0_0_8640) shapeCasts_S1x8192x256_S1x8192x4x64) shapeCasts_S1x8192x4x64_S1x64x128x4x64

/-- The value columns as blocks of rows and heads. -/
def valueBlocks (x : FVec Ideal S1x8192x13248 .f32) : FVec Ideal S1x64x128x4x64 .f32 :=
  shapeCast S1x64x128x4x64 (shapeCast S1x8192x4x64 (extractStridedSlice S1x8192x256 ![0, 0, 8896] x slices_S1x8192x13248_S1x8192x256_0_0_8896) shapeCasts_S1x8192x256_S1x8192x4x64) shapeCasts_S1x8192x4x64_S1x64x128x4x64

/-- The query columns as blocks of rows, key heads and query heads of each. -/
def queryBlocks (x : FVec Ideal S1x8192x13248 .f32) : FVec Ideal S1x64x128x4x8x64 .f32 :=
  shapeCast S1x64x128x4x8x64 (shapeCast S1x8192x4x8x64 (extractStridedSlice S1x8192x2048 ![0, 0, 6592] x slices_S1x8192x13248_S1x8192x2048_0_0_6592) shapeCasts_S1x8192x2048_S1x8192x4x8x64) shapeCasts_S1x8192x4x8x64_S1x64x128x4x8x64

/-- The sinks as key heads and query heads of each. -/
def sinkHeads (s : FVec Ideal S1x32 .f32) : FVec Ideal S4x8 .f32 := shapeCast S4x8 s shapeCasts_S1x32_S4x8

/-- Which key each query may see. -/
def mask : IVec S1x64x4x8x128x256 1 :=
  broadcastInDim S1x64x4x8x128x256 ![0, 1, 2, 3, 4, 5] bcast_S1x64x1x1x128x256_S1x64x4x8x128x256_0_1_2_3_4_5 (broadcastInDim S1x64x1x1x128x256 ![1, 4, 5] bcast_S64x128x256_S1x64x1x1x128x256_1_4_5
    (andi (broadcastInDim S64x128x256 ![0, 1, 2] bcast_S1x128x256_S64x128x256_0_1_2 (broadcastInDim S1x128x256 ![1, 2] bcast_S128x256_S1x128x256_1_2
        (andi (cmpi .sle (broadcastInDim S128x256 ![0, 1] bcast_S1x256_S128x256_0_1 (broadcastInDim S1x256 ![1] bcast_S256_S1x256_1 (iotaInDim S256 32 0)))
            (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))))
          (cmpi .sgt (broadcastInDim S128x256 ![0, 1] bcast_S1x256_S128x256_0_1 (broadcastInDim S1x256 ![1] bcast_S256_S1x256_1 (iotaInDim S256 32 0)))
            (broadcastInDim S128x256 ![0, 1] bcast_S128x1_S128x256_0_1 (subi (addi (broadcastInDim S128x1 ![0] bcast_S128_S128x1_0 (iotaInDim S128 32 0)) (broadcastInDim S128x1 ![] bcast_S_S128x1 (constantI S_ 32 128#32))) (broadcastInDim S128x1 ![] bcast_S_S128x1 (constantI S_ 32 128#32))))))))
      (broadcastInDim S64x128x256 ![0, 1, 2] bcast_S64x1x256_S64x128x256_0_1_2
        (ori (broadcastInDim S64x1x256 ![0, 1, 2] bcast_S64x1x1_S64x1x256_0_1_2 (broadcastInDim S64x1x1 ![0] bcast_S64_S64x1x1_0 (cmpi .sgt (iotaInDim S64 32 0) (broadcastInDim S64 ![] bcast_S_S64 (constantI S_ 32 0#32)))))
          (broadcastInDim S64x1x256 ![0, 1, 2] bcast_S1x1x256_S64x1x256_0_1_2 (broadcastInDim S1x1x256 ![1, 2] bcast_S1x256_S1x1x256_1_2 (cmpi .sge (broadcastInDim S1x256 ![1] bcast_S256_S1x256_1 (iotaInDim S256 32 0)) (broadcastInDim S1x256 ![] bcast_S_S1x256 (constantI S_ 32 128#32)))))))))

/-- The scaled scores, masked ones at minus infinity. -/
def scores (k : FVec Ideal S1x64x256x4x64 .f32) (q : FVec Ideal S1x64x128x4x8x64 .f32) : FVec Ideal S1x64x4x8x128x256 .f32 :=
  select mask (mulf (transpose S1x64x4x8x128x256 [0, 1, 2, 5, 4, 3] (Host.dotGeneral dot_S1x64x256x4x64_S1x64x128x4x8x64_S1x64x4x256x128x8_4_5_2_24_013_013 none k q) transposes_S1x64x4x256x128x8_S1x64x4x8x128x256_0_1_2_5_4_3)
      (broadcastInDim S1x64x4x8x128x256 ![] bcast_S_S1x64x4x8x128x256 (constant S_ .f32 0x3E000000#32)))
    (broadcastInDim S1x64x4x8x128x256 ![] bcast_S_S1x64x4x8x128x256 (id (constant S_ .f32 0xFF800000#32)))

/-- The sinks beside every query. -/
def sinkAll (s : FVec Ideal S4x8 .f32) : FVec Ideal S1x64x4x8x128x1 .f32 :=
  broadcastInDim S1x64x4x8x128x1 ![0, 1, 2, 3, 4, 5] bcast_S1x1x4x8x1x1_S1x64x4x8x128x1_0_1_2_3_4_5 (broadcastInDim S1x1x4x8x1x1 ![2, 3] bcast_S4x8_S1x1x4x8x1x1_2_3 s)

/-- Each query's shift: the larger of its largest score and its sink. -/
def shifts (sc : FVec Ideal S1x64x4x8x128x256 .f32) (s : FVec Ideal S4x8 .f32) : FVec Ideal S1x64x4x8x128x1 .f32 :=
  maximumf (broadcastInDim S1x64x4x8x128x1 ![0, 1, 2, 3, 4] bcast_S1x64x4x8x128_S1x64x4x8x128x1_0_1_2_3_4 (Host.reduce FloatOps.maximumf sc (constant S_ .f32 0xFF800000#32) reducesTo_S1x64x4x8x128x256_S1x64x4x8x128_d5 h_S_)) (sinkAll s)

/-- The exponentials of the shifted scores. -/
def exps (sc : FVec Ideal S1x64x4x8x128x256 .f32) (M : FVec Ideal S1x64x4x8x128x1 .f32) : FVec Ideal S1x64x4x8x128x256 .f32 :=
  Host.exp (subf sc (broadcastInDim S1x64x4x8x128x256 ![0, 1, 2, 3, 4, 5] bcast_S1x64x4x8x128x1_S1x64x4x8x128x256_0_1_2_3_4_5 M))

/-- The attention weights. -/
def weights (sc : FVec Ideal S1x64x4x8x128x256 .f32) (s : FVec Ideal S4x8 .f32) : FVec Ideal S1x64x4x8x128x256 .f32 :=
  Host.divf (exps sc (shifts sc s))
    (broadcastInDim S1x64x4x8x128x256 ![0, 1, 2, 3, 4, 5] bcast_S1x64x4x8x128x1_S1x64x4x8x128x256_0_1_2_3_4_5
      (addf (broadcastInDim S1x64x4x8x128x1 ![0, 1, 2, 3, 4] bcast_S1x64x4x8x128_S1x64x4x8x128x1_0_1_2_3_4 (Host.reduceAdd (exps sc (shifts sc s)) (constant S_ .f32 0x00000000#32) reducesTo_S1x64x4x8x128x256_S1x64x4x8x128_d5 h_S_))
        (Host.exp (subf (sinkAll s) (shifts sc s)))))

/-- The weighted values, back in rows and columns. -/
def outputs (v : FVec Ideal S1x64x256x4x64 .f32) (w : FVec Ideal S1x64x4x8x128x256 .f32) : FVec Ideal S8192x2048 .f32 :=
  shapeCast S8192x2048 (transpose S1x64x128x4x8x64 [0, 1, 5, 2, 4, 3] (Host.dotGeneral dot_S1x64x256x4x64_S1x64x4x8x128x256_S1x64x4x64x8x128_2_5_4_34_013_012 none v w) transposes_S1x64x4x64x8x128_S1x64x128x4x8x64_0_1_5_2_4_3) shapeCasts_S1x64x128x4x8x64_S8192x2048

/-- The reference's result is these steps in turn. -/
theorem res_eq (m : (ℓ : Loc nD τ sig) → Buf (Elt Ideal) ℓ) (c : Dev nD) :
    Value.res_main_v71 m c = outputs (twoBlocks (valueBlocks (m ((c.tc : Thread nD τ).loc main_arg0))))
      (weights (scores (twoBlocks (keyBlocks (m ((c.tc : Thread nD τ).loc main_arg0)))) (queryBlocks (m ((c.tc : Thread nD τ).loc main_arg0)))) (sinkHeads (m ((c.tc : Thread nD τ).loc main_arg2)))) := rfl

theorem keyBlocks_at (x : FVec Ideal S1x8192x13248 .f32) (n : Fin 64) (r : Fin 128) (g : Fin 4) (e : Fin 64) :
    keyBlocks x (ix5 0 n r g e) = x (ix3 0 ⟨128 * n.val + r.val, by omega⟩ ⟨8640 + (64 * g.val + e.val), by omega⟩) := by
  pointwise [keyBlocks]
  exact congrArg₂ (fun a b => x (ix3 0 a b)) (Fin.ext (by dsimp only; omega)) (Fin.ext (by dsimp only; omega))
theorem valueBlocks_at (x : FVec Ideal S1x8192x13248 .f32) (n : Fin 64) (r : Fin 128) (g : Fin 4) (e : Fin 64) :
    valueBlocks x (ix5 0 n r g e) = x (ix3 0 ⟨128 * n.val + r.val, by omega⟩ ⟨8896 + (64 * g.val + e.val), by omega⟩) := by
  pointwise [valueBlocks]
  exact congrArg₂ (fun a b => x (ix3 0 a b)) (Fin.ext (by dsimp only; omega)) (Fin.ext (by dsimp only; omega))
theorem queryBlocks_at (x : FVec Ideal S1x8192x13248 .f32) (n : Fin 64) (r : Fin 128) (g : Fin 4) (h : Fin 8) (e : Fin 64) :
    queryBlocks x (ix6 0 n r g h e) = x (ix3 0 ⟨128 * n.val + r.val, by omega⟩ ⟨6592 + (64 * (8 * g.val + h.val) + e.val), by omega⟩) := by
  pointwise [queryBlocks]
  exact congrArg₂ (fun a b => x (ix3 0 a b)) (Fin.ext (by dsimp only; omega)) (Fin.ext (by dsimp only; omega))
theorem sinkHeads_at (s : FVec Ideal S1x32 .f32) (g : Fin 4) (h : Fin 8) : sinkHeads s (ix2 g h) = s (ix2 0 ⟨8 * g.val + h.val, by omega⟩) := by
  pointwise [sinkHeads]
  exact congrArg (fun a => s (ix2 0 a)) (Fin.ext (by dsimp only; omega))
theorem twoBlocks_at (x : FVec Ideal S1x64x128x4x64 .f32) (n : Fin 64) (k : Fin 256) (g : Fin 4) (e : Fin 64) :
    twoBlocks x (ix5 0 n k g e) = if h : k.val < 128 then (if n.val = 0 then 0 else x (ix5 0 ⟨n.val - 1, by omega⟩ ⟨k.val, h⟩ g e))
      else x (ix5 0 n ⟨k.val - 128, by omega⟩ g e) := by
  pointwise [twoBlocks]
  by_cases h : k.val < 128
  · rw [dif_pos h, dif_pos h]
    by_cases hn : n.val = 0
    · rw [if_pos hn, dif_neg (by omega)]
      simp [FloatOps.sitofp]
    · rw [if_neg hn, dif_pos (by omega)]
  · rw [dif_neg h, dif_neg h]

/-- The mask's bit for query `r` of block `n` and key `k` of its two blocks. -/
def maskBit (n : ℕ) (r : Fin 128) (k : Fin 256) : BitVec 1 :=
  IntOp.andi
    (IntOp.andi (IntOp.cmpi CmpIPredicate.sle (BitVec.ofNat 32 k.val) (IntOp.addi (BitVec.ofNat 32 r.val) 128#32))
      (IntOp.cmpi CmpIPredicate.sgt (BitVec.ofNat 32 k.val) (IntOp.subi (IntOp.addi (BitVec.ofNat 32 r.val) 128#32) 128#32)))
    (IntOp.ori (IntOp.cmpi CmpIPredicate.sgt (BitVec.ofNat 32 n) 0#32) (IntOp.cmpi CmpIPredicate.sge (BitVec.ofNat 32 k.val) 128#32))

theorem scores_at (k : FVec Ideal S1x64x256x4x64 .f32) (q : FVec Ideal S1x64x128x4x8x64 .f32) (n : Fin 64) (g : Fin 4) (h : Fin 8) (r : Fin 128) (j : Fin 256) :
    scores k q (ix6 0 n g h r j) = Scalar.select (maskBit n.val r j) ((∑ e : Fin 64, k (ix5 0 n j g e) * q (ix6 0 n r g h e)) * Ideal.ofBits .f32 0x3E000000#32) ⊥ := by
  rw [← SinkSoftmax.neg_inf]
  pointwise [scores, mask]
  rfl

theorem sinkAll_at (s : FVec Ideal S4x8 .f32) (n : Fin 64) (g : Fin 4) (h : Fin 8) (r : Fin 128) :
    sinkAll s (ix6 0 n g h r 0) = s (ix2 g h) := by
  pointwise [sinkAll]

/-- The largest score of a query. -/
theorem maxes_at (sc : FVec Ideal S1x64x4x8x128x256 .f32) (n : Fin 64) (g : Fin 4) (h : Fin 8) (r : Fin 128) :
    broadcastInDim S1x64x4x8x128x1 ![0, 1, 2, 3, 4] bcast_S1x64x4x8x128_S1x64x4x8x128x1_0_1_2_3_4 (Host.reduce FloatOps.maximumf sc (constant S_ .f32 0xFF800000#32) reducesTo_S1x64x4x8x128x256_S1x64x4x8x128_d5 h_S_) (ix6 0 n g h r 0)
      = SinkSoftmax.rowMax (fun k : Fin 256 => sc (ix6 0 n g h r k)) := by
  pointwise
  rw [SinkSoftmax.neg_inf]
  exact LastAxis.fold_at _ sc ⊥ 0 n g h r

theorem larger_at (a b : FVec Ideal S1x64x4x8x128x1 .f32) (i : S1x64x4x8x128x1.Idx) : maximumf a b i = max (a i) (b i) := rfl

theorem shifts_at (sc : FVec Ideal S1x64x4x8x128x256 .f32) (s : FVec Ideal S4x8 .f32) (n : Fin 64) (g : Fin 4) (h : Fin 8) (r : Fin 128) :
    shifts sc s (ix6 0 n g h r 0) = SinkSoftmax.shift (fun k => sc (ix6 0 n g h r k)) (s (ix2 g h)) := by
  unfold shifts SinkSoftmax.shift
  rw [larger_at, maxes_at, sinkAll_at]

theorem exps_at (sc : FVec Ideal S1x64x4x8x128x256 .f32) (M : FVec Ideal S1x64x4x8x128x1 .f32) (n : Fin 64) (g : Fin 4) (h : Fin 8) (r : Fin 128) (j : Fin 256) :
    exps sc M (ix6 0 n g h r j) = Ideal.exp (sc (ix6 0 n g h r j) - M (ix6 0 n g h r 0)) := by
  pointwise [exps]

theorem sums_at (x : FVec Ideal S1x64x4x8x128x256 .f32) (n : Fin 64) (g : Fin 4) (h : Fin 8) (r : Fin 128) :
    broadcastInDim S1x64x4x8x128x1 ![0, 1, 2, 3, 4] bcast_S1x64x4x8x128_S1x64x4x8x128x1_0_1_2_3_4 (Host.reduceAdd x (constant S_ .f32 0x00000000#32) reducesTo_S1x64x4x8x128x256_S1x64x4x8x128_d5 h_S_) (ix6 0 n g h r 0)
      = ∑ k : Fin 256, x (ix6 0 n g h r k) := by
  pointwise
  exact (LastAxis.sum_at _ x 0 0 n g h r).trans (zero_add _)

theorem divide_at (x : FVec Ideal S1x64x4x8x128x256 .f32) (y : FVec Ideal S1x64x4x8x128x1 .f32) (n : Fin 64) (g : Fin 4) (h : Fin 8) (r : Fin 128) (j : Fin 256) :
    Host.divf x (broadcastInDim S1x64x4x8x128x256 ![0, 1, 2, 3, 4, 5] bcast_S1x64x4x8x128x1_S1x64x4x8x128x256_0_1_2_3_4_5 y) (ix6 0 n g h r j)
      = Ideal.div (x (ix6 0 n g h r j)) (y (ix6 0 n g h r 0)) := by
  pointwise

theorem expSub_at (a b : FVec Ideal S1x64x4x8x128x1 .f32) (i : S1x64x4x8x128x1.Idx) : Host.exp (subf a b) i = Ideal.exp (a i - b i) := rfl

theorem plus_at (a b : FVec Ideal S1x64x4x8x128x1 .f32) (i : S1x64x4x8x128x1.Idx) : addf a b i = a i + b i := rfl

/-- A weight: the exponential of the shifted score over the exponentials' sum with the sink's. -/
theorem weights_at (sc : FVec Ideal S1x64x4x8x128x256 .f32) (s : FVec Ideal S4x8 .f32) (n : Fin 64) (g : Fin 4) (h : Fin 8) (r : Fin 128) (j : Fin 256) :
    weights sc s (ix6 0 n g h r j) = Ideal.div (Ideal.exp (sc (ix6 0 n g h r j) - SinkSoftmax.shift (fun k => sc (ix6 0 n g h r k)) (s (ix2 g h))))
      ((∑ k : Fin 256, Ideal.exp (sc (ix6 0 n g h r k) - SinkSoftmax.shift (fun k => sc (ix6 0 n g h r k)) (s (ix2 g h))))
        + Ideal.exp (s (ix2 g h) - SinkSoftmax.shift (fun k => sc (ix6 0 n g h r k)) (s (ix2 g h)))) := by
  refine (divide_at _ _ n g h r j).trans ?_
  rw [plus_at]
  refine congrArg₂ Ideal.div ?_ (congrArg₂ (· + ·) ((sums_at _ n g h r).trans (Finset.sum_congr rfl fun k _ => ?_)) ?_)
  · rw [exps_at, shifts_at]
  · rw [exps_at, shifts_at]
  · rw [expSub_at, sinkAll_at, shifts_at]

theorem outputs_at (v : FVec Ideal S1x64x256x4x64 .f32) (w : FVec Ideal S1x64x4x8x128x256 .f32) (R : Fin 8192) (j : Fin 2048) :
    outputs v w (ix2 R j) = ∑ k : Fin 256, v (ix5 0 ⟨R.val / 128, by omega⟩ k ⟨j.val / 512, by omega⟩ ⟨j.val % 64, by omega⟩) *
      w (ix6 0 ⟨R.val / 128, by omega⟩ ⟨j.val / 512, by omega⟩ ⟨j.val / 64 % 8, by omega⟩ ⟨R.val % 128, by omega⟩ k) := by
  pointwise [outputs]

end Cert.AttnPromptRefIdeal.Steps
-- ==== Proof.PromptEq.lean ====
module

public import proofs.«01_k».proof.Proof.PromptFinal
public import proofs.«01_k».proof.Proof.PromptRef

/-! The kernel's attention of the prompt is the reference's, wherever queries, keys and sinks are real numbers: the rows before the
    first are masked on both sides, and the division by the weights' total may be done before or after the sum over the values. -/

@[expose] public section

set_option maxRecDepth 16384

noncomputable section

open Idealize.ShloMosaic Idealize.ShloMosaic.TcCoe Idealize.SL.Sem

namespace Cert.SinkSoftmax

/-- Where a score is minus infinity, its value does not count. -/
theorem attend_congr {n : ℕ} (s : Fin n → EReal) (sk : EReal) (v v' : Fin n → EReal) (h : ∀ k, s k = ⊥ ∨ v k = v' k) :
    attend s sk v = attend s sk v' := by
  unfold attend
  refine congrArg (fun x => Ideal.div x _) (Finset.sum_congr rfl fun k _ => ?_)
  rcases h k with hk | hk
  · rw [hk, EReal.bot_sub]
    rw [show Ideal.exp ⊥ = 0 from rfl, zero_mul, zero_mul]
  · rw [hk]

/-- The weighted sum of the values, each weight divided by the total first. -/
theorem attend_eq {n : ℕ} (s : Fin n → EReal) (sk : EReal) (v : Fin n → EReal) (hs : ∀ k, s k ≠ ⊤) (hsk : IsReal sk) :
    attend s sk v = ∑ k, v k * Ideal.div (Ideal.exp (s k - shift s sk)) ((∑ k, Ideal.exp (s k - shift s sk)) + Ideal.exp (sk - shift s sk)) :=
  (quotient_eq s v sk hs hsk).trans (Finset.sum_congr rfl fun k _ => mul_comm _ _)

theorem select_zero (x : EReal) : Scalar.select 0#1 x ⊥ = ⊥ := rfl

/-- A masked real score is not plus infinity. -/
theorem select_ne_top (b : BitVec 1) (x : EReal) (hx : IsReal x) : Scalar.select b x ⊥ ≠ ⊤ := by
  obtain ⟨y, rfl⟩ := hx.exists
  unfold Scalar.select
  split_ifs
  · exact EReal.coe_ne_top y
  · exact bot_ne_top

/-- The two forms agree when scores and sinks do, and the values do wherever a score counts. -/
theorem combine {n : ℕ} (sc scR v vR : Fin n → EReal) (sk skR : EReal) (h1 : ∀ k, scR k = sc k) (h2 : skR = sk)
    (h3 : ∀ k, sc k = ⊥ ∨ v k = vR k) (hs : ∀ k, sc k ≠ ⊤) (hsk : IsReal sk) :
    attend sc sk v = ∑ k, vR k * Ideal.div (Ideal.exp (scR k - shift (fun k => scR k) skR))
      ((∑ k, Ideal.exp (scR k - shift (fun k => scR k) skR)) + Ideal.exp (skR - shift (fun k => scR k) skR)) := by
  obtain rfl : scR = sc := funext h1
  subst h2
  exact (attend_congr _ _ _ _ h3).trans (attend_eq _ _ _ hs hsk)

end Cert.SinkSoftmax

namespace Cert.AttnPromptIdeal.Gen
variable (m : (ℓ : Loc nD τ sig) → Buf (Elt Ideal) ℓ)

/-- The two texts write the mask's last term with its parts in opposite order. -/
theorem mask_eq (n : ℕ) (r : Fin 128) (k : Fin 256) : maskBit n r k = AttnPromptRefIdeal.Steps.maskBit n r k :=
  congrArg (fun x => IntOp.andi _ x) (BitVec.or_comm _ _)

theorem before_first : ∀ k : Fin 128, IntOp.ori (IntOp.cmpi CmpIPredicate.sge (BitVec.ofNat 32 k.val) 128#32) (Scalar.cmpi CmpIPredicate.sgt (BitVec.ofNat 32 0) 0#32) = 0#1 := by
  decide

/-- No query of the first block sees a row before the first. -/
theorem mask_first (r : Fin 128) (k : Fin 256) (h : k.val < 128) : maskBit 0 r k = 0#1 :=
  (congrArg (fun x => IntOp.andi _ x) (before_first ⟨k.val, h⟩)).trans BitVec.and_zero

/-- Real queries and keys have real scores. -/
theorem real_score (c : Dev nD) (hreal : ∀ (r : Fin 8192) (j : Fin 13248), 6592 ≤ j.val → j.val < 8896 → SinkSoftmax.IsReal (proj m c r j))
    (n : Fin 64) (r : Fin 128) (h : Fin 32) (g : Fin 4) (k : Fin 256) :
    SinkSoftmax.IsReal ((∑ e : Fin 64, proj m c ⟨128 * n.val + r.val, lt_qrow n r⟩ ⟨6592 + (64 * h.val + e.val), lt_qcol h e⟩ *
      bandRow m c 8640 (by omega) n g k e) * Ideal.ofBits .f32 0x3E000000#32) := by
  refine SinkSoftmax.IsReal.mul (SinkSoftmax.isReal_sum _ _ fun e _ => SinkSoftmax.IsReal.mul (hreal _ _ ?_ ?_) ?_) SinkSoftmax.isReal_scale
  · show 6592 ≤ 6592 + (64 * h.val + e.val)
    omega
  · show 6592 + (64 * h.val + e.val) < 8896
    omega
  · unfold bandRow
    by_cases hk : k.val < 128
    · rw [dif_pos hk]
      refine hreal _ _ ?_ ?_
      · show 6592 ≤ 8640 + (64 * g.val + e.val)
        omega
      · show 8640 + (64 * g.val + e.val) < 8896
        omega
    · rw [dif_neg hk]
      refine hreal _ _ ?_ ?_
      · show 6592 ≤ 8640 + (64 * g.val + e.val)
        omega
      · show 8640 + (64 * g.val + e.val) < 8896
        omega

section
variable (c : Dev nD) (X : FVec Ideal S1x8192x13248 .f32) (s : FVec Ideal S1x32 .f32)
  (hX : ∀ r j, X (ix3 0 r j) = proj m c r j) (hs : ∀ h, s (ix2 0 h) = sinkOf m c h)
include hX

/-- The reference's two blocks of keys are the kernel's band but for the rows before the first. -/
theorem keys_eq (n : Fin 64) (g : Fin 4) (k : Fin 256) (e : Fin 64) (h : ¬(n.val = 0 ∧ k.val < 128)) :
    AttnPromptRefIdeal.Steps.twoBlocks (AttnPromptRefIdeal.Steps.keyBlocks X) (ix5 0 n k g e) = bandRow m c 8640 (by omega) n g k e := by
  rw [AttnPromptRefIdeal.Steps.twoBlocks_at]
  unfold bandRow
  by_cases hk : k.val < 128
  · rw [dif_pos hk, dif_pos hk, if_neg (by omega), AttnPromptRefIdeal.Steps.keyBlocks_at, hX]
  · rw [dif_neg hk, dif_neg hk, AttnPromptRefIdeal.Steps.keyBlocks_at, hX]

/-- … and its two blocks of values likewise. -/
theorem values_eq (n : Fin 64) (g : Fin 4) (k : Fin 256) (e : Fin 64) (h : ¬(n.val = 0 ∧ k.val < 128)) :
    AttnPromptRefIdeal.Steps.twoBlocks (AttnPromptRefIdeal.Steps.valueBlocks X) (ix5 0 n k g e) = bandRow m c 8896 (by omega) n g k e := by
  rw [AttnPromptRefIdeal.Steps.twoBlocks_at]
  unfold bandRow
  by_cases hk : k.val < 128
  · rw [dif_pos hk, dif_pos hk, if_neg (by omega), AttnPromptRefIdeal.Steps.valueBlocks_at, hX]
  · rw [dif_neg hk, dif_neg hk, AttnPromptRefIdeal.Steps.valueBlocks_at, hX]

/-- The scores are the reference's. -/
theorem scores_eq (n : Fin 64) (r : Fin 128) (g : Fin 4) (h : Fin 8) (k : Fin 256) :
    AttnPromptRefIdeal.Steps.scores (AttnPromptRefIdeal.Steps.twoBlocks (AttnPromptRefIdeal.Steps.keyBlocks X)) (AttnPromptRefIdeal.Steps.queryBlocks X) (ix6 0 n g h r k)
      = Scalar.select (maskBit n.val r k) ((∑ e : Fin 64, proj m c ⟨128 * n.val + r.val, lt_qrow n r⟩ ⟨6592 + (64 * (8 * g.val + h.val) + e.val), by omega⟩ *
          bandRow m c 8640 (by omega) n g k e) * Ideal.ofBits .f32 0x3E000000#32) ⊥ := by
  rw [AttnPromptRefIdeal.Steps.scores_at, ← mask_eq]
  by_cases hk : n.val = 0 ∧ k.val < 128
  · have h0 : maskBit n.val r k = 0#1 := by rw [hk.1]; exact mask_first r k hk.2
    rw [h0, SinkSoftmax.select_zero, SinkSoftmax.select_zero]
  · refine congrArg (fun x => Scalar.select _ (x * _) ⊥) (Finset.sum_congr rfl fun e _ => ?_)
    rw [keys_eq m c X hX n g k e hk, AttnPromptRefIdeal.Steps.queryBlocks_at, hX, mul_comm]

variable (hreal : ∀ (r : Fin 8192) (j : Fin 13248), 6592 ≤ j.val → j.val < 8896 → SinkSoftmax.IsReal (proj m c r j))
  (hsink : ∀ h, SinkSoftmax.IsReal (sinkOf m c h))
include hs hreal hsink

/-- The array of outputs is the reference's. -/
theorem out_eq (R : Fin 8192) (w : Fin 2048) :
    outAt m c R w = AttnPromptRefIdeal.Steps.outputs (AttnPromptRefIdeal.Steps.twoBlocks (AttnPromptRefIdeal.Steps.valueBlocks X))
      (AttnPromptRefIdeal.Steps.weights (AttnPromptRefIdeal.Steps.scores (AttnPromptRefIdeal.Steps.twoBlocks (AttnPromptRefIdeal.Steps.keyBlocks X)) (AttnPromptRefIdeal.Steps.queryBlocks X)) (AttnPromptRefIdeal.Steps.sinkHeads s)) (ix2 R w) := by
  rw [AttnPromptRefIdeal.Steps.outputs_at]
  have hg : (⟨w.val / 64 / 8, by omega⟩ : Fin 4) = ⟨w.val / 512, by omega⟩ := Fin.ext (by dsimp only; omega)
  have hh : 8 * (w.val / 512) + w.val / 64 % 8 = w.val / 64 := by omega
  generalize hn : (⟨R.val / 128, by omega⟩ : Fin 64) = n
  generalize hr : (⟨R.val % 128, by omega⟩ : Fin 128) = r
  generalize he : (⟨w.val % 64, by omega⟩ : Fin 64) = e
  have hS : AttnPromptRefIdeal.Steps.sinkHeads s (ix2 ⟨w.val / 512, by omega⟩ ⟨w.val / 64 % 8, by omega⟩) = sinkOf m c ⟨w.val / 64, by omega⟩ := by
    rw [AttnPromptRefIdeal.Steps.sinkHeads_at, hs]
    exact congrArg (sinkOf m c) (Fin.ext hh)
  have hsc : ∀ k, AttnPromptRefIdeal.Steps.scores (AttnPromptRefIdeal.Steps.twoBlocks (AttnPromptRefIdeal.Steps.keyBlocks X)) (AttnPromptRefIdeal.Steps.queryBlocks X) (ix6 0 n ⟨w.val / 512, by omega⟩ ⟨w.val / 64 % 8, by omega⟩ r k)
      = Scalar.select (maskBit n.val r k) ((∑ e : Fin 64, proj m c ⟨128 * n.val + r.val, lt_qrow n r⟩ ⟨6592 + (64 * (w.val / 64) + e.val), by omega⟩ *
          bandRow m c 8640 (by omega) n ⟨w.val / 512, by omega⟩ k e) * Ideal.ofBits .f32 0x3E000000#32) ⊥ := by
    intro k
    rw [scores_eq m c X hX]
    simp only [hh]
  have hL : outAt m c R w = SinkSoftmax.attend (fun k => Scalar.select (maskBit n.val r k) ((∑ e : Fin 64, proj m c ⟨128 * n.val + r.val, lt_qrow n r⟩ ⟨6592 + (64 * (w.val / 64) + e.val), by omega⟩ *
          bandRow m c 8640 (by omega) n ⟨w.val / 512, by omega⟩ k e) * Ideal.ofBits .f32 0x3E000000#32) ⊥) (sinkOf m c ⟨w.val / 64, by omega⟩)
        (fun k => bandRow m c 8896 (by omega) n ⟨w.val / 512, by omega⟩ k e) := by
    unfold outAt attended headAt
    rw [hn, hr, he, hg]
  rw [hL]
  refine Eq.trans ?_ (Finset.sum_congr rfl fun k _ => congrArg (fun x => _ * x) (AttnPromptRefIdeal.Steps.weights_at _ _ n _ _ r k)).symm
  refine SinkSoftmax.combine _ _ _ _ _ _ hsc hS (fun k => ?_) (fun k => ?_) (hsink _)
  · by_cases hk : n.val = 0 ∧ k.val < 128
    · left
      have h0 : maskBit n.val r k = 0#1 := by rw [hk.1]; exact mask_first r k hk.2
      exact (congrArg (fun b => Scalar.select b _ ⊥) h0).trans (SinkSoftmax.select_zero _)
    · right
      exact (values_eq m c X hX n _ k e hk).symm
  · exact SinkSoftmax.select_ne_top _ _ (real_score m c hreal n r ⟨w.val / 64, by omega⟩ ⟨w.val / 512, by omega⟩ k)
end

end Cert.AttnPromptIdeal.Gen
-- ==== Proof.PromptClaim.lean ====
module

public import proofs.«01_k».proof.Defs
public import proofs.«01_k».proof.Proof.Gen.AttnPromptIdeal.Value
public import proofs.«01_k».proof.Proof.Gen.AttnPromptRefIdeal.Run
public import proofs.«01_k».proof.Proof.PromptFinal
public import proofs.«01_k».proof.Proof.PromptEq
public import Idealize.ShloMosaic.Lib.Claim
public import Idealize.ShloMosaic.Lib.Pointwise

/-!
The attention over the prompt: what its precondition says of the arguments, and the claim that the
call and the reference end with the same array.
-/

@[expose] public section

set_option maxRecDepth 16384

noncomputable section

open Idealize.ShloMosaic Idealize.ShloMosaic.TcCoe Idealize.SL.Sem

namespace Cert.SinkSoftmax

/-- An absolute value below infinity is a real number's. -/
theorem isReal_of_abs (x : EReal) (h : Ideal.cmp .olt (max x (-x)) (Ideal.ofBits .f32 0x7F800000#32) = 1#1) : IsReal x := by
  rw [pos_inf] at h
  have h' : max x (-x) < ⊤ := by
    by_contra hc
    have : Ideal.cmp .olt (max x (-x)) ⊤ = 0#1 := by
      show BitVec.ofBool (decide (max x (-x) < ⊤)) = 0#1
      rw [decide_eq_false hc]; rfl
    rw [this] at h
    exact absurd h (by decide)
  refine ⟨fun hx => ?_, fun hx => ?_⟩
  · subst hx; simp at h'
  · subst hx; simp at h'

end Cert.SinkSoftmax

namespace Cert.Proof.Prompt

/-- The shape relations the precondition's operations take. -/
theorem finite_facts : Cert.Pre_finite_prompt.Facts where
  slices_S1x8192x13248_S1x8192x2304_0_0_6592 := by decide
  shapeCasts_S1x8192x2304_S8192x2304 := by decide +kernel
  bcast_S_S8192x2304 := by decide
  bcast_S_S1x32 := by decide

open Cert.SinkSoftmax (IsReal)

section
variable [Cert.Pre_finite_prompt.Facts]
open Cert.Pre_finite_prompt

/-- Under the precondition the queries and the keys are real numbers. -/
theorem real_of_pre (a0 : FVec Ideal S1x8192x13248 .f32) (a1 : FVec Ideal S128x8x13248 .f32) (a2 : FVec Ideal S1x32 .f32)
    (h : (fn (F := Ideal) a0 a1 a2).1 = fun _ => 1#1) (r : Fin 8192) (j : Fin 13248) (h1 : 6592 ≤ j.val) (h2 : j.val < 8896) :
    IsReal (a0 (ix3 0 r j)) := by
  have e := congrFun h (ix2 r (⟨j.val - 6592, by omega⟩ : Fin 2304))
  unfold fn at e
  dsimp only at e
  pointwise at e
  have hj : (⟨6592 + (j.val - 6592), by omega⟩ : Fin 13248) = j := Fin.ext (by dsimp only; omega)
  rw [hj] at e
  exact SinkSoftmax.isReal_of_abs _ e

/-- Under the precondition the sinks are real numbers. -/
theorem sink_of_pre (a0 : FVec Ideal S1x8192x13248 .f32) (a1 : FVec Ideal S128x8x13248 .f32) (a2 : FVec Ideal S1x32 .f32)
    (h : (fn (F := Ideal) a0 a1 a2).2 = fun _ => 1#1) (k : Fin 32) : IsReal (a2 (ix2 0 k)) :=
  SinkSoftmax.isReal_of_abs _ (congrFun h (ix2 0 k))

end

/-- From arguments that agree and satisfy the precondition, the reference's array is the call's. -/
theorem equal [Cert.Pre_finite_prompt.Facts]
    (m : (ℓ : Loc Cert.AttnPromptIdeal.nD Cert.AttnPromptIdeal.τ Cert.AttnPromptIdeal.sig) → Buf (Elt Ideal) ℓ) (c : Dev Cert.AttnPromptIdeal.nD)
    (m' : (ℓ : Loc Cert.AttnPromptRefIdeal.nD Cert.AttnPromptRefIdeal.τ Cert.AttnPromptRefIdeal.sig) → Buf (Elt Ideal) ℓ)
    (ha : m' ((c.tc : Thread Cert.AttnPromptRefIdeal.nD Cert.AttnPromptRefIdeal.τ).loc Cert.AttnPromptRefIdeal.main_arg0) = m ((c.tc : Thread Cert.AttnPromptIdeal.nD Cert.AttnPromptIdeal.τ).loc Cert.AttnPromptIdeal.main_arg0)
      ∧ m' ((c.tc : Thread Cert.AttnPromptRefIdeal.nD Cert.AttnPromptRefIdeal.τ).loc Cert.AttnPromptRefIdeal.main_arg1) = m ((c.tc : Thread Cert.AttnPromptIdeal.nD Cert.AttnPromptIdeal.τ).loc Cert.AttnPromptIdeal.main_arg1)
      ∧ m' ((c.tc : Thread Cert.AttnPromptRefIdeal.nD Cert.AttnPromptRefIdeal.τ).loc Cert.AttnPromptRefIdeal.main_arg2) = m ((c.tc : Thread Cert.AttnPromptIdeal.nD Cert.AttnPromptIdeal.τ).loc Cert.AttnPromptIdeal.main_arg2))
    (hp : (Cert.Pre_finite_prompt.fn (F := Ideal) (m ((c.tc : Thread Cert.AttnPromptIdeal.nD Cert.AttnPromptIdeal.τ).loc Cert.AttnPromptIdeal.main_arg0)) (m ((c.tc : Thread Cert.AttnPromptIdeal.nD Cert.AttnPromptIdeal.τ).loc Cert.AttnPromptIdeal.main_arg1)) (m ((c.tc : Thread Cert.AttnPromptIdeal.nD Cert.AttnPromptIdeal.τ).loc Cert.AttnPromptIdeal.main_arg2))).1 = (fun _ => 1#1)
      ∧ (Cert.Pre_finite_prompt.fn (F := Ideal) (m ((c.tc : Thread Cert.AttnPromptIdeal.nD Cert.AttnPromptIdeal.τ).loc Cert.AttnPromptIdeal.main_arg0)) (m ((c.tc : Thread Cert.AttnPromptIdeal.nD Cert.AttnPromptIdeal.τ).loc Cert.AttnPromptIdeal.main_arg1)) (m ((c.tc : Thread Cert.AttnPromptIdeal.nD Cert.AttnPromptIdeal.τ).loc Cert.AttnPromptIdeal.main_arg2))).2 = (fun _ => 1#1)) :
    Cert.AttnPromptRefIdeal.Value.res_main_v71 m' c = (Cert.AttnPromptIdeal.Gen.dats m 0 c).arrAt 6 Cert.AttnPromptIdeal.cfg0.N := by
  rw [Cert.AttnPromptRefIdeal.Steps.res_eq, Cert.AttnPromptIdeal.Gen.final, ha.1, ha.2.2]
  funext i
  idx_vars i
  exact (Cert.AttnPromptIdeal.Gen.out_eq m c _ _ (fun _ _ => rfl) (fun _ => rfl)
    (fun r j h1 h2 => real_of_pre _ _ _ hp.1 r j h1 h2) (fun h => sink_of_pre _ _ _ hp.2 h) _ _).symm

/-- The call and the reference end with the same array. -/
theorem algebraic [Cert.Pre_finite_prompt.Facts] : Cert.algebraic_AttnPromptIdeal_AttnPromptRefIdeal_pre_finite_prompt := by
  pair_intro
  · run_from (Cert.AttnPromptIdeal.Value.run_blocks m g)
  · run_from (Cert.AttnPromptRefIdeal.Value.run m' g')
    exact equal m c m' (hagree c) (hpre c)

end Cert.Proof.Prompt

end
-- ==== Proof.MergeRow.lean ====
module

public import proofs.«01_k».proof.Proof.SinkSoftmax

/-!
One row of the layer after the attention and the recurrence: the group norm of the recurrence's heads, the gates, the
output projection, the residual and the layer norm. The kernel takes the sum over a head's 64 columns by two products with
a matrix of zeros and ones; where the columns are real numbers the two products are that sum.
-/

@[expose] public section

noncomputable section

open Idealize.ShloMosaic

namespace Cert.Merge
open Cert.SinkSoftmax

/-- The columns' count in a head, the group norm's and the layer norm's small constants, the columns' count, and the
residual's scale, as the programs write them. -/
abbrev headCount : EReal := Ideal.ofBits .f32 0x42800000#32
abbrev headShare : EReal := Ideal.ofBits .f32 0x3C800000#32
abbrev groupEps : EReal := Ideal.ofBits .f32 0x3A27C5AC#32
abbrev layerEps : EReal := Ideal.ofBits .f32 0x3727C5AC#32
abbrev rowCount : EReal := Ideal.ofBits .f32 0x45000000#32
abbrev scale : EReal := Ideal.ofBits .f32 0x3F9837F0#32
abbrev one : EReal := Ideal.ofBits .f32 0x3F800000#32

/-- Column `e` of the head that column `j` lies in. -/
def mate (j : Fin 2048) (e : Fin 64) : Fin 2048 := ⟨64 * (j.val / 64) + e.val, by omega⟩

/-- The mean of a head's columns. -/
def headMean (y : Fin 2048 → EReal) (j : Fin 2048) : EReal := Ideal.div (∑ e, y (mate j e)) headCount

/-- The mean square distance of a head's columns from their mean. -/
def headVar (y : Fin 2048 → EReal) (j : Fin 2048) : EReal :=
  Ideal.div (∑ e, (y (mate j e) - headMean y j) * (y (mate j e) - headMean y j)) headCount

/-- The group norm before its scale and offset. -/
def headNorm (y : Fin 2048 → EReal) (j : Fin 2048) : EReal :=
  (y j - headMean y j) * Ideal.rsqrt (headVar y j + groupEps)

/-- The sum over a head's columns as the two products take it. -/
def twoProducts (sel : Fin 2048 → Fin 128 → EReal) (selt : Fin 128 → Fin 2048 → EReal) (y : Fin 2048 → EReal) (j : Fin 2048) : EReal :=
  (∑ h : Fin 128, (∑ k : Fin 2048, y k * sel k h) * selt h j)
    + ∑ h : Fin 128, ((∑ k : Fin 2048, y k * sel k h) - (∑ k : Fin 2048, y k * sel k h)) * selt h j

/-- A column less the mean of its head, by the two products. -/
def centred (sel : Fin 2048 → Fin 128 → EReal) (selt : Fin 128 → Fin 2048 → EReal) (y : Fin 2048 → EReal) (j : Fin 2048) : EReal :=
  y j - twoProducts sel selt y j * headShare

/-- The group norm before its scale and offset, by the two products. -/
def productNorm (sel : Fin 2048 → Fin 128 → EReal) (selt : Fin 128 → Fin 2048 → EReal) (y : Fin 2048 → EReal) (j : Fin 2048) : EReal :=
  centred sel selt y j
    * Ideal.rsqrt (twoProducts sel selt (fun k => centred sel selt y k * centred sel selt y k) j * headShare + groupEps)

/-- The squash function. -/
def squash (x : EReal) : EReal := Ideal.div one (one + Ideal.exp (-x))

/-- The gated recurrence's share of a column. -/
def recur (n gg gb bonus g ga : EReal) : EReal := squash ga * ((n * gg + gb + bonus) * g)

/-- The row before the layer norm. -/
def residual (x u v : Fin 2048 → EReal) (w : Fin 2048 → Fin 2048 → EReal) (j : Fin 2048) : EReal :=
  scale * x j + ∑ k : Fin 2048, (u k + v k) * w k j

/-- The mean of a row. -/
def rowMean (z : Fin 2048 → EReal) : EReal := Ideal.div (∑ k, z k) rowCount

/-- The layer norm of a row. -/
def layerNorm (z lg lb : Fin 2048 → EReal) (j : Fin 2048) : EReal :=
  (z j - rowMean z) * Ideal.rsqrt (Ideal.div (∑ k, (z k - rowMean z) * (z k - rowMean z)) rowCount + layerEps) * lg j + lb j

/-- One row of the layer, from the recurrence's output, its bonus, its gate, the attention's output, the layer's input,
the gates, and the weights. -/
def rowOut (y bonus g o x ga gb gg gB : Fin 2048 → EReal) (w : Fin 2048 → Fin 2048 → EReal) (lg lb : Fin 2048 → EReal) : Fin 2048 → EReal :=
  layerNorm (residual x (fun k => recur (headNorm y k) (gg k) (gB k) (bonus k) (g k) (ga k)) (fun k => squash (gb k) * o k) w) lg lb

theorem headCount_eq : headCount = ((64 : ℝ) : EReal) := by
  simp [headCount, Ideal.ofBits, Ideal.ieee, -EReal.coe_mul]; norm_num

theorem headShare_eq : headShare = ((1 / 64 : ℝ) : EReal) := by
  simp [headShare, Ideal.ofBits, Ideal.ieee, -EReal.coe_mul]; norm_num

/-- Taking the 64th part is dividing by 64. -/
theorem share_eq (x : EReal) : x * headShare = Ideal.div x headCount := by
  rw [headCount_eq, headShare_eq, Ideal.div_coe (by norm_num : (64 : ℝ) ≠ 0)]

theorem isReal_share : IsReal headShare := by rw [headShare_eq]; exact isReal_coe _

theorem IsReal.sub {x y : EReal} (hx : IsReal x) (hy : IsReal y) : IsReal (x - y) := by
  obtain ⟨a, rfl⟩ := SinkSoftmax.IsReal.exists hx
  obtain ⟨b, rfl⟩ := SinkSoftmax.IsReal.exists hy
  rw [← EReal.coe_sub]
  exact isReal_coe _

theorem sub_self_real {x : EReal} (hx : IsReal x) : x - x = 0 := by
  obtain ⟨a, rfl⟩ := SinkSoftmax.IsReal.exists hx
  rw [← EReal.coe_sub, sub_self, EReal.coe_zero]

/-- The matrix of zeros and ones: column `k` lies in head `h`. -/
def inHead (k : Fin 2048) (h : Fin 128) : EReal := if k.val / 64 = h.val then 1 else 0

theorem mate_div (j : Fin 2048) (e : Fin 64) : (mate j e).val / 64 = j.val / 64 := by
  unfold mate; dsimp only; omega

/-- The columns of one head, summed out of all columns. -/
theorem pick_head (y : Fin 2048 → EReal) (j : Fin 2048) :
    (∑ k : Fin 2048, y k * inHead k ⟨j.val / 64, by omega⟩) = ∑ e, y (mate j e) := by
  have h : ∀ k : Fin 2048, y k * inHead k ⟨j.val / 64, by omega⟩ = if k.val / 64 = j.val / 64 then y k else 0 := by
    intro k
    unfold inHead
    dsimp only
    by_cases hk : k.val / 64 = j.val / 64
    · rw [if_pos hk, if_pos hk, mul_one]
    · rw [if_neg hk, if_neg hk, mul_zero]
  rw [Finset.sum_congr rfl fun k _ => h k, ← Finset.sum_filter]
  have hinj : Function.Injective (mate j) := fun a b q => by
    have := congrArg Fin.val q
    unfold mate at this
    dsimp only at this
    exact Fin.ext (by omega)
  rw [← Finset.sum_image (s := Finset.univ) (g := mate j) (f := y) fun a _ b _ q => hinj q]
  refine Finset.sum_congr (Finset.ext fun k => ?_) fun _ _ => rfl
  rw [Finset.mem_filter, Finset.mem_image]
  constructor
  · intro hk
    have := hk.2
    exact ⟨⟨k.val % 64, by omega⟩, Finset.mem_univ _, Fin.ext (by unfold mate; dsimp only; omega)⟩
  · rintro ⟨e, -, rfl⟩
    exact ⟨Finset.mem_univ _, mate_div j e⟩

/-- The two products are the sum over the column's head. -/
theorem twoProducts_eq (y : Fin 2048 → EReal) (hy : ∀ k, IsReal (y k)) (j : Fin 2048) :
    twoProducts inHead (fun h k => inHead k h) y j = ∑ e, y (mate j e) := by
  have hr : ∀ h : Fin 128, IsReal (∑ k : Fin 2048, y k * inHead k h) := fun h =>
    isReal_sum _ _ fun k _ => SinkSoftmax.IsReal.mul (hy k) (by unfold inHead; split; exacts [isReal_coe 1, isReal_coe 0])
  unfold twoProducts
  have h2 : (∑ h : Fin 128, ((∑ k : Fin 2048, y k * inHead k h) - (∑ k : Fin 2048, y k * inHead k h)) * inHead j h) = 0 :=
    Finset.sum_eq_zero fun h _ => by rw [sub_self_real (hr h), zero_mul]
  rw [h2, add_zero, ← pick_head]
  have hj : j.val / 64 < 128 := by omega
  rw [Finset.sum_eq_single (⟨j.val / 64, hj⟩ : Fin 128)]
  · have : inHead j ⟨j.val / 64, hj⟩ = 1 := by unfold inHead; exact if_pos rfl
    dsimp only
    rw [this, mul_one]
  · intro h _ hne
    have : inHead j h = 0 := by
      unfold inHead
      exact if_neg fun q => hne (Fin.ext q.symm)
    dsimp only
    rw [this, mul_zero]
  · intro h
    exact absurd (Finset.mem_univ _) h

theorem mate_mate (j : Fin 2048) (e e' : Fin 64) : mate (mate j e) e' = mate j e' := by
  refine Fin.ext ?_
  show 64 * ((mate j e).val / 64) + e'.val = 64 * (j.val / 64) + e'.val
  rw [mate_div]

theorem headMean_mate (y : Fin 2048 → EReal) (j : Fin 2048) (e : Fin 64) : headMean y (mate j e) = headMean y j := by
  unfold headMean
  simp only [mate_mate]

/-- The group norm by the two products is the group norm. -/
theorem productNorm_eq (y : Fin 2048 → EReal) (hy : ∀ k, IsReal (y k)) (j : Fin 2048) :
    productNorm inHead (fun h k => inHead k h) y j = headNorm y j := by
  have hc : ∀ k, centred inHead (fun h k => inHead k h) y k = y k - headMean y k := fun k => by
    unfold centred headMean
    rw [twoProducts_eq y hy, share_eq]
  have hm : ∀ k, IsReal (headMean y k) := fun k => by
    unfold headMean
    rw [← share_eq]
    exact SinkSoftmax.IsReal.mul (isReal_sum _ _ fun e _ => hy _) isReal_share
  have hcr : ∀ k, IsReal (y k - headMean y k) := fun k => IsReal.sub (hy k) (hm k)
  unfold productNorm headNorm headVar
  simp only [hc]
  rw [twoProducts_eq _ (fun k => SinkSoftmax.IsReal.mul (hcr k) (hcr k)), share_eq]
  simp only [headMean_mate]

end Cert.Merge
-- ==== Proof.MergeRows.lean ====
module

public import proofs.«01_k».proof.Proof.InProjArray
public import proofs.«01_k».proof.Proof.MergeRow

/-! The merged rows of the prompt and the sample as one function of the call's arguments. -/

@[expose] public section

noncomputable section

open Idealize.ShloMosaic Idealize.ShloMosaic.TcCoe

namespace Cert.Merge
open Cert.InProjIdeal.Gen (rows)

theorem rows_congr {α : Type} {a a' : Fin 8192 → α} {b b' : Fin 1024 → α} (ha : ∀ r, a r = a' r) (hb : ∀ r, b r = b' r) (R : Fin 9216) :
    rows a b R = rows a' b' R := by
  obtain rfl : a = a' := funext ha
  obtain rfl : b = b' := funext hb
  rfl

/-- Row `R` of the prompt's rows and the sample's. -/
def bothRows {n : ℕ} (a : FVec Ideal ⟨3, ![1, 8192, n]⟩ .f32) (b : FVec Ideal ⟨3, ![128, 8, n]⟩ .f32) (R : Fin 9216) (k : Fin n) : EReal :=
  rows (fun r => a (ix3 0 r k)) (fun r => b (ix3 ⟨r.val / 8, by omega⟩ ⟨r.val % 8, by omega⟩ k)) R

/-- Row `R` of the prompt's heads and the sample's, the heads' columns one after the other. -/
def bothHeads (a : FVec Ideal ⟨4, ![1, 8192, 32, 64]⟩ .f32) (b : FVec Ideal ⟨4, ![128, 8, 32, 64]⟩ .f32) (R : Fin 9216) (k : Fin 2048) : EReal :=
  rows (fun r => a (ix4 0 r ⟨k.val / 64, by omega⟩ ⟨k.val % 64, by omega⟩))
    (fun r => b (ix4 ⟨r.val / 8, by omega⟩ ⟨r.val % 8, by omega⟩ ⟨k.val / 64, by omega⟩ ⟨k.val % 64, by omega⟩)) R

theorem lt_first (j : Fin 2048) : 9152 + j.val < 13248 := by omega
theorem lt_second (j : Fin 2048) : 11200 + j.val < 13248 := by omega

/-- Element `(R, j)` of the merged rows. -/
def merged (a0 : FVec Ideal ⟨4, ![1, 8192, 32, 64]⟩ .f32) (a1 : FVec Ideal ⟨4, ![128, 8, 32, 64]⟩ .f32)
    (a2 : FVec Ideal ⟨3, ![1, 8192, 2048]⟩ .f32) (a3 : FVec Ideal ⟨3, ![128, 8, 2048]⟩ .f32)
    (a4 : FVec Ideal ⟨3, ![1, 8192, 2048]⟩ .f32) (a5 : FVec Ideal ⟨3, ![128, 8, 2048]⟩ .f32)
    (a6 : FVec Ideal ⟨3, ![1, 8192, 2048]⟩ .f32) (a7 : FVec Ideal ⟨3, ![128, 8, 2048]⟩ .f32)
    (a8 : FVec Ideal ⟨3, ![1, 8192, 2048]⟩ .f32) (a9 : FVec Ideal ⟨3, ![128, 8, 2048]⟩ .f32)
    (a10 : FVec Ideal ⟨3, ![1, 8192, 13248]⟩ .f32) (a11 : FVec Ideal ⟨3, ![128, 8, 13248]⟩ .f32)
    (a12 a13 : FVec Ideal ⟨2, ![1, 2048]⟩ .f32) (a14 : FVec Ideal ⟨3, ![1, 2048, 2048]⟩ .f32) (a15 a16 : FVec Ideal ⟨2, ![1, 2048]⟩ .f32)
    (R : Fin 9216) (j : Fin 2048) : EReal :=
  rowOut (bothHeads a0 a1 R) (bothRows a2 a3 R) (bothRows a4 a5 R) (bothRows a6 a7 R) (bothRows a8 a9 R)
    (fun k => bothRows a10 a11 R ⟨9152 + k.val, lt_first k⟩) (fun k => bothRows a10 a11 R ⟨11200 + k.val, lt_second k⟩)
    (fun k => a12 (ix2 0 k)) (fun k => a13 (ix2 0 k)) (fun k l => a14 (ix3 0 k l)) (fun k => a15 (ix2 0 k)) (fun k => a16 (ix2 0 k)) j

end Cert.Merge
-- ==== Proof.OutProjHost.lean ====
module

public import proofs.«01_k».proof.Proof.Gen.OutProjIdeal.Frame.Runs
public import proofs.«01_k».proof.Proof.MergeRows
public import Idealize.ShloMosaic.Lib.Pipeline.ValueKit
public import Idealize.ShloMosaic.Lib.Claim
public import Idealize.ShloMosaic.Lib.Pointwise
public import Idealize.ShloMosaic.Lib.StableHlo.RunRead

/-! What the arrays hold that the merging call is given, as functions of the program's arguments. -/

@[expose] public section

set_option maxRecDepth 16384

noncomputable section

open Idealize.ShloMosaic Idealize.ShloMosaic.TcCoe Idealize.SL.Sem

namespace Cert.OutProjIdeal.Gen
open Cert.Merge
open Cert.InProjIdeal.Gen (rows)

variable (m : (ℓ : Loc nD τ sig) → Buf (Elt Ideal) ℓ)

theorem host_yp (c : Dev nD) (r : Fin 8192) (k : Fin 2048) :
    V m c main_v24 (ix2 r k) = m ((c : Thread nD τ).loc main_arg0) (ix4 0 r ⟨k.val / 64, by omega⟩ ⟨k.val % 64, by omega⟩) := by
  dsimp only [V, hostOps0, hostOps0_1, hostOps0_2, hostOps0_3, hostOps0_4, hostOps0_5, hostOps0_6, List.flatten_cons, List.flatten_nil, List.append_nil, List.cons_append, List.nil_append]
  after_reads_simp
  pointwise

theorem host_ys (c : Dev nD) (r : Fin 1024) (k : Fin 2048) :
    V m c main_v25 (ix2 r k) = m ((c : Thread nD τ).loc main_arg1) (ix4 ⟨r.val / 8, by omega⟩ ⟨r.val % 8, by omega⟩ ⟨k.val / 64, by omega⟩ ⟨k.val % 64, by omega⟩) := by
  dsimp only [V, hostOps0, hostOps0_1, hostOps0_2, hostOps0_3, hostOps0_4, hostOps0_5, hostOps0_6, List.flatten_cons, List.flatten_nil, List.append_nil, List.cons_append, List.nil_append]
  after_reads_simp
  pointwise

theorem host_bp (c : Dev nD) (r : Fin 8192) (k : Fin 2048) :
    V m c main_v26 (ix2 r k) = m ((c : Thread nD τ).loc main_arg2) (ix3 0 r k) := by
  dsimp only [V, hostOps0, hostOps0_1, hostOps0_2, hostOps0_3, hostOps0_4, hostOps0_5, hostOps0_6, List.flatten_cons, List.flatten_nil, List.append_nil, List.cons_append, List.nil_append]
  after_reads_simp
  pointwise

theorem host_bs (c : Dev nD) (r : Fin 1024) (k : Fin 2048) :
    V m c main_v27 (ix2 r k) = m ((c : Thread nD τ).loc main_arg3) (ix3 ⟨r.val / 8, by omega⟩ ⟨r.val % 8, by omega⟩ k) := by
  dsimp only [V, hostOps0, hostOps0_1, hostOps0_2, hostOps0_3, hostOps0_4, hostOps0_5, hostOps0_6, List.flatten_cons, List.flatten_nil, List.append_nil, List.cons_append, List.nil_append]
  after_reads_simp
  pointwise

theorem host_gp (c : Dev nD) (r : Fin 8192) (k : Fin 2048) :
    V m c main_v28 (ix2 r k) = m ((c : Thread nD τ).loc main_arg4) (ix3 0 r k) := by
  dsimp only [V, hostOps0, hostOps0_1, hostOps0_2, hostOps0_3, hostOps0_4, hostOps0_5, hostOps0_6, List.flatten_cons, List.flatten_nil, List.append_nil, List.cons_append, List.nil_append]
  after_reads_simp
  pointwise

theorem host_gs (c : Dev nD) (r : Fin 1024) (k : Fin 2048) :
    V m c main_v29 (ix2 r k) = m ((c : Thread nD τ).loc main_arg5) (ix3 ⟨r.val / 8, by omega⟩ ⟨r.val % 8, by omega⟩ k) := by
  dsimp only [V, hostOps0, hostOps0_1, hostOps0_2, hostOps0_3, hostOps0_4, hostOps0_5, hostOps0_6, List.flatten_cons, List.flatten_nil, List.append_nil, List.cons_append, List.nil_append]
  after_reads_simp
  pointwise

theorem host_op (c : Dev nD) (r : Fin 8192) (k : Fin 2048) :
    V m c main_v30 (ix2 r k) = m ((c : Thread nD τ).loc main_arg6) (ix3 0 r k) := by
  dsimp only [V, hostOps0, hostOps0_1, hostOps0_2, hostOps0_3, hostOps0_4, hostOps0_5, hostOps0_6, List.flatten_cons, List.flatten_nil, List.append_nil, List.cons_append, List.nil_append]
  after_reads_simp
  pointwise

theorem host_os (c : Dev nD) (r : Fin 1024) (k : Fin 2048) :
    V m c main_v31 (ix2 r k) = m ((c : Thread nD τ).loc main_arg7) (ix3 ⟨r.val / 8, by omega⟩ ⟨r.val % 8, by omega⟩ k) := by
  dsimp only [V, hostOps0, hostOps0_1, hostOps0_2, hostOps0_3, hostOps0_4, hostOps0_5, hostOps0_6, List.flatten_cons, List.flatten_nil, List.append_nil, List.cons_append, List.nil_append]
  after_reads_simp
  pointwise

theorem host_xp (c : Dev nD) (r : Fin 8192) (k : Fin 2048) :
    V m c main_v32 (ix2 r k) = m ((c : Thread nD τ).loc main_arg8) (ix3 0 r k) := by
  dsimp only [V, hostOps0, hostOps0_1, hostOps0_2, hostOps0_3, hostOps0_4, hostOps0_5, hostOps0_6, List.flatten_cons, List.flatten_nil, List.append_nil, List.cons_append, List.nil_append]
  after_reads_simp
  pointwise

theorem host_xs (c : Dev nD) (r : Fin 1024) (k : Fin 2048) :
    V m c main_v33 (ix2 r k) = m ((c : Thread nD τ).loc main_arg9) (ix3 ⟨r.val / 8, by omega⟩ ⟨r.val % 8, by omega⟩ k) := by
  dsimp only [V, hostOps0, hostOps0_1, hostOps0_2, hostOps0_3, hostOps0_4, hostOps0_5, hostOps0_6, List.flatten_cons, List.flatten_nil, List.append_nil, List.cons_append, List.nil_append]
  after_reads_simp
  pointwise

/-- The output projection's weights. -/
theorem host_w (c : Dev nD) (k l : Fin 2048) : V m c main_v35 (ix2 k l) = m ((c : Thread nD τ).loc main_arg14) (ix3 0 k l) := by
  dsimp only [V, hostOps0, hostOps0_1, hostOps0_2, hostOps0_3, hostOps0_4, hostOps0_5, hostOps0_6, List.flatten_cons, List.flatten_nil, List.append_nil, List.cons_append, List.nil_append]
  after_reads_simp
  pointwise

/-- The comparison of a head's number with a lane's. -/
theorem same_head (a : Fin 32) (b : Fin 128) :
    Scalar.select (IntOp.cmpi .eq (BitVec.ofNat 32 a.val) (BitVec.ofNat 32 b.val)) (1 : EReal) 0 = if a.val = b.val then 1 else 0 := by
  have h : ∀ a : Fin 32, ∀ b : Fin 128, IntOp.cmpi .eq (BitVec.ofNat 32 a.val) (BitVec.ofNat 32 b.val) = if a.val = b.val then 1#1 else 0#1 := by decide +kernel
  rw [h a b]
  by_cases e : a.val = b.val
  · rw [if_pos e, if_pos e]; rfl
  · rw [if_neg e, if_neg e]; rfl

/-- Ones where the head's number is the lane's, by head, column and lane. -/
theorem zeros_ones (k : Fin 2048) (h : Fin 128) :
    (select (cmpi .eq (iotaInDim S32x64x128 32 0) (iotaInDim S32x64x128 32 2))
      (broadcastInDim S32x64x128 ![] bcast_S_S32x64x128 (constant (F := Ideal) S_ .f32 0x3F800000#32))
      (broadcastInDim S32x64x128 ![] bcast_S_S32x64x128 (constant (F := Ideal) S_ .f32 0x00000000#32))
      (ix3 ⟨k.val / 64, by omega⟩ ⟨k.val % 64, by omega⟩ h) : EReal) = inHead k h := by
  pointwise
  exact same_head ⟨k.val / 64, by omega⟩ h

/-- The matrix of zeros and ones. -/
theorem host_sel (c : Dev nD) (k : Fin 2048) (h : Fin 128) : V m c main_v21 (ix2 k h) = inHead k h := by
  dsimp only [V, hostOps0, hostOps0_1, hostOps0_2, hostOps0_3, hostOps0_4, hostOps0_5, hostOps0_6, List.flatten_cons, List.flatten_nil, List.append_nil, List.cons_append, List.nil_append]
  after_reads_simp
  pointwise
  exact zeros_ones k h

/-- The transposed matrix of zeros and ones. -/
theorem host_selt (c : Dev nD) (h : Fin 128) (k : Fin 2048) : V m c main_v23 (ix2 h k) = inHead k h := by
  dsimp only [V, hostOps0, hostOps0_1, hostOps0_2, hostOps0_3, hostOps0_4, hostOps0_5, hostOps0_6, List.flatten_cons, List.flatten_nil, List.append_nil, List.cons_append, List.nil_append]
  after_reads_simp
  pointwise
  exact zeros_ones k h

theorem lt_gcol (j : Fin 4096) : 8192 + j.val < 13312 := by omega
theorem lt_gcol' (j : Fin 4096) : 9152 + j.val < 13248 := by omega

/-- The projection's rows, the prompt's and then the sample's. -/
theorem both_at (a : FVec Ideal S1x8192x13248 .f32) (b : FVec Ideal S128x8x13248 .f32) (R : Fin 9216) (j : Fin 13248) :
    (concatenate S9216x13248 0 [⟨S8192x13248, shapeCast S8192x13248 a shapeCasts_S1x8192x13248_S8192x13248⟩, ⟨S1024x13248, shapeCast S1024x13248 b shapeCasts_S128x8x13248_S1024x13248⟩]
      concatenates_S8192x13248_S1024x13248_S9216x13248_d0 (ix2 R j) : EReal) = bothRows a b R j := by
  unfold bothRows rows
  pointwise

/-- The gates' columns of the relaid projection. -/
theorem host_gates (c : Dev nD) (R : Fin 9216) (j : Fin 4096) :
    V m c main_v13 (ix2 R ⟨8192 + j.val, lt_gcol j⟩)
      = bothRows (m ((c : Thread nD τ).loc main_arg10)) (m ((c : Thread nD τ).loc main_arg11)) R ⟨9152 + j.val, lt_gcol' j⟩ := by
  dsimp only [V, hostOps0, hostOps0_1, hostOps0_2, hostOps0_3, hostOps0_4, hostOps0_5, hostOps0_6, List.flatten_cons, List.flatten_nil, List.append_nil, List.cons_append, List.nil_append]
  after_reads_simp
  pointwise
  after_reads_simp
  pointwise
  rw [dif_neg (by omega), dif_neg (by omega), dif_pos (by omega)]
  after_reads_simp
  pointwise
  exact Eq.trans (b := bothRows (m ((c : Thread nD τ).loc main_arg10)) (m ((c : Thread nD τ).loc main_arg11)) R ⟨9152 + (8192 + j.val - 6144 - 2048), by omega⟩)
    rfl (congrArg (bothRows (m ((c : Thread nD τ).loc main_arg10)) (m ((c : Thread nD τ).loc main_arg11)) R) (Fin.ext (by dsimp only; omega)))

end Cert.OutProjIdeal.Gen
-- ==== Proof.OutProjBlock.lean ====
module

public import proofs.«01_k».proof.Proof.Gen.OutProjIdeal.Skeleton
public import proofs.«01_k».proof.Proof.MergeRow
public import Idealize.ShloMosaic.Lib.Pointwise

/-! What one grid point of the merging call stores, at an index: a row of the layer, from the blocks the point has loaded. -/

@[expose] public section

set_option maxRecDepth 16384

noncomputable section

open Idealize.ShloMosaic Idealize.ShloMosaic.TcCoe

namespace Cert.OutProjIdeal.Gen
open Cert.Merge

/-- The bit that says whether a grid point is one of the prompt's. -/
def promptBit (i : grid0.Coords) : BitVec 1 := Scalar.cmpi .slt (BitVec.ofNat 32 (i 0).val) 64#32

/-- The normalized heads of a point's rows. -/
theorem norm_at (i : grid0.Coords) (S : FVec Ideal S2048x128 .bf16) (T : FVec Ideal S128x2048 .bf16) (X Y : FVec Ideal S128x2048 .f32)
    (r : Fin 128) (j : Fin 2048) :
    (k0_pay2 (F := Ideal) i S T X Y (ix2 r j) : EReal)
      = productNorm (fun k h => S (ix2 k h)) (fun h k => T (ix2 h k)) (fun k => Scalar.select (promptBit i) (X (ix2 r k)) (Y (ix2 r k))) j := by
  pointwise [k0_pay2]
  rfl

theorem zero_word : Ideal.ofBits .f32 0x00000000#32 = 0 := by
  simp [Ideal.ofBits, Ideal.ieee]

/-- The squash function as the kernel writes it. -/
theorem squash_eq (x : EReal) : Ideal.div one (one + Ideal.exp (Ideal.ofBits .f32 0x00000000#32 - x)) = squash x := by
  rw [zero_word, sub_eq_add_neg, zero_add]
  rfl

/-- The second gate of a point's rows. -/
theorem gate_at (G : FVec Ideal S128x2048 .f32) (r : Fin 128) (j : Fin 2048) :
    (k0_pay4 (F := Ideal) G (ix2 r j) : EReal) = squash (G (ix2 r j)) := by
  rw [← squash_eq]
  pointwise [k0_pay4]

/-- The gated recurrence of a point's rows. -/
theorem recur_at (b : BitVec 1) (N : FVec Ideal S128x2048 .f32) (gg gB : FVec Ideal S1x2048 .f32) (X Y X' Y' G : FVec Ideal S128x2048 .f32)
    (r : Fin 128) (j : Fin 2048) :
    (k0_pay3 (F := Ideal) b N gg gB X Y X' Y' G (ix2 r j) : EReal)
      = recur (N (ix2 r j)) (gg (ix2 0 j)) (gB (ix2 0 j)) (Scalar.select b (X (ix2 r j)) (Y (ix2 r j)))
          (Scalar.select b (X' (ix2 r j)) (Y' (ix2 r j))) (G (ix2 r j)) := by
  unfold recur
  rw [← squash_eq]
  pointwise [k0_pay3]

/-- The layer norm of a point's rows. -/
theorem row_at (b : BitVec 1) (U G A A' : FVec Ideal S128x2048 .f32) (W : FVec Ideal S2048x2048 .bf16) (X Y : FVec Ideal S128x2048 .f32)
    (lg lb : FVec Ideal S1x2048 .f32) (r : Fin 128) (j : Fin 2048) :
    (k0_pay6 (F := Ideal) b U G (k0_pay5 (F := Ideal) A) A' W X Y lg lb (ix2 r j) : EReal)
      = layerNorm (residual (fun k => Scalar.select b (X (ix2 r k)) (Y (ix2 r k))) (fun k => U (ix2 r k))
          (fun k => G (ix2 r k) * Scalar.select b (A (ix2 r k)) (A' (ix2 r k))) (fun k l => W (ix2 k l)))
          (fun k => lg (ix2 0 k)) (fun k => lb (ix2 0 k)) j := by
  pointwise [k0_pay6, k0_pay5]
  rfl

/-- The transposed rows. -/
theorem flip_at (H : FVec Ideal S128x2048 .f32) (j : Fin 2048) (r : Fin 128) : (k0_pay1 (F := Ideal) H (ix2 j r) : EReal) = H (ix2 r j) := by
  pointwise [k0_pay1]

end Cert.OutProjIdeal.Gen
-- ==== Proof.OutProjArray.lean ====
module

public import proofs.«01_k».proof.Proof.Gen.OutProjIdeal.Frame
public import proofs.«01_k».proof.Proof.OutProjHost
public import proofs.«01_k».proof.Proof.OutProjBlock

/-! The arrays the merging call leaves: the merged rows of the prompt and the sample, and the same with rows and columns exchanged. -/

@[expose] public section

set_option maxRecDepth 16384

noncomputable section

open Idealize.ShloMosaic Idealize.ShloMosaic.TcCoe Idealize.SL.Sem
open Idealize.ShloMosaic.Pipeline (Dat)

namespace Cert.OutProjIdeal.Gen
open Cert.Merge
open Cert.InProjIdeal.Gen (rows)

variable (m : (ℓ : Loc nD τ sig) → Buf (Elt Ideal) ℓ)

theorem coord : ∀ t : Fin cfg0.N, (grid0.coords t 0).val = t.val := (by decide +kernel : ∀ t : Fin grid0.N, _)

/-- Which block of its array each window of the prompt's and the sample's rows holds at a grid point. -/
theorem idx_rows : ∀ t : Fin cfg0.N, win0_0.index t = ![min t.val 63, 0] ∧ win0_1.index t = ![min (t.val - 64) 7, 0] ∧ win0_2.index t = ![min t.val 63, 0] ∧ win0_3.index t = ![min (t.val - 64) 7, 0] ∧ win0_4.index t = ![min t.val 63, 0] ∧ win0_5.index t = ![min (t.val - 64) 7, 0] ∧ win0_6.index t = ![min t.val 63, 0] ∧ win0_7.index t = ![min (t.val - 64) 7, 0] ∧ win0_8.index t = ![min t.val 63, 0] ∧ win0_9.index t = ![min (t.val - 64) 7, 0] :=
  (by decide +kernel : ∀ t : Fin grid0.N, _)

/-- Which block of its array each of the other windows holds. -/
theorem idx : ∀ t : Fin cfg0.N, win0_10.index t = ![t.val, 4] ∧ win0_11.index t = ![t.val, 5] ∧ win0_12.index t = ![0, 0] ∧ win0_13.index t = ![0, 0]
    ∧ win0_14.index t = ![0, 0] ∧ win0_15.index t = ![0, 0] ∧ win0_16.index t = ![0, 0] ∧ win0_17.index t = ![0, 0] ∧ win0_18.index t = ![0, 0]
    ∧ win0_19.index t = ![t.val, 0] ∧ win0_20.index t = ![0, t.val] :=
  (by decide +kernel : ∀ t : Fin grid0.N, _)

theorem lt_row (t : Fin cfg0.N) (r : Fin 128) : 128 * t.val + r.val < 9216 := by
  have h : t.val < 72 := t.isLt
  omega
theorem lt_prompt (t : Fin cfg0.N) (h : t.val < 64) (r : Fin 128) : 128 * t.val + r.val < 8192 := by omega
theorem lt_sample (t : Fin cfg0.N) (r : Fin 128) : 128 * (t.val - 64) + r.val < 1024 := by
  have h : t.val < 72 := t.isLt
  omega

/-- Row `r` of a grid point. -/
def rowAt (t : Fin cfg0.N) (r : Fin 128) : Fin 9216 := ⟨128 * t.val + r.val, lt_row t r⟩

/-- The point's choice between its two windows. -/
theorem choice (t : Fin cfg0.N) (x y : EReal) : Scalar.select (promptBit (grid0.coords t)) x y = if t.val < 64 then x else y := by
  have h : t.val < 72 := t.isLt
  unfold promptBit
  rw [coord t]
  revert h
  generalize t.val = n
  intro h
  have hd : ∀ n : Fin 72, Scalar.cmpi .slt (BitVec.ofNat 32 n.val) 64#32 = if n.val < 64 then 1#1 else 0#1 := by decide
  rw [show Scalar.cmpi .slt (BitVec.ofNat 32 n) 64#32 = if n < 64 then 1#1 else 0#1 from hd ⟨n, h⟩]
  by_cases h64 : n < 64
  · rw [if_pos h64, if_pos h64]; rfl
  · rw [if_neg h64, if_neg h64]; rfl

/-- A choice between a prompt block's row and a sample block's row is a row of the two arrays put one after the other. -/
theorem choose_rows (t : Fin cfg0.N) (r : Fin 128) (x y : EReal) (a : Fin 8192 → EReal) (b : Fin 1024 → EReal)
    (ha : ∀ h : t.val < 64, x = a ⟨128 * t.val + r.val, lt_prompt t h r⟩) (hb : ¬ t.val < 64 → y = b ⟨128 * (t.val - 64) + r.val, lt_sample t r⟩) :
    Scalar.select (promptBit (grid0.coords t)) x y = rows a b (rowAt t r) := by
  rw [choice]
  unfold rows rowAt
  by_cases h : t.val < 64
  · rw [if_pos h, dif_pos (lt_prompt t h r)]
    exact ha h
  · rw [if_neg h, dif_neg (by dsimp only; omega)]
    refine (hb h).trans (congrArg b (Fin.ext ?_))
    dsimp only
    omega

theorem block_y (c : Dev nD) (t : Fin cfg0.N) (r : Fin 128) (k : Fin 2048) :
    Scalar.select (promptBit (grid0.coords t)) (iblk m c 0 t (ix2 r k) : EReal) (iblk m c 1 t (ix2 r k)) = bothHeads (m ((c : Thread nD τ).loc main_arg0)) (m ((c : Thread nD τ).loc main_arg1)) (rowAt t r) k := by
  refine choose_rows t r _ _ _ _ (fun h => ?_) (fun h => ?_)
  · refine Eq.trans ?_ (host_yp m c _ k)
    blk_ext [iblk, idx_rows t]
  · refine Eq.trans ?_ (host_ys m c _ k)
    have h72 : t.val < 72 := t.isLt
    blk_ext [iblk, idx_rows t]

theorem block_b (c : Dev nD) (t : Fin cfg0.N) (r : Fin 128) (k : Fin 2048) :
    Scalar.select (promptBit (grid0.coords t)) (iblk m c 2 t (ix2 r k) : EReal) (iblk m c 3 t (ix2 r k)) = bothRows (m ((c : Thread nD τ).loc main_arg2)) (m ((c : Thread nD τ).loc main_arg3)) (rowAt t r) k := by
  refine choose_rows t r _ _ _ _ (fun h => ?_) (fun h => ?_)
  · refine Eq.trans ?_ (host_bp m c _ k)
    blk_ext [iblk, idx_rows t]
  · refine Eq.trans ?_ (host_bs m c _ k)
    have h72 : t.val < 72 := t.isLt
    blk_ext [iblk, idx_rows t]

theorem block_g (c : Dev nD) (t : Fin cfg0.N) (r : Fin 128) (k : Fin 2048) :
    Scalar.select (promptBit (grid0.coords t)) (iblk m c 4 t (ix2 r k) : EReal) (iblk m c 5 t (ix2 r k)) = bothRows (m ((c : Thread nD τ).loc main_arg4)) (m ((c : Thread nD τ).loc main_arg5)) (rowAt t r) k := by
  refine choose_rows t r _ _ _ _ (fun h => ?_) (fun h => ?_)
  · refine Eq.trans ?_ (host_gp m c _ k)
    blk_ext [iblk, idx_rows t]
  · refine Eq.trans ?_ (host_gs m c _ k)
    have h72 : t.val < 72 := t.isLt
    blk_ext [iblk, idx_rows t]

theorem block_o (c : Dev nD) (t : Fin cfg0.N) (r : Fin 128) (k : Fin 2048) :
    Scalar.select (promptBit (grid0.coords t)) (iblk m c 6 t (ix2 r k) : EReal) (iblk m c 7 t (ix2 r k)) = bothRows (m ((c : Thread nD τ).loc main_arg6)) (m ((c : Thread nD τ).loc main_arg7)) (rowAt t r) k := by
  refine choose_rows t r _ _ _ _ (fun h => ?_) (fun h => ?_)
  · refine Eq.trans ?_ (host_op m c _ k)
    blk_ext [iblk, idx_rows t]
  · refine Eq.trans ?_ (host_os m c _ k)
    have h72 : t.val < 72 := t.isLt
    blk_ext [iblk, idx_rows t]

theorem block_x (c : Dev nD) (t : Fin cfg0.N) (r : Fin 128) (k : Fin 2048) :
    Scalar.select (promptBit (grid0.coords t)) (iblk m c 8 t (ix2 r k) : EReal) (iblk m c 9 t (ix2 r k)) = bothRows (m ((c : Thread nD τ).loc main_arg8)) (m ((c : Thread nD τ).loc main_arg9)) (rowAt t r) k := by
  refine choose_rows t r _ _ _ _ (fun h => ?_) (fun h => ?_)
  · refine Eq.trans ?_ (host_xp m c _ k)
    blk_ext [iblk, idx_rows t]
  · refine Eq.trans ?_ (host_xs m c _ k)
    have h72 : t.val < 72 := t.isLt
    blk_ext [iblk, idx_rows t]

theorem block_ga (c : Dev nD) (t : Fin cfg0.N) (r : Fin 128) (k : Fin 2048) :
    X0_10 m c t (ix2 r k) = bothRows (m ((c : Thread nD τ).loc main_arg10)) (m ((c : Thread nD τ).loc main_arg11)) (rowAt t r) ⟨9152 + k.val, lt_first k⟩ := by
  refine Eq.trans ?_ (host_gates m c (rowAt t r) ⟨k.val, by omega⟩)
  unfold X0_10 Pipeline.Window.fill rowAt
  rw [dif_pos (moved0_10 t (ix2 r k))]
  blk_ext [iblk, idx t]

theorem block_gb (c : Dev nD) (t : Fin cfg0.N) (r : Fin 128) (k : Fin 2048) :
    X0_11 m c t (ix2 r k) = bothRows (m ((c : Thread nD τ).loc main_arg10)) (m ((c : Thread nD τ).loc main_arg11)) (rowAt t r) ⟨11200 + k.val, lt_second k⟩ := by
  have e : (⟨11200 + k.val, lt_second k⟩ : Fin 13248) = ⟨9152 + (2048 + k.val), by omega⟩ := Fin.ext (by dsimp only; omega)
  rw [e]
  refine Eq.trans ?_ (host_gates m c (rowAt t r) ⟨2048 + k.val, by omega⟩)
  unfold X0_11 Pipeline.Window.fill rowAt
  rw [dif_pos (moved0_11 t (ix2 r k))]
  blk_ext [iblk, idx t]

theorem block_sel (c : Dev nD) (t : Fin cfg0.N) (k : Fin 2048) (h : Fin 128) : iblk m c 14 t (ix2 k h) = inHead k h := by
  refine Eq.trans ?_ (host_sel m c k h)
  blk_ext [iblk, idx t]

theorem block_selt (c : Dev nD) (t : Fin cfg0.N) (h : Fin 128) (k : Fin 2048) : iblk m c 15 t (ix2 h k) = inHead k h := by
  refine Eq.trans ?_ (host_selt m c h k)
  blk_ext [iblk, idx t]

theorem block_w (c : Dev nD) (t : Fin cfg0.N) (k l : Fin 2048) : iblk m c 16 t (ix2 k l) = m ((c : Thread nD τ).loc main_arg14) (ix3 0 k l) := by
  refine Eq.trans ?_ (host_w m c k l)
  blk_ext [iblk, idx t]

theorem host_12 (c : Dev nD) (i : S1x2048.Idx) : V m c main_arg12 i = m ((c : Thread nD τ).loc main_arg12) i := by
  dsimp only [V, hostOps0, hostOps0_1, hostOps0_2, hostOps0_3, hostOps0_4, hostOps0_5, hostOps0_6, List.flatten_cons, List.flatten_nil, List.append_nil, List.cons_append, List.nil_append]
  after_reads_simp

theorem block_12 (c : Dev nD) (t : Fin cfg0.N) (k : Fin 2048) : iblk m c 12 t (ix2 0 k) = m ((c : Thread nD τ).loc main_arg12) (ix2 0 k) := by
  refine Eq.trans ?_ (host_12 m c (ix2 0 k))
  blk_ext [iblk, idx t]

theorem host_13 (c : Dev nD) (i : S1x2048.Idx) : V m c main_arg13 i = m ((c : Thread nD τ).loc main_arg13) i := by
  dsimp only [V, hostOps0, hostOps0_1, hostOps0_2, hostOps0_3, hostOps0_4, hostOps0_5, hostOps0_6, List.flatten_cons, List.flatten_nil, List.append_nil, List.cons_append, List.nil_append]
  after_reads_simp

theorem block_13 (c : Dev nD) (t : Fin cfg0.N) (k : Fin 2048) : iblk m c 13 t (ix2 0 k) = m ((c : Thread nD τ).loc main_arg13) (ix2 0 k) := by
  refine Eq.trans ?_ (host_13 m c (ix2 0 k))
  blk_ext [iblk, idx t]

theorem host_15 (c : Dev nD) (i : S1x2048.Idx) : V m c main_arg15 i = m ((c : Thread nD τ).loc main_arg15) i := by
  dsimp only [V, hostOps0, hostOps0_1, hostOps0_2, hostOps0_3, hostOps0_4, hostOps0_5, hostOps0_6, List.flatten_cons, List.flatten_nil, List.append_nil, List.cons_append, List.nil_append]
  after_reads_simp

theorem block_15 (c : Dev nD) (t : Fin cfg0.N) (k : Fin 2048) : iblk m c 17 t (ix2 0 k) = m ((c : Thread nD τ).loc main_arg15) (ix2 0 k) := by
  refine Eq.trans ?_ (host_15 m c (ix2 0 k))
  blk_ext [iblk, idx t]

theorem host_16 (c : Dev nD) (i : S1x2048.Idx) : V m c main_arg16 i = m ((c : Thread nD τ).loc main_arg16) i := by
  dsimp only [V, hostOps0, hostOps0_1, hostOps0_2, hostOps0_3, hostOps0_4, hostOps0_5, hostOps0_6, List.flatten_cons, List.flatten_nil, List.append_nil, List.cons_append, List.nil_append]
  after_reads_simp

theorem block_16 (c : Dev nD) (t : Fin cfg0.N) (k : Fin 2048) : iblk m c 18 t (ix2 0 k) = m ((c : Thread nD τ).loc main_arg16) (ix2 0 k) := by
  refine Eq.trans ?_ (host_16 m c (ix2 0 k))
  blk_ext [iblk, idx t]

end Cert.OutProjIdeal.Gen
-- ==== Proof.OutProjFinal.lean ====
module

public import proofs.«01_k».proof.Proof.OutProjArray

/-! The arrays the merging call leaves: the merged rows of the prompt and the sample, and the same with rows and columns exchanged. -/

@[expose] public section

set_option maxRecDepth 16384

noncomputable section

open Idealize.ShloMosaic Idealize.ShloMosaic.TcCoe Idealize.SL.Sem
open Idealize.ShloMosaic.Pipeline (Dat)

namespace Cert.OutProjIdeal.Gen
open Cert.Merge
open Cert.InProjIdeal.Gen (rows)

/-- A point's rows, from blocks whose entries are known. -/
theorem whole_at (i : grid0.Coords) (S : FVec Ideal S2048x128 .bf16) (T : FVec Ideal S128x2048 .bf16)
    (yp ys bp bs gp gs op os xp xs Ga Gb : FVec Ideal S128x2048 .f32) (Gg GB : FVec Ideal S1x2048 .f32) (W : FVec Ideal S2048x2048 .bf16)
    (Lg Lb : FVec Ideal S1x2048 .f32) (y bonus g o x ga gb gg gB : Fin 2048 → EReal) (w : Fin 2048 → Fin 2048 → EReal) (lg lb : Fin 2048 → EReal)
    (r : Fin 128)
    (hS : ∀ k h, S (ix2 k h) = inHead k h) (hT : ∀ h k, T (ix2 h k) = inHead k h)
    (hy : ∀ k, Scalar.select (promptBit i) (yp (ix2 r k) : EReal) (ys (ix2 r k)) = y k) (hr : ∀ k, SinkSoftmax.IsReal (y k))
    (hb : ∀ k, Scalar.select (promptBit i) (bp (ix2 r k) : EReal) (bs (ix2 r k)) = bonus k)
    (hg : ∀ k, Scalar.select (promptBit i) (gp (ix2 r k) : EReal) (gs (ix2 r k)) = g k)
    (ho : ∀ k, Scalar.select (promptBit i) (op (ix2 r k) : EReal) (os (ix2 r k)) = o k)
    (hx : ∀ k, Scalar.select (promptBit i) (xp (ix2 r k) : EReal) (xs (ix2 r k)) = x k)
    (hga : ∀ k, Ga (ix2 r k) = ga k) (hgb : ∀ k, Gb (ix2 r k) = gb k) (hgg : ∀ k, Gg (ix2 0 k) = gg k) (hgB : ∀ k, GB (ix2 0 k) = gB k)
    (hw : ∀ k l, W (ix2 k l) = w k l) (hlg : ∀ k, Lg (ix2 0 k) = lg k) (hlb : ∀ k, Lb (ix2 0 k) = lb k) (j : Fin 2048) :
    (k0_pay6 (F := Ideal) (promptBit i) (k0_pay3 (F := Ideal) (promptBit i) (k0_pay2 (F := Ideal) i S T yp ys) Gg GB bp bs gp gs Ga)
        (k0_pay4 (F := Ideal) Gb) (k0_pay5 (F := Ideal) op) os W xp xs Lg Lb (ix2 r j) : EReal)
      = rowOut y bonus g o x ga gb gg gB w lg lb j := by
  rw [row_at]
  unfold rowOut
  have e1 : (fun k => Scalar.select (promptBit i) (xp (ix2 r k) : EReal) (xs (ix2 r k))) = x := funext hx
  have e2 : (fun k => (k0_pay3 (F := Ideal) (promptBit i) (k0_pay2 (F := Ideal) i S T yp ys) Gg GB bp bs gp gs Ga (ix2 r k) : EReal))
      = fun k => recur (headNorm y k) (gg k) (gB k) (bonus k) (g k) (ga k) := funext fun k => by
    have eS : (fun k h => (S (ix2 k h) : EReal)) = inHead := funext fun k => funext fun h => hS k h
    have eT : (fun h k => (T (ix2 h k) : EReal)) = fun h k => inHead k h := funext fun h => funext fun k => hT h k
    have ey : (fun k => Scalar.select (promptBit i) (yp (ix2 r k) : EReal) (ys (ix2 r k))) = y := funext hy
    rw [recur_at, norm_at, hb, hg, hga, hgg, hgB, eS, eT, ey, productNorm_eq y hr]
  have e3 : (fun k => (k0_pay4 (F := Ideal) Gb (ix2 r k) : EReal) * Scalar.select (promptBit i) (op (ix2 r k) : EReal) (os (ix2 r k)))
      = fun k => squash (gb k) * o k := funext fun k => by rw [gate_at, hgb, ho]
  have e4 : (fun k l => (W (ix2 k l) : EReal)) = w := funext fun k => funext fun l => hw k l
  have e5 : (fun k => (Lg (ix2 0 k) : EReal)) = lg := funext hlg
  have e6 : (fun k => (Lb (ix2 0 k) : EReal)) = lb := funext hlb
  rw [e1, e2, e3, e4, e5, e6]

variable (m : (ℓ : Loc nD τ sig) → Buf (Elt Ideal) ℓ)

/-- Element `(R, j)` of the merged rows of the program's arguments. -/
def mergedAt (c : Dev nD) (R : Fin 9216) (j : Fin 2048) : EReal :=
  merged (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14)) (m ((c : Thread nD τ).loc main_arg15))
    (m ((c : Thread nD τ).loc main_arg16)) R j

/-- The heads of all rows are real numbers. -/
def RealHeads (c : Dev nD) : Prop :=
  ∀ R k, SinkSoftmax.IsReal (bothHeads (m ((c : Thread nD τ).loc main_arg0)) (m ((c : Thread nD τ).loc main_arg1)) R k)

/-- What a grid point computes, element by element. -/
theorem computed (c : Dev nD) (hr : RealHeads m c) (t : Fin cfg0.N) (r : Fin 128) (j : Fin 2048) :
    (k0_pay6 (F := Ideal) (promptBit (grid0.coords t)) (k0_pay3 (F := Ideal) (promptBit (grid0.coords t))
        (k0_pay2 (F := Ideal) (grid0.coords t) (iblk m c 14 t) (iblk m c 15 t) (iblk m c 0 t) (iblk m c 1 t)) (iblk m c 12 t) (iblk m c 13 t)
        (iblk m c 2 t) (iblk m c 3 t) (iblk m c 4 t) (iblk m c 5 t) (X0_10 m c t))
        (k0_pay4 (F := Ideal) (X0_11 m c t)) (k0_pay5 (F := Ideal) (iblk m c 6 t)) (iblk m c 7 t) (iblk m c 16 t) (iblk m c 8 t) (iblk m c 9 t)
        (iblk m c 17 t) (iblk m c 18 t) (ix2 r j) : EReal)
      = mergedAt m c (rowAt t r) j := by
  unfold mergedAt merged
  exact whole_at (grid0.coords t) (iblk m c 14 t) (iblk m c 15 t) (iblk m c 0 t) (iblk m c 1 t) (iblk m c 2 t) (iblk m c 3 t) (iblk m c 4 t) (iblk m c 5 t)
    (iblk m c 6 t) (iblk m c 7 t) (iblk m c 8 t) (iblk m c 9 t) (X0_10 m c t) (X0_11 m c t) (iblk m c 12 t) (iblk m c 13 t) (iblk m c 16 t)
    (iblk m c 17 t) (iblk m c 18 t) _ _ _ _ _ _ _ _ _ _ _ _ r
    (fun k h => block_sel m c t k h) (fun h k => block_selt m c t h k) (fun k => block_y m c t r k) (fun k => hr _ k) (fun k => block_b m c t r k)
    (fun k => block_g m c t r k) (fun k => block_o m c t r k) (fun k => block_x m c t r k) (fun k => block_ga m c t r k) (fun k => block_gb m c t r k)
    (fun k => block_12 m c t k) (fun k => block_13 m c t k) (fun k l => block_w m c t k l) (fun k => block_15 m c t k) (fun k => block_16 m c t k) j

/-- The rows a grid point leaves. -/
theorem point_h (c : Dev nD) (hr : RealHeads m c) (t : Fin cfg0.N) (y : S128x2048.Idx) :
    ((outsAt0 m c t).1 y : EReal) = mergedAt m c (rowAt t (y 0)) (y 1) := by
  obtain ⟨r, j, rfl⟩ : ∃ (r : Fin 128) (j : Fin 2048), y = ix2 r j := ⟨y 0, y 1, eq_ix2 y⟩
  refine Eq.trans ?_ (computed m c hr t r j)
  unfold outsAt0 out0_A_19
  frame_out
  rfl

/-- The columns a grid point leaves. -/
theorem point_ht (c : Dev nD) (hr : RealHeads m c) (t : Fin cfg0.N) (y : S2048x128.Idx) :
    ((outsAt0 m c t).2 y : EReal) = mergedAt m c (rowAt t (y 1)) (y 0) := by
  obtain ⟨j, r, rfl⟩ : ∃ (j : Fin 2048) (r : Fin 128), y = ix2 j r := ⟨y 0, y 1, eq_ix2 y⟩
  refine Eq.trans ?_ (computed m c hr t r j)
  unfold outsAt0 out0_A_20
  frame_out
  exact flip_at _ j r

/-- The array of merged rows after the run. -/
theorem final_h (c : Dev nD) (hr : RealHeads m c) : (dats m 0 c).arrAt 19 cfg0.N = fun i => mergedAt m c (i 0) (i 1) := by
  refine (dats m 0 c).arrAt_eq_of_covers 19 _ (by decide +kernel) fun t hf y => ?_
  rw [after0_19]
  blk_simp [idx t]
  refine (point_h m c hr t y).trans ?_
  refine congrArg₂ (mergedAt m c) (Fin.ext ?_) (Fin.ext ?_)
  · blk_simp [idx t]
    exact congrArg (· + (y 0).val) (Nat.mul_comm 128 t.val)
  · blk_simp [idx t]

/-- The array with rows and columns exchanged, after the run. -/
theorem final_ht (c : Dev nD) (hr : RealHeads m c) : (dats m 0 c).arrAt 20 cfg0.N = fun i => mergedAt m c (i 1) (i 0) := by
  refine (dats m 0 c).arrAt_eq_of_covers 20 _ (by decide +kernel) fun t hf y => ?_
  rw [after0_20]
  blk_simp [idx t]
  refine (point_ht m c hr t y).trans ?_
  refine congrArg₂ (mergedAt m c) (Fin.ext ?_) (Fin.ext ?_)
  · blk_simp [idx t]
    exact congrArg (· + (y 1).val) (Nat.mul_comm 128 t.val)
  · blk_simp [idx t]

end Cert.OutProjIdeal.Gen
-- ==== Proof.OutProjRef.lean ====
module

public import proofs.«01_k».proof.Proof.Gen.OutProjRefIdeal.Run
public import proofs.«01_k».proof.Proof.MergeRows
public import Idealize.ShloMosaic.Lib.Pointwise

/-! The reference of the merging call, a step at a time, each step read at an index. -/

@[expose] public section

set_option maxRecDepth 16384

noncomputable section

open Idealize.ShloMosaic Idealize.ShloMosaic.TcCoe

namespace Cert.OutProjRefIdeal.Steps
open Cert.Merge
open Cert.InProjIdeal.Gen (rows)
open Cert.OutProjRefIdeal Cert.OutProjRefIdeal.Gen

/-- The heads' means, repeated along each head. -/
def means (y : FVec Ideal S9216x32x64 .f32) : FVec Ideal S9216x32x1 .f32 :=
  Host.divf (broadcastInDim S9216x32x1 ![0, 1] bcast_S9216x32_S9216x32x1_0_1
    (Host.reduceAdd y (constant S_ .f32 0x00000000#32) reducesTo_S9216x32x64_S9216x32_d2 h_S_))
    (broadcastInDim S9216x32x1 ![] bcast_S_S9216x32x1 (constant S_ .f32 0x42800000#32))

/-- Each column less its head's mean. -/
def less (y : FVec Ideal S9216x32x64 .f32) : FVec Ideal S9216x32x64 .f32 :=
  subf y (broadcastInDim S9216x32x64 ![0, 1, 2] bcast_S9216x32x1_S9216x32x64_0_1_2 (means y))

/-- The group norm before its scale and offset. -/
def normed (y : FVec Ideal S9216x32x64 .f32) : FVec Ideal S9216x2048 .f32 :=
  shapeCast _ (mulf (less y) (broadcastInDim S9216x32x64 ![0, 1, 2] bcast_S9216x32x1_S9216x32x64_0_1_2
    (Host.rsqrt (addf (means (mulf (less y) (less y))) (broadcastInDim S9216x32x1 ![] bcast_S_S9216x32x1 (constant S_ .f32 0x3A27C5AC#32))))))
    shapeCasts_S9216x32x64_S9216x2048

/-- A head's mean, read. -/
theorem means_at (y : FVec Ideal S9216x32x64 .f32) (R : Fin 9216) (h : Fin 32) :
    (means y (ix3 R h 0) : EReal) = Ideal.div (∑ e : Fin 64, y (ix3 R h e)) headCount := by
  pointwise [means]

theorem less_at (y : FVec Ideal S9216x32x64 .f32) (R : Fin 9216) (h : Fin 32) (e : Fin 64) :
    (less y (ix3 R h e) : EReal) = y (ix3 R h e) - Ideal.div (∑ e : Fin 64, y (ix3 R h e)) headCount := by
  rw [← means_at]
  pointwise [less]

/-- Both gates of all rows. -/
def gates (P : FVec Ideal S9216x13248 .f32) : FVec Ideal S9216x4096 .f32 :=
  Host.divf (broadcastInDim S9216x4096 ![] bcast_S_S9216x4096 (constant S_ .f32 0x3F800000#32))
    (addf (broadcastInDim S9216x4096 ![] bcast_S_S9216x4096 (constant S_ .f32 0x3F800000#32))
      (Host.exp (Host.negf (extractStridedSlice S9216x4096 ![0, 9152] P slices_S9216x13248_S9216x4096_0_9152))))

theorem lt_gates (j : Fin 4096) : 9152 + j.val < 13248 := by omega

theorem gates_at (P : FVec Ideal S9216x13248 .f32) (R : Fin 9216) (j : Fin 4096) :
    (gates P (ix2 R j) : EReal) = squash (P (ix2 R ⟨9152 + j.val, lt_gates j⟩)) := by
  unfold squash
  pointwise [gates]

/-- The rows' layer norm. -/
def lnorm (z : FVec Ideal S9216x2048 .f32) (lg lb : FVec Ideal S1x2048 .f32) : FVec Ideal S9216x2048 .f32 :=
  let mean : FVec Ideal S9216x2048 .f32 → FVec Ideal S9216x1 .f32 := fun x =>
    Host.divf (broadcastInDim S9216x1 ![0] bcast_S9216_S9216x1_0
      (Host.reduceAdd x (constant S_ .f32 0x00000000#32) reducesTo_S9216x2048_S9216_d1 h_S_))
      (broadcastInDim S9216x1 ![] bcast_S_S9216x1 (constant S_ .f32 0x45000000#32))
  let d := subf z (broadcastInDim S9216x2048 ![0, 1] bcast_S9216x1_S9216x2048_0_1 (mean z))
  addf (mulf (mulf d (broadcastInDim S9216x2048 ![0, 1] bcast_S9216x1_S9216x2048_0_1
      (Host.rsqrt (addf (mean (mulf d d)) (broadcastInDim S9216x1 ![] bcast_S_S9216x1 (constant S_ .f32 0x3727C5AC#32))))))
      (broadcastInDim S9216x2048 ![0, 1] bcast_S1x2048_S9216x2048_0_1 (broadcastInDim S1x2048 ![1] bcast_S2048_S1x2048_1 (shapeCast _ lg shapeCasts_S1x2048_S2048))))
    (broadcastInDim S9216x2048 ![0, 1] bcast_S1x2048_S9216x2048_0_1 (broadcastInDim S1x2048 ![1] bcast_S2048_S1x2048_1 (shapeCast _ lb shapeCasts_S1x2048_S2048)))

theorem lnorm_at (z : FVec Ideal S9216x2048 .f32) (lg lb : FVec Ideal S1x2048 .f32) (R : Fin 9216) (j : Fin 2048) :
    (lnorm z lg lb (ix2 R j) : EReal) = layerNorm (fun k => z (ix2 R k)) (fun k => lg (ix2 0 k)) (fun k => lb (ix2 0 k)) j := by
  unfold layerNorm rowMean
  pointwise [lnorm]

/-- The columns of a row's heads, one after the other. -/
def columns (y : FVec Ideal S9216x32x64 .f32) (R : Fin 9216) (k : Fin 2048) : EReal :=
  y (ix3 R ⟨k.val / 64, by omega⟩ ⟨k.val % 64, by omega⟩)

theorem columns_mate (y : FVec Ideal S9216x32x64 .f32) (R : Fin 9216) (j : Fin 2048) (e : Fin 64) :
    columns y R (mate j e) = y (ix3 R ⟨j.val / 64, by omega⟩ e) := by
  unfold columns
  refine congrArg₂ (fun a b => y (ix3 R a b)) (Fin.ext (mate_div j e)) (Fin.ext ?_)
  unfold mate
  dsimp only
  omega

/-- The group norm, read. -/
theorem normed_at (y : FVec Ideal S9216x32x64 .f32) (R : Fin 9216) (j : Fin 2048) :
    (normed y (ix2 R j) : EReal) = headNorm (columns y R) j := by
  unfold headNorm headVar headMean
  simp only [mate_mate, columns_mate]
  unfold columns
  pointwise [normed]
  rw [less_at, means_at]
  have h : ∀ e : Fin 64, (mulf (less y) (less y) (ix3 R ⟨j.val / 64, by omega⟩ e) : EReal)
      = (y (ix3 R ⟨j.val / 64, by omega⟩ e) - Ideal.div (∑ e : Fin 64, y (ix3 R ⟨j.val / 64, by omega⟩ e)) headCount)
        * (y (ix3 R ⟨j.val / 64, by omega⟩ e) - Ideal.div (∑ e : Fin 64, y (ix3 R ⟨j.val / 64, by omega⟩ e)) headCount) := fun e => by
    rw [← less_at]
    rfl
  simp only [h]

/-- A row of one extent repeated on every row. -/
def every (a : FVec Ideal S1x2048 .f32) : FVec Ideal S9216x2048 .f32 :=
  broadcastInDim S9216x2048 ![0, 1] bcast_S1x2048_S9216x2048_0_1 (broadcastInDim S1x2048 ![1] bcast_S2048_S1x2048_1 (shapeCast _ a shapeCasts_S1x2048_S2048))

/-- The gated recurrence and the gated attention. -/
def mixed (n : FVec Ideal S9216x2048 .f32) (gg gB : FVec Ideal S1x2048 .f32) (bonus g o : FVec Ideal S9216x2048 .f32)
    (s : FVec Ideal S9216x4096 .f32) : FVec Ideal S9216x2048 .f32 :=
  addf (mulf (extractStridedSlice S9216x2048 ![0, 0] s slices_S9216x4096_S9216x2048_0_0)
      (mulf (addf (addf (mulf n (every gg)) (every gB)) bonus) g))
    (mulf (extractStridedSlice S9216x2048 ![0, 2048] s slices_S9216x4096_S9216x2048_0_2048) o)

theorem lt_lo (j : Fin 2048) : j.val < 4096 := by omega
theorem lt_hi (j : Fin 2048) : 2048 + j.val < 4096 := by omega

theorem mixed_at (n : FVec Ideal S9216x2048 .f32) (gg gB : FVec Ideal S1x2048 .f32) (bonus g o : FVec Ideal S9216x2048 .f32)
    (s : FVec Ideal S9216x4096 .f32) (R : Fin 9216) (j : Fin 2048) :
    (mixed n gg gB bonus g o s (ix2 R j) : EReal)
      = s (ix2 R ⟨j.val, lt_lo j⟩) * ((n (ix2 R j) * gg (ix2 0 j) + gB (ix2 0 j) + bonus (ix2 R j)) * g (ix2 R j))
        + s (ix2 R ⟨2048 + j.val, lt_hi j⟩) * o (ix2 R j) := by
  pointwise [mixed, every]

/-- The residual. -/
def resid (x u : FVec Ideal S9216x2048 .f32) (w : FVec Ideal S1x2048x2048 .f32) : FVec Ideal S9216x2048 .f32 :=
  addf (mulf (broadcastInDim S9216x2048 ![] bcast_S_S9216x2048 (constant S_ .f32 0x3F9837F0#32)) x)
    (Host.dotGeneral dot_S9216x2048_S2048x2048_S9216x2048_1_0_0_1_n_n none u (shapeCast _ w shapeCasts_S1x2048x2048_S2048x2048))

theorem resid_at (x u : FVec Ideal S9216x2048 .f32) (w : FVec Ideal S1x2048x2048 .f32) (R : Fin 9216) (j : Fin 2048) :
    (resid x u w (ix2 R j) : EReal) = scale * x (ix2 R j) + ∑ k : Fin 2048, u (ix2 R k) * w (ix3 0 k j) := by
  pointwise [resid]

/-- The prompt's rows, then the sample's. -/
def join (a : FVec Ideal S1x8192x2048 .f32) (b : FVec Ideal S128x8x2048 .f32) : FVec Ideal S9216x2048 .f32 :=
  concatenate S9216x2048 0 [⟨S8192x2048, shapeCast _ a shapeCasts_S1x8192x2048_S8192x2048⟩, ⟨S1024x2048, shapeCast _ b shapeCasts_S128x8x2048_S1024x2048⟩]
    concatenates_S8192x2048_S1024x2048_S9216x2048_d0

theorem join_at (a : FVec Ideal S1x8192x2048 .f32) (b : FVec Ideal S128x8x2048 .f32) (R : Fin 9216) (j : Fin 2048) :
    (join a b (ix2 R j) : EReal) = bothRows a b R j := by
  unfold bothRows rows
  pointwise [join]

/-- The prompt's projected rows, then the sample's. -/
def joinProj (a : FVec Ideal S1x8192x13248 .f32) (b : FVec Ideal S128x8x13248 .f32) : FVec Ideal S9216x13248 .f32 :=
  concatenate S9216x13248 0 [⟨S8192x13248, shapeCast _ a shapeCasts_S1x8192x13248_S8192x13248⟩, ⟨S1024x13248, shapeCast _ b shapeCasts_S128x8x13248_S1024x13248⟩]
    concatenates_S8192x13248_S1024x13248_S9216x13248_d0

theorem joinProj_at (a : FVec Ideal S1x8192x13248 .f32) (b : FVec Ideal S128x8x13248 .f32) (R : Fin 9216) (j : Fin 13248) :
    (joinProj a b (ix2 R j) : EReal) = bothRows a b R j := by
  unfold bothRows rows
  pointwise [joinProj]

/-- The prompt's heads, then the sample's. -/
def joinHeads (a : FVec Ideal S1x8192x32x64 .f32) (b : FVec Ideal S128x8x32x64 .f32) : FVec Ideal S9216x32x64 .f32 :=
  concatenate S9216x32x64 0 [⟨S8192x32x64, shapeCast _ a shapeCasts_S1x8192x32x64_S8192x32x64⟩, ⟨S1024x32x64, shapeCast _ b shapeCasts_S128x8x32x64_S1024x32x64⟩]
    concatenates_S8192x32x64_S1024x32x64_S9216x32x64_d0

theorem joinHeads_at (a : FVec Ideal S1x8192x32x64 .f32) (b : FVec Ideal S128x8x32x64 .f32) (R : Fin 9216) (j : Fin 2048) :
    columns (joinHeads a b) R j = bothHeads a b R j := by
  unfold columns bothHeads rows
  pointwise [joinHeads]

section
variable (m : (ℓ : Loc nD τ sig) → Buf (Elt Ideal) ℓ) (c : Dev nD)

/-- The reference's first result, from its steps. -/
def rowsOut (a0 : FVec Ideal S1x8192x32x64 .f32) (a1 : FVec Ideal S128x8x32x64 .f32) (a2 : FVec Ideal S1x8192x2048 .f32) (a3 : FVec Ideal S128x8x2048 .f32)
    (a4 : FVec Ideal S1x8192x2048 .f32) (a5 : FVec Ideal S128x8x2048 .f32) (a6 : FVec Ideal S1x8192x2048 .f32) (a7 : FVec Ideal S128x8x2048 .f32)
    (a8 : FVec Ideal S1x8192x2048 .f32) (a9 : FVec Ideal S128x8x2048 .f32) (a10 : FVec Ideal S1x8192x13248 .f32) (a11 : FVec Ideal S128x8x13248 .f32)
    (a12 a13 : FVec Ideal S1x2048 .f32) (a14 : FVec Ideal S1x2048x2048 .f32) (a15 a16 : FVec Ideal S1x2048 .f32) : FVec Ideal S9216x2048 .f32 :=
  lnorm (resid (join a8 a9) (mixed (normed (joinHeads a0 a1)) a12 a13 (join a2 a3) (join a4 a5) (join a6 a7) (gates (joinProj a10 a11))) a14) a15 a16

theorem rowsOut_at (a0 : FVec Ideal S1x8192x32x64 .f32) (a1 : FVec Ideal S128x8x32x64 .f32) (a2 : FVec Ideal S1x8192x2048 .f32) (a3 : FVec Ideal S128x8x2048 .f32)
    (a4 : FVec Ideal S1x8192x2048 .f32) (a5 : FVec Ideal S128x8x2048 .f32) (a6 : FVec Ideal S1x8192x2048 .f32) (a7 : FVec Ideal S128x8x2048 .f32)
    (a8 : FVec Ideal S1x8192x2048 .f32) (a9 : FVec Ideal S128x8x2048 .f32) (a10 : FVec Ideal S1x8192x13248 .f32) (a11 : FVec Ideal S128x8x13248 .f32)
    (a12 a13 : FVec Ideal S1x2048 .f32) (a14 : FVec Ideal S1x2048x2048 .f32) (a15 a16 : FVec Ideal S1x2048 .f32) (R : Fin 9216) (j : Fin 2048) :
    (rowsOut a0 a1 a2 a3 a4 a5 a6 a7 a8 a9 a10 a11 a12 a13 a14 a15 a16 (ix2 R j) : EReal)
      = merged a0 a1 a2 a3 a4 a5 a6 a7 a8 a9 a10 a11 a12 a13 a14 a15 a16 R j := by
  unfold rowsOut merged rowOut
  rw [lnorm_at]
  refine congrArg (fun z => layerNorm z (fun k => a15 (ix2 0 k)) (fun k => a16 (ix2 0 k)) j) (funext fun l => ?_)
  rw [resid_at, join_at]
  unfold Merge.residual
  refine congrArg (fun z => scale * bothRows a8 a9 R l + z) (Finset.sum_congr rfl fun k _ => ?_)
  rw [mixed_at, normed_at, gates_at, gates_at, joinProj_at, joinProj_at, join_at, join_at, join_at]
  have hy : columns (joinHeads a0 a1) R = bothHeads a0 a1 R := funext fun k => joinHeads_at a0 a1 R k
  have h2 : (⟨9152 + (2048 + k.val), lt_gates ⟨2048 + k.val, lt_hi k⟩⟩ : Fin 13248) = ⟨11200 + k.val, lt_second k⟩ := Fin.ext (by dsimp only; omega)
  rw [hy]
  unfold recur
  exact congrArg (fun q => (_ + squash (bothRows a10 a11 R q) * _) * a14 (ix3 0 k l)) h2

theorem res_h : Value.res_main_v89 m c = rowsOut (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))
    (m ((c.tc : Thread nD τ).loc main_arg11)) (m ((c.tc : Thread nD τ).loc main_arg12)) (m ((c.tc : Thread nD τ).loc main_arg13))
    (m ((c.tc : Thread nD τ).loc main_arg14)) (m ((c.tc : Thread nD τ).loc main_arg15)) (m ((c.tc : Thread nD τ).loc main_arg16)) := rfl

/-- Rows turned into columns. -/
def flipped (h : FVec Ideal S9216x2048 .f32) : FVec Ideal S2048x9216 .bf16 :=
  truncf .bf16 (transpose S2048x9216 [1, 0] h transposes_S9216x2048_S2048x9216_1_0) bitsLt_bf16_f32

theorem flipped_at (h : FVec Ideal S9216x2048 .f32) (j : Fin 2048) (R : Fin 9216) : (flipped h (ix2 j R) : EReal) = h (ix2 R j) := by
  pointwise [flipped]

theorem res_ht : Value.res_main_v91 m c = flipped (Value.res_main_v89 m c) := rfl

end

end Cert.OutProjRefIdeal.Steps
-- ==== Proof.OutProjClaim.lean ====
module

public import proofs.«01_k».proof.Defs
public import proofs.«01_k».proof.Proof.Gen.OutProjIdeal.Value
public import proofs.«01_k».proof.Proof.OutProjFinal
public import proofs.«01_k».proof.Proof.OutProjRef
public import proofs.«01_k».proof.Proof.PromptClaim
public import Idealize.ShloMosaic.Lib.Claim

/-! The merging call and its reference end with the same arrays where the heads are real numbers. -/

@[expose] public section

set_option maxRecDepth 16384

noncomputable section

open Idealize.ShloMosaic Idealize.ShloMosaic.TcCoe Idealize.SL.Sem

namespace Cert.Proof.OutProj

/-- The shape relations the precondition's operations take. -/
theorem finite_facts : Cert.Pre_finite_heads.Facts where
  bcast_S_S1x8192x32x64 := by decide
  bcast_S_S128x8x32x64 := by decide

section
variable [Cert.Pre_finite_heads.Facts]
open Cert.Pre_finite_heads

/-- Under the precondition the prompt's and the sample's heads are real numbers. -/
theorem real_of_pre (a0 : FVec Ideal S1x8192x32x64 .f32) (a1 : FVec Ideal S128x8x32x64 .f32) (a2 : FVec Ideal S1x8192x2048 .f32) (a3 : FVec Ideal S128x8x2048 .f32) (a4 : FVec Ideal S1x8192x2048 .f32) (a5 : FVec Ideal S128x8x2048 .f32) (a6 : FVec Ideal S1x8192x2048 .f32) (a7 : FVec Ideal S128x8x2048 .f32) (a8 : FVec Ideal S1x8192x2048 .f32) (a9 : FVec Ideal S128x8x2048 .f32) (a10 : FVec Ideal S1x8192x13248 .f32) (a11 : FVec Ideal S128x8x13248 .f32) (a12 : FVec Ideal S1x2048 .f32) (a13 : FVec Ideal S1x2048 .f32) (a14 : FVec Ideal S1x2048x2048 .f32) (a15 : FVec Ideal S1x2048 .f32) (a16 : FVec Ideal S1x2048 .f32)
    (h : (fn (F := Ideal) a0 a1 a2 a3 a4 a5 a6 a7 a8 a9 a10 a11 a12 a13 a14 a15 a16).1 = fun _ => 1#1) (h' : (fn (F := Ideal) a0 a1 a2 a3 a4 a5 a6 a7 a8 a9 a10 a11 a12 a13 a14 a15 a16).2 = fun _ => 1#1) (R : Fin 9216) (k : Fin 2048) :
    SinkSoftmax.IsReal (Merge.bothHeads a0 a1 R k) := by
  unfold Merge.bothHeads Cert.InProjIdeal.Gen.rows
  by_cases hR : R.val < 8192
  · rw [dif_pos hR]
    exact SinkSoftmax.isReal_of_abs _ (congrFun h _)
  · rw [dif_neg hR]
    exact SinkSoftmax.isReal_of_abs _ (congrFun h' _)

end

/-- From arguments that agree, the reference's rows are the merged rows. -/
theorem equal_h (m : (ℓ : Loc Cert.OutProjIdeal.nD Cert.OutProjIdeal.τ Cert.OutProjIdeal.sig) → Buf (Elt Ideal) ℓ) (c : Dev Cert.OutProjIdeal.nD)
    (m' : (ℓ : Loc Cert.OutProjRefIdeal.nD Cert.OutProjRefIdeal.τ Cert.OutProjRefIdeal.sig) → Buf (Elt Ideal) ℓ)
    (ha : m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)
      ∧ m' ((c.tc : Thread Cert.OutProjRefIdeal.nD Cert.OutProjRefIdeal.τ).loc Cert.OutProjRefIdeal.main_arg8) = m ((c.tc : Thread Cert.OutProjIdeal.nD Cert.OutProjIdeal.τ).loc Cert.OutProjIdeal.main_arg8)
      ∧ m' ((c.tc : Thread Cert.OutProjRefIdeal.nD Cert.OutProjRefIdeal.τ).loc Cert.OutProjRefIdeal.main_arg9) = m ((c.tc : Thread Cert.OutProjIdeal.nD Cert.OutProjIdeal.τ).loc Cert.OutProjIdeal.main_arg9)
      ∧ m' ((c.tc : Thread Cert.OutProjRefIdeal.nD Cert.OutProjRefIdeal.τ).loc Cert.OutProjRefIdeal.main_arg10) = m ((c.tc : Thread Cert.OutProjIdeal.nD Cert.OutProjIdeal.τ).loc Cert.OutProjIdeal.main_arg10)
      ∧ m' ((c.tc : Thread Cert.OutProjRefIdeal.nD Cert.OutProjRefIdeal.τ).loc Cert.OutProjRefIdeal.main_arg11) = m ((c.tc : Thread Cert.OutProjIdeal.nD Cert.OutProjIdeal.τ).loc Cert.OutProjIdeal.main_arg11)
      ∧ m' ((c.tc : Thread Cert.OutProjRefIdeal.nD Cert.OutProjRefIdeal.τ).loc Cert.OutProjRefIdeal.main_arg12) = m ((c.tc : Thread Cert.OutProjIdeal.nD Cert.OutProjIdeal.τ).loc Cert.OutProjIdeal.main_arg12)
      ∧ m' ((c.tc : Thread Cert.OutProjRefIdeal.nD Cert.OutProjRefIdeal.τ).loc Cert.OutProjRefIdeal.main_arg13) = m ((c.tc : Thread Cert.OutProjIdeal.nD Cert.OutProjIdeal.τ).loc Cert.OutProjIdeal.main_arg13)
      ∧ m' ((c.tc : Thread Cert.OutProjRefIdeal.nD Cert.OutProjRefIdeal.τ).loc Cert.OutProjRefIdeal.main_arg14) = m ((c.tc : Thread Cert.OutProjIdeal.nD Cert.OutProjIdeal.τ).loc Cert.OutProjIdeal.main_arg14)
      ∧ m' ((c.tc : Thread Cert.OutProjRefIdeal.nD Cert.OutProjRefIdeal.τ).loc Cert.OutProjRefIdeal.main_arg15) = m ((c.tc : Thread Cert.OutProjIdeal.nD Cert.OutProjIdeal.τ).loc Cert.OutProjIdeal.main_arg15)
      ∧ m' ((c.tc : Thread Cert.OutProjRefIdeal.nD Cert.OutProjRefIdeal.τ).loc Cert.OutProjRefIdeal.main_arg16) = m ((c.tc : Thread Cert.OutProjIdeal.nD Cert.OutProjIdeal.τ).loc Cert.OutProjIdeal.main_arg16))
    (R : Fin 9216) (j : Fin 2048) :
    (Cert.OutProjRefIdeal.Value.res_main_v89 m' c (ix2 R j) : EReal) = Cert.OutProjIdeal.Gen.mergedAt m c R j := by
  rw [Cert.OutProjRefIdeal.Steps.res_h, ha.1, ha.2.1, ha.2.2.1, ha.2.2.2.1, ha.2.2.2.2.1, ha.2.2.2.2.2.1, ha.2.2.2.2.2.2.1, ha.2.2.2.2.2.2.2.1, ha.2.2.2.2.2.2.2.2.1, ha.2.2.2.2.2.2.2.2.2.1, ha.2.2.2.2.2.2.2.2.2.2.1, ha.2.2.2.2.2.2.2.2.2.2.2.1, ha.2.2.2.2.2.2.2.2.2.2.2.2.1, ha.2.2.2.2.2.2.2.2.2.2.2.2.2.1, ha.2.2.2.2.2.2.2.2.2.2.2.2.2.2.1, ha.2.2.2.2.2.2.2.2.2.2.2.2.2.2.2.1, ha.2.2.2.2.2.2.2.2.2.2.2.2.2.2.2.2]
  exact Cert.OutProjRefIdeal.Steps.rowsOut_at _ _ _ _ _ _ _ _ _ _ _ _ _ _ _ _ _ R j

/-- The call and the reference end with the same arrays. -/
theorem algebraic [Cert.Pre_finite_heads.Facts] : Cert.algebraic_OutProjIdeal_OutProjRefIdeal_pre_finite_heads := by
  pair_intro
  · run_from (Cert.OutProjIdeal.Value.run_blocks m g)
  · run_from (Cert.OutProjRefIdeal.Value.run m' g')
    · have hr : Cert.OutProjIdeal.Gen.RealHeads m c := fun R k => real_of_pre _ _ _ _ _ _ _ _ _ _ _ _ _ _ _ _ _ (hpre c).1 (hpre c).2 R k
      rw [Cert.OutProjIdeal.Gen.final_h m c hr]
      funext i
      idx_vars i
      exact equal_h m c m' (hagree c) _ _
    · have hr : Cert.OutProjIdeal.Gen.RealHeads m c := fun R k => real_of_pre _ _ _ _ _ _ _ _ _ _ _ _ _ _ _ _ _ (hpre c).1 (hpre c).2 R k
      rw [Cert.OutProjIdeal.Gen.final_ht m c hr, Cert.OutProjRefIdeal.Steps.res_ht]
      funext i
      idx_vars i
      exact (Cert.OutProjRefIdeal.Steps.flipped_at _ _ _).trans (equal_h m c m' (hagree c) _ _)

end Cert.Proof.OutProj

end
-- ==== Proof.NormRun.lean ====
module

public import proofs.«01_k».proof.Proof.Gen.FinalNormIdeal.Frame
public import proofs.«01_k».proof.Proof.Gen.FinalNormIdeal.Skeleton
public import Idealize.ShloMosaic.Lib.Pipeline.TableIdle
public import Idealize.ShloMosaic.Lib.Claim

/-!
The run of the last layer norm's call. Its first sixteen grid points store into the prompt's window, the last two into
the sample's. The last block of the prompt's rows is stored at point 15 and written back at point 17: in between the
body leaves it alone.
-/

@[expose] public section

set_option maxRecDepth 16384

noncomputable section

namespace Cert.FinalNormIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at a point of the prompt: it stores into the fifth buffer and leaves the sixth. -/
def runPrompt (c : Dev nD) (i : grid0.Coords) (h1 : k0_cond1 i = 1#1) (h2 : ¬ k0_cond2 i = 1#1)
    (arg1 : Memref sig .tc .vmem S512x2048 .f32) (harg1 : arg1.IsWhole) (arg2 : Memref sig .tc .vmem S512x2048 .f32) (harg2 : arg2.IsWhole)
    (arg3 : Memref sig .tc .vmem S1x2048 .f32) (harg3 : arg3.IsWhole) (arg4 : Memref sig .tc .vmem S1x2048 .f32) (harg4 : arg4.IsWhole)
    (arg5 : Memref sig .tc .vmem S512x2048 .f32) (harg5 : arg5.IsWhole) (arg6 : Memref sig .tc .vmem S512x2048 .f32) (harg6 : arg6.IsWhole)
    (x0 x1 : Vec F S512x2048 .f32) (x2 x3 : Vec F S1x2048 .f32) :
    { L : List (View.Piece (Elt F) S512x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2
              ∗ owns (c : Thread nD τ) arg4 fullShare x3
              ∗ (∃ f, arg5.view.loc (c : Thread nD τ) ↦[arg5.view.set]{fullShare} arg5.view.writes (Elt F) f L)) -∗ K ⟨⟩))
          ⊢ wp frame (wpE (defs₀ (F := F)) Variants.none c none) E (cc0_final_ln i arg1 harg1 arg2 harg2 arg3 harg3 arg4 harg4 arg5 harg5 arg6 harg6) K } := by
  refine ⟨?_, fun E K => ?run⟩
  case run =>
    simp only [cc0_final_ln_eq_skeleton]; unfold cc0_final_ln_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

/-- The body at a point of the sample: it stores into the sixth buffer and leaves the fifth. -/
def runSample (c : Dev nD) (i : grid0.Coords) (h1 : ¬ k0_cond1 i = 1#1) (h2 : k0_cond2 i = 1#1)
    (arg1 : Memref sig .tc .vmem S512x2048 .f32) (harg1 : arg1.IsWhole) (arg2 : Memref sig .tc .vmem S512x2048 .f32) (harg2 : arg2.IsWhole)
    (arg3 : Memref sig .tc .vmem S1x2048 .f32) (harg3 : arg3.IsWhole) (arg4 : Memref sig .tc .vmem S1x2048 .f32) (harg4 : arg4.IsWhole)
    (arg5 : Memref sig .tc .vmem S512x2048 .f32) (harg5 : arg5.IsWhole) (arg6 : Memref sig .tc .vmem S512x2048 .f32) (harg6 : arg6.IsWhole)
    (x0 x1 : Vec F S512x2048 .f32) (x2 x3 : Vec F S1x2048 .f32) :
    { L : List (View.Piece (Elt F) S512x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ (∃ d, owns (c : Thread nD τ) arg6 fullShare d)
            ∗ (iprop(owns (c : Thread nD τ) arg1 fullShare x0 ∗ owns (c : Thread nD τ) arg2 fullShare x1 ∗ owns (c : Thread nD τ) arg3 fullShare x2
              ∗ owns (c : Thread nD τ) arg4 fullShare x3
              ∗ (∃ f, arg6.view.loc (c : Thread nD τ) ↦[arg6.view.set]{fullShare} arg6.view.writes (Elt F) f L)) -∗ K ⟨⟩))
          ⊢ wp frame (wpE (defs₀ (F := F)) Variants.none c none) E (cc0_final_ln i arg1 harg1 arg2 harg2 arg3 harg3 arg4 harg4 arg5 harg5 arg6 harg6) K } := by
  refine ⟨?_, fun E K => ?run⟩
  case run =>
    simp only [cc0_final_ln_eq_skeleton]; unfold cc0_final_ln_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

/-! ## The grid's points -/

theorem prompt_points : ∀ t : Fin cfg0.N, t.val < 16 → k0_cond1 (grid0.coords t) = 1#1 ∧ ¬ k0_cond2 (grid0.coords t) = 1#1 :=
  (by decide +kernel : ∀ t : Fin grid0.N, _)
theorem sample_points : ∀ t : Fin cfg0.N, ¬ t.val < 16 → ¬ k0_cond1 (grid0.coords t) = 1#1 ∧ k0_cond2 (grid0.coords t) = 1#1 :=
  (by decide +kernel : ∀ t : Fin grid0.N, _)
theorem idle_4 : ∀ t : Fin cfg0.N, cfg0.idle 4 (cfg0.grid.coords t) = !decide (t.val < 16) :=
  (by decide +kernel : ∀ t : Fin grid0.N, _)
theorem idle_5 : ∀ t : Fin cfg0.N, cfg0.idle 5 (cfg0.grid.coords t) = decide (t.val < 16) :=
  (by decide +kernel : ∀ t : Fin grid0.N, _)
theorem flush_4 : ∀ t : Fin cfg0.N, (cfg0.win 4).flush t = (decide (t.val < 15) || decide (t.val = 17)) :=
  (by decide +kernel : ∀ t : Fin grid0.N, _)
theorem flush_5 : ∀ t : Fin cfg0.N, (cfg0.win 5).flush t = decide (16 ≤ t.val) :=
  (by decide +kernel : ∀ t : Fin grid0.N, _)

/-- Each window's staging buffer at a point. -/
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x2048 .f32 := win0_5.stage (cfg0.slots t 5)
abbrev hs0_5 (t : Fin cfg0.N) : (ms0_5 t).IsWhole := hstage0_5 ((cfg0.slots t 5).cast nbuf0_5)

/-- A whole buffer to read a block's contents back from. -/
abbrev outBuf : View sig .tc .vmem S512x2048 .f32 := (Memref.whole cc0_stg4_0 : Memref sig .tc .vmem S512x2048 .f32).view

/-- The point whose rows the prompt's buffer holds after point `t`: `t` itself, or the last of the prompt's. -/
def held (t : Fin cfg0.N) : Fin cfg0.N := ⟨min t.val 15, Nat.lt_of_le_of_lt (Nat.min_le_left _ _) t.isLt⟩

theorem held_lt (t : Fin cfg0.N) : (held t).val < 16 := by unfold held; dsimp only; omega

/-- The pieces the body stores into the prompt's buffer at a point of the prompt. -/
def promptPieces (c : Dev nD) (t : Fin cfg0.N) (h : t.val < 16) : List (View.Piece (Elt F) S512x2048 .f32) :=
  (runPrompt c (grid0.coords t) (prompt_points t h).1 (prompt_points t h).2 (ms0_0 t) (hs0_0 t) (ms0_1 t) (hs0_1 t) (ms0_2 t) (hs0_2 t)
    (ms0_3 t) (hs0_3 t) (ms0_4 t) (hs0_4 t) (ms0_5 t) (hs0_5 t) (iblk m c 0 t) (iblk m c 1 t) (iblk m c 2 t) (iblk m c 3 t)).1

/-- The pieces the body stores into the sample's buffer at a point of the sample. -/
def samplePieces (c : Dev nD) (t : Fin cfg0.N) (h : ¬ t.val < 16) : List (View.Piece (Elt F) S512x2048 .f32) :=
  (runSample c (grid0.coords t) (sample_points t h).1 (sample_points t h).2 (ms0_0 t) (hs0_0 t) (ms0_1 t) (hs0_1 t) (ms0_2 t) (hs0_2 t)
    (ms0_3 t) (hs0_3 t) (ms0_4 t) (hs0_4 t) (ms0_5 t) (hs0_5 t) (iblk m c 0 t) (iblk m c 1 t) (iblk m c 2 t) (iblk m c 3 t)).1

theorem promptPieces_cover (c : Dev nD) (t : Fin cfg0.N) (h : t.val < 16) (y : S512x2048.Idx) : ∃ pc ∈ promptPieces m c t h, y ∈ pc.1.set :=
  View.cover_of_tiledL (promptPieces m c t h) S512x2048.size (by sl_kernel_rfl) y

theorem samplePieces_cover (c : Dev nD) (t : Fin cfg0.N) (h : ¬ t.val < 16) (y : S512x2048.Idx) : ∃ pc ∈ samplePieces m c t h, y ∈ pc.1.set :=
  View.cover_of_tiledL (samplePieces m c t h) S512x2048.size (by sl_kernel_rfl) y

/-- What the prompt's buffer holds after point `t`. -/
def promptOut (c : Dev nD) (t : Fin cfg0.N) : Vec F S512x2048 .f32 :=
  outBuf.read (Elt F) (outBuf.writes (Elt F) outBuf.junk (promptPieces m c (held t) (held_lt t)))

/-- What the sample's buffer holds after point `t`, once a point of the sample has stored into it. -/
def sampleOut (c : Dev nD) (t : Fin cfg0.N) : Vec F S512x2048 .f32 :=
  if h : t.val < 16 then outBuf.read (Elt F) outBuf.junk
  else outBuf.read (Elt F) (outBuf.writes (Elt F) outBuf.junk (samplePieces m c t h))

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => promptOut m c t
    | ⟨5, _⟩ => sampleOut m c t
    | ⟨_ + 6, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = promptOut m c t := by dsimp only [dats]
theorem after0_5 (c : Dev nD) (t : Fin cfg0.N) : (dats m 0 c).after 5 t = sampleOut m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The prompt's last rows, stored at point 15, are still in their buffer at point 17. -/
theorem before0_4_last (c : Dev nD) (t : Fin cfg0.N) (ht : t.val = 17) (d) : (dats m 0 c).before 4 t d = promptOut m c t := by
  have hN : cfg0.N = 18 := N_0
  have hfetch : ∀ t, (cfg0.win 4).fetch t = false := fun t => (cfg0.win 4).fetch_out rfl t
  have e16 : t.val - 1 = 16 := by omega
  rw [(dats m 0 c).before_idle_run 4 hfetch d 1 t (by omega) (fun j h₁ h₂ => by
    have hj : j.val = 16 := by omega
    rw [idle_4, flush_4]
    simp [hj])]
  rw [(dats m 0 c).before_of_pos 4 _ (by dsimp only; omega) (hfetch _) d, flush_4]
  have e15 : t.val - 1 - 1 = 15 := by omega
  rw [if_neg (by simp [e15])]
  unfold Dat.left
  rw [idle_4]
  simp only [e15]
  show (dats m 0 c).kept 4 _ d = _
  have hl : t.val - 1 - 1 < cfg0.N := by omega
  have hh : held ⟨t.val - 1 - 1, hl⟩ = held t := Fin.ext (by unfold held; dsimp only; omega)
  have e : (dats m 0 c).after 4 ⟨t.val - 1 - 1, hl⟩ = promptOut m c t := by
    rw [after0_4]; unfold promptOut; simp only [hh]
  unfold Dat.kept
  simp only [e15] at e
  rw [e]
  rfl

/-! ## The body at every point -/

/-- The buffers the body is handed at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- The buffers it hands back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (dats m 0 c).leavesExact 4 t
    ∗ (dats m 0 c).leavesExact 5 t)

theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

theorem leaves_flushed (c : Dev nD) (w : Fin cfg0.W) (t : Fin cfg0.N) (hf : (cfg0.win w).flush t = true) :
    (dats m 0 c).leavesExact w t = owns (c : Thread nD τ) ((cfg0.win w).stage (cfg0.slots t w)) fullShare ((dats m 0 c).after w t) := by
  unfold Dat.leavesExact; cases cfg0.idle w (cfg0.grid.coords t) <;> simp only [hf]

theorem sound_prompt (c : Dev nD) (t : Fin cfg0.N) (h : t.val < 16) :
    bodyPre m c t ⊢ wp frame (wpE (defs₀ (F := F)) Variants.none c none) Set.univ (bodyAt0 t) (fun _ => bodyPost m c t) := by
  have hh : held t = t := Fin.ext (by unfold held; dsimp only; omega)
  have e4 : promptOut m c t = outBuf.read (Elt F) (outBuf.writes (Elt F) outBuf.junk (promptPieces m c t h)) := by
    unfold promptOut; simp only [hh]
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    leaves_live m c 4 t (by rw [idle_4]; simp [h]), (dats m 0 c).leavesExact_idle 5 t (by rw [idle_5]; simp [h]) (by rw [flush_5]; simp; omega),
    after0_0, after0_1, after0_2, after0_3, after0_4, e4]
  iintro ⟨HΦ, Ho, ⟨%d0, H0⟩, ⟨%d1, H1⟩, ⟨%d2, H2⟩, ⟨%d3, H3⟩, ⟨%d4, H4⟩, ⟨%d5, H5⟩⟩
  iapply ((runPrompt c (grid0.coords t) (prompt_points t h).1 (prompt_points t h).2 (ms0_0 t) (hs0_0 t) (ms0_1 t) (hs0_1 t) (ms0_2 t) (hs0_2 t)
    (ms0_3 t) (hs0_3 t) (ms0_4 t) (hs0_4 t) (ms0_5 t) (hs0_5 t) (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (promptPieces_cover m c t h)
  iexists d5; iexact H5

theorem sound_sample (c : Dev nD) (t : Fin cfg0.N) (h : ¬ t.val < 16) :
    bodyPre m c t ⊢ wp frame (wpE (defs₀ (F := F)) Variants.none c none) Set.univ (bodyAt0 t) (fun _ => bodyPost m c t) := by
  have h18 : t.val < 18 := t.isLt
  have e5 : sampleOut m c t = outBuf.read (Elt F) (outBuf.writes (Elt F) outBuf.junk (samplePieces m c t h)) := by
    unfold sampleOut; rw [dif_neg h]
  have back : (iprop(∃ d, owns (c : Thread nD τ) (ms0_4 t) fullShare ((dats m 0 c).before 4 t d)) : sProp 𝕄) ⊢ (dats m 0 c).leavesExact 4 t := by
    by_cases h17 : t.val = 17
    · rw [leaves_flushed m c 4 t (by rw [flush_4]; simp [h17]), after0_4]
      simp only [before0_4_last m c t h17]
      iintro ⟨%d, H⟩; iexact H
    · rw [(dats m 0 c).leavesExact_idle 4 t (by rw [idle_4]; simp [h]) (by rw [flush_4]; simp; omega)]
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    leaves_live m c 5 t (by rw [idle_5]; simp [h]),
    after0_0, after0_1, after0_2, after0_3, after0_5, e5]
  iintro ⟨HΦ, Ho, ⟨%d0, H0⟩, ⟨%d1, H1⟩, ⟨%d2, H2⟩, ⟨%d3, H3⟩, H4, ⟨%d5, H5⟩⟩
  iapply ((runSample c (grid0.coords t) (sample_points t h).1 (sample_points t h).2 (ms0_0 t) (hs0_0 t) (ms0_1 t) (hs0_1 t) (ms0_2 t) (hs0_2 t)
    (ms0_3 t) (hs0_3 t) (ms0_4 t) (hs0_4 t) (ms0_5 t) (hs0_5 t) (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H5]; · iexists _; iexact H5
  iintro ⟨H0, H1, H2, H3, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · iapply back; iexact H4
  unfold owns; iexists _; isplitr
  swap; · iexact H5
  ipureintro; exact View.read_writes_of_cover _ _ _ _ _ (samplePieces_cover m c t h)

theorem sound_body (c : Dev nD) (t : Fin cfg0.N) :
    bodyPre m c t ⊢ wp frame (wpE (defs₀ (F := F)) Variants.none c none) Set.univ (bodyAt0 t) (fun _ => bodyPost m c t) :=
  if h : t.val < 16 then sound_prompt m c t h else sound_sample m c t h

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every run ends, with every array at what the proof data say and no signal left over. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c w => by unfold Dat.share; dsimp only [dats]; split <;> rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged, and no signal is left over. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.FinalNormIdeal.Gen

end
-- ==== Proof.NormFrame.lean ====
module

public import proofs.«01_k».proof.Defs
public import proofs.«01_k».proof.Proof.NormRun
public import proofs.«01_k».proof.Proof.Gen.FinalNorm

/-! The last layer norm's call as the kernel has it: its text is that of its reading over the reals, so the one run is the other. -/

@[expose] public section

set_option maxRecDepth 16384

noncomputable section

open Idealize.ShloMosaic Idealize.ShloMosaic.TcCoe Idealize.SL.Sem

namespace Cert.Proof.FinalNorm

/-- The two kernels' functions have one text. -/
theorem kernel (i) (a1 h1 a2 h2 a3 h3 a4 h4 a5 h5 a6 h6) :
    Cert.FinalNorm.cc0_final_ln (F := Bits) i a1 h1 a2 h2 a3 h3 a4 h4 a5 h5 a6 h6 = Cert.FinalNormIdeal.cc0_final_ln (F := Bits) i a1 h1 a2 h2 a3 h3 a4 h4 a5 h5 a6 h6 := rfl

/-- Each runs it on the same buffers. -/
theorem kernels (a) : Cert.FinalNorm.defs₀ (F := Bits) .tc 0 a = Cert.FinalNormIdeal.defs₀ (F := Bits) .tc 0 a := by
  obtain ⟨t, s⟩ := a
  exact kernel (Cert.FinalNorm.grid0.coords t) _ (Cert.FinalNorm.Facts₀.hstage0_0 ((s 0).cast Cert.FinalNorm.Facts₀.nbuf0_0)) _ (Cert.FinalNorm.Facts₀.hstage0_1 ((s 1).cast Cert.FinalNorm.Facts₀.nbuf0_1))
    _ (Cert.FinalNorm.Facts₀.hstage0_2 ((s 2).cast Cert.FinalNorm.Facts₀.nbuf0_2)) _ (Cert.FinalNorm.Facts₀.hstage0_3 ((s 3).cast Cert.FinalNorm.Facts₀.nbuf0_3))
    _ (Cert.FinalNorm.Facts₀.hstage0_4 ((s 4).cast Cert.FinalNorm.Facts₀.nbuf0_4)) _ (Cert.FinalNorm.Facts₀.hstage0_5 ((s 5).cast Cert.FinalNorm.Facts₀.nbuf0_5))

/-- So the two tables of kernels are one. -/
theorem bodies : Cert.FinalNorm.defs₀ (F := Bits) = Cert.FinalNormIdeal.defs₀ (F := Bits) := by
  funext k
  match k with
  | .tc =>
    funext l a
    match l, a with
    | 0, a => exact kernels a
    | ⟨_ + 1, h⟩, _ => exact absurd h (Nat.not_lt.2 (Nat.le_add_left _ _))
  | .scScalar _ => rfl
  | .scVector _ _ => rfl

/-- And so are the tables the programs run by. -/
theorem tables : Cert.FinalNorm.defs (F := Bits) = Cert.FinalNormIdeal.defs (F := Bits) :=
  congrArg (Pipeline.defs (Cert.FinalNormIdeal.pcfgs (F := Bits))) bodies

/-- The call as the kernel has it runs, keeps its arguments and leaves no signal over. -/
theorem frame : Cert.quiescent_FinalNorm := fun m g _ => by
  rw [tables]
  exact Cert.FinalNormIdeal.Gen.frame (F := Bits) m g

end Cert.Proof.FinalNorm

end
-- ==== Proof.NormValue.lean ====
module

public import proofs.«01_k».proof.Proof.NormRun
public import proofs.«01_k».proof.Proof.MergeRow
public import Idealize.ShloMosaic.Lib.Pointwise
public import Idealize.ShloMosaic.Lib.Pipeline.ValueKit

/-! The arrays the last layer norm's call leaves: the layer norm of the scaled rows plus the other rows, the prompt's and the sample's. -/

@[expose] public section

set_option maxRecDepth 16384

noncomputable section

open Idealize.ShloMosaic Idealize.ShloMosaic.TcCoe Idealize.SL.Sem
open Idealize.ShloMosaic.Pipeline (Dat)

namespace Cert.FinalNormIdeal.Gen
open Cert.Merge

/-- Element `(R, j)` of the last layer norm: of a row of `h`, scaled, plus a row of `p`. -/
def lastNorm (h p : FVec Ideal S9216x2048 .f32) (lg lb : FVec Ideal S1x2048 .f32) (R : Fin 9216) (j : Fin 2048) : EReal :=
  layerNorm (fun k => scale * h (ix2 R k) + p (ix2 R k)) (fun k => lg (ix2 0 k)) (fun k => lb (ix2 0 k)) j

/-- What a grid point stores, from the blocks it has loaded. -/
theorem row_at (h p : FVec Ideal S512x2048 .f32) (lg lb : FVec Ideal S1x2048 .f32) (r : Fin 512) (j : Fin 2048) :
    (k0_pay1 (F := Ideal) h p lg lb (ix2 r j) : EReal)
      = layerNorm (fun k => scale * h (ix2 r k) + p (ix2 r k)) (fun k => lg (ix2 0 k)) (fun k => lb (ix2 0 k)) j := by
  pointwise [k0_pay1]
  rfl

/-- Which block of its array each window holds at a grid point. -/
theorem idx : ∀ t : Fin cfg0.N, win0_0.index t = ![t.val, 0] ∧ win0_1.index t = ![t.val, 0] ∧ win0_2.index t = ![0, 0] ∧ win0_3.index t = ![0, 0]
    ∧ win0_4.index t = ![min t.val 15, 0] ∧ win0_5.index t = ![t.val - 16, 0] :=
  (by decide +kernel : ∀ t : Fin grid0.N, _)

theorem lt_row (t : Fin cfg0.N) (r : Fin 512) : 512 * t.val + r.val < 9216 := by
  have h : t.val < 18 := t.isLt
  omega

/-- The row of the joint rows that is row `r` of point `t`. -/
def rowAt (t : Fin cfg0.N) (r : Fin 512) : Fin 9216 := ⟨512 * t.val + r.val, lt_row t r⟩

variable (m : (ℓ : Loc nD τ sig) → Buf (Elt Ideal) ℓ)

theorem block_0 (c : Dev nD) (t : Fin cfg0.N) (r : Fin 512) (k : Fin 2048) :
    (iblk m c 0 t (ix2 r k) : EReal) = (m ((c : Thread nD τ).loc main_arg0) : FVec Ideal S9216x2048 .f32) (ix2 (rowAt t r) k) := by
  unfold rowAt
  blk_ext [iblk, idx t]

theorem block_1 (c : Dev nD) (t : Fin cfg0.N) (r : Fin 512) (k : Fin 2048) :
    (iblk m c 1 t (ix2 r k) : EReal) = (m ((c : Thread nD τ).loc main_arg1) : FVec Ideal S9216x2048 .f32) (ix2 (rowAt t r) k) := by
  unfold rowAt
  blk_ext [iblk, idx t]

theorem block_2 (c : Dev nD) (t : Fin cfg0.N) (k : Fin 2048) :
    (iblk m c 2 t (ix2 0 k) : EReal) = (m ((c : Thread nD τ).loc main_arg2) : FVec Ideal S1x2048 .f32) (ix2 0 k) := by
  blk_ext [iblk, idx t]

theorem block_3 (c : Dev nD) (t : Fin cfg0.N) (k : Fin 2048) :
    (iblk m c 3 t (ix2 0 k) : EReal) = (m ((c : Thread nD τ).loc main_arg3) : FVec Ideal S1x2048 .f32) (ix2 0 k) := by
  blk_ext [iblk, idx t]

/-- Element `(R, j)` of the last layer norm of the program's arguments. -/
def normAt (c : Dev nD) (R : Fin 9216) (j : Fin 2048) : EReal :=
  lastNorm (m ((c : Thread nD τ).loc main_arg0)) (m ((c : Thread nD τ).loc main_arg1)) (m ((c : Thread nD τ).loc main_arg2)) (m ((c : Thread nD τ).loc main_arg3)) R j

/-- What a grid point computes, element by element. -/
theorem computed (c : Dev nD) (t : Fin cfg0.N) (r : Fin 512) (j : Fin 2048) :
    (k0_pay1 (F := Ideal) (iblk m c 0 t) (iblk m c 1 t) (iblk m c 2 t) (iblk m c 3 t) (ix2 r j) : EReal) = normAt m c (rowAt t r) j := by
  unfold normAt lastNorm
  refine (row_at (iblk m c 0 t) (iblk m c 1 t) (iblk m c 2 t) (iblk m c 3 t) r j).trans ?_
  simp only [block_0, block_1, block_2, block_3]

/-- The rows in the prompt's buffer after a grid point. -/
theorem point_prompt (c : Dev nD) (t : Fin cfg0.N) (y : S512x2048.Idx) : (promptOut m c t y : EReal) = normAt m c (rowAt (held t) (y 0)) (y 1) := by
  obtain ⟨r, j, rfl⟩ : ∃ (r : Fin 512) (j : Fin 2048), y = ix2 r j := ⟨y 0, y 1, eq_ix2 y⟩
  refine Eq.trans ?_ (computed m c (held t) r j)
  unfold promptOut promptPieces runPrompt
  frame_out

/-- The rows in the sample's buffer after a grid point of the sample. -/
theorem point_sample (c : Dev nD) (t : Fin cfg0.N) (h : ¬ t.val < 16) (y : S512x2048.Idx) : (sampleOut m c t y : EReal) = normAt m c (rowAt t (y 0)) (y 1) := by
  obtain ⟨r, j, rfl⟩ : ∃ (r : Fin 512) (j : Fin 2048), y = ix2 r j := ⟨y 0, y 1, eq_ix2 y⟩
  refine Eq.trans ?_ (computed m c t r j)
  unfold sampleOut
  rw [dif_neg h]
  unfold samplePieces runSample
  frame_out

theorem lt_prompt (R : Fin 8192) : R.val < 9216 := by omega
theorem lt_sample (R : Fin 1024) : 8192 + R.val < 9216 := by omega

/-- The prompt's rows after the run. -/
theorem final_prompt (c : Dev nD) : (dats m 0 c).arrAt 4 cfg0.N = fun i => normAt m c ⟨(i 0).val, lt_prompt (i 0)⟩ (i 1) := by
  refine (dats m 0 c).arrAt_eq_of_covers 4 _ (by decide +kernel) fun t hf y => ?_
  rw [after0_4]
  blk_simp [idx t]
  refine (point_prompt m c t y).trans ?_
  refine congrArg₂ (normAt m c) (Fin.ext ?_) (Fin.ext ?_)
  · exact congrArg (· + (y 0).val) (Nat.mul_comm 512 (min t.val 15))
  · blk_simp [idx t]

/-- The sample's rows after the run. -/
theorem final_sample (c : Dev nD) : (dats m 0 c).arrAt 5 cfg0.N = fun i => normAt m c ⟨8192 + (i 0).val, lt_sample (i 0)⟩ (i 1) := by
  refine (dats m 0 c).arrAt_eq_of_covers 5 _ (by decide +kernel) fun t hf y => ?_
  have h : ¬ t.val < 16 := by
    have e := flush_5 t
    rw [hf] at e
    have := of_decide_eq_true e.symm
    omega
  rw [after0_5]
  blk_simp [idx t]
  refine (point_sample m c t h y).trans ?_
  refine congrArg₂ (normAt m c) (Fin.ext ?_) (Fin.ext ?_)
  · show 512 * t.val + (y 0).val = 8192 + ((t.val - 16) * 512 + (y 0).val)
    generalize (y 0).val = v
    omega
  · blk_simp [idx t]

/-- The run, with its results named and its arguments kept. -/
theorem run_named (ρ : Dev nD → PrngReg) : θ_run defs (onTc (τ := τ) (main (F := Ideal))) ⟨m, fun _ => 0, ρ⟩ fun r => ∀ c : Dev nD,
      r.2.mem ((c : Thread nD τ).loc main_v0_0) = (dats m 0 c).arrAt 4 cfg0.N
      ∧ r.2.mem ((c : Thread nD τ).loc main_v0_1) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h.1 c).1 4, (h.1 c).1 5, h.2 c⟩)
    (θ_run_and (run_main m ρ) (frame_of m ρ (dats m) (A_eq m) (run_main m ρ)))

end Cert.FinalNormIdeal.Gen

end
-- ==== Proof.NormRef.lean ====
module

public import proofs.«01_k».proof.Proof.Gen.FinalNormRefIdeal.Run
public import proofs.«01_k».proof.Proof.NormValue
public import proofs.«01_k».proof.Proof.OutProjRef
public import Idealize.ShloMosaic.Lib.Pointwise

/-! The reference of the last layer norm, a step at a time, each step read at an index. -/

@[expose] public section

set_option maxRecDepth 16384

noncomputable section

open Idealize.ShloMosaic Idealize.ShloMosaic.TcCoe Idealize.SL.Sem

namespace Cert.FinalNormRefIdeal.Steps
open Cert.Merge
open Cert.FinalNormIdeal.Gen (lastNorm lt_prompt lt_sample)
open Cert.OutProjRefIdeal.Steps (lnorm lnorm_at)
open Cert.FinalNormRefIdeal Cert.FinalNormRefIdeal.Gen

/-- The rows the last layer norm is taken of. -/
def resid (h p : FVec Ideal S9216x2048 .f32) : FVec Ideal S9216x2048 .f32 :=
  addf (mulf (broadcastInDim S9216x2048 ![] bcast_S_S9216x2048 (constant S_ .f32 0x3F9837F0#32)) h) p

theorem resid_at (h p : FVec Ideal S9216x2048 .f32) (R : Fin 9216) (j : Fin 2048) :
    (resid h p (ix2 R j) : EReal) = scale * h (ix2 R j) + p (ix2 R j) := by
  pointwise [resid]

/-- The layer norm of the joint rows, read. -/
theorem rows_at (h p : FVec Ideal S9216x2048 .f32) (lg lb : FVec Ideal S1x2048 .f32) (R : Fin 9216) (j : Fin 2048) :
    (lnorm (resid h p) lg lb (ix2 R j) : EReal) = lastNorm h p lg lb R j := by
  rw [lnorm_at]
  unfold lastNorm
  simp only [resid_at]

/-- The prompt's rows. -/
def promptRows (h p : FVec Ideal S9216x2048 .f32) (lg lb : FVec Ideal S1x2048 .f32) : FVec Ideal S8192x2048 .f32 :=
  extractStridedSlice S8192x2048 ![0, 0] (lnorm (resid h p) lg lb) slices_S9216x2048_S8192x2048_0_0

/-- The sample's rows. -/
def sampleRows (h p : FVec Ideal S9216x2048 .f32) (lg lb : FVec Ideal S1x2048 .f32) : FVec Ideal S1024x2048 .f32 :=
  extractStridedSlice S1024x2048 ![8192, 0] (lnorm (resid h p) lg lb) slices_S9216x2048_S1024x2048_8192_0

theorem promptRows_at (h p : FVec Ideal S9216x2048 .f32) (lg lb : FVec Ideal S1x2048 .f32) (R : Fin 8192) (j : Fin 2048) :
    (promptRows h p lg lb (ix2 R j) : EReal) = lastNorm h p lg lb ⟨R.val, lt_prompt R⟩ j := by
  rw [← rows_at]
  unfold promptRows
  generalize lnorm (resid h p) lg lb = z
  pointwise []

theorem sampleRows_at (h p : FVec Ideal S9216x2048 .f32) (lg lb : FVec Ideal S1x2048 .f32) (R : Fin 1024) (j : Fin 2048) :
    (sampleRows h p lg lb (ix2 R j) : EReal) = lastNorm h p lg lb ⟨8192 + R.val, lt_sample R⟩ j := by
  rw [← rows_at]
  unfold sampleRows
  generalize lnorm (resid h p) lg lb = z
  pointwise []

/-- The reference's run, its results named. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29) = promptRows (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v30) = sampleRows (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Value.run (F := Ideal) m ρ

end Cert.FinalNormRefIdeal.Steps

end
-- ==== Proof.NormClaim.lean ====
module

public import proofs.«01_k».proof.Defs
public import proofs.«01_k».proof.Proof.NormRef
public import Idealize.ShloMosaic.Lib.Claim

/-! The last layer norm's call and its reference end with the same arrays. -/

@[expose] public section

set_option maxRecDepth 16384

noncomputable section

open Idealize.ShloMosaic Idealize.ShloMosaic.TcCoe Idealize.SL.Sem

namespace Cert.Proof.FinalNorm

/-- The call and the reference end with the same arrays. -/
theorem algebraic : Cert.algebraic_FinalNormIdeal_FinalNormRefIdeal := by
  pair_intro
  · run_from (Cert.FinalNormIdeal.Gen.run_named m g)
  · run_from (Cert.FinalNormRefIdeal.Steps.run_named m' g')
    · rw [Cert.FinalNormIdeal.Gen.final_prompt m c]
      funext i
      idx_vars i
      exact Cert.FinalNormRefIdeal.Steps.promptRows_at _ _ _ _ _ _
    · rw [Cert.FinalNormIdeal.Gen.final_sample m c]
      funext i
      idx_vars i
      exact Cert.FinalNormRefIdeal.Steps.sampleRows_at _ _ _ _ _ _

end Cert.Proof.FinalNorm

end
-- ==== Proof.lean ====
/-
  The proof of `Cert.Claim`: each claim from its module, the runs from the generated modules.
-/
module

public import proofs.«01_k».proof.Defs
public import proofs.«01_k».proof.Proof.Gen.InProj.Frame
public import proofs.«01_k».proof.Proof.Gen.InProjIdeal.Frame
public import proofs.«01_k».proof.Proof.Gen.InProjRefIdeal.Run
public import proofs.«01_k».proof.Proof.Gen.AttnPrompt.Frame
public import proofs.«01_k».proof.Proof.Gen.AttnPromptIdeal.Frame
public import proofs.«01_k».proof.Proof.Gen.AttnPromptRefIdeal.Run
public import proofs.«01_k».proof.Proof.Gen.AttnSample.Frame
public import proofs.«01_k».proof.Proof.Gen.AttnSampleIdeal.Frame
public import proofs.«01_k».proof.Proof.Gen.AttnSampleRefIdeal.Run
public import proofs.«01_k».proof.Proof.Gen.OutProj.Frame
public import proofs.«01_k».proof.Proof.Gen.OutProjIdeal.Frame
public import proofs.«01_k».proof.Proof.Gen.OutProjRefIdeal.Run
public import proofs.«01_k».proof.Proof.Gen.FinalNorm.Frame
public import proofs.«01_k».proof.Proof.Gen.FinalNormIdeal.Frame
public import proofs.«01_k».proof.Proof.Gen.FinalNormRefIdeal.Run
public import proofs.«01_k».proof.Proof.InProjClaim
public import proofs.«01_k».proof.Proof.PromptClaim
public import proofs.«01_k».proof.Proof.OutProjClaim
public import proofs.«01_k».proof.Proof.NormFrame
public import proofs.«01_k».proof.Proof.NormClaim

@[expose] public section

noncomputable section

namespace Cert.Proof

open Idealize.ShloMosaic Idealize.SL.Sem

/-- The reference's run: its arguments are kept and the machine is quiet at the end. -/
theorem frame_InProjRef : Cert.quiescent_InProjRefIdeal := fun m g _ =>
  (θ_run Cert.InProjRefIdeal.defs _ _).mono (fun r h => And.intro (fun c => (h c).2.2.2.2.2.2.2.2.2.2.2)
      (Idealize.ShloMosaic.sem_eq_zero_of_no_sems (by decide) r.2))
    (Cert.InProjRefIdeal.Value.run (F := Ideal) m g)

/-- The reference's run: its arguments are kept and the machine is quiet at the end. -/
theorem frame_AttnPromptRef : Cert.quiescent_AttnPromptRefIdeal := fun m g _ =>
  (θ_run Cert.AttnPromptRefIdeal.defs _ _).mono (fun r h => And.intro (fun c => (h c).2)
      (Idealize.ShloMosaic.sem_eq_zero_of_no_sems (by decide) r.2))
    (Cert.AttnPromptRefIdeal.Value.run (F := Ideal) m g)

/-- The reference's run: its arguments are kept and the machine is quiet at the end. -/
theorem frame_AttnSampleRef : Cert.quiescent_AttnSampleRefIdeal := fun m g _ =>
  (θ_run Cert.AttnSampleRefIdeal.defs _ _).mono (fun r h => And.intro (fun c => (h c).2)
      (Idealize.ShloMosaic.sem_eq_zero_of_no_sems (by decide) r.2))
    (Cert.AttnSampleRefIdeal.Value.run (F := Ideal) m g)

/-- The reference's run: its arguments are kept and the machine is quiet at the end. -/
theorem frame_OutProjRef : Cert.quiescent_OutProjRefIdeal := fun m g _ =>
  (θ_run Cert.OutProjRefIdeal.defs _ _).mono (fun r h => And.intro (fun c => (h c).2.2)
      (Idealize.ShloMosaic.sem_eq_zero_of_no_sems (by decide) r.2))
    (Cert.OutProjRefIdeal.Value.run (F := Ideal) m g)

/-- The reference's run: its arguments are kept and the machine is quiet at the end. -/
theorem frame_FinalNormRef : Cert.quiescent_FinalNormRefIdeal := fun m g _ =>
  (θ_run Cert.FinalNormRefIdeal.defs _ _).mono (fun r h => And.intro (fun c => (h c).2.2)
      (Idealize.ShloMosaic.sem_eq_zero_of_no_sems (by decide) r.2))
    (Cert.FinalNormRefIdeal.Value.run (F := Ideal) m g)

theorem claim : Cert.Claim :=
  ⟨Cert.InProj.Gen.facts,
    Cert.InProjIdeal.Gen.facts,
    Cert.InProjRefIdeal.Gen.facts,
    Cert.AttnPrompt.Gen.facts,
    Cert.AttnPromptIdeal.Gen.facts,
    Cert.AttnPromptRefIdeal.Gen.facts,
    Cert.AttnSample.Gen.facts,
    Cert.AttnSampleIdeal.Gen.facts,
    Cert.AttnSampleRefIdeal.Gen.facts,
    Cert.OutProj.Gen.facts,
    Cert.OutProjIdeal.Gen.facts,
    Cert.OutProjRefIdeal.Gen.facts,
    Cert.FinalNorm.Gen.facts,
    Cert.FinalNormIdeal.Gen.facts,
    Cert.FinalNormRefIdeal.Gen.facts,
    Prompt.finite_facts,
    OutProj.finite_facts,
    fun m g _ => Cert.InProj.Gen.frame m g,
    fun m g _ => Cert.InProjIdeal.Gen.frame m g,
    fun m g _ => frame_InProjRef m g trivial,
    fun m g _ => Cert.AttnPrompt.Gen.frame m g,
    fun m g _ => Cert.AttnPromptIdeal.Gen.frame m g,
    fun m g _ => Cert.AttnPromptIdeal.Gen.frame m g,
    fun m g _ => frame_AttnPromptRef m g trivial,
    fun m g _ => frame_AttnPromptRef m g trivial,
    fun m g _ => Cert.AttnSample.Gen.frame m g,
    fun m g _ => Cert.AttnSampleIdeal.Gen.frame m g,
    fun m g _ => frame_AttnSampleRef m g trivial,
    fun m g _ => Cert.OutProj.Gen.frame m g,
    fun m g _ => Cert.OutProjIdeal.Gen.frame m g,
    fun m g _ => Cert.OutProjIdeal.Gen.frame m g,
    fun m g _ => frame_OutProjRef m g trivial,
    fun m g _ => frame_OutProjRef m g trivial,
    FinalNorm.frame,
    fun m g _ => Cert.FinalNormIdeal.Gen.frame m g,
    frame_FinalNormRef,
    trivial,
    InProj.algebraic,
    IdealRules.named_const.statement Cert.AttnPromptIdeal.κ "mask" .f32 0xF149F2CA#32 ⊥ rfl,
    @Prompt.algebraic Prompt.finite_facts,
    IdealRules.named_const.statement Cert.AttnSampleIdeal.κ "mask" .f32 0xF149F2CA#32 ⊥ rfl,
    trivial,
    @OutProj.algebraic OutProj.finite_facts,
    trivial,
    FinalNorm.algebraic⟩

end Cert.Proof

end
